-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v90) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v37_0)) (v1 : (c : Dev Cert.Kernel3Ideal.nD) → Buf (Elt Ideal) ((c.tc : Thread Cert.Kernel3Ideal.nD Cert.Kernel3Ideal.τ).loc Cert.Kernel3Ideal.main_v37_1)) (v2 : (c : Dev Cert.Kernel3Ideal.nD) → Buf (Elt Ideal) ((c.tc : Thread Cert.Kernel3Ideal.nD Cert.Kernel3Ideal.τ).loc Cert.Kernel3Ideal.main_v37_2)) (v3 : (c : Dev Cert.Kernel3Ideal.nD) → Buf (Elt Ideal) ((c.tc : Thread Cert.Kernel3Ideal.nD Cert.Kernel3Ideal.τ).loc Cert.Kernel3Ideal.main_v37_3)) (v4 : (c : Dev Cert.Kernel3Ideal.nD) → Buf (Elt Ideal) ((c.tc : Thread Cert.Kernel3Ideal.nD Cert.Kernel3Ideal.τ).loc Cert.Kernel3Ideal.main_v37_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v37_0) = v0 c
          ∧ r.2.mem ((c.tc : Thread Cert.Kernel3Ideal.nD Cert.Kernel3Ideal.τ).loc Cert.Kernel3Ideal.main_v37_1) = v1 c
          ∧ r.2.mem ((c.tc : Thread Cert.Kernel3Ideal.nD Cert.Kernel3Ideal.τ).loc Cert.Kernel3Ideal.main_v37_2) = v2 c
          ∧ r.2.mem ((c.tc : Thread Cert.Kernel3Ideal.nD Cert.Kernel3Ideal.τ).loc Cert.Kernel3Ideal.main_v37_3) = v3 c
          ∧ r.2.mem ((c.tc : Thread Cert.Kernel3Ideal.nD Cert.Kernel3Ideal.τ).loc Cert.Kernel3Ideal.main_v37_5) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v72) = v0 c
          ∧ r.2.mem ((c.tc : Thread Cert.Reference3Ideal.nD Cert.Reference3Ideal.τ).loc Cert.Reference3Ideal.main_v80) = v1 c
          ∧ r.2.mem ((c.tc : Thread Cert.Reference3Ideal.nD Cert.Reference3Ideal.τ).loc Cert.Reference3Ideal.main_v82) = v2 c
          ∧ r.2.mem ((c.tc : Thread Cert.Reference3Ideal.nD Cert.Reference3Ideal.τ).loc Cert.Reference3Ideal.main_v85) = v3 c
          ∧ r.2.mem ((c.tc : Thread Cert.Reference3Ideal.nD Cert.Reference3Ideal.τ).loc Cert.Reference3Ideal.main_v86) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S32x2048x1024 : Shape := ⟨3, ![32, 2048, 1024]⟩
abbrev S1024 : Shape := ⟨1, ![1024]⟩
abbrev S1024x3088 : Shape := ⟨2, ![1024, 3088]⟩
abbrev S16x512 : Shape := ⟨2, ![16, 512]⟩
abbrev S512 : Shape := ⟨1, ![512]⟩
abbrev S256 : Shape := ⟨1, ![256]⟩
abbrev S1024x1024 : Shape := ⟨2, ![1024, 1024]⟩
abbrev S65536x1024 : Shape := ⟨2, ![65536, 1024]⟩
abbrev S_ : Shape := ⟨0, ![]⟩
abbrev S1024x3200 : Shape := ⟨2, ![1024, 3200]⟩
abbrev S1 : Shape := ⟨1, ![1]⟩
abbrev S128x512 : Shape := ⟨2, ![128, 512]⟩
abbrev S1x1024 : Shape := ⟨2, ![1, 1024]⟩
abbrev S1x512 : Shape := ⟨2, ![1, 512]⟩
abbrev S1x256 : Shape := ⟨2, ![1, 256]⟩
abbrev S4x128x256 : Shape := ⟨3, ![4, 128, 256]⟩
abbrev S64x64 : Shape := ⟨2, ![64, 64]⟩
abbrev S512x1024 : Shape := ⟨2, ![512, 1024]⟩
abbrev S512x1 : Shape := ⟨2, ![512, 1]⟩
abbrev S1024x512 : Shape := ⟨2, ![1024, 512]⟩
abbrev S512x512 : Shape := ⟨2, ![512, 512]⟩
abbrev S1024x128 : Shape := ⟨2, ![1024, 128]⟩
abbrev S512x128 : Shape := ⟨2, ![512, 128]⟩
abbrev S1x128x256 : Shape := ⟨3, ![1, 128, 256]⟩
abbrev S128x256 : Shape := ⟨2, ![128, 256]⟩
abbrev S64x512 : Shape := ⟨2, ![64, 512]⟩
abbrev S8x512 : Shape := ⟨2, ![8, 512]⟩
abbrev S120x128 : Shape := ⟨2, ![120, 128]⟩
abbrev S8x128 : Shape := ⟨2, ![8, 128]⟩
abbrev S128x128 : Shape := ⟨2, ![128, 128]⟩
abbrev S64x128 : Shape := ⟨2, ![64, 128]⟩
abbrev S64x256 : Shape := ⟨2, ![64, 256]⟩
abbrev S128x1 : Shape := ⟨2, ![128, 1]⟩
abbrev S512x256 : Shape := ⟨2, ![512, 256]⟩
abbrev S256x1024 : Shape := ⟨2, ![256, 1024]⟩

abbrev nBuf : Space → Nat
  | .hbm => 25
  | .vmem => 12
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x3088, .f32⟩
  | .hbm, ⟨3, _⟩ => ⟨S16x512, .f32⟩
  | .hbm, ⟨4, _⟩ => ⟨S512, .f32⟩
  | .hbm, ⟨5, _⟩ => ⟨S256, .f32⟩
  | .hbm, ⟨6, _⟩ => ⟨S1024x1024, .f32⟩
  | .hbm, ⟨7, _⟩ => ⟨S65536x1024, .f32⟩
  | .hbm, ⟨8, _⟩ => ⟨S_, .bf16⟩
  | .hbm, ⟨9, _⟩ => ⟨S1024x3200, .bf16⟩
  | .hbm, ⟨10, _⟩ => ⟨S1024x3088, .bf16⟩
  | .hbm, ⟨11, _⟩ => ⟨S_, .i32⟩
  | .hbm, ⟨12, _⟩ => ⟨S1, .i32⟩
  | .hbm, ⟨13, _⟩ => ⟨S1024x3200, .bf16⟩
  | .hbm, ⟨14, _⟩ => ⟨S_, .bf16⟩
  | .hbm, ⟨15, _⟩ => ⟨S128x512, .bf16⟩
  | .hbm, ⟨16, _⟩ => ⟨S16x512, .bf16⟩
  | .hbm, ⟨17, _⟩ => ⟨S_, .i32⟩
  | .hbm, ⟨18, _⟩ => ⟨S1, .i32⟩
  | .hbm, ⟨19, _⟩ => ⟨S128x512, .bf16⟩
  | .hbm, ⟨20, _⟩ => ⟨S1x1024, .f32⟩
  | .hbm, ⟨21, _⟩ => ⟨S1x512, .f32⟩
  | .hbm, ⟨22, _⟩ => ⟨S1x256, .f32⟩
  | .hbm, ⟨23, _⟩ => ⟨S1024x1024, .bf16⟩
  | .hbm, ⟨24, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3200, .bf16⟩
  | .local _ .vmem, ⟨4, _⟩ => ⟨S128x512, .bf16⟩
  | .local _ .vmem, ⟨5, _⟩ => ⟨S1x512, .f32⟩
  | .local _ .vmem, ⟨6, _⟩ => ⟨S1x256, .f32⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S4x128x256, .f32⟩
  | .local _ .vmem, ⟨11, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S32x2048x1024 : Shape := ⟨3, ![32, 2048, 1024]⟩
abbrev S1024 : Shape := ⟨1, ![1024]⟩
abbrev S1024x3088 : Shape := ⟨2, ![1024, 3088]⟩
abbrev S16x512 : Shape := ⟨2, ![16, 512]⟩
abbrev S512 : Shape := ⟨1, ![512]⟩
abbrev S256 : Shape := ⟨1, ![256]⟩
abbrev S1024x1024 : Shape := ⟨2, ![1024, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x3088 : Shape := ⟨3, ![32, 2048, 3088]⟩
abbrev S32x2048x512 : Shape := ⟨3, ![32, 2048, 512]⟩
abbrev S32x2048x16 : Shape := ⟨3, ![32, 2048, 16]⟩
abbrev S1x1x512 : Shape := ⟨3, ![1, 1, 512]⟩
abbrev S32x32x64x4x128 : Shape := ⟨5, ![32, 32, 64, 4, 128]⟩
abbrev S32x4x32x64x128 : Shape := ⟨5, ![32, 4, 32, 64, 128]⟩
abbrev S32x32x64x4x256 : Shape := ⟨5, ![32, 32, 64, 4, 256]⟩
abbrev S32x4x32x64x256 : Shape := ⟨5, ![32, 4, 32, 64, 256]⟩
abbrev S32x4x32x1x128 : Shape := ⟨5, ![32, 4, 32, 1, 128]⟩
abbrev S32x4x32x128 : Shape := ⟨4, ![32, 4, 32, 128]⟩
abbrev S32x4x32x64x64 : Shape := ⟨5, ![32, 4, 32, 64, 64]⟩
abbrev S64x64 : Shape := ⟨2, ![64, 64]⟩
abbrev S32x4x128x256 : Shape := ⟨4, ![32, 4, 128, 256]⟩
abbrev S32x32x4x64x128 : Shape := ⟨5, ![32, 32, 4, 64, 128]⟩
abbrev S32x32x4x64x256 : Shape := ⟨5, ![32, 32, 4, 64, 256]⟩
abbrev S32x32x4x128 : Shape := ⟨4, ![32, 32, 4, 128]⟩
abbrev S1x32x4x64x128 : Shape := ⟨5, ![1, 32, 4, 64, 128]⟩
abbrev S32x4x64x128 : Shape := ⟨4, ![32, 4, 64, 128]⟩
abbrev S1x32x4x64x256 : Shape := ⟨5, ![1, 32, 4, 64, 256]⟩
abbrev S32x4x64x256 : Shape := ⟨4, ![32, 4, 64, 256]⟩
abbrev S1x32x4x128 : Shape := ⟨4, ![1, 32, 4, 128]⟩
abbrev S32x4x128 : Shape := ⟨3, ![32, 4, 128]⟩
abbrev S32x4x128x1 : Shape := ⟨4, ![32, 4, 128, 1]⟩
abbrev S32x2048x4x256 : Shape := ⟨4, ![32, 2048, 4, 256]⟩
abbrev S32x2048x4 : Shape := ⟨3, ![32, 2048, 4]⟩
abbrev S32x2048x4x1 : Shape := ⟨4, ![32, 2048, 4, 1]⟩
abbrev S1x1x1x256 : Shape := ⟨4, ![1, 1, 1, 256]⟩
abbrev S65536x1024 : Shape := ⟨2, ![65536, 1024]⟩

abbrev nBuf : Space → Nat
  | .hbm => 185
  | .vmem => 0
  | .smem => 0
  | _ => 0

abbrev hbmTy0_0 (i : Nat) : BufTy := match i % 128 with
  | 0 => ⟨S32x2048x1024, .f32⟩
  | 1 => ⟨S1024, .f32⟩
  | 2 => ⟨S1024x3088, .f32⟩
  | 3 => ⟨S16x512, .f32⟩
  | 4 => ⟨S512, .f32⟩
  | 5 => ⟨S256, .f32⟩
  | 6 => ⟨S1024x1024, .f32⟩
  | 7 => ⟨S32x2048x1024, .f32⟩
  | 8 => ⟨S_, .f32⟩
  | 9 => ⟨S32x2048, .f32⟩
  | 10 => ⟨S32x2048x1, .f32⟩
  | 11 => ⟨S_, .f32⟩
  | 12 => ⟨S32x2048x1, .f32⟩
  | 13 => ⟨S32x2048x1, .f32⟩
  | 14 => ⟨S_, .f32⟩
  | 15 => ⟨S32x2048x1, .f32⟩
  | 16 => ⟨S32x2048x1, .f32⟩
  | 17 => ⟨S32x2048x1, .f32⟩
  | 18 => ⟨S32x2048x1024, .f32⟩
  | 19 => ⟨S32x2048x1024, .f32⟩
  | 20 => ⟨S1x1x1024, .f32⟩
  | 21 => ⟨S32x2048x1024, .f32⟩
  | 22 => ⟨S32x2048x1024, .f32⟩
  | 23 => ⟨S32x2048x3088, .f32⟩
  | 24 => ⟨S32x2048x512, .f32⟩
  | 25 => ⟨S32x2048x512, .f32⟩
  | 26 => ⟨S32x2048x1024, .f32⟩
  | 27 => ⟨S32x2048x1024, .f32⟩
  | 28 => ⟨S32x2048x16, .f32⟩
  | 29 => ⟨S32x2048x512, .f32⟩
  | 30 => ⟨S1x1x512, .f32⟩
  | 31 => ⟨S32x2048x512, .f32⟩
  | 32 => ⟨S32x2048x512, .f32⟩
  | 33 => ⟨S32x2048x512, .f32⟩
  | 34 => ⟨S_, .f32⟩
  | 35 => ⟨S32x2048x512, .f32⟩
  | 36 => ⟨S32x2048x512, .f32⟩
  | 37 => ⟨S32x2048x512, .f32⟩
  | 38 => ⟨S32x2048x512, .f32⟩
  | 39 => ⟨S32x2048x512, .i1⟩
  | 40 => ⟨S32x2048x512, .f32⟩
  | 41 => ⟨S32x2048x512, .f32⟩
  | 42 => ⟨S32x2048x512, .f32⟩
  | 43 => ⟨S32x2048x512, .f32⟩
  | 44 => ⟨S32x2048x512, .f32⟩
  | 45 => ⟨S32x2048x512, .f32⟩
  | 46 => ⟨S32x2048x512, .f32⟩
  | 47 => ⟨S32x2048x512, .f32⟩
  | 48 => ⟨S32x2048x512, .f32⟩
  | 49 => ⟨S_, .f32⟩
  | 50 => ⟨S32x2048x512, .f32⟩
  | 51 => ⟨S32x2048x512, .f32⟩
  | 52 => ⟨S32x32x64x4x128, .f32⟩
  | 53 => ⟨S32x4x32x64x128, .f32⟩
  | 54 => ⟨S_, .f32⟩
  | 55 => ⟨S32x4x32x64x128, .f32⟩
  | 56 => ⟨S32x4x32x64x128, .f32⟩
  | 57 => ⟨S32x32x64x4x128, .f32⟩
  | 58 => ⟨S32x4x32x64x128, .f32⟩
  | 59 => ⟨S32x32x64x4x256, .f32⟩
  | 60 => ⟨S32x4x32x64x256, .f32⟩
  | 61 => ⟨S32x32x64x4x128, .f32⟩
  | 62 => ⟨S32x4x32x64x128, .f32⟩
  | 63 => ⟨S_, .f32⟩
  | 64 => ⟨S_, .f32⟩
  | 65 => ⟨S32x4x32x64x128, .f32⟩
  | 66 => ⟨S32x4x32x1x128, .f32⟩
  | 67 => ⟨S32x4x32x64x128, .f32⟩
  | 68 => ⟨S32x4x32x64x128, .f32⟩
  | 69 => ⟨S32x4x32x64x128, .f32⟩
  | 70 => ⟨S32x4x32x64x128, .f32⟩
  | 71 => ⟨S32x4x32x64x128, .f32⟩
  | 72 => ⟨S32x4x32x64x128, .f32⟩
  | 73 => ⟨S32x4x32x64x128, .f32⟩
  | 74 => ⟨S32x4x32x64x128, .f32⟩
  | 75 => ⟨S32x4x32x64x128, .f32⟩
  | 76 => ⟨S32x4x32x128, .f32⟩
  | 77 => ⟨S32x4x32x128, .f32⟩
  | 78 => ⟨S32x4x32x64x64, .f32⟩
  | 79 => ⟨S_, .i1⟩
  | 80 => ⟨S64x64, .i1⟩
  | 81 => ⟨S64x64, .i32⟩
  | 82 => ⟨S_, .i32⟩
  | 83 => ⟨S64x64, .i32⟩
  | 84 => ⟨S64x64, .i32⟩
  | 85 => ⟨S64x64, .i32⟩
  | 86 => ⟨S64x64, .i1⟩
  | 87 => ⟨S_, .i1⟩
  | 88 => ⟨S64x64, .i1⟩
  | 89 => ⟨S64x64, .i1⟩
  | 90 => ⟨S_, .f32⟩
  | 91 => ⟨S_, .f32⟩
  | 92 => ⟨S32x4x32x64x64, .i1⟩
  | 93 => ⟨S32x4x32x64x64, .f32⟩
  | 94 => ⟨S32x4x32x64x64, .f32⟩
  | 95 => ⟨S32x4x32x64x256, .f32⟩
  | 96 => ⟨S_, .f32⟩
  | 97 => ⟨S32x4x128x256, .f32⟩
  | 98 => ⟨S32x32x4x64x128, .f32⟩
  | 99 => ⟨S32x32x4x64x128, .f32⟩
  | 100 => ⟨S32x32x4x64x256, .f32⟩
  | 101 => ⟨S32x32x4x128, .f32⟩
  | 102 => ⟨S_, .f32⟩
  | 103 => ⟨S32x32x4x64x256, .f32⟩
  | 104 => ⟨S_, .i32⟩
  | 105 => ⟨S32x32x4x64x128, .f32⟩
  | 106 => ⟨S32x32x4x64x128, .f32⟩
  | 107 => ⟨S32x32x4x64x256, .f32⟩
  | 108 => ⟨S32x32x4x128, .f32⟩
  | 109 => ⟨S_, .i32⟩
  | 110 => ⟨S32x4x128x256, .f32⟩
  | 111 => ⟨S32x32x4x64x256, .f32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S1x32x4x64x128, .f32⟩
  | 119 => ⟨S32x4x64x128, .f32⟩
  | 120 => ⟨S_, .i32⟩
  | 121 => ⟨S_, .i32⟩
  | 122 => ⟨S_, .i32⟩
  | 123 => ⟨S_, .i32⟩
  | 124 => ⟨S1x32x4x64x128, .f32⟩
  | 125 => ⟨S32x4x64x128, .f32⟩
  | 126 => ⟨S_, .i32⟩
  | 127 => ⟨S_, .i32⟩
  | _ => ⟨S32x2048x1024, .f32⟩

abbrev hbmTy0_1 (i : Nat) : BufTy := match i % 128 with
  | 0 => ⟨S_, .i32⟩
  | 1 => ⟨S_, .i32⟩
  | 2 => ⟨S1x32x4x64x256, .f32⟩
  | 3 => ⟨S32x4x64x256, .f32⟩
  | 4 => ⟨S_, .i32⟩
  | 5 => ⟨S_, .i32⟩
  | 6 => ⟨S_, .i32⟩
  | 7 => ⟨S1x32x4x128, .f32⟩
  | 8 => ⟨S32x4x128, .f32⟩
  | 9 => ⟨S32x4x64x256, .f32⟩
  | 10 => ⟨S32x4x128x1, .f32⟩
  | 11 => ⟨S32x4x128x256, .f32⟩
  | 12 => ⟨S32x4x128x256, .f32⟩
  | 13 => ⟨S32x4x128x256, .f32⟩
  | 14 => ⟨S32x4x128x256, .f32⟩
  | 15 => ⟨S1x32x4x64x256, .f32⟩
  | 16 => ⟨S_, .i32⟩
  | 17 => ⟨S_, .i32⟩
  | 18 => ⟨S_, .i32⟩
  | 19 => ⟨S_, .i32⟩
  | 20 => ⟨S32x32x4x64x256, .f32⟩
  | 21 => ⟨S_, .i32⟩
  | 22 => ⟨S_, .i32⟩
  | 23 => ⟨S32x4x32x64x256, .f32⟩
  | 24 => ⟨S32x4x32x64x256, .f32⟩
  | 25 => ⟨S32x32x64x4x256, .f32⟩
  | 26 => ⟨S32x2048x4x256, .f32⟩
  | 27 => ⟨S32x2048x4x256, .f32⟩
  | 28 => ⟨S_, .f32⟩
  | 29 => ⟨S32x2048x4, .f32⟩
  | 30 => ⟨S32x2048x4x1, .f32⟩
  | 31 => ⟨S_, .f32⟩
  | 32 => ⟨S32x2048x4x1, .f32⟩
  | 33 => ⟨S32x2048x4x1, .f32⟩
  | 34 => ⟨S_, .f32⟩
  | 35 => ⟨S32x2048x4x1, .f32⟩
  | 36 => ⟨S32x2048x4x1, .f32⟩
  | 37 => ⟨S32x2048x4x1, .f32⟩
  | 38 => ⟨S32x2048x4x256, .f32⟩
  | 39 => ⟨S32x2048x4x256, .f32⟩
  | 40 => ⟨S1x1x1x256, .f32⟩
  | 41 => ⟨S32x2048x4x256, .f32⟩
  | 42 => ⟨S32x2048x4x256, .f32⟩
  | 43 => ⟨S32x2048x1024, .f32⟩
  | 44 => ⟨S32x2048x1024, .f32⟩
  | 45 => ⟨S32x2048x1024, .f32⟩
  | 46 => ⟨S_, .f32⟩
  | 47 => ⟨S32x2048x1024, .f32⟩
  | 48 => ⟨S32x2048x1024, .f32⟩
  | 49 => ⟨S_, .f32⟩
  | 50 => ⟨S32x2048x1024, .f32⟩
  | 51 => ⟨S32x2048x1024, .f32⟩
  | 52 => ⟨S32x2048x1024, .f32⟩
  | 53 => ⟨S32x2048x1024, .f32⟩
  | 54 => ⟨S32x2048x1024, .f32⟩
  | 55 => ⟨S32x2048x1024, .f32⟩
  | 56 => ⟨S65536x1024, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_call0_cst : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_call0_v2 : Ref sig .tc := ⟨.hbm, 37, rfl⟩
abbrev main_call0_call0_v3 : Ref sig .tc := ⟨.hbm, 38, rfl⟩
abbrev main_call0_call0_v4 : Ref sig .tc := ⟨.hbm, 39, rfl⟩
abbrev main_call0_call0_v5 : Ref sig .tc := ⟨.hbm, 40, rfl⟩
abbrev main_call0_call0_v6 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_v9 : Ref sig .tc := ⟨.hbm, 44, rfl⟩
abbrev main_call0_call0_v10 : Ref sig .tc := ⟨.hbm, 45, rfl⟩
abbrev main_call0_call0_v11 : Ref sig .tc := ⟨.hbm, 46, rfl⟩
abbrev main_call0_v1 : Ref sig .tc := ⟨.hbm, 47, rfl⟩
abbrev main_v23 : Ref sig .tc := ⟨.hbm, 48, rfl⟩
abbrev main_cst_2 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_3 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_call1_call0_cst : Ref sig .tc := ⟨.hbm, 63, rfl⟩
abbrev main_call1_call0_v0 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c : Ref sig .tc := ⟨.hbm, 79, rfl⟩
abbrev main_v50 : Ref sig .tc := ⟨.hbm, 80, rfl⟩
abbrev main_call2_v0 : Ref sig .tc := ⟨.hbm, 81, rfl⟩
abbrev main_call2_c : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_c_0 : Ref sig .tc := ⟨.hbm, 87, rfl⟩
abbrev main_call2_v5 : Ref sig .tc := ⟨.hbm, 88, rfl⟩
abbrev main_v51 : Ref sig .tc := ⟨.hbm, 89, rfl⟩
abbrev main_cst_4 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v52 : Ref sig .tc := ⟨.hbm, 94, rfl⟩
abbrev main_v53 : Ref sig .tc := ⟨.hbm, 95, rfl⟩
abbrev main_cst_5 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_6 : Ref sig .tc := ⟨.hbm, 102, rfl⟩
abbrev main_v59 : Ref sig .tc := ⟨.hbm, 103, rfl⟩
abbrev main_c_7 : Ref sig .tc := ⟨.hbm, 104, rfl⟩
abbrev main_v60_0 : Ref sig .tc := ⟨.hbm, 105, rfl⟩
abbrev main_v60_1 : Ref sig .tc := ⟨.hbm, 106, rfl⟩
abbrev main_v60_2 : Ref sig .tc := ⟨.hbm, 107, rfl⟩
abbrev main_v60_3 : Ref sig .tc := ⟨.hbm, 108, rfl⟩
abbrev main_v60_4 : Ref sig .tc := ⟨.hbm, 109, rfl⟩
abbrev main_v60_5 : Ref sig .tc := ⟨.hbm, 110, rfl⟩
abbrev main_v60_6 : Ref sig .tc := ⟨.hbm, 111, rfl⟩
abbrev main_while0c_c_17 : Ref sig .tc := ⟨.hbm, 112, rfl⟩
abbrev main_while0c_v84 : Ref sig .tc := ⟨.hbm, 113, rfl⟩
abbrev main_while0b_call4_c : Ref sig .tc := ⟨.hbm, 114, rfl⟩
abbrev main_while0b_call4_c_0 : Ref sig .tc := ⟨.hbm, 115, rfl⟩
abbrev main_while0b_call4_c_1 : Ref sig .tc := ⟨.hbm, 116, rfl⟩
abbrev main_while0b_call4_c_2 : Ref sig .tc := ⟨.hbm, 117, rfl⟩
abbrev main_while0b_call4_v0 : Ref sig .tc := ⟨.hbm, 118, rfl⟩
abbrev main_while0b_v84 : Ref sig .tc := ⟨.hbm, 119, rfl⟩
abbrev main_while0b_call5_c : Ref sig .tc := ⟨.hbm, 120, rfl⟩
abbrev main_while0b_call5_c_0 : Ref sig .tc := ⟨.hbm, 121, rfl⟩
abbrev main_while0b_call5_c_1 : Ref sig .tc := ⟨.hbm, 122, rfl⟩
abbrev main_while0b_call5_c_2 : Ref sig .tc := ⟨.hbm, 123, rfl⟩
abbrev main_while0b_call5_v0 : Ref sig .tc := ⟨.hbm, 124, rfl⟩
abbrev main_while0b_v85 : Ref sig .tc := ⟨.hbm, 125, rfl⟩
abbrev main_while0b_call6_c : Ref sig .tc := ⟨.hbm, 126, rfl⟩
abbrev main_while0b_call6_c_0 : Ref sig .tc := ⟨.hbm, 127, rfl⟩
abbrev main_while0b_call6_c_1 : Ref sig .tc := ⟨.hbm, 128, rfl⟩
abbrev main_while0b_call6_c_2 : Ref sig .tc := ⟨.hbm, 129, rfl⟩
abbrev main_while0b_call6_v0 : Ref sig .tc := ⟨.hbm, 130, rfl⟩
abbrev main_while0b_v86 : Ref sig .tc := ⟨.hbm, 131, rfl⟩
abbrev main_while0b_call7_c : Ref sig .tc := ⟨.hbm, 132, rfl⟩
abbrev main_while0b_call7_c_0 : Ref sig .tc := ⟨.hbm, 133, rfl⟩
abbrev main_while0b_call7_c_1 : Ref sig .tc := ⟨.hbm, 134, rfl⟩
abbrev main_while0b_call7_v0 : Ref sig .tc := ⟨.hbm, 135, rfl⟩
abbrev main_while0b_v87 : Ref sig .tc := ⟨.hbm, 136, rfl⟩
abbrev main_while0b_v88 : Ref sig .tc := ⟨.hbm, 137, rfl⟩
abbrev main_while0b_v89 : Ref sig .tc := ⟨.hbm, 138, rfl⟩
abbrev main_while0b_v90 : Ref sig .tc := ⟨.hbm, 139, rfl⟩
abbrev main_while0b_v91 : Ref sig .tc := ⟨.hbm, 140, rfl⟩
abbrev main_while0b_v92 : Ref sig .tc := ⟨.hbm, 141, rfl⟩
abbrev main_while0b_v93 : Ref sig .tc := ⟨.hbm, 142, rfl⟩
abbrev main_while0b_call8_v0 : Ref sig .tc := ⟨.hbm, 143, rfl⟩
abbrev main_while0b_call8_c : Ref sig .tc := ⟨.hbm, 144, rfl⟩
abbrev main_while0b_call8_c_0 : Ref sig .tc := ⟨.hbm, 145, rfl⟩
abbrev main_while0b_call8_c_1 : Ref sig .tc := ⟨.hbm, 146, rfl⟩
abbrev main_while0b_call8_c_2 : Ref sig .tc := ⟨.hbm, 147, rfl⟩
abbrev main_while0b_v94 : Ref sig .tc := ⟨.hbm, 148, rfl⟩
abbrev main_while0b_c_17 : Ref sig .tc := ⟨.hbm, 149, rfl⟩
abbrev main_while0b_v95 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_cst_8 : Ref sig .tc := ⟨.hbm, 156, rfl⟩
abbrev main_v66 : Ref sig .tc := ⟨.hbm, 157, rfl⟩
abbrev main_v67 : Ref sig .tc := ⟨.hbm, 158, rfl⟩
abbrev main_cst_9 : Ref sig .tc := ⟨.hbm, 159, rfl⟩
abbrev main_v68 : Ref sig .tc := ⟨.hbm, 160, rfl⟩
abbrev main_v69 : Ref sig .tc := ⟨.hbm, 161, rfl⟩
abbrev main_cst_10 : Ref sig .tc := ⟨.hbm, 162, rfl⟩
abbrev main_v70 : Ref sig .tc := ⟨.hbm, 163, rfl⟩
abbrev main_v71 : Ref sig .tc := ⟨.hbm, 164, rfl⟩
abbrev main_v72 : Ref sig .tc := ⟨.hbm, 165, rfl⟩
abbrev main_v73 : Ref sig .tc := ⟨.hbm, 166, rfl⟩
abbrev main_v74 : Ref sig .tc := ⟨.hbm, 167, rfl⟩
abbrev main_v75 : Ref sig .tc := ⟨.hbm, 168, rfl⟩
abbrev main_v76 : Ref sig .tc := ⟨.hbm, 169, rfl⟩
abbrev main_v77 : Ref sig .tc := ⟨.hbm, 170, rfl⟩
abbrev main_v78 : Ref sig .tc := ⟨.hbm, 171, rfl⟩
abbrev main_call9_v0 : Ref sig .tc := ⟨.hbm, 172, rfl⟩
abbrev main_call9_v1 : Ref sig .tc := ⟨.hbm, 173, rfl⟩
abbrev main_call9_cst : Ref sig .tc := ⟨.hbm, 174, rfl⟩
abbrev main_call9_v2 : Ref sig .tc := ⟨.hbm, 175, rfl⟩
abbrev main_call9_v3 : Ref sig .tc := ⟨.hbm, 176, rfl⟩
abbrev main_call9_cst_0 : Ref sig .tc := ⟨.hbm, 177, rfl⟩
abbrev main_call9_v4 : Ref sig .tc := ⟨.hbm, 178, rfl⟩
abbrev main_call9_v5 : Ref sig .tc := ⟨.hbm, 179, rfl⟩
abbrev main_v79 : Ref sig .tc := ⟨.hbm, 180, rfl⟩
abbrev main_v80 : Ref sig .tc := ⟨.hbm, 181, rfl⟩
abbrev main_v81 : Ref sig .tc := ⟨.hbm, 182, rfl⟩
abbrev main_v82 : Ref sig .tc := ⟨.hbm, 183, rfl⟩
abbrev main_v83 : Ref sig .tc := ⟨.hbm, 184, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S32x2048x1024 : Shape := ⟨3, ![32, 2048, 1024]⟩
abbrev S1024x1024 : Shape := ⟨2, ![1024, 1024]⟩
abbrev S2x32x2048x256 : Shape := ⟨4, ![2, 32, 2048, 256]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S256x1024 : Shape := ⟨2, ![256, 1024]⟩
abbrev S65536x1024 : Shape := ⟨2, ![65536, 1024]⟩
abbrev S2x65536x256 : Shape := ⟨3, ![2, 65536, 256]⟩
abbrev S1x1024 : Shape := ⟨2, ![1, 1024]⟩
abbrev S1x5632 : Shape := ⟨2, ![1, 5632]⟩
abbrev S512x1024 : Shape := ⟨2, ![512, 1024]⟩
abbrev S1x512x256 : Shape := ⟨3, ![1, 512, 256]⟩
abbrev S22x16x256 : Shape := ⟨3, ![22, 16, 256]⟩
abbrev S512x2816 : Shape := ⟨2, ![512, 2816]⟩
abbrev S8x576x128 : Shape := ⟨3, ![8, 576, 128]⟩
abbrev S512 : Shape := ⟨1, ![512]⟩
abbrev S512x1 : Shape := ⟨2, ![512, 1]⟩
abbrev S64x128 : Shape := ⟨2, ![64, 128]⟩
abbrev S1x64x128 : Shape := ⟨3, ![1, 64, 128]⟩
abbrev S1x8x128 : Shape := ⟨3, ![1, 8, 128]⟩
abbrev S8x128 : Shape := ⟨2, ![8, 128]⟩
abbrev S8x1024 : Shape := ⟨2, ![8, 1024]⟩
abbrev S8x256 : Shape := ⟨2, ![8, 256]⟩
abbrev S1024x256 : Shape := ⟨2, ![1024, 256]⟩
abbrev S512x256 : Shape := ⟨2, ![512, 256]⟩
abbrev S1x16x256 : Shape := ⟨3, ![1, 16, 256]⟩
abbrev S16x256 : Shape := ⟨2, ![16, 256]⟩
abbrev S504x256 : Shape := ⟨2, ![504, 256]⟩
abbrev S496x256 : Shape := ⟨2, ![496, 256]⟩
abbrev S3x256 : Shape := ⟨2, ![3, 256]⟩
abbrev S1x256 : Shape := ⟨2, ![1, 256]⟩
abbrev S64x1024 : Shape := ⟨2, ![64, 1024]⟩

abbrev nBuf : Space → Nat
  | .hbm => 28
  | .vmem => 22
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .bf16⟩
  | .hbm, ⟨2, _⟩ => ⟨S1024x1024, .f32⟩
  | .hbm, ⟨3, _⟩ => ⟨S2x32x2048x256, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S256x1024, .f32⟩
  | .hbm, ⟨13, _⟩ => ⟨S1024, .f32⟩
  | .hbm, ⟨14, _⟩ => ⟨S65536x1024, .f32⟩
  | .hbm, ⟨15, _⟩ => ⟨S65536x1024, .bf16⟩
  | .hbm, ⟨16, _⟩ => ⟨S2x65536x256, .f32⟩
  | .hbm, ⟨17, _⟩ => ⟨S1024x1024, .bf16⟩
  | .hbm, ⟨18, _⟩ => ⟨S1x1024, .f32⟩
  | .hbm, ⟨19, _⟩ => ⟨S1024x5632, .bf16⟩
  | .hbm, ⟨20, _⟩ => ⟨S1x5632, .f32⟩
  | .hbm, ⟨21, _⟩ => ⟨S2816x1024, .bf16⟩
  | .hbm, ⟨22, _⟩ => ⟨S1x1024, .f32⟩
  | .hbm, ⟨23, _⟩ => ⟨S1024x1024, .bf16⟩
  | .hbm, ⟨24, _⟩ => ⟨S1x1024, .f32⟩
  | .hbm, ⟨25, _⟩ => ⟨S256x1024, .bf16⟩
  | .hbm, ⟨26, _⟩ => ⟨S1x1024, .f32⟩
  | .hbm, ⟨27, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x512x256, .f32⟩
  | .local _ .vmem, ⟨6, _⟩ => ⟨S1x512x256, .f32⟩
  | .local _ .vmem, ⟨7, _⟩ => ⟨S1x1024, .f32⟩
  | .local _ .vmem, ⟨8, _⟩ => ⟨S1024x5632, .bf16⟩
  | .local _ .vmem, ⟨9, _⟩ => ⟨S3x5632, .f32⟩
  | .local _ .vmem, ⟨10, _⟩ => ⟨S1x5632, .f32⟩
  | .local _ .vmem, ⟨11, _⟩ => ⟨S2816x1024, .bf16⟩
  | .local _ .vmem, ⟨12, _⟩ => ⟨S1x1024, .f32⟩
  | .local _ .vmem, ⟨13, _⟩ => ⟨S1024x1024, .bf16⟩
  | .local _ .vmem, ⟨14, _⟩ => ⟨S1x1024, .f32⟩
  | .local _ .vmem, ⟨15, _⟩ => ⟨S256x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S22x16x256, .f32⟩
  | .local _ .vmem, ⟨20, _⟩ => ⟨S512x2816, .bf16⟩
  | .local _ .vmem, ⟨21, _⟩ => ⟨S8x576x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference2Ideal.lean ====
abbrev S32x2048x1024 : Shape := ⟨3, ![32, 2048, 1024]⟩
abbrev S1024x1024 : Shape := ⟨2, ![1024, 1024]⟩
abbrev S2x32x2048x256 : Shape := ⟨4, ![2, 32, 2048, 256]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S256x1024 : Shape := ⟨2, ![256, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2050x5632 : Shape := ⟨3, ![32, 2050, 5632]⟩
abbrev S1x5632 : Shape := ⟨2, ![1, 5632]⟩
abbrev S1x1x5632 : Shape := ⟨3, ![1, 1, 5632]⟩
abbrev S32x2048x2816 : Shape := ⟨3, ![32, 2048, 2816]⟩
abbrev S1x32x2048x256 : Shape := ⟨4, ![1, 32, 2048, 256]⟩
abbrev S32x2048x256 : Shape := ⟨3, ![32, 2048, 256]⟩
abbrev S65536x1024 : Shape := ⟨2, ![65536, 1024]⟩

abbrev nBuf : Space → Nat
  | .hbm => 127
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .bf16⟩
  | .hbm, ⟨2, _⟩ => ⟨S1024x1024, .f32⟩
  | .hbm, ⟨3, _⟩ => ⟨S2x32x2048x256, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S256x1024, .f32⟩
  | .hbm, ⟨13, _⟩ => ⟨S1024, .f32⟩
  | .hbm, ⟨14, _⟩ => ⟨S32x2048x1024, .f32⟩
  | .hbm, ⟨15, _⟩ => ⟨S32x2048x1024, .f32⟩
  | .hbm, ⟨16, _⟩ => ⟨S32x2048x1024, .f32⟩
  | .hbm, ⟨17, _⟩ => ⟨S32x2048x1024, .f32⟩
  | .hbm, ⟨18, _⟩ => ⟨S_, .f32⟩
  | .hbm, ⟨19, _⟩ => ⟨S32x2048, .f32⟩
  | .hbm, ⟨20, _⟩ => ⟨S32x2048x1, .f32⟩
  | .hbm, ⟨21, _⟩ => ⟨S_, .f32⟩
  | .hbm, ⟨22, _⟩ => ⟨S32x2048x1, .f32⟩
  | .hbm, ⟨23, _⟩ => ⟨S32x2048x1, .f32⟩
  | .hbm, ⟨24, _⟩ => ⟨S_, .f32⟩
  | .hbm, ⟨25, _⟩ => ⟨S32x2048x1, .f32⟩
  | .hbm, ⟨26, _⟩ => ⟨S32x2048x1, .f32⟩
  | .hbm, ⟨27, _⟩ => ⟨S32x2048x1, .f32⟩
  | .hbm, ⟨28, _⟩ => ⟨S32x2048x1024, .f32⟩
  | .hbm, ⟨29, _⟩ => ⟨S32x2048x1024, .f32⟩
  | .hbm, ⟨30, _⟩ => ⟨S1x1x1024, .f32⟩
  | .hbm, ⟨31, _⟩ => ⟨S32x2048x1024, .f32⟩
  | .hbm, ⟨32, _⟩ => ⟨S32x2048x1024, .f32⟩
  | .hbm, ⟨33, _⟩ => ⟨S32x2048x5632, .f32⟩
  | .hbm, ⟨34, _⟩ => ⟨S_, .i32⟩
  | .hbm, ⟨35, _⟩ => ⟨S_, .f32⟩
  | .hbm, ⟨36, _⟩ => ⟨S32x2050x5632, .f32⟩
  | .hbm, ⟨37, _⟩ => ⟨S1x5632, .f32⟩
  | .hbm, ⟨38, _⟩ => ⟨S5632, .f32⟩
  | .hbm, ⟨39, _⟩ => ⟨S32x2048x5632, .f32⟩
  | .hbm, ⟨40, _⟩ => ⟨S1x1x5632, .f32⟩
  | .hbm, ⟨41, _⟩ => ⟨S32x2048x5632, .f32⟩
  | .hbm, ⟨42, _⟩ => ⟨S32x2048x5632, .f32⟩
  | .hbm, ⟨43, _⟩ => ⟨S_, .f32⟩
  | .hbm, ⟨44, _⟩ => ⟨S32x2048x5632, .f32⟩
  | .hbm, ⟨45, _⟩ => ⟨S32x2048x5632, .f32⟩
  | .hbm, ⟨46, _⟩ => ⟨S1x5632, .f32⟩
  | .hbm, ⟨47, _⟩ => ⟨S5632, .f32⟩
  | .hbm, ⟨48, _⟩ => ⟨S32x2048x5632, .f32⟩
  | .hbm, ⟨49, _⟩ => ⟨S1x1x5632, .f32⟩
  | .hbm, ⟨50, _⟩ => ⟨S32x2048x5632, .f32⟩
  | .hbm, ⟨51, _⟩ => ⟨S32x2048x5632, .f32⟩
  | .hbm, ⟨52, _⟩ => ⟨S32x2048x5632, .f32⟩
  | .hbm, ⟨53, _⟩ => ⟨S1x5632, .f32⟩
  | .hbm, ⟨54, _⟩ => ⟨S5632, .f32⟩
  | .hbm, ⟨55, _⟩ => ⟨S32x2048x5632, .f32⟩
  | .hbm, ⟨56, _⟩ => ⟨S1x1x5632, .f32⟩
  | .hbm, ⟨57, _⟩ => ⟨S32x2048x5632, .f32⟩
  | .hbm, ⟨58, _⟩ => ⟨S32x2048x5632, .f32⟩
  | .hbm, ⟨59, _⟩ => ⟨S32x2048x5632, .f32⟩
  | .hbm, ⟨60, _⟩ => ⟨S1x1x5632, .f32⟩
  | .hbm, ⟨61, _⟩ => ⟨S32x2048x5632, .f32⟩
  | .hbm, ⟨62, _⟩ => ⟨S32x2048x5632, .f32⟩
  | .hbm, ⟨63, _⟩ => ⟨S32x2048x2816, .f32⟩
  | .hbm, ⟨64, _⟩ => ⟨S32x2048x2816, .f32⟩
  | .hbm, ⟨65, _⟩ => ⟨S32x2048x2816, .f32⟩
  | .hbm, ⟨66, _⟩ => ⟨S32x2048x2816, .f32⟩
  | .hbm, ⟨67, _⟩ => ⟨S_, .f32⟩
  | .hbm, ⟨68, _⟩ => ⟨S32x2048x2816, .f32⟩
  | .hbm, ⟨69, _⟩ => ⟨S32x2048x2816, .f32⟩
  | .hbm, ⟨70, _⟩ => ⟨S_, .f32⟩
  | .hbm, ⟨71, _⟩ => ⟨S32x2048x2816, .f32⟩
  | .hbm, ⟨72, _⟩ => ⟨S32x2048x2816, .f32⟩
  | .hbm, ⟨73, _⟩ => ⟨S32x2048x2816, .f32⟩
  | .hbm, ⟨74, _⟩ => ⟨S32x2048x2816, .f32⟩
  | .hbm, ⟨75, _⟩ => ⟨S32x2048x1024, .f32⟩
  | .hbm, ⟨76, _⟩ => ⟨S32x2048x1024, .f32⟩
  | .hbm, ⟨77, _⟩ => ⟨S1x32x2048x256, .f32⟩
  | .hbm, ⟨78, _⟩ => ⟨S32x2048x256, .f32⟩
  | .hbm, ⟨79, _⟩ => ⟨S32x2048x1024, .f32⟩
  | .hbm, ⟨80, _⟩ => ⟨S_, .f32⟩
  | .hbm, ⟨81, _⟩ => ⟨S32x2048, .f32⟩
  | .hbm, ⟨82, _⟩ => ⟨S32x2048x1, .f32⟩
  | .hbm, ⟨83, _⟩ => ⟨S_, .f32⟩
  | .hbm, ⟨84, _⟩ => ⟨S32x2048x1, .f32⟩
  | .hbm, ⟨85, _⟩ => ⟨S32x2048x1, .f32⟩
  | .hbm, ⟨86, _⟩ => ⟨S_, .f32⟩
  | .hbm, ⟨87, _⟩ => ⟨S32x2048x1, .f32⟩
  | .hbm, ⟨88, _⟩ => ⟨S32x2048x1, .f32⟩
  | .hbm, ⟨89, _⟩ => ⟨S32x2048x1, .f32⟩
  | .hbm, ⟨90, _⟩ => ⟨S32x2048x1024, .f32⟩
  | .hbm, ⟨91, _⟩ => ⟨S32x2048x1024, .f32⟩
  | .hbm, ⟨92, _⟩ => ⟨S1x1x1024, .f32⟩
  | .hbm, ⟨93, _⟩ => ⟨S32x2048x1024, .f32⟩
  | .hbm, ⟨94, _⟩ => ⟨S32x2048x1024, .f32⟩
  | .hbm, ⟨95, _⟩ => ⟨S32x2048x1024, .f32⟩
  | .hbm, ⟨96, _⟩ => ⟨S1x1x1024, .f32⟩
  | .hbm, ⟨97, _⟩ => ⟨S32x2048x1024, .f32⟩
  | .hbm, ⟨98, _⟩ => ⟨S32x2048x1024, .f32⟩
  | .hbm, ⟨99, _⟩ => ⟨S32x2048x1024, .f32⟩
  | .hbm, ⟨100, _⟩ => ⟨S32x2048x1024, .f32⟩
  | .hbm, ⟨101, _⟩ => ⟨S_, .f32⟩
  | .hbm, ⟨102, _⟩ => ⟨S32x2048x1024, .f32⟩
  | .hbm, ⟨103, _⟩ => ⟨S32x2048x1024, .f32⟩
  | .hbm, ⟨104, _⟩ => ⟨S_, .f32⟩
  | .hbm, ⟨105, _⟩ => ⟨S32x2048x1024, .f32⟩
  | .hbm, ⟨106, _⟩ => ⟨S32x2048x1024, .f32⟩
  | .hbm, ⟨107, _⟩ => ⟨S32x2048x1024, .f32⟩
  | .hbm, ⟨108, _⟩ => ⟨S32x2048x1024, .f32⟩
  | .hbm, ⟨109, _⟩ => ⟨S32x2048x1024, .f32⟩
  | .hbm, ⟨110, _⟩ => ⟨S32x2048x1024, .f32⟩
  | .hbm, ⟨111, _⟩ => ⟨S_, .f32⟩
  | .hbm, ⟨112, _⟩ => ⟨S32x2048, .f32⟩
  | .hbm, ⟨113, _⟩ => ⟨S32x2048x1, .f32⟩
  | .hbm, ⟨114, _⟩ => ⟨S_, .f32⟩
  | .hbm, ⟨115, _⟩ => ⟨S32x2048x1, .f32⟩
  | .hbm, ⟨116, _⟩ => ⟨S32x2048x1, .f32⟩
  | .hbm, ⟨117, _⟩ => ⟨S_, .f32⟩
  | .hbm, ⟨118, _⟩ => ⟨S32x2048x1, .f32⟩
  | .hbm, ⟨119, _⟩ => ⟨S32x2048x1, .f32⟩
  | .hbm, ⟨120, _⟩ => ⟨S32x2048x1, .f32⟩
  | .hbm, ⟨121, _⟩ => ⟨S32x2048x1024, .f32⟩
  | .hbm, ⟨122, _⟩ => ⟨S32x2048x1024, .f32⟩
  | .hbm, ⟨123, _⟩ => ⟨S1x1x1024, .f32⟩
  | .hbm, ⟨124, _⟩ => ⟨S32x2048x1024, .f32⟩
  | .hbm, ⟨125, _⟩ => ⟨S32x2048x1024, .f32⟩
  | .hbm, ⟨126, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_call0_v0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_3 : Ref sig .tc := ⟨.hbm, 80, rfl⟩
abbrev main_v52 : Ref sig .tc := ⟨.hbm, 81, rfl⟩
abbrev main_v53 : Ref sig .tc := ⟨.hbm, 82, rfl⟩
abbrev main_cst_4 : Ref sig .tc := ⟨.hbm, 83, rfl⟩
abbrev main_v54 : Ref sig .tc := ⟨.hbm, 84, rfl⟩
abbrev main_v55 : Ref sig .tc := ⟨.hbm, 85, rfl⟩
abbrev main_cst_5 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_6 : Ref sig .tc := ⟨.hbm, 101, rfl⟩
abbrev main_v70 : Ref sig .tc := ⟨.hbm, 102, rfl⟩
abbrev main_v71 : Ref sig .tc := ⟨.hbm, 103, rfl⟩
abbrev main_cst_7 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_8 : Ref sig .tc := ⟨.hbm, 111, rfl⟩
abbrev main_v78 : Ref sig .tc := ⟨.hbm, 112, rfl⟩
abbrev main_v79 : Ref sig .tc := ⟨.hbm, 113, rfl⟩
abbrev main_cst_9 : Ref sig .tc := ⟨.hbm, 114, rfl⟩
abbrev main_v80 : Ref sig .tc := ⟨.hbm, 115, rfl⟩
abbrev main_v81 : Ref sig .tc := ⟨.hbm, 116, rfl⟩
abbrev main_cst_10 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩

abbrev nD : Nat := 1
abbrev τ : Topo := Topo.v7x

variable {F : FTy → Type} [FloatOps F]
-- ==== Kernel3.lean ====
abbrev S32x2048x1024 : Shape := ⟨3, ![32, 2048, 1024]⟩
abbrev S1024 : Shape := ⟨1, ![1024]⟩
abbrev S1024x2048 : Shape := ⟨2, ![1024, 2048]⟩
abbrev S1024x2064 : Shape := ⟨2, ![1024, 2064]⟩
abbrev S16 : Shape := ⟨1, ![16]⟩
abbrev S64 : Shape := ⟨1, ![64]⟩
abbrev S65536x1024 : Shape := ⟨2, ![65536, 1024]⟩
abbrev S1024x1024 : Shape := ⟨2, ![1024, 1024]⟩
abbrev S1024x1040 : Shape := ⟨2, ![1024, 1040]⟩
abbrev S1040x1024 : Shape := ⟨2, ![1040, 1024]⟩
abbrev S16x1 : Shape := ⟨2, ![16, 1]⟩
abbrev S16x128 : Shape := ⟨2, ![16, 128]⟩
abbrev S1x64 : Shape := ⟨2, ![1, 64]⟩
abbrev S16x64 : Shape := ⟨2, ![16, 64]⟩
abbrev S1x1024 : Shape := ⟨2, ![1, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1024x1 : Shape := ⟨2, ![1024, 1]⟩
abbrev S32768x2048 : Shape := ⟨2, ![32768, 2048]⟩
abbrev S65536x128 : Shape := ⟨2, ![65536, 128]⟩
abbrev S512x2048 : Shape := ⟨2, ![512, 2048]⟩
abbrev S1024x128 : Shape := ⟨2, ![1024, 128]⟩
abbrev S16x1024 : Shape := ⟨2, ![16, 1024]⟩
abbrev S1024x256 : Shape := ⟨2, ![1024, 256]⟩
abbrev S112x1024 : Shape := ⟨2, ![112, 1024]⟩
abbrev S128x1024 : Shape := ⟨2, ![128, 1024]⟩

abbrev nBuf : Space → Nat
  | .hbm => 68
  | .vmem => 26
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S1024x2064, .f32⟩
  | .hbm, ⟨5, _⟩ => ⟨S16, .f32⟩
  | .hbm, ⟨6, _⟩ => ⟨S64, .f32⟩
  | .hbm, ⟨7, _⟩ => ⟨S64, .f32⟩
  | .hbm, ⟨8, _⟩ => ⟨S65536x1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1040, .f32⟩
  | .hbm, ⟨16, _⟩ => ⟨S1040x1024, .f32⟩
  | .hbm, ⟨17, _⟩ => ⟨S1040x1024, .bf16⟩
  | .hbm, ⟨18, _⟩ => ⟨S16x1, .f32⟩
  | .hbm, ⟨19, _⟩ => ⟨S16x128, .f32⟩
  | .hbm, ⟨20, _⟩ => ⟨S1x64, .f32⟩
  | .hbm, ⟨21, _⟩ => ⟨S16x64, .f32⟩
  | .hbm, ⟨22, _⟩ => ⟨S1024, .f32⟩
  | .hbm, ⟨23, _⟩ => ⟨S1x1024, .f32⟩
  | .hbm, ⟨24, _⟩ => ⟨S1x64, .f32⟩
  | .hbm, ⟨25, _⟩ => ⟨S16x64, .f32⟩
  | .hbm, ⟨26, _⟩ => ⟨S1024, .f32⟩
  | .hbm, ⟨27, _⟩ => ⟨S1x1024, .f32⟩
  | .hbm, ⟨28, _⟩ => ⟨S256, .i32⟩
  | .hbm, ⟨29, _⟩ => ⟨S_, .i32⟩
  | .hbm, ⟨30, _⟩ => ⟨S_, .i32⟩
  | .hbm, ⟨31, _⟩ => ⟨S256, .i32⟩
  | .hbm, ⟨32, _⟩ => ⟨S256, .i32⟩
  | .hbm, ⟨33, _⟩ => ⟨S256, .i32⟩
  | .hbm, ⟨34, _⟩ => ⟨S_, .i32⟩
  | .hbm, ⟨35, _⟩ => ⟨S256, .i32⟩
  | .hbm, ⟨36, _⟩ => ⟨S256, .i1⟩
  | .hbm, ⟨37, _⟩ => ⟨S256, .i32⟩
  | .hbm, ⟨38, _⟩ => ⟨S256, .i32⟩
  | .hbm, ⟨39, _⟩ => ⟨S_, .i32⟩
  | .hbm, ⟨40, _⟩ => ⟨S256, .i32⟩
  | .hbm, ⟨41, _⟩ => ⟨S256, .i1⟩
  | .hbm, ⟨42, _⟩ => ⟨S256, .i1⟩
  | .hbm, ⟨43, _⟩ => ⟨S_, .i32⟩
  | .hbm, ⟨44, _⟩ => ⟨S256, .i32⟩
  | .hbm, ⟨45, _⟩ => ⟨S256, .i32⟩
  | .hbm, ⟨46, _⟩ => ⟨S256, .i32⟩
  | .hbm, ⟨47, _⟩ => ⟨S256x1, .i32⟩
  | .hbm, ⟨48, _⟩ => ⟨S1x256, .i32⟩
  | .hbm, ⟨49, _⟩ => ⟨S256x256, .i32⟩
  | .hbm, ⟨50, _⟩ => ⟨S256x256, .i32⟩
  | .hbm, ⟨51, _⟩ => ⟨S256x256, .i1⟩
  | .hbm, ⟨52, _⟩ => ⟨S256x256, .bf16⟩
  | .hbm, ⟨53, _⟩ => ⟨S1024, .i32⟩
  | .hbm, ⟨54, _⟩ => ⟨S1024x1, .i32⟩
  | .hbm, ⟨55, _⟩ => ⟨S1x1024, .i32⟩
  | .hbm, ⟨56, _⟩ => ⟨S1024x1024, .i32⟩
  | .hbm, ⟨57, _⟩ => ⟨S1024x1024, .i32⟩
  | .hbm, ⟨58, _⟩ => ⟨S1024x1024, .i1⟩
  | .hbm, ⟨59, _⟩ => ⟨S1024x1024, .bf16⟩
  | .hbm, ⟨60, _⟩ => ⟨S1x1024, .f32⟩
  | .hbm, ⟨61, _⟩ => ⟨S1x1024, .f32⟩
  | .hbm, ⟨62, _⟩ => ⟨S65536x1024, .bf16⟩
  | .hbm, ⟨63, _⟩ => ⟨S65536x1024, .bf16⟩
  | .hbm, ⟨64, _⟩ => ⟨S65536x1024, .bf16⟩
  | .hbm, ⟨65, _⟩ => ⟨S32768x2048, .bf16⟩
  | .hbm, ⟨66, _⟩ => ⟨S65536x128, .bf16⟩
  | .hbm, ⟨67, _⟩ => ⟨S512x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1040x1024, .bf16⟩
  | .local _ .vmem, ⟨8, _⟩ => ⟨S16x128, .f32⟩
  | .local _ .vmem, ⟨9, _⟩ => ⟨S1x1024, .f32⟩
  | .local _ .vmem, ⟨10, _⟩ => ⟨S1x1024, .f32⟩
  | .local _ .vmem, ⟨11, _⟩ => ⟨S256x256, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x128, .bf16⟩
  | .local _ .vmem, ⟨22, _⟩ => ⟨S1024x128, .bf16⟩
  | .local _ .vmem, ⟨23, _⟩ => ⟨S16x1024, .f32⟩
  | .local _ .vmem, ⟨24, _⟩ => ⟨S16x1024, .f32⟩
  | .local _ .vmem, ⟨25, _⟩ => ⟨S16x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_c : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_0 : Ref sig .tc := ⟨.hbm, 43, rfl⟩
abbrev main_call0_v12 : Ref sig .tc := ⟨.hbm, 44, rfl⟩
abbrev main_call0_v13 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37_0 : Ref sig .tc := ⟨.hbm, 62, rfl⟩
abbrev main_v37_1 : Ref sig .tc := ⟨.hbm, 63, rfl⟩
abbrev main_v37_2 : Ref sig .tc := ⟨.hbm, 64, rfl⟩
abbrev main_v37_3 : Ref sig .tc := ⟨.hbm, 65, rfl⟩
abbrev main_v37_4 : Ref sig .tc := ⟨.hbm, 66, rfl⟩
abbrev main_v37_5 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1040x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1024x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S16x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference3Ideal.lean ====
abbrev S32x2048x1024 : Shape := ⟨3, ![32, 2048, 1024]⟩
abbrev S1024 : Shape := ⟨1, ![1024]⟩
abbrev S1024x2048 : Shape := ⟨2, ![1024, 2048]⟩
abbrev S1024x2064 : Shape := ⟨2, ![1024, 2064]⟩
abbrev S16 : Shape := ⟨1, ![16]⟩
abbrev S64 : Shape := ⟨1, ![64]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2048 : Shape := ⟨3, ![32, 2048, 2048]⟩
abbrev S32x2048x16x64 : Shape := ⟨4, ![32, 2048, 16, 64]⟩
abbrev S32x2048x16 : Shape := ⟨3, ![32, 2048, 16]⟩
abbrev S32x2048x16x1 : Shape := ⟨4, ![32, 2048, 16, 1]⟩
abbrev S1x1x1x64 : Shape := ⟨4, ![1, 1, 1, 64]⟩
abbrev S32x2048x2064 : Shape := ⟨3, ![32, 2048, 2064]⟩
abbrev S1x1x16 : Shape := ⟨3, ![1, 1, 16]⟩
abbrev S32x16x2048 : Shape := ⟨3, ![32, 16, 2048]⟩
abbrev S65536x1024 : Shape := ⟨2, ![65536, 1024]⟩
abbrev S32x1024x2048 : Shape := ⟨3, ![32, 1024, 2048]⟩
abbrev S32768x2048 : Shape := ⟨2, ![32768, 2048]⟩
abbrev S512x2048 : Shape := ⟨2, ![512, 2048]⟩

abbrev nBuf : Space → Nat
  | .hbm => 128
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S1024x2064, .f32⟩
  | .hbm, ⟨5, _⟩ => ⟨S16, .f32⟩
  | .hbm, ⟨6, _⟩ => ⟨S64, .f32⟩
  | .hbm, ⟨7, _⟩ => ⟨S64, .f32⟩
  | .hbm, ⟨8, _⟩ => ⟨S32x2048x1024, .f32⟩
  | .hbm, ⟨9, _⟩ => ⟨S_, .f32⟩
  | .hbm, ⟨10, _⟩ => ⟨S32x2048, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S_, .f32⟩
  | .hbm, ⟨16, _⟩ => ⟨S32x2048x1, .f32⟩
  | .hbm, ⟨17, _⟩ => ⟨S32x2048x1, .f32⟩
  | .hbm, ⟨18, _⟩ => ⟨S32x2048x1, .f32⟩
  | .hbm, ⟨19, _⟩ => ⟨S32x2048x1024, .f32⟩
  | .hbm, ⟨20, _⟩ => ⟨S32x2048x1024, .f32⟩
  | .hbm, ⟨21, _⟩ => ⟨S1x1x1024, .f32⟩
  | .hbm, ⟨22, _⟩ => ⟨S32x2048x1024, .f32⟩
  | .hbm, ⟨23, _⟩ => ⟨S32x2048x1024, .f32⟩
  | .hbm, ⟨24, _⟩ => ⟨S32x2048x2048, .f32⟩
  | .hbm, ⟨25, _⟩ => ⟨S32x2048x1024, .f32⟩
  | .hbm, ⟨26, _⟩ => ⟨S32x2048x1024, .f32⟩
  | .hbm, ⟨27, _⟩ => ⟨S32x2048x16x64, .f32⟩
  | .hbm, ⟨28, _⟩ => ⟨S32x2048x16x64, .f32⟩
  | .hbm, ⟨29, _⟩ => ⟨S_, .f32⟩
  | .hbm, ⟨30, _⟩ => ⟨S32x2048x16, .f32⟩
  | .hbm, ⟨31, _⟩ => ⟨S32x2048x16x1, .f32⟩
  | .hbm, ⟨32, _⟩ => ⟨S_, .f32⟩
  | .hbm, ⟨33, _⟩ => ⟨S32x2048x16x1, .f32⟩
  | .hbm, ⟨34, _⟩ => ⟨S32x2048x16x1, .f32⟩
  | .hbm, ⟨35, _⟩ => ⟨S_, .f32⟩
  | .hbm, ⟨36, _⟩ => ⟨S32x2048x16x1, .f32⟩
  | .hbm, ⟨37, _⟩ => ⟨S32x2048x16x1, .f32⟩
  | .hbm, ⟨38, _⟩ => ⟨S32x2048x16x1, .f32⟩
  | .hbm, ⟨39, _⟩ => ⟨S32x2048x16x64, .f32⟩
  | .hbm, ⟨40, _⟩ => ⟨S32x2048x16x64, .f32⟩
  | .hbm, ⟨41, _⟩ => ⟨S1x1x1x64, .f32⟩
  | .hbm, ⟨42, _⟩ => ⟨S32x2048x16x64, .f32⟩
  | .hbm, ⟨43, _⟩ => ⟨S32x2048x16x64, .f32⟩
  | .hbm, ⟨44, _⟩ => ⟨S_, .f32⟩
  | .hbm, ⟨45, _⟩ => ⟨S32x2048x16x64, .f32⟩
  | .hbm, ⟨46, _⟩ => ⟨S32x2048x16x64, .f32⟩
  | .hbm, ⟨47, _⟩ => ⟨S32x2048x1024, .f32⟩
  | .hbm, ⟨48, _⟩ => ⟨S_, .f32⟩
  | .hbm, ⟨49, _⟩ => ⟨S32x2048, .f32⟩
  | .hbm, ⟨50, _⟩ => ⟨S32x2048x1, .f32⟩
  | .hbm, ⟨51, _⟩ => ⟨S_, .f32⟩
  | .hbm, ⟨52, _⟩ => ⟨S32x2048x1, .f32⟩
  | .hbm, ⟨53, _⟩ => ⟨S32x2048x1, .f32⟩
  | .hbm, ⟨54, _⟩ => ⟨S_, .f32⟩
  | .hbm, ⟨55, _⟩ => ⟨S32x2048x1, .f32⟩
  | .hbm, ⟨56, _⟩ => ⟨S32x2048x1, .f32⟩
  | .hbm, ⟨57, _⟩ => ⟨S32x2048x1, .f32⟩
  | .hbm, ⟨58, _⟩ => ⟨S32x2048x1024, .f32⟩
  | .hbm, ⟨59, _⟩ => ⟨S32x2048x1024, .f32⟩
  | .hbm, ⟨60, _⟩ => ⟨S1x1x1024, .f32⟩
  | .hbm, ⟨61, _⟩ => ⟨S32x2048x1024, .f32⟩
  | .hbm, ⟨62, _⟩ => ⟨S32x2048x1024, .f32⟩
  | .hbm, ⟨63, _⟩ => ⟨S32x2048x2064, .f32⟩
  | .hbm, ⟨64, _⟩ => ⟨S32x2048x1024, .f32⟩
  | .hbm, ⟨65, _⟩ => ⟨S32x2048x1024, .f32⟩
  | .hbm, ⟨66, _⟩ => ⟨S32x2048x16, .f32⟩
  | .hbm, ⟨67, _⟩ => ⟨S32x2048x16x64, .f32⟩
  | .hbm, ⟨68, _⟩ => ⟨S32x2048x16x64, .f32⟩
  | .hbm, ⟨69, _⟩ => ⟨S_, .f32⟩
  | .hbm, ⟨70, _⟩ => ⟨S32x2048x16, .f32⟩
  | .hbm, ⟨71, _⟩ => ⟨S32x2048x16x1, .f32⟩
  | .hbm, ⟨72, _⟩ => ⟨S_, .f32⟩
  | .hbm, ⟨73, _⟩ => ⟨S32x2048x16x1, .f32⟩
  | .hbm, ⟨74, _⟩ => ⟨S32x2048x16x1, .f32⟩
  | .hbm, ⟨75, _⟩ => ⟨S_, .f32⟩
  | .hbm, ⟨76, _⟩ => ⟨S32x2048x16x1, .f32⟩
  | .hbm, ⟨77, _⟩ => ⟨S32x2048x16x1, .f32⟩
  | .hbm, ⟨78, _⟩ => ⟨S32x2048x16x1, .f32⟩
  | .hbm, ⟨79, _⟩ => ⟨S32x2048x16x64, .f32⟩
  | .hbm, ⟨80, _⟩ => ⟨S32x2048x16x64, .f32⟩
  | .hbm, ⟨81, _⟩ => ⟨S1x1x1x64, .f32⟩
  | .hbm, ⟨82, _⟩ => ⟨S32x2048x16x64, .f32⟩
  | .hbm, ⟨83, _⟩ => ⟨S32x2048x16x64, .f32⟩
  | .hbm, ⟨84, _⟩ => ⟨S1x1x16, .f32⟩
  | .hbm, ⟨85, _⟩ => ⟨S32x2048x16, .f32⟩
  | .hbm, ⟨86, _⟩ => ⟨S32x2048x16, .f32⟩
  | .hbm, ⟨87, _⟩ => ⟨S32x2048x16, .f32⟩
  | .hbm, ⟨88, _⟩ => ⟨S_, .f32⟩
  | .hbm, ⟨89, _⟩ => ⟨S32x2048x16, .f32⟩
  | .hbm, ⟨90, _⟩ => ⟨S32x2048x16, .f32⟩
  | .hbm, ⟨91, _⟩ => ⟨S32x2048x16, .f32⟩
  | .hbm, ⟨92, _⟩ => ⟨S32x2048x16, .f32⟩
  | .hbm, ⟨93, _⟩ => ⟨S32x2048x16, .i1⟩
  | .hbm, ⟨94, _⟩ => ⟨S32x2048x16, .f32⟩
  | .hbm, ⟨95, _⟩ => ⟨S32x2048x16, .f32⟩
  | .hbm, ⟨96, _⟩ => ⟨S32x2048x16, .f32⟩
  | .hbm, ⟨97, _⟩ => ⟨S32x2048x16, .f32⟩
  | .hbm, ⟨98, _⟩ => ⟨S32x2048x16, .f32⟩
  | .hbm, ⟨99, _⟩ => ⟨S32x2048x16, .f32⟩
  | .hbm, ⟨100, _⟩ => ⟨S32x2048x16, .f32⟩
  | .hbm, ⟨101, _⟩ => ⟨S32x2048x16, .f32⟩
  | .hbm, ⟨102, _⟩ => ⟨S32x2048x16, .f32⟩
  | .hbm, ⟨103, _⟩ => ⟨S_, .f32⟩
  | .hbm, ⟨104, _⟩ => ⟨S_, .f32⟩
  | .hbm, ⟨105, _⟩ => ⟨S32x2048x16, .f32⟩
  | .hbm, ⟨106, _⟩ => ⟨S32x16x2048, .f32⟩
  | .hbm, ⟨107, _⟩ => ⟨S_, .f32⟩
  | .hbm, ⟨108, _⟩ => ⟨S32x16x2048, .f32⟩
  | .hbm, ⟨109, _⟩ => ⟨S32x16x2048, .f32⟩
  | .hbm, ⟨110, _⟩ => ⟨S65536x1024, .f32⟩
  | .hbm, ⟨111, _⟩ => ⟨S65536x1024, .bf16⟩
  | .hbm, ⟨112, _⟩ => ⟨S32x2048x1024, .f32⟩
  | .hbm, ⟨113, _⟩ => ⟨S32x2048x1024, .f32⟩
  | .hbm, ⟨114, _⟩ => ⟨S_, .f32⟩
  | .hbm, ⟨115, _⟩ => ⟨S32x2048x1024, .f32⟩
  | .hbm, ⟨116, _⟩ => ⟨S32x2048x1024, .f32⟩
  | .hbm, ⟨117, _⟩ => ⟨S_, .f32⟩
  | .hbm, ⟨118, _⟩ => ⟨S32x2048x1024, .f32⟩
  | .hbm, ⟨119, _⟩ => ⟨S32x2048x1024, .f32⟩
  | .hbm, ⟨120, _⟩ => ⟨S65536x1024, .f32⟩
  | .hbm, ⟨121, _⟩ => ⟨S65536x1024, .bf16⟩
  | .hbm, ⟨122, _⟩ => ⟨S65536x1024, .f32⟩
  | .hbm, ⟨123, _⟩ => ⟨S65536x1024, .bf16⟩
  | .hbm, ⟨124, _⟩ => ⟨S32x1024x2048, .f32⟩
  | .hbm, ⟨125, _⟩ => ⟨S32768x2048, .f32⟩
  | .hbm, ⟨126, _⟩ => ⟨S32768x2048, .bf16⟩
  | .hbm, ⟨127, _⟩ => ⟨S512x2048, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_call0_v0 : Ref sig .tc := ⟨.hbm, 87, rfl⟩
abbrev main_call0_call0_cst : Ref sig .tc := ⟨.hbm, 88, rfl⟩
abbrev main_call0_call0_v0 : Ref sig .tc := ⟨.hbm, 89, rfl⟩
abbrev main_call0_call0_v1 : Ref sig .tc := ⟨.hbm, 90, rfl⟩
abbrev main_call0_call0_v2 : Ref sig .tc := ⟨.hbm, 91, rfl⟩
abbrev main_call0_call0_v3 : Ref sig .tc := ⟨.hbm, 92, rfl⟩
abbrev main_call0_call0_v4 : Ref sig .tc := ⟨.hbm, 93, rfl⟩
abbrev main_call0_call0_v5 : Ref sig .tc := ⟨.hbm, 94, rfl⟩
abbrev main_call0_call0_v6 : Ref sig .tc := ⟨.hbm, 95, rfl⟩
abbrev main_call0_call0_v7 : Ref sig .tc := ⟨.hbm, 96, rfl⟩
abbrev main_call0_call0_v8 : Ref sig .tc := ⟨.hbm, 97, rfl⟩
abbrev main_call0_call0_v9 : Ref sig .tc := ⟨.hbm, 98, rfl⟩
abbrev main_call0_call0_v10 : Ref sig .tc := ⟨.hbm, 99, rfl⟩
abbrev main_call0_call0_v11 : Ref sig .tc := ⟨.hbm, 100, rfl⟩
abbrev main_call0_v1 : Ref sig .tc := ⟨.hbm, 101, rfl⟩
abbrev main_v66 : Ref sig .tc := ⟨.hbm, 102, rfl⟩
abbrev main_call1_call0_cst : Ref sig .tc := ⟨.hbm, 103, rfl⟩
abbrev main_call1_call0_v0 : Ref sig .tc := ⟨.hbm, 104, rfl⟩
abbrev main_v67 : Ref sig .tc := ⟨.hbm, 105, rfl⟩
abbrev main_v68 : Ref sig .tc := ⟨.hbm, 106, rfl⟩
abbrev main_cst_12 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_13 : Ref sig .tc := ⟨.hbm, 114, rfl⟩
abbrev main_v75 : Ref sig .tc := ⟨.hbm, 115, rfl⟩
abbrev main_v76 : Ref sig .tc := ⟨.hbm, 116, rfl⟩
abbrev main_cst_14 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩

abbrev nD : Nat := 1
abbrev τ : Topo := Topo.v7x

variable {F : FTy → Type} [FloatOps F]
-- ==== Proof.Model.lean ====
/-
  What one grid point of the kernel computes, written once for all its chunks and heads.

  A grid point holds 1024 rows, worked through in two halves of 512 rows, each half in eight chunks of 64 rows, each
  chunk in four heads.  The printed body repeats the same operations for every half, chunk and head; here each of them
  is one definition with the chunk `i` and the head `h` as arguments.
-/
module

public import proofs.«01_k».proof.Proof.Gen.KernelIdeal.Frame

@[expose] public section

set_option maxRecDepth 16384

noncomputable section

namespace Cert.KernelIdeal.Model

open Idealize.ShloMosaic Idealize.ShloMosaic.TcCoe
open Cert.KernelIdeal Cert.KernelIdeal.Gen

variable {F : FTy → Type} [FloatOps F]

/-! ## Slices at a chunk and a head -/

theorem slRow : ∀ i : Fin 8, S512x512.Slices ![64 * i.val, 0] S64x512 := by decide
theorem slLast : ∀ i : Fin 8, S512x512.Slices ![64 * i.val + 63, 0] S1x512 := by decide
theorem slKey : ∀ (i : Fin 8) (h : Fin 4), S512x512.Slices ![64 * i.val, 128 * h.val] S64x128 := by decide
theorem slVal : ∀ (i : Fin 8) (h : Fin 4), S512x1024.Slices ![64 * i.val, 256 * h.val] S64x256 := by decide
theorem slDec : ∀ h : Fin 4, S8x512.Slices ![0, 128 * h.val] S8x128 := by decide
theorem slCol : ∀ i : Fin 8, S128x128.Slices ![0, i.val] S128x1 := by decide
theorem slHead : ∀ h : Fin 4, S512x1024.Slices ![0, 256 * h.val] S512x256 := by decide

/-- What a half of a grid point reads: its rows of the input and the layer's weights. -/
structure Half (F : FTy → Type) where
  x : Vec F S512x1024 .f32
  g : Vec F S1x1024 .f32
  wq : Vec F S1024x512 .bf16
  wk : Vec F S1024x512 .bf16
  wv : Vec F S1024x1024 .bf16
  wo : Vec F S1024x1024 .bf16
  wg : Vec F S1024x128 .bf16
  w2 : Vec F S128x512 .bf16
  b : Vec F S1x512 .f32

/-- The normalised rows. -/
def hn (H : Half F) : Vec F S512x1024 .bf16 := k0_pay6 H.x H.g
/-- The queries. -/
def qq (H : Half F) : Vec F S512x512 .bf16 := k0_pay7 H.x H.g H.wq
/-- The keys. -/
def kk (H : Half F) : Vec F S512x512 .bf16 := k0_pay8 H.x H.g H.wk
/-- The values. -/
def vv (H : Half F) : Vec F S512x1024 .bf16 := k0_pay10 (hn H) (k0_pay9 H.wv) (constant S512x1024 .f32 0x00000000#32)
/-- The output gate before its activation. -/
def og (H : Half F) : Vec F S512x1024 .bf16 := k0_pay11 (hn H) H.wo
/-- The logarithms of the decays. -/
def gk (H : Half F) : Vec F S512x512 .f32 := k0_pay12 (hn H) H.wg H.w2 H.b

/-- The sum of `g` over the rows of chunk `i` up to each row, as three triangular products. -/
def chunkSum (g : Vec F S512x512 .f32) (i : Fin 8) : Vec F S64x512 .f32 :=
  addf (addf
      (matmul dot_S64x64_S64x512_S64x512_1_0_0_1_n_n none k0_pay5
        (extractStridedSlice S64x512 ![64 * i.val, 0] (k0_pay17 g) (slRow i)) (constant S64x512 .f32 0x00000000#32))
      (matmul dot_S64x64_S64x512_S64x512_1_0_0_1_n_n none k0_pay5
        (extractStridedSlice S64x512 ![64 * i.val, 0] (k0_pay19 g) (slRow i)) (constant S64x512 .f32 0x00000000#32)))
    (matmul dot_S64x64_S64x512_S64x512_1_0_0_1_n_n none k0_pay5
      (extractStridedSlice S64x512 ![64 * i.val, 0] (k0_pay20 g) (slRow i)) (constant S64x512 .f32 0x00000000#32))

/-- The eight chunks' sums, one under the other. -/
def bcum (H : Half F) : Vec F S512x512 .f32 :=
  concatenate S512x512 0 [⟨S64x512, chunkSum (gk H) 0⟩, ⟨S64x512, chunkSum (gk H) 1⟩, ⟨S64x512, chunkSum (gk H) 2⟩,
    ⟨S64x512, chunkSum (gk H) 3⟩, ⟨S64x512, chunkSum (gk H) 4⟩, ⟨S64x512, chunkSum (gk H) 5⟩,
    ⟨S64x512, chunkSum (gk H) 6⟩, ⟨S64x512, chunkSum (gk H) 7⟩]
    concatenates_S64x512_S64x512_S64x512_S64x512_S64x512_S64x512_S64x512_S64x512_S512x512_d0

/-- The scaled queries times the decay since the chunk began. -/
def qIn (H : Half F) : Vec F S512x512 .bf16 := k0_pay39 (qq H) (bcum H)
/-- The keys over the decay since the chunk began. -/
def kIn (H : Half F) : Vec F S512x512 .bf16 := k0_pay41 (kk H) (bcum H)
/-- The keys times the decay until the chunk ends. -/
def kEnd (H : Half F) : Vec F S512x512 .bf16 := k0_pay43 (kk H) (bcum H)
/-- The decay over each whole chunk. -/
def decay (H : Half F) : Vec F S8x512 .f32 := k0_pay44 (bcum H)
/-- The chunks' decays of head `h`, one chunk to a column. -/
def decayT (H : Half F) (h : Fin 4) : Vec F S128x128 .f32 :=
  transpose S128x128 [1, 0] (concatenate S128x128 0
    [⟨S8x128, extractStridedSlice S8x128 ![0, 128 * h.val] (decay H) (slDec h)⟩, ⟨S120x128, k0_pay45⟩]
    concatenates_S8x128_S120x128_S128x128_d0) transposes_S128x128_p1_0_S128x128

/-- The weights of the rows of chunk `i` for one another. -/
def att (H : Half F) (i : Fin 8) (h : Fin 4) : Vec F S64x64 .bf16 :=
  truncf .bf16 (select k0_pay4
    (matmul dot_S64x128_S64x128_S64x64_1_1_0_0_n_n none
      (extractStridedSlice S64x128 ![64 * i.val, 128 * h.val] (qIn H) (slKey i h))
      (extractStridedSlice S64x128 ![64 * i.val, 128 * h.val] (kIn H) (slKey i h))
      (constant S64x64 .f32 0x00000000#32))
    (broadcast S64x64 (FloatOps.ofBits .f32 0x00000000#32 : F .f32))) bitsLt_bf16_f32

/-- What chunk `i` adds to the state of head `h`. -/
def upd (H : Half F) (i : Fin 8) (h : Fin 4) : Vec F S128x256 .f32 :=
  matmul dot_S64x128_S64x256_S128x256_0_0_1_1_n_n none
    (extractStridedSlice S64x128 ![64 * i.val, 128 * h.val] (kEnd H) (slKey i h))
    (extractStridedSlice S64x256 ![64 * i.val, 256 * h.val] (vv H) (slVal i h))
    (constant S128x256 .f32 0x00000000#32)

/-- The state of head `h` after chunk `i`, from the one before it. -/
def stNext (H : Half F) (i : Fin 8) (h : Fin 4) (s : Vec F S128x256 .f32) : Vec F S128x256 .f32 :=
  addf (mulf (broadcastTo S128x256 (extractStridedSlice S128x1 ![0, i.val] (decayT H h) (slCol i))
    broadcasts_S128x1_S128x256) s) (upd H i h)

/-- The state of head `h` after the first `n` chunks of the half. -/
def stAt (H : Half F) (h : Fin 4) (s : Vec F S128x256 .f32) : ℕ → Vec F S128x256 .f32
  | 0 => s
  | n + 1 => stNext H (Fin.ofNat 8 n) h (stAt H h s n)

/-- The output of chunk `i`, head `h`, before the output gate. -/
def oPiece (H : Half F) (i : Fin 8) (h : Fin 4) (s : Vec F S128x256 .f32) : Vec F S64x256 .f32 :=
  shapeCast S64x256 (addf
    (matmul dot_S64x64_S64x256_S64x256_1_0_0_1_n_n none (att H i h)
      (extractStridedSlice S64x256 ![64 * i.val, 256 * h.val] (vv H) (slVal i h)) (constant S64x256 .f32 0x00000000#32))
    (matmul dot_S64x128_S128x256_S64x256_1_0_0_1_n_n none
      (extractStridedSlice S64x128 ![64 * i.val, 128 * h.val] (qIn H) (slKey i h))
      (truncf .bf16 s bitsLt_bf16_f32) (constant S64x256 .f32 0x00000000#32))) shapeCasts_S64x256_S64x256

/-- One head's share of the result added onto `y`: the head's output normalised, gated and multiplied by its rows of
    the output matrix. -/
def headAdd (H : Half F) (gon : Vec F S1x256 .f32) (h : Fin 4) (o : Vec F S512x256 .f32) (wout : Vec F S256x1024 .bf16)
    (y : Vec F S512x1024 .f32) : Vec F S512x1024 .f32 :=
  addf y (matmul dot_S512x256_S256x1024_S512x1024_1_0_0_1_n_n none
    (truncf .bf16 (mulf
      (mulf
        (mulf o (broadcastTo S512x256 (rsqrt (addf (divf (shapeCast S512x1
            (multiReduction .add [1] S512 (mulf o o) 0x00000000#32 reduces_S512x256_S512 (by decide) (by decide))
            shapeCasts_S512_S512x1)
          (broadcast S512x1 (FloatOps.ofBits .f32 0x43800000#32 : F .f32)))
          (broadcast S512x1 (FloatOps.ofBits .f32 0x358637BD#32 : F .f32)))) broadcasts_S512x1_S512x256))
        (broadcastTo S512x256 (shapeCast S1x256 gon shapeCasts_S1x256_S1x256) broadcasts_S1x256_S512x256))
      (mulf (extf .f32 (extractStridedSlice S512x256 ![0, 256 * h.val] (og H) (slHead h)) bitsLt_bf16_f32)
        (divf (broadcast S512x256 (FloatOps.ofBits .f32 0x3F800000#32 : F .f32))
          (addf (broadcast S512x256 (FloatOps.ofBits .f32 0x3F800000#32 : F .f32))
            (exp (subf (broadcast S512x256 (FloatOps.ofBits .f32 0x00000000#32 : F .f32))
              (extf .f32 (extractStridedSlice S512x256 ![0, 256 * h.val] (og H) (slHead h)) bitsLt_bf16_f32)))))))
      bitsLt_bf16_f32)
    (shapeCast S256x1024 wout shapeCasts_S256x1024_S256x1024) (constant S512x1024 .f32 0x00000000#32))

/-- The half's 512 result rows. -/
def finish (H : Half F) (gon : Vec F S1x256 .f32) (o : Fin 4 → Vec F S512x256 .f32) (wout : Fin 4 → Vec F S256x1024 .bf16) :
    Vec F S512x1024 .f32 :=
  headAdd H gon 3 (o 3) (wout 3) (headAdd H gon 2 (o 2) (wout 2) (headAdd H gon 1 (o 1) (wout 1)
    (headAdd H gon 0 (o 0) (wout 0) (shapeCast S512x1024 H.x shapeCasts_S512x1024_S512x1024))))

/-! ## The pieces written to the scratch -/

theorem inbO : ∀ (r : Fin 2) (i : Fin 8) (h : Fin 4) (a : Fin 2),
    (![512 * r.val + 64 * i.val, 256 * h.val] : Fin 2 → ℕ) a + S64x256.size a ≤ S1024x1024.size a := by decide

/-- One chunk and head of half `r`, with the place it is written at. -/
def piece (r : Fin 2) (H : Half F) (S : Fin 4 → Vec F S128x256 .f32) (i : Fin 8) (h : Fin 4) :
    View.Piece (Elt F) S1024x1024 .f32 :=
  ⟨Rect.unit ![512 * r.val + 64 * i.val, 256 * h.val] S64x256.size (inbO r i h), oPiece H i h (stAt H h (S h) i.val)⟩

/-- The chunks and heads in the reverse of the order they are written in. -/
def places : List (Fin 8 × Fin 4) :=
  [(7, 3), (7, 2), (7, 1), (7, 0), (6, 3), (6, 2), (6, 1), (6, 0), (5, 3), (5, 2), (5, 1), (5, 0), (4, 3), (4, 2), (4, 1), (4, 0),
   (3, 3), (3, 2), (3, 1), (3, 0), (2, 3), (2, 2), (2, 1), (2, 0), (1, 3), (1, 2), (1, 1), (1, 0), (0, 3), (0, 2), (0, 1), (0, 0)]

/-- What a half writes into the scratch. -/
def pieces (r : Fin 2) (H : Half F) (S : Fin 4 → Vec F S128x256 .f32) : List (View.Piece (Elt F) S1024x1024 .f32) :=
  places.map fun p => piece r H S p.1 p.2

end Cert.KernelIdeal.Model
-- ==== Proof.Spec.lean ====
/-
  The gated linear attention layer, over the extended reals.

  A row is a vector of 1024 numbers; sixty-four rows are a chunk.  Everything here is a function of one row or of one
  chunk and the layer's weights; the state passes from a chunk to the next.
-/
module

public import Idealize.ShloMosaic.PureOps.Ideal

@[expose] public section

noncomputable section

namespace Cert.Gla

open Idealize.ShloMosaic

/-- The layer's weights. -/
structure W where
  g : Fin 1024 → EReal
  w : Fin 1024 → Fin 3088 → EReal
  w2 : Fin 16 → Fin 512 → EReal
  b : Fin 512 → EReal
  gon : Fin 256 → EReal
  wout : Fin 1024 → Fin 1024 → EReal

/-- Component `d` of head `h` of a key. -/
abbrev key (h : Fin 4) (d : Fin 128) : Fin 512 := ⟨128 * h.val + d.val, by omega⟩
/-- Component `v` of head `h` of a value. -/
abbrev val (h : Fin 4) (v : Fin 256) : Fin 1024 := ⟨256 * h.val + v.val, by omega⟩

section
variable (P : W)

section Row
variable (x : Fin 1024 → EReal)

/-- The row normalised. -/
def hn (d : Fin 1024) : EReal :=
  x d * Ideal.rsqrt (Ideal.div (∑ e, x e * x e) (Ideal.ofBits .f32 0x44800000#32) + Ideal.ofBits .f32 0x358637BD#32) * P.g d
/-- The row times the input matrix. -/
def pr (j : Fin 3088) : EReal := ∑ d, hn P x d * P.w d j
def q (j : Fin 512) : EReal := pr P x ⟨j.val, by omega⟩
def k (j : Fin 512) : EReal := pr P x ⟨512 + j.val, by omega⟩
def v (j : Fin 1024) : EReal := pr P x ⟨1024 + j.val, by omega⟩
def og (j : Fin 1024) : EReal := pr P x ⟨2048 + j.val, by omega⟩
def gr (r : Fin 16) : EReal := pr P x ⟨3072 + r.val, by omega⟩
/-- The decay's pre-activation. -/
def z (j : Fin 512) : EReal := ∑ r, gr P x r * P.w2 r j + P.b j
/-- The logarithm of the sigmoid. -/
def logSigmoid (a : EReal) : EReal := min a 0 - Ideal.log1p (Ideal.exp (-(max a (-a))))
/-- The logarithm of the decay. -/
def gk (j : Fin 512) : EReal := logSigmoid (z P x j) * Ideal.ofBits .f32 0x3D800000#32

end Row

section Chunk
variable (X : Fin 64 → Fin 1024 → EReal) (S : Fin 4 → Fin 128 → Fin 256 → EReal)

/-- The decays' logarithms summed from the chunk's first row to row `c`. -/
def bc (c : Fin 64) (j : Fin 512) : EReal := ∑ c' : Fin 64, if c' ≤ c then gk P (X c') j else 0
def qIn (c : Fin 64) (j : Fin 512) : EReal := q P (X c) j * Ideal.ofBits .f32 0x3DB504F3#32 * Ideal.exp (bc P X c j)
def kIn (c : Fin 64) (j : Fin 512) : EReal := k P (X c) j * Ideal.exp (-bc P X c j)
def kEnd (c : Fin 64) (j : Fin 512) : EReal := k P (X c) j * Ideal.exp (bc P X 63 j - bc P X c j)
def decay (j : Fin 512) : EReal := Ideal.exp (bc P X 63 j)
/-- The weight of row `s` for row `c` of the same chunk. -/
def att (h : Fin 4) (c s : Fin 64) : EReal := if s ≤ c then ∑ d, qIn P X c (key h d) * kIn P X s (key h d) else 0
/-- The output before the gate. -/
def o (h : Fin 4) (c : Fin 64) (e : Fin 256) : EReal :=
  ∑ s, att P X h c s * v P (X s) (val h e) + ∑ d, qIn P X c (key h d) * S h d e
/-- The state after the chunk. -/
def next (h : Fin 4) (d : Fin 128) (e : Fin 256) : EReal :=
  decay P X (key h d) * S h d e + ∑ c, kEnd P X c (key h d) * v P (X c) (val h e)
/-- The output normalised over the head and gated, in terms of the output itself. -/
def gateOf (ov : Fin 256 → EReal) (a : EReal) (e : Fin 256) : EReal :=
  ov e * Ideal.rsqrt (Ideal.div (∑ e', ov e' * ov e') (Ideal.ofBits .f32 0x43800000#32) + Ideal.ofBits .f32 0x358637BD#32) * P.gon e
    * (a * Ideal.div 1 (1 + Ideal.exp (-a)))
def gated (h : Fin 4) (c : Fin 64) (e : Fin 256) : EReal := gateOf P (o P X S h c) (og P (X c) (val h e)) e
/-- The chunk's result rows. -/
def out (c : Fin 64) (j : Fin 1024) : EReal := X c j + ∑ h, ∑ e, gated P X S h c e * P.wout (val h e) j

end Chunk

/-- The state before chunk `n` of a sequence of chunks. -/
def state (Y : ℕ → Fin 64 → Fin 1024 → EReal) (S : Fin 4 → Fin 128 → Fin 256 → EReal) : ℕ → Fin 4 → Fin 128 → Fin 256 → EReal
  | 0 => S
  | n + 1 => next P (Y n) (state Y S n)

theorem state_add (Y : ℕ → Fin 64 → Fin 1024 → EReal) (S : Fin 4 → Fin 128 → Fin 256 → EReal) (a : ℕ) :
    ∀ n, state P Y S (a + n) = state P (fun i => Y (a + i)) (state P Y S a) n
  | 0 => rfl
  | n + 1 => by rw [← Nat.add_assoc]; simp only [state, state_add Y S a n]

end

end Cert.Gla
-- ==== Proof.KRows.lean ====
/-
  The kernel's half of a grid point, row by row: its normalised rows, projections and decays are the layer's.
-/
module

public import proofs.«01_k».proof.Proof.Model
public import proofs.«01_k».proof.Proof.Spec
public import Idealize.ShloMosaic.Lib.Pointwise

@[expose] public section

set_option maxRecDepth 16384

noncomputable section

namespace Cert.KernelIdeal.Model

open Idealize.ShloMosaic Idealize.ShloMosaic.TcCoe Idealize.ShloMosaic.Pointwise
open Cert.KernelIdeal Cert.KernelIdeal.Gen

/-- A half holds the layer's weights and the rows `X`; the padding of the low-rank factors is zeros. -/
structure Half.Is (H : Half Ideal) (P : Gla.W) (X : Fin 512 → Fin 1024 → EReal) : Prop where
  x : ∀ r d, H.x (ix2 r d) = X r d
  g : ∀ d, H.g (ix2 0 d) = P.g d
  wq : ∀ d (j : Fin 512), H.wq (ix2 d j) = P.w d ⟨j.val, by omega⟩
  wk : ∀ d (j : Fin 512), H.wk (ix2 d j) = P.w d ⟨512 + j.val, by omega⟩
  wv : ∀ d (j : Fin 1024), H.wv (ix2 d j) = P.w d ⟨1024 + j.val, by omega⟩
  wo : ∀ d (j : Fin 1024), H.wo (ix2 d j) = P.w d ⟨2048 + j.val, by omega⟩
  wg : ∀ d (j : Fin 128), H.wg (ix2 d j) = if h : j.val < 16 then P.w d ⟨3072 + j.val, by omega⟩ else 0
  w2 : ∀ (r : Fin 128) j, H.w2 (ix2 r j) = if h : r.val < 16 then P.w2 ⟨r.val, h⟩ j else 0
  b : ∀ j, H.b (ix2 0 j) = P.b j

/-- A sum over 128 terms whose last 112 are zero. -/
theorem sum_pad (f : Fin 128 → EReal) (hf : ∀ r : Fin 128, 16 ≤ r.val → f r = 0) :
    ∑ r, f r = ∑ r : Fin 16, f ⟨r.val, by omega⟩ := by
  have h := Fin.sum_univ_add (M := EReal) (a := 16) (b := 112) f
  refine h.trans ?_
  rw [Finset.sum_eq_zero (s := Finset.univ) (f := fun i : Fin 112 => f (Fin.natAdd 16 i)) fun i _ => hf _ (by simp), add_zero]
  rfl

theorem one_lit : Ideal.ofBits .f32 0x3F800000#32 = 1 := by
  simp [Ideal.ofBits, Ideal.ieee]
  rw [← EReal.coe_mul]; norm_num

section
variable {H : Half Ideal} {P : Gla.W} {X : Fin 512 → Fin 1024 → EReal} (hH : H.Is P X)
include hH

theorem hn_eq (r : Fin 512) (d : Fin 1024) : hn H (ix2 r d) = Gla.hn P (X r) d := by
  pointwise [hn, k0_pay6, Gla.hn]
  simp only [hH.x, hH.g]

theorem qq_eq (r : Fin 512) (j : Fin 512) : qq H (ix2 r j) = Gla.q P (X r) j := by
  have h := hn_eq hH
  unfold hn at h
  pointwise [qq, k0_pay7, Gla.q, Gla.pr]
  simp only [h, hH.wq]

theorem kk_eq (r : Fin 512) (j : Fin 512) : kk H (ix2 r j) = Gla.k P (X r) j := by
  have h := hn_eq hH
  unfold hn at h
  pointwise [kk, k0_pay8, Gla.k, Gla.pr]
  simp only [h, hH.wk]

theorem vv_eq (r : Fin 512) (j : Fin 1024) : vv H (ix2 r j) = Gla.v P (X r) j := by
  have h := hn_eq hH
  pointwise [vv, k0_pay9, k0_pay10, Gla.v, Gla.pr]
  simp only [h, hH.wv]

theorem og_eq (r : Fin 512) (j : Fin 1024) : og H (ix2 r j) = Gla.og P (X r) j := by
  have h := hn_eq hH
  pointwise [og, k0_pay11, Gla.og, Gla.pr]
  simp only [h, hH.wo]

theorem gk_eq (r : Fin 512) (j : Fin 512) : gk H (ix2 r j) = Gla.gk P (X r) j := by
  have h := hn_eq hH
  pointwise [gk, k0_pay12, Gla.gk, Gla.logSigmoid]
  have e : ∑ x, (∑ x_1, hn H (ix2 r x_1) * H.wg (ix2 x_1 x)) * H.w2 (ix2 x j) + H.b (ix2 0 j) = Gla.z P (X r) j := by
    rw [sum_pad _ fun x hx => by rw [hH.w2, dif_neg (by omega), mul_zero], hH.b]
    unfold Gla.z Gla.gr Gla.pr
    congr 1
    refine Finset.sum_congr rfl fun x _ => ?_
    rw [hH.w2, dif_pos x.isLt]
    congr 1
    exact Finset.sum_congr rfl fun d _ => by rw [h, hH.wg, dif_pos x.isLt]
  rw [e, zero_sub]
  rfl

end

/-- A sixteenth. -/
theorem sixteenth_lit : Ideal.ofBits .f32 0x3D800000#32 = ((1 / 16 : ℝ) : EReal) := by
  simp [Ideal.ofBits, Ideal.ieee]
  rw [← EReal.coe_mul]; norm_num

/-- The logarithm of the sigmoid of a real number is a real number. -/
theorem _root_.Cert.Gla.logSigmoid_coe (a : ℝ) :
    Gla.logSigmoid (a : EReal) = ((min a 0 - Real.log (1 + Real.exp (-(max a (-a)))) : ℝ) : EReal) := by
  unfold Gla.logSigmoid Ideal.log1p
  have h : (0 : ℝ) < 1 + Real.exp (-(max a (-a))) := by positivity
  rw [← EReal.coe_neg, ← EReal.coe_zero, ← EReal.coe_strictMono.monotone.map_min, ← EReal.coe_strictMono.monotone.map_max, ← EReal.coe_neg, Ideal.exp_coe, ← EReal.coe_one,
    ← EReal.coe_add, Ideal.log_coe, if_neg (not_le.mpr h), ← EReal.coe_sub]

theorem _root_.Cert.Gla.logSigmoid_bot : Gla.logSigmoid ⊥ = ⊥ := by
  simp [Gla.logSigmoid, sub_eq_add_neg]

theorem _root_.Cert.Gla.logSigmoid_top : Gla.logSigmoid ⊤ = 0 := by
  unfold Gla.logSigmoid Ideal.log1p
  have h : Ideal.log (1 + 0) = 0 := by
    rw [add_zero, ← EReal.coe_one, Ideal.log_coe, if_neg (by norm_num), Real.log_one, EReal.coe_zero]
  simpa using h

/-- The logarithm of a decay is not the positive infinity. -/
theorem _root_.Cert.Gla.gk_ne_top (P : Gla.W) (x : Fin 1024 → EReal) (j : Fin 512) : Gla.gk P x j ≠ ⊤ := by
  unfold Gla.gk
  rw [sixteenth_lit]
  induction Gla.z P x j with
  | bot => rw [Gla.logSigmoid_bot, EReal.bot_mul_coe_of_pos (by norm_num)]; exact bot_ne_top
  | coe a => rw [Gla.logSigmoid_coe, ← EReal.coe_mul]; exact EReal.coe_ne_top _
  | top => rw [Gla.logSigmoid_top, zero_mul]; exact EReal.zero_ne_top

/-- The triangle of ones. -/
theorem le_bit : ∀ c s : Fin 64, IntOp.cmpi .sge (BitVec.ofNat 32 c.val) (BitVec.ofNat 32 s.val) = if s ≤ c then 1#1 else 0#1 := by
  decide +kernel

theorem tril_eq (c s : Fin 64) : (k0_pay5 : FVec Ideal S64x64 .bf16) (ix2 c s) = if s ≤ c then 1 else 0 := by
  pointwise [k0_pay5, k0_pay4]
  rw [le_bit]
  split_ifs <;> simp [Scalar.select]

/-- A number that is not the positive infinity is the sum of itself and its two remainders. -/
theorem split_sum {x : EReal} (hx : x ≠ ⊤) : x + (x - x) + (x - x - (x - x)) = x := by
  induction x with
  | bot => simp [sub_eq_add_neg]
  | coe a => norm_cast; simp
  | top => exact absurd rfl hx

theorem chunkSum_eq (g : Vec Ideal S512x512 .f32) (hg : ∀ r j, g (ix2 r j) ≠ ⊤) (i : Fin 8) (c : Fin 64) (j : Fin 512) :
    chunkSum g i (ix2 c j) = ∑ c' : Fin 64, if c' ≤ c then g (ix2 ⟨64 * i.val + c'.val, by omega⟩ j) else 0 := by
  have ht := tril_eq
  pointwise [chunkSum, k0_pay17, k0_pay18, k0_pay19, k0_pay20]
  simp only [ht, ← Finset.sum_add_distrib]
  refine Finset.sum_congr rfl fun x _ => ?_
  split_ifs
  · simp only [one_mul]; exact split_sum (hg _ _)
  · simp

theorem bcum_at (H : Half Ideal) (r : Fin 512) (i : Fin 8) (c : Fin 64) (j : Fin 512) (hr : r.val = 64 * i.val + c.val) :
    bcum H (ix2 r j) = chunkSum (gk H) i (ix2 c j) := by
  pointwise [bcum]
  have e : ∀ (k : Fin 8) (r' : Fin 64), i = k → r'.val = c.val → chunkSum (gk H) k (ix2 r' j) = chunkSum (gk H) i (ix2 c j) := by
    rintro k r' rfl h; rw [Fin.ext h]
  split_ifs <;> exact e _ _ (Fin.ext (by omega)) (by dsimp only; omega)

section
variable {H : Half Ideal} {P : Gla.W} {X : Fin 512 → Fin 1024 → EReal} (hH : H.Is P X)
include hH

theorem bcum_eq (i : Fin 8) (c : Fin 64) (j : Fin 512) :
    bcum H (ix2 ⟨64 * i.val + c.val, by omega⟩ j) = Gla.bc P (fun c => X ⟨64 * i.val + c.val, by omega⟩) c j := by
  rw [bcum_at H _ i c j rfl, chunkSum_eq (gk H) (fun r j => by rw [gk_eq hH]; exact Gla.gk_ne_top _ _ _)]
  simp only [gk_eq hH]
  rfl
end

end Cert.KernelIdeal.Model
-- ==== Proof.KChunk.lean ====
/-
  The kernel's half of a grid point, chunk by chunk: what chunk `i` and head `h` compute is the layer's chunk.
-/
module

public import proofs.«01_k».proof.Proof.KRows

@[expose] public section

set_option maxRecDepth 16384

noncomputable section

namespace Cert.KernelIdeal.Model

open Idealize.ShloMosaic Idealize.ShloMosaic.TcCoe Idealize.ShloMosaic.Pointwise
open Cert.KernelIdeal Cert.KernelIdeal.Gen

/-- Chunk `i` of a half's rows. -/
abbrev chunk (X : Fin 512 → Fin 1024 → EReal) (i : Fin 8) (c : Fin 64) : Fin 1024 → EReal := X ⟨64 * i.val + c.val, by omega⟩

section
variable {H : Half Ideal} {P : Gla.W} {X : Fin 512 → Fin 1024 → EReal} (hH : H.Is P X)
include hH

theorem qIn_eq (i : Fin 8) (c : Fin 64) (j : Fin 512) :
    qIn H (ix2 ⟨64 * i.val + c.val, by omega⟩ j) = Gla.qIn P (chunk X i) c j := by
  have hb := bcum_eq hH
  have hq := qq_eq hH
  pointwise [qIn, k0_pay39]
  rw [hb, hq]
  rfl

theorem kIn_eq (i : Fin 8) (c : Fin 64) (j : Fin 512) :
    kIn H (ix2 ⟨64 * i.val + c.val, by omega⟩ j) = Gla.kIn P (chunk X i) c j := by
  have hb := bcum_eq hH
  have hk := kk_eq hH
  pointwise [kIn, k0_pay41, k0_pay38]
  rw [hb, hk, zero_sub]
  rfl

theorem kEnd_eq (i : Fin 8) (c : Fin 64) (j : Fin 512) :
    kEnd H (ix2 ⟨64 * i.val + c.val, by omega⟩ j) = Gla.kEnd P (chunk X i) c j := by
  have hb := bcum_eq hH
  have hk := kk_eq hH
  pointwise [kEnd, k0_pay43, k0_pay38, k0_pay37, k0_pay36, k0_pay35, k0_pay34, k0_pay33, k0_pay32, k0_pay31, k0_pay30]
  rw [hb i c j, hk]
  have e : ∀ (k : Fin 8) (r : Fin 512), i = k → r.val = 64 * k.val + 63 → bcum H (ix2 r j) = Gla.bc P (chunk X i) 63 j := by
    rintro k r rfl h
    rw [show r = ⟨64 * i.val + (63 : Fin 64).val, by omega⟩ from Fin.ext h, hb]
  unfold Gla.kEnd
  congr 3
  split_ifs
  · exact e 0 _ (Fin.ext (by omega)) rfl
  · exact e 1 _ (Fin.ext (by omega)) rfl
  · exact e 2 _ (Fin.ext (by omega)) rfl
  · exact e 3 _ (Fin.ext (by omega)) rfl
  · exact e 4 _ (Fin.ext (by omega)) rfl
  · exact e 5 _ (Fin.ext (by omega)) rfl
  · exact e 6 _ (Fin.ext (by omega)) rfl
  · exact e 7 _ (Fin.ext (by omega)) rfl

theorem decay_eq (i : Fin 8) (j : Fin 512) : decay H (ix2 i j) = Gla.decay P (chunk X i) j := by
  have hb := bcum_eq hH
  pointwise [decay, k0_pay44, k0_pay37, k0_pay36, k0_pay35, k0_pay34, k0_pay33, k0_pay32, k0_pay31, k0_pay30]
  have e : ∀ r : Fin 512, r.val = 64 * i.val + 63 → bcum H (ix2 r j) = Gla.bc P (chunk X i) 63 j := by
    intro r h
    rw [show r = ⟨64 * i.val + (63 : Fin 64).val, by omega⟩ from Fin.ext h, hb]
  unfold Gla.decay
  congr 1
  split_ifs <;> exact e _ (by dsimp only; omega)

theorem decayT_eq (i : Fin 8) (h : Fin 4) (d : Fin 128) :
    decayT H h (ix2 d ⟨i.val, by omega⟩) = Gla.decay P (chunk X i) (Gla.key h d) := by
  have hd := decay_eq hH
  pointwise [decayT]
  exact hd _ _

theorem att_eq (i : Fin 8) (h : Fin 4) (c s : Fin 64) : att H i h (ix2 c s) = Gla.att P (chunk X i) h c s := by
  have hq := qIn_eq hH
  have hk := kIn_eq hH
  pointwise [att, k0_pay4, Gla.att]
  rw [le_bit]
  simp only [hq, hk]
  split_ifs <;> simp [Scalar.select]

theorem upd_eq (i : Fin 8) (h : Fin 4) (d : Fin 128) (e : Fin 256) :
    upd H i h (ix2 d e) = ∑ c, Gla.kEnd P (chunk X i) c (Gla.key h d) * Gla.v P (chunk X i c) (Gla.val h e) := by
  have hk := kEnd_eq hH
  have hv := vv_eq hH
  pointwise [upd]
  simp only [hk, hv]

theorem stNext_eq (i : Fin 8) (S : Fin 4 → Fin 128 → Fin 256 → EReal) (h : Fin 4) (s : Vec Ideal S128x256 .f32)
    (hs : ∀ d e, s (ix2 d e) = S h d e) (d : Fin 128) (e : Fin 256) :
    stNext H i h s (ix2 d e) = Gla.next P (chunk X i) S h d e := by
  have hu := upd_eq hH
  have hd := decayT_eq hH
  pointwise [stNext, Gla.next]
  rw [hd, hs, hu]

theorem oPiece_eq (i : Fin 8) (S : Fin 4 → Fin 128 → Fin 256 → EReal) (h : Fin 4) (s : Vec Ideal S128x256 .f32)
    (hs : ∀ d e, s (ix2 d e) = S h d e) (c : Fin 64) (e : Fin 256) :
    oPiece H i h s (ix2 c e) = Gla.o P (chunk X i) S h c e := by
  have ha := att_eq hH
  have hv := vv_eq hH
  have hq := qIn_eq hH
  pointwise [oPiece, Gla.o]
  simp only [ha, hv, hq, hs]

/-- The states after `n` chunks of a half. -/
theorem stAt_eq (S : Fin 4 → Fin 128 → Fin 256 → EReal) (s : Fin 4 → Vec Ideal S128x256 .f32)
    (hs : ∀ h d e, s h (ix2 d e) = S h d e) : ∀ (n : ℕ) (h : Fin 4) (d : Fin 128) (e : Fin 256),
      stAt H h (s h) n (ix2 d e) = Gla.state P (fun i => chunk X (Fin.ofNat 8 i)) S n h d e
  | 0, h, d, e => hs h d e
  | n + 1, h, d, e => stNext_eq hH (Fin.ofNat 8 n) _ h _ (stAt_eq S s hs n h) d e

theorem headAdd_eq (gon : Vec Ideal S1x256 .f32) (hg : ∀ e, gon (ix2 0 e) = P.gon e) (h : Fin 4) (o : Vec Ideal S512x256 .f32)
    (wout : Vec Ideal S256x1024 .bf16) (hw : ∀ e j, wout (ix2 e j) = P.wout (Gla.val h e) j) (y : Vec Ideal S512x1024 .f32)
    (r : Fin 512) (j : Fin 1024) :
    headAdd H gon h o wout y (ix2 r j) =
      y (ix2 r j) + ∑ e, Gla.gateOf P (fun e => o (ix2 r e)) (Gla.og P (X r) (Gla.val h e)) e * P.wout (Gla.val h e) j := by
  have ho := og_eq hH
  pointwise [headAdd, Gla.gateOf]
  simp only [ho, hg, hw, zero_sub]

theorem finish_eq (gon : Vec Ideal S1x256 .f32) (hg : ∀ e, gon (ix2 0 e) = P.gon e) (o : Fin 4 → Vec Ideal S512x256 .f32)
    (wout : Fin 4 → Vec Ideal S256x1024 .bf16) (hw : ∀ h e j, wout h (ix2 e j) = P.wout (Gla.val h e) j)
    (r : Fin 512) (j : Fin 1024) :
    finish H gon o wout (ix2 r j) =
      X r j + ∑ h, ∑ e, Gla.gateOf P (fun e => o h (ix2 r e)) (Gla.og P (X r) (Gla.val h e)) e * P.wout (Gla.val h e) j := by
  unfold finish
  rw [headAdd_eq hH gon hg 3 _ _ (hw 3), headAdd_eq hH gon hg 2 _ _ (hw 2), headAdd_eq hH gon hg 1 _ _ (hw 1),
    headAdd_eq hH gon hg 0 _ _ (hw 0), shapeCast_self, hH.x, Fin.sum_univ_four]
  simp only [add_assoc]

end
end Cert.KernelIdeal.Model
-- ==== Proof.Glue.lean ====
/-
  The printed body against the model: what a grid point writes, in either case, is the model's pieces.

  The first point of a batch (case A) starts from zero states, the second (case B) from the states the first left.
-/
module

public import proofs.«01_k».proof.Proof.Model

@[expose] public section

set_option maxRecDepth 16384

noncomputable section

namespace Cert.KernelIdeal.Model

open Idealize.ShloMosaic Idealize.ShloMosaic.TcCoe
open Cert.KernelIdeal Cert.KernelIdeal.Gen

variable {F : FTy → Type} [FloatOps F]

/-! ## What a point loads -/

theorem inbX : ∀ (r : Fin 2) (a : Fin 2), (![512 * r.val, 0] : Fin 2 → ℕ) a + S512x1024.size a ≤ S1024x1024.size a := by decide
theorem inbW : ∀ (h : Fin 4) (a : Fin 2), (![256 * h.val, 0] : Fin 2 → ℕ) a + S256x1024.size a ≤ S1024x1024.size a := by decide
theorem inbS : ∀ (h : Fin 4) (a : Fin 3), (![h.val, 0, 0] : Fin 3 → ℕ) a + S1x128x256.size a ≤ S4x128x256.size a := by decide

section
variable (c : Dev nD) (arg2 : Memref sig .tc .vmem S1024x1024 .f32) (harg2 : arg2.IsWhole) (arg3 : Memref sig .tc .vmem S1x1024 .f32)
  (harg3 : arg3.IsWhole) (arg4 : Memref sig .tc .vmem S1024x3200 .bf16) (harg4 : arg4.IsWhole)
  (arg5 : Memref sig .tc .vmem S128x512 .bf16) (harg5 : arg5.IsWhole) (arg6 : Memref sig .tc .vmem S1x512 .f32) (harg6 : arg6.IsWhole)
  (arg10 : Memref sig .tc .vmem S4x128x256 .f32) (harg10 : arg10.IsWhole)
  (x0 : Vec F S1024x1024 .f32) (x1 : Vec F S1x1024 .f32) (x2 : Vec F S1024x3200 .bf16) (x3 : Vec F S128x512 .bf16) (x4 : Vec F S1x512 .f32)
  (xs0 : Vec F S4x128x256 .f32)

/-- What half `r` loads. -/
def half (r : Fin 2) : Half F where
  x := View.readAt (Elt F) arg2.view (Rect.unit (s := S1024x1024) ![512 * r.val, 0] S512x1024.size (inbX r)).toLoadRect (harg2.unread x0)
  g := View.readAt (Elt F) arg3.view (Rect.unit (s := S1x1024) ![0, 0] S1x1024.size inb_S1x1024_S1x1024_0_0).toLoadRect (harg3.unread x1)
  wq := View.readAt (Elt F) arg4.view (Rect.unit (s := S1024x3200) ![0, 0] S1024x512.size inb_S1024x3200_S1024x512_0_0).toLoadRect (harg4.unread x2)
  wk := View.readAt (Elt F) arg4.view (Rect.unit (s := S1024x3200) ![0, 512] S1024x512.size inb_S1024x3200_S1024x512_0_512).toLoadRect (harg4.unread x2)
  wv := View.readAt (Elt F) arg4.view (Rect.unit (s := S1024x3200) ![0, 1024] S1024x1024.size inb_S1024x3200_S1024x1024_0_1024).toLoadRect (harg4.unread x2)
  wo := View.readAt (Elt F) arg4.view (Rect.unit (s := S1024x3200) ![0, 2048] S1024x1024.size inb_S1024x3200_S1024x1024_0_2048).toLoadRect (harg4.unread x2)
  wg := View.readAt (Elt F) arg4.view (Rect.unit (s := S1024x3200) ![0, 3072] S1024x128.size inb_S1024x3200_S1024x128_0_3072).toLoadRect (harg4.unread x2)
  w2 := View.readAt (Elt F) arg5.view (Rect.unit (s := S128x512) ![0, 0] S128x512.size inb_S128x512_S128x512_0_0).toLoadRect (harg5.unread x3)
  b := View.readAt (Elt F) arg6.view (Rect.unit (s := S1x512) ![0, 0] S1x512.size inb_S1x512_S1x512_0_0).toLoadRect (harg6.unread x4)

/-- The states a later point of a batch starts from. -/
def stB (h : Fin 4) : Vec F S128x256 .f32 :=
  shapeCast S128x256 (View.readAt (Elt F) arg10.view (Rect.unit (s := S4x128x256) ![h.val, 0, 0] S1x128x256.size (inbS h)).toLoadRect (harg10.unread xs0))
    shapeCasts_S1x128x256_S128x256

/-- The states the first point of a batch starts from: the zeros it has just stored. -/
def stA (h : Fin 4) : Vec F S128x256 .f32 :=
  shapeCast S128x256 (View.readCov arg10.view (Val := Elt F)
      [⟨Rect.unit (s := S4x128x256) ![0, 0, 0] S4x128x256.size inb_S4x128x256_S4x128x256_0_0_0, k0_pay3⟩]
      (Rect.unit (s := S4x128x256) ![h.val, 0, 0] S1x128x256.size (inbS h)).toLoadRect)
    shapeCasts_S1x128x256_S128x256

end

/-! ## What a point leaves -/

/-- The scratch's pieces after half 0, and after both. -/
def scr0 (H : Fin 2 → Half F) (S : Fin 4 → Vec F S128x256 .f32) : List (View.Piece (Elt F) S1024x1024 .f32) := pieces 0 (H 0) S
/-- The states after half 0. -/
def mid (H : Fin 2 → Half F) (S : Fin 4 → Vec F S128x256 .f32) (h : Fin 4) : Vec F S128x256 .f32 := stAt (H 0) h (S h) 8
def scr1 (H : Fin 2 → Half F) (S : Fin 4 → Vec F S128x256 .f32) : List (View.Piece (Elt F) S1024x1024 .f32) :=
  pieces 1 (H 1) (mid H S) ++ scr0 H S

theorem inbH : ∀ (r : Fin 2) (h : Fin 4) (a : Fin 2),
    (![512 * r.val, 256 * h.val] : Fin 2 → ℕ) a + S512x256.size a ≤ S1024x1024.size a := by decide

section
variable (arg11 : Memref sig .tc .vmem S1024x1024 .f32)

/-- Head `h` of the outputs of half `r`, read back from the scratch. -/
def oBack (H : Fin 2 → Half F) (S : Fin 4 → Vec F S128x256 .f32) (L : List (View.Piece (Elt F) S1024x1024 .f32)) (r : Fin 2)
    (h : Fin 4) : Vec F S512x256 .f32 :=
  View.readCov arg11.view L (Rect.unit (s := S1024x1024) ![512 * r.val, 256 * h.val] S512x256.size (inbH r h)).toLoadRect

/-- The result's two pieces. -/
def outPieces (H : Fin 2 → Half F) (S : Fin 4 → Vec F S128x256 .f32) (gon : Vec F S1x256 .f32) (wout : Fin 4 → Vec F S256x1024 .bf16) :
    List (View.Piece (Elt F) S1024x1024 .f32) :=
  [⟨Rect.unit (s := S1024x1024) ![512, 0] S512x1024.size (inbX 1), finish (H 1) gon (oBack arg11 H S (scr1 H S) 1) wout⟩,
   ⟨Rect.unit (s := S1024x1024) ![0, 0] S512x1024.size (inbX 0), finish (H 0) gon (oBack arg11 H S (scr0 H S) 0) wout⟩]
end

/-- The states' four pieces. -/
def stPieces (H : Fin 2 → Half F) (S : Fin 4 → Vec F S128x256 .f32) : List (View.Piece (Elt F) S4x128x256 .f32) :=
  ([3, 2, 1, 0] : List (Fin 4)).map fun h => ⟨Rect.unit (s := S4x128x256) ![h.val, 0, 0] S1x128x256.size (inbS h),
    shapeCast S1x128x256 (stAt (H 1) h (mid H S h) 8) shapeCasts_S128x256_S1x128x256⟩

section
variable (c : Dev nD) (i : grid0.Coords) (arg2 : Memref sig .tc .vmem S1024x1024 .f32) (harg2 : arg2.IsWhole)
  (arg3 : Memref sig .tc .vmem S1x1024 .f32)
  (harg3 : arg3.IsWhole) (arg4 : Memref sig .tc .vmem S1024x3200 .bf16) (harg4 : arg4.IsWhole)
  (arg5 : Memref sig .tc .vmem S128x512 .bf16) (harg5 : arg5.IsWhole) (arg6 : Memref sig .tc .vmem S1x512 .f32) (harg6 : arg6.IsWhole)
  (arg7 : Memref sig .tc .vmem S1x256 .f32) (harg7 : arg7.IsWhole) (arg8 : Memref sig .tc .vmem S1024x1024 .bf16) (harg8 : arg8.IsWhole)
  (arg9 : Memref sig .tc .vmem S1024x1024 .f32) (harg9 : arg9.IsWhole)
  (arg10 : Memref sig .tc .vmem S4x128x256 .f32) (harg10 : arg10.IsWhole)
  (arg11 : Memref sig .tc .vmem S1024x1024 .f32) (harg11 : arg11.IsWhole)
  (x0 : Vec F S1024x1024 .f32) (x1 : Vec F S1x1024 .f32) (x2 : Vec F S1024x3200 .bf16) (x3 : Vec F S128x512 .bf16) (x4 : Vec F S1x512 .f32)
  (x5 : Vec F S1x256 .f32) (x6 : Vec F S1024x1024 .bf16) (xs0 : Vec F S4x128x256 .f32)

/-- The loaded output norm's weights. -/
def gonL : Vec F S1x256 .f32 :=
  View.readAt (Elt F) arg7.view (Rect.unit (s := S1x256) ![0, 0] S1x256.size inb_S1x256_S1x256_0_0).toLoadRect (harg7.unread x5)
/-- The loaded rows of the output matrix of head `h`. -/
def woutL (h : Fin 4) : Vec F S256x1024 .bf16 :=
  View.readAt (Elt F) arg8.view (Rect.unit (s := S1024x1024) ![256 * h.val, 0] S256x1024.size (inbW h)).toLoadRect (harg8.unread x6)

theorem out_B (hc : ¬cond0_0 i) :
    (kernelRun0_B c i arg2 harg2 arg3 harg3 arg4 harg4 arg5 harg5 arg6 harg6 arg7 harg7 arg8 harg8 arg9 harg9 arg10 harg10 arg11 harg11 hc
      x0 x1 x2 x3 x4 x5 x6 xs0).1 =
    outPieces arg11 (half arg2 harg2 arg3 harg3 arg4 harg4 arg5 harg5 arg6 harg6 x0 x1 x2 x3 x4) (stB arg10 harg10 xs0)
      (gonL arg7 harg7 x5) (woutL arg8 harg8 x6) := by sl_kernel_rfl

theorem st_B (hc : ¬cond0_0 i) :
    (kernelRun0_B c i arg2 harg2 arg3 harg3 arg4 harg4 arg5 harg5 arg6 harg6 arg7 harg7 arg8 harg8 arg9 harg9 arg10 harg10 arg11 harg11 hc
      x0 x1 x2 x3 x4 x5 x6 xs0).2.1 =
    stPieces (half arg2 harg2 arg3 harg3 arg4 harg4 arg5 harg5 arg6 harg6 x0 x1 x2 x3 x4) (stB arg10 harg10 xs0) := by sl_kernel_rfl

theorem out_A (hc : cond0_0 i) :
    (kernelRun0_A c i arg2 harg2 arg3 harg3 arg4 harg4 arg5 harg5 arg6 harg6 arg7 harg7 arg8 harg8 arg9 harg9 arg10 harg10 arg11 harg11 hc
      x0 x1 x2 x3 x4 x5 x6).1 =
    outPieces arg11 (half arg2 harg2 arg3 harg3 arg4 harg4 arg5 harg5 arg6 harg6 x0 x1 x2 x3 x4) (stA arg10)
      (gonL arg7 harg7 x5) (woutL arg8 harg8 x6) := by sl_kernel_rfl

theorem st_A (hc : cond0_0 i) :
    (kernelRun0_A c i arg2 harg2 arg3 harg3 arg4 harg4 arg5 harg5 arg6 harg6 arg7 harg7 arg8 harg8 arg9 harg9 arg10 harg10 arg11 harg11 hc
      x0 x1 x2 x3 x4 x5 x6).2.1 =
    stPieces (half arg2 harg2 arg3 harg3 arg4 harg4 arg5 harg5 arg6 harg6 x0 x1 x2 x3 x4) (stA arg10) ++
      [⟨Rect.unit (s := S4x128x256) ![0, 0, 0] S4x128x256.size inb_S4x128x256_S4x128x256_0_0_0, k0_pay3⟩] := by sl_kernel_rfl

end

end Cert.KernelIdeal.Model
-- ==== Proof.KPoint.lean ====
/-
  What one grid point leaves: sixteen chunks of the layer, and the state after them.
-/
module

public import proofs.«01_k».proof.Proof.KChunk
public import proofs.«01_k».proof.Proof.Glue
public import Idealize.ShloMosaic.Lib.Pipeline.Value

@[expose] public section

set_option maxRecDepth 16384

noncomputable section

namespace Cert.KernelIdeal.Model

open Idealize.ShloMosaic Idealize.ShloMosaic.TcCoe Idealize.ShloMosaic.Pointwise
open Cert.KernelIdeal Cert.KernelIdeal.Gen

/-- The sixteen chunks of a grid point's 1024 rows. -/
abbrev chunkP (X : Fin 1024 → Fin 1024 → EReal) (n : ℕ) (c : Fin 64) : Fin 1024 → EReal := X ⟨64 * (n % 16) + c.val, by omega⟩
/-- The 512 rows of half `r`. -/
abbrev halfRows (X : Fin 1024 → Fin 1024 → EReal) (r : Fin 2) (i : Fin 512) : Fin 1024 → EReal := X ⟨512 * r.val + i.val, by omega⟩

theorem state_congr (P : Gla.W) {Y Y' : ℕ → Fin 64 → Fin 1024 → EReal} (S : Fin 4 → Fin 128 → Fin 256 → EReal) :
    ∀ n, (∀ i < n, Y i = Y' i) → Gla.state P Y S n = Gla.state P Y' S n
  | 0, _ => rfl
  | n + 1, h => by
    show Gla.next P (Y n) (Gla.state P Y S n) = Gla.next P (Y' n) (Gla.state P Y' S n)
    rw [h n (Nat.lt_succ_self n), state_congr P S n fun i hi => h i (Nat.lt_succ_of_lt hi)]

/-- Chunk `i` of half `r` is chunk `8 r + i` of the point. -/
theorem chunk_half (X : Fin 1024 → Fin 1024 → EReal) (r : Fin 2) (i : ℕ) (hi : i < 8) :
    chunk (halfRows X r) (Fin.ofNat 8 i) = chunkP X (8 * r.val + i) := by
  funext c
  have h : (Fin.ofNat 8 i).val = i := Nat.mod_eq_of_lt hi
  show X _ = X _
  congr 1
  exact Fin.ext (by simp only [h]; omega)

/-- The outputs before the gate, over the point's rows and all heads. -/
def oAll (P : Gla.W) (X : Fin 1024 → Fin 1024 → EReal) (S : Fin 4 → Fin 128 → Fin 256 → EReal) : S1024x1024.Idx → EReal := fun y =>
  Gla.o P (chunkP X ((y 0).val / 64)) (Gla.state P (chunkP X) S ((y 0).val / 64)) ⟨(y 1).val / 256, by have : (y 1).val < 1024 := (y 1).isLt; omega⟩
    ⟨(y 0).val % 64, Nat.mod_lt _ (by decide)⟩ ⟨(y 1).val % 256, Nat.mod_lt _ (by decide)⟩

theorem oAll_at (P : Gla.W) (X : Fin 1024 → Fin 1024 → EReal) (S : Fin 4 → Fin 128 → Fin 256 → EReal) (n : ℕ) (h : Fin 4) (c : Fin 64)
    (e : Fin 256) (y : S1024x1024.Idx) (h0 : (y 0).val = 64 * n + c.val) (h1 : (y 1).val = 256 * h.val + e.val) :
    oAll P X S y = Gla.o P (chunkP X n) (Gla.state P (chunkP X) S n) h c e := by
  have e0 : (y 0).val / 64 = n := by omega
  have e1 : (⟨(y 1).val / 256, by have : (y 1).val < 1024 := (y 1).isLt; omega⟩ : Fin 4) = h := Fin.ext (by dsimp only; omega)
  have e2 : (⟨(y 0).val % 64, Nat.mod_lt _ (by decide)⟩ : Fin 64) = c := Fin.ext (by dsimp only; omega)
  have e3 : (⟨(y 1).val % 256, Nat.mod_lt _ (by decide)⟩ : Fin 256) = e := Fin.ext (by dsimp only; omega)
  unfold oAll
  rw [e0, e1, e2, e3]

section
variable {H : Fin 2 → Half Ideal} {P : Gla.W} {X : Fin 1024 → Fin 1024 → EReal} (hH : ∀ r, (H r).Is P (halfRows X r))
  {S : Fin 4 → Fin 128 → Fin 256 → EReal} {s : Fin 4 → Vec Ideal S128x256 .f32} (hs : ∀ h d e, s h (ix2 d e) = S h d e)
include hH hs

/-- The states within half 0. -/
theorem st0_eq (n : ℕ) (hn : n ≤ 8) (h : Fin 4) (d : Fin 128) (e : Fin 256) :
    stAt (H 0) h (s h) n (ix2 d e) = Gla.state P (chunkP X) S n h d e := by
  rw [stAt_eq (hH 0) S s hs, state_congr P S n fun i hi => ?_]
  rw [chunk_half X 0 i (by omega)]
  simp

/-- The states within half 1. -/
theorem st1_eq (n : ℕ) (hn : n ≤ 8) (h : Fin 4) (d : Fin 128) (e : Fin 256) :
    stAt (H 1) h (mid H s h) n (ix2 d e) = Gla.state P (chunkP X) S (8 + n) h d e := by
  rw [stAt_eq (hH 1) (Gla.state P (chunkP X) S 8) (mid H s) (st0_eq hH hs 8 (le_refl 8)), Gla.state_add,
    state_congr P _ n fun i hi => ?_]
  rw [chunk_half X 1 i (by omega)]
  simp

theorem piece_eq (r : Fin 2) (t : Fin 4 → Vec Ideal S128x256 .f32)
    (ht : ∀ n ≤ 8, ∀ h d e, stAt (H r) h (t h) n (ix2 d e) = Gla.state P (chunkP X) S (8 * r.val + n) h d e) :
    ∀ p ∈ pieces r (H r) t, ∀ x : p.1.shape.Idx, p.2 x = oAll P X S (p.1.emb x) := by
  intro p hp
  obtain ⟨⟨i, h⟩, -, rfl⟩ := List.mem_map.mp hp
  intro x
  have hx : x = ix2 (x 0) (x 1) := funext fun a => by fin_cases a <;> rfl
  have hi := chunk_half X r i.val i.isLt
  rw [show Fin.ofNat 8 i.val = i from Fin.ext (Nat.mod_eq_of_lt i.isLt)] at hi
  rw [oAll_at P X S (8 * r.val + i.val) h (x 0) (x 1) _
    (by show 512 * r.val + 64 * i.val + 1 * (x 0).val = _; omega) (by show 256 * h.val + 1 * (x 1).val = _; omega)]
  rw [← hi]
  refine (congrArg _ hx).trans (oPiece_eq (hH r) i _ h _ (fun d e => ?_) (x 0) (x 1))
  exact ht i.val (by omega) h d e

theorem scr0_eq : ∀ p ∈ scr0 H s, ∀ x : p.1.shape.Idx, p.2 x = oAll P X S (p.1.emb x) :=
  piece_eq hH hs 0 s fun n hn h d e => by rw [st0_eq hH hs n hn]; simp

theorem scr1_eq : ∀ p ∈ scr1 H s, ∀ x : p.1.shape.Idx, p.2 x = oAll P X S (p.1.emb x) := by
  intro p hp
  rcases List.mem_append.mp hp with hp | hp
  · exact piece_eq hH hs 1 (mid H s) (fun n hn h d e => by rw [st1_eq hH hs n hn]; simp) p hp
  · exact scr0_eq hH hs p hp

end

theorem mem_places : ∀ (i : Fin 8) (h : Fin 4), (i, h) ∈ places := by decide

/-- The pieces of half `r` cover its rows. -/
theorem pieces_cover (r : Fin 2) (H : Half Ideal) (t : Fin 4 → Vec Ideal S128x256 .f32) (y : S1024x1024.Idx)
    (hy : (y 0).val / 512 = r.val) : ∃ p ∈ pieces r H t, y ∈ p.1.set := by
  have h0 : (y 0).val < 1024 := (y 0).isLt
  have h1 : (y 1).val < 1024 := (y 1).isLt
  refine ⟨_, List.mem_map.mpr ⟨(⟨((y 0).val % 512) / 64, by omega⟩, ⟨(y 1).val / 256, by omega⟩), mem_places _ _, rfl⟩, ?_⟩
  show y ∈ (Rect.unit (s := S1024x1024) _ S64x256.size (inbO r ⟨((y 0).val % 512) / 64, by omega⟩ ⟨(y 1).val / 256, by omega⟩)).set
  rw [Rect.mem_set_unit]
  intro a
  match a with
  | ⟨0, _⟩ =>
    show 512 * r.val + 64 * (((y 0).val % 512) / 64) ≤ (y 0).val ∧ (y 0).val < 512 * r.val + 64 * (((y 0).val % 512) / 64) + 64
    omega
  | ⟨1, _⟩ =>
    show 256 * ((y 1).val / 256) ≤ (y 1).val ∧ (y 1).val < 256 * ((y 1).val / 256) + 256
    omega

section
variable {H : Fin 2 → Half Ideal} {P : Gla.W} {X : Fin 1024 → Fin 1024 → EReal} (hH : ∀ r, (H r).Is P (halfRows X r))
  {S : Fin 4 → Fin 128 → Fin 256 → EReal} {s : Fin 4 → Vec Ideal S128x256 .f32} (hs : ∀ h d e, s h (ix2 d e) = S h d e)
  (arg11 : Memref sig .tc .vmem S1024x1024 .f32)
include hH hs

/-- What is read back from the scratch. -/
theorem oBack_eq (L : List (View.Piece (Elt Ideal) S1024x1024 .f32))
    (hL : ∀ p ∈ L, ∀ x : p.1.shape.Idx, p.2 x = oAll P X S (p.1.emb x)) (r : Fin 2)
    (hc : ∀ y : S1024x1024.Idx, (y 0).val / 512 = r.val → ∃ p ∈ L, y ∈ p.1.set) (h : Fin 4) (i : Fin 8) (c : Fin 64) (e : Fin 256) :
    oBack arg11 H s L r h (ix2 ⟨64 * i.val + c.val, by omega⟩ e) =
      Gla.o P (chunkP X (8 * r.val + i.val)) (Gla.state P (chunkP X) S (8 * r.val + i.val)) h c e := by
  unfold oBack
  rw [View.readCov_eq_canon']
  have e0 : ∀ y : S1024x1024.Idx, (y 0).val = 512 * r.val + (64 * i.val + c.val) → (y 1).val = 256 * h.val + e.val →
      View.canon L y = Gla.o P (chunkP X (8 * r.val + i.val)) (Gla.state P (chunkP X) S (8 * r.val + i.val)) h c e := by
    intro y h0 h1
    rw [View.canon_apply_of_pieces (oAll P X S) L hL y (hc y (by omega))]
    exact oAll_at P X S _ h c e y (by omega) h1
  exact e0 _ (by simp) (by simp)

/-- The result rows of half `r`. -/
theorem finish_half (gon : Vec Ideal S1x256 .f32) (hg : ∀ e, gon (ix2 0 e) = P.gon e)
    (wout : Fin 4 → Vec Ideal S256x1024 .bf16) (hw : ∀ h e j, wout h (ix2 e j) = P.wout (Gla.val h e) j)
    (L : List (View.Piece (Elt Ideal) S1024x1024 .f32))
    (hL : ∀ p ∈ L, ∀ x : p.1.shape.Idx, p.2 x = oAll P X S (p.1.emb x)) (r : Fin 2)
    (hc : ∀ y : S1024x1024.Idx, (y 0).val / 512 = r.val → ∃ p ∈ L, y ∈ p.1.set) (i : Fin 8) (c : Fin 64) (j : Fin 1024) :
    finish (H r) gon (oBack arg11 H s L r) wout (ix2 ⟨64 * i.val + c.val, by omega⟩ j) =
      Gla.out P (chunkP X (8 * r.val + i.val)) (Gla.state P (chunkP X) S (8 * r.val + i.val)) c j := by
  have hX : halfRows X r ⟨64 * i.val + c.val, by omega⟩ = chunkP X (8 * r.val + i.val) c := by
    show X _ = X _
    congr 1
    exact Fin.ext (by simp only; omega)
  rw [finish_eq (hH r) gon hg _ wout hw]
  simp only [oBack_eq hH hs arg11 L hL r hc, hX]
  rfl

end

/-- The result at row `64 n + c` of a point. -/
def outAll (P : Gla.W) (X : Fin 1024 → Fin 1024 → EReal) (S : Fin 4 → Fin 128 → Fin 256 → EReal) : S1024x1024.Idx → EReal :=
  fun y => Gla.out P (chunkP X ((y 0).val / 64)) (Gla.state P (chunkP X) S ((y 0).val / 64))
    ⟨(y 0).val % 64, Nat.mod_lt _ (by decide)⟩ (y 1)

theorem outAll_at (P : Gla.W) (X : Fin 1024 → Fin 1024 → EReal) (S : Fin 4 → Fin 128 → Fin 256 → EReal) (n : ℕ) (c : Fin 64)
    (j : Fin 1024) (y : S1024x1024.Idx) (h0 : (y 0).val = 64 * n + c.val) (h1 : (y 1).val = j.val) :
    outAll P X S y = Gla.out P (chunkP X n) (Gla.state P (chunkP X) S n) c j := by
  have e0 : (y 0).val / 64 = n := by omega
  have e2 : (⟨(y 0).val % 64, Nat.mod_lt _ (by decide)⟩ : Fin 64) = c := Fin.ext (by dsimp only; omega)
  have e3 : (y 1 : Fin 1024) = j := Fin.ext h1
  unfold outAll
  rw [e0, e2, e3]

/-- Earlier pieces do not show where later ones cover. -/
theorem canon_append {S : Shape} {e : EltTy} (L L' : List (View.Piece (Elt Ideal) S e)) (y : S.Idx) (h : ∃ p ∈ L, y ∈ p.1.set) :
    View.canon (L ++ L') y = View.canon L y := by
  induction L with
  | nil => obtain ⟨p, hp, _⟩ := h; simp at hp
  | cons p L ih =>
    rw [List.cons_append]
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      refine ih ?_
      obtain ⟨q, hq, hy⟩ := h
      rcases List.mem_cons.mp hq with rfl | hq
      · exact absurd hy hm
      · exact ⟨q, hq, hy⟩

section
variable {H : Fin 2 → Half Ideal} {P : Gla.W} {X : Fin 1024 → Fin 1024 → EReal} (hH : ∀ r, (H r).Is P (halfRows X r))
  {S : Fin 4 → Fin 128 → Fin 256 → EReal} {s : Fin 4 → Vec Ideal S128x256 .f32} (hs : ∀ h d e, s h (ix2 d e) = S h d e)
  (arg11 : Memref sig .tc .vmem S1024x1024 .f32)
include hH hs

attribute [local irreducible] Gla.state

/-- The point's result. -/
theorem out_eq (gon : Vec Ideal S1x256 .f32) (hg : ∀ e, gon (ix2 0 e) = P.gon e)
    (wout : Fin 4 → Vec Ideal S256x1024 .bf16) (hw : ∀ h e j, wout h (ix2 e j) = P.wout (Gla.val h e) j) :
    View.canon (outPieces arg11 H s gon wout) = outAll P X S := by
  have e : ∀ (r : Fin 2) (L : List (View.Piece (Elt Ideal) S1024x1024 .f32)) (_ : ∀ p ∈ L, ∀ x : p.1.shape.Idx, p.2 x = oAll P X S (p.1.emb x))
      (_ : ∀ y : S1024x1024.Idx, (y 0).val / 512 = r.val → ∃ p ∈ L, y ∈ p.1.set) (x : S512x1024.Idx) (y : S1024x1024.Idx),
      (y 0).val = 512 * r.val + (x 0).val → (y 1).val = (x 1).val →
      finish (H r) gon (oBack arg11 H s L r) wout x = outAll P X S y := by
    intro r L hL hc x y h0 h1
    have hx0 : (x 0).val < 512 := (x 0).isLt
    rw [outAll_at P X S (8 * r.val + (x 0).val / 64) ⟨(x 0).val % 64, by omega⟩ (x 1) y (by dsimp only; omega) h1,
      ← finish_half hH hs arg11 gon hg wout hw L hL r hc ⟨(x 0).val / 64, by omega⟩ ⟨(x 0).val % 64, by omega⟩ (x 1)]
    congr 1
    funext a
    match a with
    | ⟨0, _⟩ => exact Fin.ext (by show (x 0).val = 64 * ((x 0).val / 64) + (x 0).val % 64; omega)
    | ⟨1, _⟩ => rfl
  have c0 : ∀ y : S1024x1024.Idx, (y 0).val / 512 = (0 : Fin 2).val → ∃ p ∈ scr0 H s, y ∈ p.1.set := pieces_cover 0 (H 0) s
  have c1 : ∀ y : S1024x1024.Idx, (y 0).val / 512 = (1 : Fin 2).val → ∃ p ∈ scr1 H s, y ∈ p.1.set := fun y hy => by
    obtain ⟨p, hp, h⟩ := pieces_cover 1 (H 1) (mid H s) y hy
    exact ⟨p, List.mem_append_left _ hp, h⟩
  funext y
  refine View.canon_apply_of_pieces (Val := Elt Ideal) (e := .f32) (outAll P X S) _ ?_ y ?_
  · intro p hp x
    simp only [outPieces, List.mem_cons, List.not_mem_nil, or_false] at hp
    rcases hp with rfl | rfl
    · exact e 1 _ (scr1_eq hH hs) c1 x _ (by show 512 + 1 * (x 0).val = 512 * 1 + (x 0).val; omega) (by show 0 + 1 * (x 1).val = _; omega)
    · exact e 0 _ (scr0_eq hH hs) c0 x _ (by show 0 + 1 * (x 0).val = 512 * 0 + (x 0).val; omega) (by show 0 + 1 * (x 1).val = _; omega)
  · have h0 : (y 0).val < 1024 := (y 0).isLt
    have h1 : (y 1).val < 1024 := (y 1).isLt
    by_cases hy : (y 0).val < 512
    · refine ⟨_, List.mem_cons_of_mem _ (List.mem_singleton_self _), ?_⟩
      show y ∈ (Rect.unit (s := S1024x1024) ![0, 0] S512x1024.size (inbX 0)).set
      rw [Rect.mem_set_unit]
      intro a
      match a with
      | ⟨0, _⟩ => show 0 ≤ (y 0).val ∧ (y 0).val < 0 + 512; omega
      | ⟨1, _⟩ => show 0 ≤ (y 1).val ∧ (y 1).val < 0 + 1024; omega
    · refine ⟨_, List.mem_cons_self, ?_⟩
      show y ∈ (Rect.unit (s := S1024x1024) ![512, 0] S512x1024.size (inbX 1)).set
      rw [Rect.mem_set_unit]
      intro a
      match a with
      | ⟨0, _⟩ => show 512 ≤ (y 0).val ∧ (y 0).val < 512 + 512; omega
      | ⟨1, _⟩ => show 0 ≤ (y 1).val ∧ (y 1).val < 0 + 1024; omega

omit hH hs in
theorem stPieces_cover (y : S4x128x256.Idx) : ∃ p ∈ stPieces H s, y ∈ p.1.set := by
  have h0 : (y 0).val < 4 := (y 0).isLt
  have h1 : (y 1).val < 128 := (y 1).isLt
  have h2 : (y 2).val < 256 := (y 2).isLt
  have hm : ∀ h : Fin 4, h ∈ ([3, 2, 1, 0] : List (Fin 4)) := by decide
  refine ⟨_, List.mem_map.mpr ⟨y 0, hm _, rfl⟩, ?_⟩
  show y ∈ (Rect.unit (s := S4x128x256) ![(y 0).val, 0, 0] S1x128x256.size (inbS (y 0))).set
  rw [Rect.mem_set_unit]
  intro a
  match a with
  | ⟨0, _⟩ => show (y 0).val ≤ (y 0).val ∧ (y 0).val < (y 0).val + 1; omega
  | ⟨1, _⟩ => show 0 ≤ (y 1).val ∧ (y 1).val < 0 + 128; omega
  | ⟨2, _⟩ => show 0 ≤ (y 2).val ∧ (y 2).val < 0 + 256; omega

/-- The state the point leaves. -/
theorem st_eq (y : S4x128x256.Idx) : View.canon (stPieces H s) y = Gla.state P (chunkP X) S 16 (y 0) (y 1) (y 2) := by
  refine View.canon_apply_of_pieces (Val := Elt Ideal) (e := .f32) (fun y => Gla.state P (chunkP X) S 16 (y 0) (y 1) (y 2)) _ ?_ y
    (stPieces_cover y)
  intro p hp x
  obtain ⟨h, -, rfl⟩ := List.mem_map.mp hp
  have hx : x = ix3 0 (x 1) (x 2) := by
    funext a
    match a with
    | ⟨0, _⟩ => exact Fin.ext (by have : (x 0).val < 1 := (x 0).isLt; show (x 0).val = 0; omega)
    | ⟨1, _⟩ => rfl
    | ⟨2, _⟩ => rfl
  have hp := st1_eq hH hs 8 (le_refl 8) h (x 1) (x 2)
  have h0 : (x 0).val < 1 := (x 0).isLt
  have e0 : ∀ (a : Fin 4) (b : Fin 128) (c : Fin 256), a = h → b = x 1 → c = x 2 →
      Gla.state P (chunkP X) S (8 + 8) h (x 1) (x 2) = Gla.state P (chunkP X) S 16 a b c := by
    rintro a b c rfl rfl rfl
    rw [show (8 + 8 : ℕ) = 16 from rfl]
  refine Eq.trans ?_ (hp.trans (e0 _ _ _ ?_ ?_ ?_))
  · rw [hx]
    pointwise []
  · exact Fin.ext (by show h.val + 1 * (x 0).val = h.val; omega)
  · exact Fin.ext (by show 0 + 1 * (x 1).val = (x 1).val; omega)
  · exact Fin.ext (by show 0 + 1 * (x 2).val = (x 2).val; omega)

end
end Cert.KernelIdeal.Model
-- ==== Proof.KLoad.lean ====
/-
  What a grid point loads, and so what it leaves, in terms of its input blocks.
-/
module

public import proofs.«01_k».proof.Proof.KPoint
public import Idealize.ShloMosaic.Lib.Pipeline.ValueKit

@[expose] public section

set_option maxRecDepth 16384

noncomputable section

namespace Cert.KernelIdeal.Model

open Idealize.ShloMosaic Idealize.ShloMosaic.TcCoe Idealize.ShloMosaic.Pointwise
open Cert.KernelIdeal Cert.KernelIdeal.Gen

/-- A load of a box of a whole buffer, at an index of the box: the buffer's value at the index moved by the box's corner. -/
theorem load_at {κ : Kind} {sp : Space} {S : Shape} {e : EltTy} (M : Memref sig κ sp S e) (hM : M.IsWhole) (d : S.Idx → Elt Ideal e)
    (off size : Fin S.rank → ℕ) (inb : ∀ a, off a + size a ≤ S.size a) (x : (Rect.unit off size inb).shape.Idx) (y : S.Idx)
    (h : ∀ a, (y a).val = off a + (x a).val) :
    View.readAt (Elt Ideal) M.view (Rect.unit off size inb).toLoadRect (hM.unread d) x = d y := by
  rw [View.readAt_eq_ld, Memref.IsWhole.read_unread]
  exact View.ld_unit_apply_of d off size inb x y h

/-- What the seven input blocks of a point hold: 1024 rows, and the weights, two of the matrices padded with zeros. -/
structure Blocks (P : Gla.W) (X : Fin 1024 → Fin 1024 → EReal) (x0 : Vec Ideal S1024x1024 .f32) (x1 : Vec Ideal S1x1024 .f32)
    (x2 : Vec Ideal S1024x3200 .bf16) (x3 : Vec Ideal S128x512 .bf16) (x4 : Vec Ideal S1x512 .f32) (x5 : Vec Ideal S1x256 .f32)
    (x6 : Vec Ideal S1024x1024 .bf16) : Prop where
  x : ∀ r d, x0 (ix2 r d) = X r d
  g : ∀ d, x1 (ix2 0 d) = P.g d
  w : ∀ d (j : Fin 3200), x2 (ix2 d j) = if h : j.val < 3088 then P.w d ⟨j.val, h⟩ else 0
  w2 : ∀ (r : Fin 128) j, x3 (ix2 r j) = if h : r.val < 16 then P.w2 ⟨r.val, h⟩ j else 0
  b : ∀ j, x4 (ix2 0 j) = P.b j
  gon : ∀ e, x5 (ix2 0 e) = P.gon e
  wout : ∀ d j, x6 (ix2 d j) = P.wout d j

section
variable (arg2 : Memref sig .tc .vmem S1024x1024 .f32) (harg2 : arg2.IsWhole) (arg3 : Memref sig .tc .vmem S1x1024 .f32)
  (harg3 : arg3.IsWhole) (arg4 : Memref sig .tc .vmem S1024x3200 .bf16) (harg4 : arg4.IsWhole)
  (arg5 : Memref sig .tc .vmem S128x512 .bf16) (harg5 : arg5.IsWhole) (arg6 : Memref sig .tc .vmem S1x512 .f32) (harg6 : arg6.IsWhole)
  (arg7 : Memref sig .tc .vmem S1x256 .f32) (harg7 : arg7.IsWhole) (arg8 : Memref sig .tc .vmem S1024x1024 .bf16) (harg8 : arg8.IsWhole)
  (arg9 : Memref sig .tc .vmem S1024x1024 .f32) (harg9 : arg9.IsWhole)
  (arg10 : Memref sig .tc .vmem S4x128x256 .f32) (harg10 : arg10.IsWhole)
  (arg11 : Memref sig .tc .vmem S1024x1024 .f32) (harg11 : arg11.IsWhole)
  {x0 : Vec Ideal S1024x1024 .f32} {x1 : Vec Ideal S1x1024 .f32} {x2 : Vec Ideal S1024x3200 .bf16} {x3 : Vec Ideal S128x512 .bf16}
  {x4 : Vec Ideal S1x512 .f32} {x5 : Vec Ideal S1x256 .f32} {x6 : Vec Ideal S1024x1024 .bf16} (xs0 : Vec Ideal S4x128x256 .f32)
  {P : Gla.W} {X : Fin 1024 → Fin 1024 → EReal} (hb : Blocks P X x0 x1 x2 x3 x4 x5 x6)

include hb

/-- A load of columns of the input matrix, below the padding. -/
theorem load_w (o n : ℕ) (inb : ∀ a, (![0, o] : Fin 2 → ℕ) a + (![1024, n] : Fin 2 → ℕ) a ≤ S1024x3200.size a) (d : Fin 1024) (j : Fin n) (h : o + j.val < 3088) :
    View.readAt (Elt Ideal) arg4.view (Rect.unit (s := S1024x3200) ![0, o] ![1024, n] inb).toLoadRect (harg4.unread x2) (ix2 d j) = P.w d ⟨o + j.val, h⟩ := by
  refine (load_at arg4 harg4 x2 _ _ inb (ix2 d j) (ix2 d ⟨o + j.val, by omega⟩)
    (fun a => by match a with | ⟨0, _⟩ => exact (Nat.zero_add _).symm | ⟨1, _⟩ => rfl)).trans ?_
  rw [hb.w, dif_pos h]

theorem half_is (r : Fin 2) : (half arg2 harg2 arg3 harg3 arg4 harg4 arg5 harg5 arg6 harg6 x0 x1 x2 x3 x4 r).Is P (halfRows X r) where
  x i d := by
    refine (load_at arg2 harg2 x0 _ _ (inbX r) (ix2 i d) (ix2 ⟨512 * r.val + i.val, by omega⟩ d)
      (fun a => by match a with | ⟨0, _⟩ => rfl | ⟨1, _⟩ => exact (Nat.zero_add _).symm)).trans ?_
    rw [hb.x]
  g d := by
    refine (load_at arg3 harg3 x1 _ _ inb_S1x1024_S1x1024_0_0 (ix2 0 d) (ix2 0 d)
      (fun a => by match a with | ⟨0, _⟩ => rfl | ⟨1, _⟩ => exact (Nat.zero_add _).symm)).trans ?_
    rw [hb.g]
  wq d j := by
    have h := load_w arg4 harg4 hb 0 512 inb_S1024x3200_S1024x512_0_0 d j (by omega)
    refine h.trans ?_
    congr 1
    exact Fin.ext (Nat.zero_add _)
  wk d j := load_w arg4 harg4 hb 512 512 inb_S1024x3200_S1024x512_0_512 d j (by omega)
  wv d j := load_w arg4 harg4 hb 1024 1024 inb_S1024x3200_S1024x1024_0_1024 d j (by omega)
  wo d j := load_w arg4 harg4 hb 2048 1024 inb_S1024x3200_S1024x1024_0_2048 d j (by omega)
  wg d j := by
    refine (load_at arg4 harg4 x2 _ _ inb_S1024x3200_S1024x128_0_3072 (ix2 d j) (ix2 d ⟨3072 + j.val, by omega⟩)
      (fun a => by match a with | ⟨0, _⟩ => exact (Nat.zero_add _).symm | ⟨1, _⟩ => rfl)).trans ?_
    rw [hb.w]
    by_cases h : j.val < 16
    · rw [dif_pos h, dif_pos (show 3072 + j.val < 3088 by omega)]
    · rw [dif_neg h, dif_neg (show ¬ 3072 + j.val < 3088 by omega)]
  w2 i j := by
    refine (load_at arg5 harg5 x3 _ _ inb_S128x512_S128x512_0_0 (ix2 i j) (ix2 i j)
      (fun a => by match a with | ⟨0, _⟩ => exact (Nat.zero_add _).symm | ⟨1, _⟩ => exact (Nat.zero_add _).symm)).trans ?_
    rw [hb.w2]
  b j := by
    refine (load_at arg6 harg6 x4 _ _ inb_S1x512_S1x512_0_0 (ix2 0 j) (ix2 0 j)
      (fun a => by match a with | ⟨0, _⟩ => rfl | ⟨1, _⟩ => exact (Nat.zero_add _).symm)).trans ?_
    rw [hb.b]

theorem gonL_eq (e : Fin 256) : gonL arg7 harg7 x5 (ix2 0 e) = P.gon e := by
  refine (load_at arg7 harg7 x5 _ _ inb_S1x256_S1x256_0_0 (ix2 0 e) (ix2 0 e)
    (fun a => by match a with | ⟨0, _⟩ => rfl | ⟨1, _⟩ => exact (Nat.zero_add _).symm)).trans ?_
  rw [hb.gon]

theorem woutL_eq (h : Fin 4) (e : Fin 256) (j : Fin 1024) : woutL arg8 harg8 x6 h (ix2 e j) = P.wout (Gla.val h e) j := by
  refine (load_at arg8 harg8 x6 _ _ (inbW h) (ix2 e j) (ix2 (Gla.val h e) j)
    (fun a => by match a with | ⟨0, _⟩ => rfl | ⟨1, _⟩ => exact (Nat.zero_add _).symm)).trans ?_
  rw [hb.wout]

omit hb

/-- Dropping a leading axis of size one. -/
theorem unstack (v : Vec Ideal S1x128x256 .f32) (h : S1x128x256.ShapeCasts S128x256) (d : Fin 128) (e : Fin 256) :
    shapeCast S128x256 v h (ix2 d e) = v (ix3 0 d e) := by pointwise

theorem stB_eq (h : Fin 4) (d : Fin 128) (e : Fin 256) : stB arg10 harg10 xs0 h (ix2 d e) = xs0 (ix3 h d e) := by
  have h1 : stB arg10 harg10 xs0 h (ix2 d e) =
      View.readAt (Elt Ideal) arg10.view (Rect.unit (s := S4x128x256) ![h.val, 0, 0] S1x128x256.size (inbS h)).toLoadRect (harg10.unread xs0) (ix3 0 d e) := by
    exact unstack _ _ d e
  refine h1.trans (load_at arg10 harg10 xs0 _ _ (inbS h) (ix3 0 d e) (ix3 h d e) ?_)
  intro a
  match a with
  | ⟨0, _⟩ => rfl
  | ⟨1, _⟩ => exact (Nat.zero_add _).symm
  | ⟨2, _⟩ => exact (Nat.zero_add _).symm

theorem k0_pay3_eq (y : S4x128x256.Idx) : (k0_pay3 : FVec Ideal S4x128x256 .f32) y = 0 := by
  obtain ⟨h, d, e, rfl⟩ : ∃ h d e, y = ix3 h d e := ⟨y 0, y 1, y 2, by funext a; match a with | ⟨0, _⟩ => rfl | ⟨1, _⟩ => rfl | ⟨2, _⟩ => rfl⟩
  pointwise [k0_pay3]

theorem stA_eq (h : Fin 4) (d : Fin 128) (e : Fin 256) : stA (F := Ideal) arg10 h (ix2 d e) = 0 := by
  have h1 : stA (F := Ideal) arg10 h (ix2 d e) = View.readCov arg10.view (Val := Elt Ideal)
      [⟨Rect.unit (s := S4x128x256) ![0, 0, 0] S4x128x256.size inb_S4x128x256_S4x128x256_0_0_0, (k0_pay3 : FVec Ideal S4x128x256 .f32)⟩]
      (Rect.unit (s := S4x128x256) ![h.val, 0, 0] S1x128x256.size (inbS h)).toLoadRect (ix3 0 d e) := by
    exact unstack _ _ d e
  rw [h1, View.readCov_eq_canon']
  refine View.canon_apply_of_pieces (Val := Elt Ideal) (e := .f32) (fun _ => (0 : EReal)) _ ?_ _ ⟨_, List.mem_singleton.mpr rfl, ?_⟩
  · intro p hp x
    obtain rfl := List.mem_singleton.mp hp
    exact k0_pay3_eq x
  · rw [Rect.mem_set_unit]
    intro a
    match a with
    | ⟨0, _⟩ => exact ⟨Nat.zero_le _, lt_of_lt_of_eq (Fin.isLt _) (Nat.zero_add _).symm⟩
    | ⟨1, _⟩ => exact ⟨Nat.zero_le _, lt_of_lt_of_eq (Fin.isLt _) (Nat.zero_add _).symm⟩
    | ⟨2, _⟩ => exact ⟨Nat.zero_le _, lt_of_lt_of_eq (Fin.isLt _) (Nat.zero_add _).symm⟩

include hb
variable (c : Dev nD) (i : grid0.Coords)
attribute [local irreducible] Gla.state

/-- The first point of a batch: its result. -/
theorem out0_A_eq (hc : cond0_0 i) :
    out0_A_7 c i arg2 harg2 arg3 harg3 arg4 harg4 arg5 harg5 arg6 harg6 arg7 harg7 arg8 harg8 arg9 harg9 arg10 harg10 arg11 harg11 hc
      x0 x1 x2 x3 x4 x5 x6 = outAll P X (fun _ _ _ => 0) := by
  unfold out0_A_7
  rw [View.read_writes_junk_eq_canon, out_A]
  exact out_eq (half_is arg2 harg2 arg3 harg3 arg4 harg4 arg5 harg5 arg6 harg6 hb) (stA_eq arg10) arg11 _ (gonL_eq arg7 harg7 hb) _
    (woutL_eq arg8 harg8 hb)

/-- The first point of a batch: the states it leaves. -/
theorem sout0_A_eq (hc : cond0_0 i) (y : S4x128x256.Idx) :
    sout0_A_0 c i arg2 harg2 arg3 harg3 arg4 harg4 arg5 harg5 arg6 harg6 arg7 harg7 arg8 harg8 arg9 harg9 arg10 harg10 arg11 harg11 hc
      x0 x1 x2 x3 x4 x5 x6 y = Gla.state P (chunkP X) (fun _ _ _ => 0) 16 (y 0) (y 1) (y 2) := by
  unfold sout0_A_0
  rw [View.read_writes_junk_eq_canon, st_A]
  have hs := stA_eq arg10
  have hH := half_is arg2 harg2 arg3 harg3 arg4 harg4 arg5 harg5 arg6 harg6 hb
  rw [canon_append _ _ _ (stPieces_cover y)]
  exact st_eq hH hs y

/-- The second point of a batch: its result. -/
theorem out0_B_eq (hc : ¬cond0_0 i) (S : Fin 4 → Fin 128 → Fin 256 → EReal) (hS : ∀ h d e, xs0 (ix3 h d e) = S h d e) :
    out0_B_7 c i arg2 harg2 arg3 harg3 arg4 harg4 arg5 harg5 arg6 harg6 arg7 harg7 arg8 harg8 arg9 harg9 arg10 harg10 arg11 harg11 hc
      x0 x1 x2 x3 x4 x5 x6 xs0 = outAll P X S := by
  unfold out0_B_7
  rw [View.read_writes_junk_eq_canon, out_B]
  exact out_eq (half_is arg2 harg2 arg3 harg3 arg4 harg4 arg5 harg5 arg6 harg6 hb) (fun h d e => (stB_eq arg10 harg10 xs0 h d e).trans (hS h d e))
    arg11 _ (gonL_eq arg7 harg7 hb) _ (woutL_eq arg8 harg8 hb)

end

end Cert.KernelIdeal.Model
-- ==== Proof.KHost.lean ====
/-
  What the kernel's host code hands to its grid points: the rows as they are, and the weights, two of the matrices
  written into zeros.
-/
module

public import proofs.«01_k».proof.Proof.KLoad
public import Idealize.ShloMosaic.Lib.Routing.OpsSet
public import Idealize.ShloMosaic.Lib.StableHlo.Run

@[expose] public section

set_option maxRecDepth 16384

noncomputable section

namespace Cert.KernelIdeal.Model

open Idealize.ShloMosaic Idealize.ShloMosaic.TcCoe Idealize.ShloMosaic.Pointwise
open Cert.KernelIdeal Cert.KernelIdeal.Gen Idealize.SL.Sem

/-! ## A matrix written at the corner of another -/

section Corner
variable {R C R' C' : ℕ} (d : ScatterDims ⟨2, ![R, C]⟩ ⟨1, ![1]⟩ ⟨2, ![R', C']⟩) (huw : d.updateWindowDims = [0, 1]) (hiw : d.insertedWindowDims = [])
  (idx : IVec ⟨1, ![1]⟩ 32) (hidx : ∀ k, idx k = 0#32)
include huw hiw hidx

/-- Entry `k` of the written matrix lands at its own place. -/
theorem corner_lands (k : (⟨2, ![R', C']⟩ : Shape).Idx) (r : Fin R) (c : Fin C) :
    d.resultIdx? k idx = some (ix2 r c) ↔ (k 0).val = r.val ∧ (k 1).val = c.val := by
  have hst : ∀ a, d.start k idx a = 0 := by
    intro a
    unfold ScatterDims.start
    split
    · rw [hidx]; rfl
    · rfl
  have hkept : d.sKept = [0, 1] := by
    show Shape.kept _ d.insertedWindowDims = _
    rw [hiw]
    rfl
  have hget : ∀ (a b : Fin 2) (_ : List.idxOf a [0, 1] < 2) (_ : [0, 1][List.idxOf a [0, 1]] = b) (L S : List (Fin 2)), L = [0, 1] → S = [0, 1] →
      ∀ h : S.idxOf a < L.length, L[S.idxOf a] = b := by
    intro a b _ hab L S hL hS h
    subst hL hS
    exact hab
  have hw0 : d.window k 0 = (k 0).val := by
    unfold ScatterDims.window
    rw [dif_pos (by rw [hkept]; simp)]
    exact congrArg (fun a => (k a).val) (hget 0 0 (by decide) rfl _ _ huw hkept _)
  have hw1 : d.window k 1 = (k 1).val := by
    unfold ScatterDims.window
    rw [dif_pos (by rw [hkept]; simp)]
    exact congrArg (fun a => (k a).val) (hget 1 1 (by decide) rfl _ _ huw hkept _)
  refine (Routing.resultIdx?_ix2 d k idx r c).trans ?_
  rw [hst, hst, hw0, hw1]
  omega

theorem corner_at {α : Type} (x : (⟨2, ![R, C]⟩ : Shape).Idx → α) (u : (⟨2, ![R', C']⟩ : Shape).Idx → α) (r : Fin R) (c : Fin C) :
    Host.scatter d (fun _ b => b) x idx u (ix2 r c) = if h : r.val < R' ∧ c.val < C' then u (ix2 ⟨r.val, h.1⟩ ⟨c.val, h.2⟩) else x (ix2 r c) := by
  split_ifs with h
  · refine Routing.scatter_set_hit d x idx u _ _ (fun k hk => ?_) (ix2 ⟨r.val, h.1⟩ ⟨c.val, h.2⟩)
      ((corner_lands d huw hiw idx hidx _ r c).2 ⟨rfl, rfl⟩)
    obtain ⟨h0, h1⟩ := (corner_lands d huw hiw idx hidx k r c).1 hk
    congr 1
    funext a
    match a with
    | ⟨0, _⟩ => exact Fin.ext h0
    | ⟨1, _⟩ => exact Fin.ext h1
  · refine Routing.scatter_set_miss d x idx u _ fun k hk => h ?_
    obtain ⟨h0, h1⟩ := (corner_lands d huw hiw idx hidx k r c).1 hk
    exact ⟨h0 ▸ (k 0).isLt, h1 ▸ (k 1).isLt⟩
end Corner

/-! ## The arrays at the grid's entry -/

variable (m : (ℓ : Loc nD τ sig) → Buf (Elt Ideal) ℓ) (c : Dev nD)

/-- The weights, from the arrays the program is called with. -/
def wts : Gla.W where
  g d := (m ((c : Thread nD τ).loc main_arg1) : Vec Ideal S1024 .f32) (ix1 d)
  w d j := (m ((c : Thread nD τ).loc main_arg2) : Vec Ideal S1024x3088 .f32) (ix2 d j)
  w2 r j := (m ((c : Thread nD τ).loc main_arg3) : Vec Ideal S16x512 .f32) (ix2 r j)
  b j := (m ((c : Thread nD τ).loc main_arg4) : Vec Ideal S512 .f32) (ix1 j)
  gon e := (m ((c : Thread nD τ).loc main_arg5) : Vec Ideal S256 .f32) (ix1 e)
  wout d j := (m ((c : Thread nD τ).loc main_arg6) : Vec Ideal S1024x1024 .f32) (ix2 d j)

/-- Row `r` of batch `b` of the input. -/
def rows (b : Fin 32) (r : Fin 2048) (d : Fin 1024) : EReal := (m ((c : Thread nD τ).loc main_arg0) : Vec Ideal S32x2048x1024 .f32) (ix3 b r d)

theorem V_v0 : V m c main_v0 = (shapeCast S65536x1024 (m ((c : Thread nD τ).loc main_arg0) : Vec Ideal S32x2048x1024 .f32) shapeCasts_S32x2048x1024_S65536x1024 : Vec Ideal S65536x1024 .f32) := by
  simp only [V, hostOps0]
  after_results
  rfl

theorem V_v0_at (b : Fin 32) (r : Fin 2048) (d : Fin 1024) :
    (V m c main_v0 : Vec Ideal S65536x1024 .f32) (ix2 ⟨2048 * b.val + r.val, by omega⟩ d) = rows m c b r d := by
  rw [V_v0]
  refine shapeCast_apply _ _ _ (ix3 b r d) ?_
  rw [Shape.rowMajor_val_three, Shape.rowMajor_val_two]
  show (b.val * 2048 + r.val) * 1024 + d.val = (2048 * b.val + r.val) * 1024 + d.val
  omega

theorem V_v9 : V m c main_v9 = (shapeCast S1x1024 (m ((c : Thread nD τ).loc main_arg1) : Vec Ideal S1024 .f32) shapeCasts_S1024_S1x1024 : Vec Ideal S1x1024 .f32) := by
  simp only [V, hostOps0]
  after_results
  rfl
theorem V_v10 : V m c main_v10 = (shapeCast S1x512 (m ((c : Thread nD τ).loc main_arg4) : Vec Ideal S512 .f32) shapeCasts_S512_S1x512 : Vec Ideal S1x512 .f32) := by
  simp only [V, hostOps0]
  after_results
  rfl
theorem V_v11 : V m c main_v11 = (shapeCast S1x256 (m ((c : Thread nD τ).loc main_arg5) : Vec Ideal S256 .f32) shapeCasts_S256_S1x256 : Vec Ideal S1x256 .f32) := by
  simp only [V, hostOps0]
  after_results
  rfl
theorem V_v12 : V m c main_v12 = (m ((c : Thread nD τ).loc main_arg6) : Vec Ideal S1024x1024 .f32) := by
  simp only [V, hostOps0]
  after_results
  rfl

theorem V_v4 : V m c main_v4 = (Host.scatter scatter_S1024x3200_S1_S1024x3088_01_n_1_0 (fun _ b => b)
      (broadcastInDim S1024x3200 ![] bcast_S_S1024x3200 (constant (F := Ideal) S_ .bf16 0x0000#16)) (broadcastInDim S1 ![] bcast_S_S1 (constantI S_ 32 0#32))
      (m ((c : Thread nD τ).loc main_arg2)) : Vec Ideal S1024x3200 .bf16) := by
  simp only [V, hostOps0]
  after_results
  rfl

theorem V_v8 : V m c main_v8 = (Host.scatter scatter_S128x512_S1_S16x512_01_n_0_0 (fun _ b => b)
      (broadcastInDim S128x512 ![] bcast_S_S128x512 (constant (F := Ideal) S_ .bf16 0x0000#16)) (broadcastInDim S1 ![] bcast_S_S1 (constantI S_ 32 0#32))
      (m ((c : Thread nD τ).loc main_arg3)) : Vec Ideal S128x512 .bf16) := by
  simp only [V, hostOps0]
  after_results
  rfl

/-! ## The blocks -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)

/-- Row `r` of the block of point `2 b + p`: row `1024 p + r` of batch `b`. -/
abbrev blockRows (b : Fin 32) (p : Fin 2) (r : Fin 1024) (d : Fin 1024) : EReal := rows m c b ⟨1024 * p.val + r.val, by omega⟩ d

theorem iblk0_at (t : Fin cfg0.N) (b : Fin 32) (p : Fin 2) (ht : t.val = 2 * b.val + p.val) (r d : Fin 1024) :
    (iblk m c 0 t : Vec Ideal S1024x1024 .f32) (ix2 r d) = blockRows m c b p r d := by
  obtain ⟨e0, e1⟩ := idx0_0 t
  refine Eq.trans ?_ (V_v0_at m c b ⟨1024 * p.val + r.val, by omega⟩ d)
  unfold iblk
  show V m c main_v0 (((cfg0.win 0).blk t).view.emb (ix2 r d)) = _
  congr 1
  funext a
  apply Fin.ext
  match a with
  | ⟨0, _⟩ =>
    show win0_0.index t (0 : Fin 2) * 1024 + 1 * r.val = 2048 * b.val + (1024 * p.val + r.val)
    rw [e0]; omega
  | ⟨1, _⟩ =>
    show win0_0.index t (1 : Fin 2) * 1024 + 1 * d.val = d.val
    rw [e1]; omega

theorem iblk1_at (t : Fin cfg0.N) (d : Fin 1024) : (iblk m c 1 t : Vec Ideal S1x1024 .f32) (ix2 0 d) = (wts m c).g d := by
  obtain ⟨e0, e1⟩ := idx0_1 t
  have h : (iblk m c 1 t : Vec Ideal S1x1024 .f32) (ix2 0 d) = (V m c main_v9 : Vec Ideal S1x1024 .f32) (ix2 0 d) := by
    unfold iblk
    show V m c main_v9 (((cfg0.win 1).blk t).view.emb (ix2 0 d)) = _
    congr 1
    funext a
    apply Fin.ext
    match a with
    | ⟨0, _⟩ => show win0_1.index t (0 : Fin 2) * 1 + 1 * 0 = 0; rw [e0]
    | ⟨1, _⟩ => show win0_1.index t (1 : Fin 2) * 1024 + 1 * d.val = d.val; rw [e1]; omega
  rw [h, V_v9]
  refine shapeCast_apply _ _ _ (ix1 d) ?_
  rw [Shape.rowMajor_val_one, Shape.rowMajor_val_two]
  show d.val = 0 * 1024 + d.val
  omega

theorem iblk4_at (t : Fin cfg0.N) (d : Fin 512) : (iblk m c 4 t : Vec Ideal S1x512 .f32) (ix2 0 d) = (wts m c).b d := by
  obtain ⟨e0, e1⟩ := idx0_4 t
  have h : (iblk m c 4 t : Vec Ideal S1x512 .f32) (ix2 0 d) = (V m c main_v10 : Vec Ideal S1x512 .f32) (ix2 0 d) := by
    unfold iblk
    show V m c main_v10 (((cfg0.win 4).blk t).view.emb (ix2 0 d)) = _
    congr 1
    funext a
    apply Fin.ext
    match a with
    | ⟨0, _⟩ => show win0_4.index t (0 : Fin 2) * 1 + 1 * 0 = 0; rw [e0]
    | ⟨1, _⟩ => show win0_4.index t (1 : Fin 2) * 512 + 1 * d.val = d.val; rw [e1]; omega
  rw [h, V_v10]
  refine shapeCast_apply _ _ _ (ix1 d) ?_
  rw [Shape.rowMajor_val_one, Shape.rowMajor_val_two]
  show d.val = 0 * 512 + d.val
  omega

theorem iblk5_at (t : Fin cfg0.N) (d : Fin 256) : (iblk m c 5 t : Vec Ideal S1x256 .f32) (ix2 0 d) = (wts m c).gon d := by
  obtain ⟨e0, e1⟩ := idx0_5 t
  have h : (iblk m c 5 t : Vec Ideal S1x256 .f32) (ix2 0 d) = (V m c main_v11 : Vec Ideal S1x256 .f32) (ix2 0 d) := by
    unfold iblk
    show V m c main_v11 (((cfg0.win 5).blk t).view.emb (ix2 0 d)) = _
    congr 1
    funext a
    apply Fin.ext
    match a with
    | ⟨0, _⟩ => show win0_5.index t (0 : Fin 2) * 1 + 1 * 0 = 0; rw [e0]
    | ⟨1, _⟩ => show win0_5.index t (1 : Fin 2) * 256 + 1 * d.val = d.val; rw [e1]; omega
  rw [h, V_v11]
  refine shapeCast_apply _ _ _ (ix1 d) ?_
  rw [Shape.rowMajor_val_one, Shape.rowMajor_val_two]
  show d.val = 0 * 256 + d.val
  omega

theorem iblk6_at (t : Fin cfg0.N) (d j : Fin 1024) : (iblk m c 6 t : Vec Ideal S1024x1024 .bf16) (ix2 d j) = (wts m c).wout d j := by
  obtain ⟨e0, e1⟩ := idx0_6 t
  have h : (iblk m c 6 t : Vec Ideal S1024x1024 .bf16) (ix2 d j) = (V m c main_v12 : Vec Ideal S1024x1024 .bf16) (ix2 d j) := by
    unfold iblk
    show V m c main_v12 (((cfg0.win 6).blk t).view.emb (ix2 d j)) = _
    congr 1
    funext a
    apply Fin.ext
    match a with
    | ⟨0, _⟩ => show win0_6.index t (0 : Fin 2) * 1024 + 1 * d.val = d.val; rw [e0]; omega
    | ⟨1, _⟩ => show win0_6.index t (1 : Fin 2) * 1024 + 1 * j.val = j.val; rw [e1]; omega
  rw [h, V_v12]
  rfl

theorem zero_bf16 : (Ideal.ofBits .bf16 0x0000#16 : EReal) = 0 := by simp [Ideal.ofBits, Ideal.ieee]

/-- The input matrix written into zeros. -/
theorem pad_w (u : Vec Ideal S1024x3088 .bf16) (d : Fin 1024) (j : Fin 3200) :
    (Host.scatter scatter_S1024x3200_S1_S1024x3088_01_n_1_0 (fun _ b => b)
      (broadcastInDim S1024x3200 ![] bcast_S_S1024x3200 (constant (F := Ideal) S_ .bf16 0x0000#16)) (broadcastInDim S1 ![] bcast_S_S1 (constantI S_ 32 0#32))
      u : Vec Ideal S1024x3200 .bf16) (ix2 d j) = if h : j.val < 3088 then u (ix2 d ⟨j.val, h⟩) else 0 := by
  have hz : ∀ y, broadcastInDim S1024x3200 ![] bcast_S_S1024x3200 (constant (F := Ideal) S_ .bf16 0x0000#16) y = (0 : EReal) := fun _ => zero_bf16
  have hi : ∀ k, broadcastInDim S1 ![] bcast_S_S1 (constantI S_ 32 0#32) k = 0#32 := fun _ => rfl
  generalize broadcastInDim S1024x3200 ![] bcast_S_S1024x3200 (constant (F := Ideal) S_ .bf16 0x0000#16) = z at hz ⊢
  generalize broadcastInDim S1 ![] bcast_S_S1 (constantI S_ 32 0#32) = i at hi ⊢
  rw [corner_at scatter_S1024x3200_S1_S1024x3088_01_n_1_0 rfl rfl i hi z u d j]
  by_cases hj : j.val < 3088
  · rw [dif_pos ⟨d.isLt, hj⟩, dif_pos hj]
  · rw [dif_neg fun h => hj h.2, dif_neg hj, hz]

/-- The decay's matrix written into zeros. -/
theorem pad_w2 (u : Vec Ideal S16x512 .bf16) (r : Fin 128) (j : Fin 512) :
    (Host.scatter scatter_S128x512_S1_S16x512_01_n_0_0 (fun _ b => b)
      (broadcastInDim S128x512 ![] bcast_S_S128x512 (constant (F := Ideal) S_ .bf16 0x0000#16)) (broadcastInDim S1 ![] bcast_S_S1 (constantI S_ 32 0#32))
      u : Vec Ideal S128x512 .bf16) (ix2 r j) = if h : r.val < 16 then u (ix2 ⟨r.val, h⟩ j) else 0 := by
  have hz : ∀ y, broadcastInDim S128x512 ![] bcast_S_S128x512 (constant (F := Ideal) S_ .bf16 0x0000#16) y = (0 : EReal) := fun _ => zero_bf16
  have hi : ∀ k, broadcastInDim S1 ![] bcast_S_S1 (constantI S_ 32 0#32) k = 0#32 := fun _ => rfl
  generalize broadcastInDim S128x512 ![] bcast_S_S128x512 (constant (F := Ideal) S_ .bf16 0x0000#16) = z at hz ⊢
  generalize broadcastInDim S1 ![] bcast_S_S1 (constantI S_ 32 0#32) = i at hi ⊢
  rw [corner_at scatter_S128x512_S1_S16x512_01_n_0_0 rfl rfl i hi z u r j]
  by_cases hr : r.val < 16
  · rw [dif_pos ⟨hr, j.isLt⟩, dif_pos hr]
  · rw [dif_neg fun h => hr h.1, dif_neg hr, hz]

theorem blk2_read (A : (b : Ref sig .tc) → Buf (Elt Ideal) ((c : Thread nD τ).loc b)) (t : Fin cfg0.N) (d : Fin 1024) (j : Fin 3200) :
    (((cfg0.win 2).blk t).view.read (Elt Ideal) (A (Pipeline.arrRef spec0 2)) : Vec Ideal S1024x3200 .bf16) (ix2 d j)
      = (A main_v4 : Vec Ideal S1024x3200 .bf16) (ix2 d j) := by
  obtain ⟨e0, e1⟩ := idx0_2 t
  show A main_v4 (((cfg0.win 2).blk t).view.emb (ix2 d j)) = _
  congr 1
  funext a
  apply Fin.ext
  match a with
  | ⟨0, _⟩ => show win0_2.index t (0 : Fin 2) * 1024 + 1 * d.val = d.val; rw [e0]; omega
  | ⟨1, _⟩ => show win0_2.index t (1 : Fin 2) * 3200 + 1 * j.val = j.val; rw [e1]; omega

theorem iblk2_at (t : Fin cfg0.N) (d : Fin 1024) (j : Fin 3200) :
    (iblk m c 2 t : Vec Ideal S1024x3200 .bf16) (ix2 d j) = if h : j.val < 3088 then (wts m c).w d ⟨j.val, h⟩ else 0 := by
  refine (blk2_read c (V m c) t d j).trans ((congrFun (V_v4 m c) (ix2 d j)).trans ?_)
  exact pad_w (m ((c : Thread nD τ).loc main_arg2)) d j

theorem blk3_read (A : (b : Ref sig .tc) → Buf (Elt Ideal) ((c : Thread nD τ).loc b)) (t : Fin cfg0.N) (r : Fin 128) (j : Fin 512) :
    (((cfg0.win 3).blk t).view.read (Elt Ideal) (A (Pipeline.arrRef spec0 3)) : Vec Ideal S128x512 .bf16) (ix2 r j)
      = (A main_v8 : Vec Ideal S128x512 .bf16) (ix2 r j) := by
  obtain ⟨e0, e1⟩ := idx0_3 t
  show A main_v8 (((cfg0.win 3).blk t).view.emb (ix2 r j)) = _
  congr 1
  funext a
  apply Fin.ext
  match a with
  | ⟨0, _⟩ => show win0_3.index t (0 : Fin 2) * 128 + 1 * r.val = r.val; rw [e0]; omega
  | ⟨1, _⟩ => show win0_3.index t (1 : Fin 2) * 512 + 1 * j.val = j.val; rw [e1]; omega

theorem iblk3_at (t : Fin cfg0.N) (r : Fin 128) (j : Fin 512) :
    (iblk m c 3 t : Vec Ideal S128x512 .bf16) (ix2 r j) = if h : r.val < 16 then (wts m c).w2 ⟨r.val, h⟩ j else 0 := by
  refine (blk3_read c (V m c) t r j).trans ((congrFun (V_v8 m c) (ix2 r j)).trans ?_)
  exact pad_w2 (m ((c : Thread nD τ).loc main_arg3)) r j

/-- The blocks of point `2 b + p`. -/
theorem blocks (t : Fin cfg0.N) (b : Fin 32) (p : Fin 2) (ht : t.val = 2 * b.val + p.val) :
    Blocks (wts m c) (blockRows m c b p) (iblk m c 0 t) (iblk m c 1 t) (iblk m c 2 t) (iblk m c 3 t) (iblk m c 4 t) (iblk m c 5 t) (iblk m c 6 t) where
  x := iblk0_at m c t b p ht
  g := iblk1_at m c t
  w := iblk2_at m c t
  w2 := iblk3_at m c t
  b := iblk4_at m c t
  gon := iblk5_at m c t
  wout := iblk6_at m c t

end Cert.KernelIdeal.Model
-- ==== Proof.Layer.lean ====
/-
  The whole layer's result over its 32 batches of 2048 rows.
-/
module

public import proofs.«01_k».proof.Proof.Spec

@[expose] public section

noncomputable section

namespace Cert.Gla

open Idealize.ShloMosaic

variable (P : W) (X : Fin 32 → Fin 2048 → Fin 1024 → EReal)

/-- Chunk `n` of batch `b`: 64 rows. -/
def chunks (b : Fin 32) (n : ℕ) (c : Fin 64) : Fin 1024 → EReal := X b ⟨64 * (n % 32) + c.val, by omega⟩

theorem chunks_of (b : Fin 32) (n : Fin 32) (c : Fin 64) : chunks X b n.val c = X b ⟨64 * n.val + c.val, by omega⟩ := by
  unfold chunks
  congr 1
  exact Fin.ext (by simp only; omega)

/-- The state before chunk `n` of batch `b`; a batch begins with zeros. -/
abbrev stateB (b : Fin 32) (n : ℕ) : Fin 4 → Fin 128 → Fin 256 → EReal := state P (chunks X b) (fun _ _ _ => 0) n

/-- The layer's result in row `c` of chunk `n` of batch `b`. -/
abbrev layerAt (b : Fin 32) (n : ℕ) (c : Fin 64) (j : Fin 1024) : EReal := out P (chunks X b n) (stateB P X b n) c j

end Cert.Gla
-- ==== Proof.KArray.lean ====
/-
  The array the kernel leaves: the layer's result, row by row.
-/
module

public import proofs.«01_k».proof.Proof.KHost
public import proofs.«01_k».proof.Proof.Layer
public import proofs.«01_k».proof.Proof.Gen.KernelIdeal.Value

@[expose] public section

set_option maxRecDepth 16384

noncomputable section

namespace Cert.KernelIdeal.Model

open Idealize.ShloMosaic Idealize.ShloMosaic.TcCoe Idealize.ShloMosaic.Pointwise
open Cert.KernelIdeal Cert.KernelIdeal.Gen Cert.KernelIdeal.Value

attribute [local irreducible] outsAt0 out0_A_7 sout0_A_0 out0_B_7

variable (m : (ℓ : Loc nD τ sig) → Buf (Elt Ideal) ℓ) (c : Dev nD)

attribute [local irreducible] Gla.state

/-- Grid point `2 b + p`. -/
abbrev pt (b : Fin 32) (p : Fin 2) : Fin cfg0.N := ⟨2 * b.val + p.val, by show _ < 64; omega⟩

/-- Chunk `n` of point `2 b + p` is chunk `16 p + n` of batch `b`. -/
theorem chunkP_eq (b : Fin 32) (p : Fin 2) (n : ℕ) (hn : n < 16) :
    chunkP (blockRows m c b p) n = Gla.chunks (rows m c) b (16 * p.val + n) := by
  funext i
  show rows m c b _ = rows m c b _
  congr 1
  apply Fin.ext
  show 1024 * p.val + (64 * (n % 16) + i.val) = 64 * ((16 * p.val + n) % 32) + i.val
  omega

/-- The states within a batch's first point. -/
theorem state_first (b : Fin 32) (n : ℕ) (hn : n ≤ 16) :
    Gla.state (wts m c) (chunkP (blockRows m c b 0)) (fun _ _ _ => 0) n = Gla.stateB (wts m c) (rows m c) b n :=
  state_congr _ _ n fun i hi => by rw [chunkP_eq m c b 0 i (by omega)]; simp

/-- The states within a batch's second point. -/
theorem state_second (b : Fin 32) (n : ℕ) (hn : n ≤ 16) :
    Gla.state (wts m c) (chunkP (blockRows m c b 1)) (Gla.stateB (wts m c) (rows m c) b 16) n = Gla.stateB (wts m c) (rows m c) b (16 + n) :=
  (state_congr _ _ n fun i hi => by rw [chunkP_eq m c b 1 i (by omega)]; simp).trans (Gla.state_add _ _ _ 16 n).symm

/-- Before its first chunk a batch's state is zero. -/
theorem state_zero (b : Fin 32) : Gla.stateB (wts m c) (rows m c) b (16 * (0 : Fin 2).val) = fun _ _ _ => 0 := by
  unfold Gla.state; rfl

/-- What the first point of batch `b` leaves in the scratch. -/
theorem scratch_first (b : Fin 32) (t : Fin cfg0.N) (ht : t.val = 2 * b.val + (0 : Fin 2).val) (h : Fin 4) (d : Fin 128) (e : Fin 256) :
    (outsAt0 m c t.val t.isLt).2 (ix3 h d e) = Gla.stateB (wts m c) (rows m c) b 16 h d e := by
  have h0 : t.val % 2 = 0 := by rw [ht]; show (2 * b.val + 0) % 2 = 0; omega
  refine (congrFun (congrArg Prod.snd (outsAt0_A m c t h0)) (ix3 h d e)).trans ?_
  refine (sout0_A_eq (hb := blocks m c t b 0 ht) (y := ix3 h d e) ..).trans ?_
  rw [state_first m c b 16 (le_refl _)]
  rfl

theorem scratch_before (b : Fin 32) (n : ℕ) (hn : n < cfg0.N) (h : n = 2 * b.val) (k : Fin 4) (d : Fin 128) (e : Fin 256) :
    (outsAt0 m c n hn).2 (ix3 k d e) = Gla.stateB (wts m c) (rows m c) b 16 k d e :=
  scratch_first m c b ⟨n, hn⟩ h k d e

/-- What point `2 b` writes back. -/
theorem flushed_first (b : Fin 32) (t : Fin cfg0.N) (ht : t.val = 2 * b.val + (0 : Fin 2).val) :
    (dats m 0 c).flushed 7 t = (cfg0.win 7).cut (grid0.coords t) (outAll (wts m c) (blockRows m c b 0) (fun _ _ _ => 0)) := by
  have h0 : t.val % 2 = 0 := by rw [ht]; show (2 * b.val + 0) % 2 = 0; omega
  exact (flushed7_A m c t h0).trans (congrArg _ (out0_A_eq (hb := blocks m c t b 0 ht) ..))

/-- What point `2 b + 1` writes back. -/
theorem flushed_second (b : Fin 32) (t : Fin cfg0.N) (ht : t.val = 2 * b.val + (1 : Fin 2).val) :
    (dats m 0 c).flushed 7 t = (cfg0.win 7).cut (grid0.coords t)
      (outAll (wts m c) (blockRows m c b 1) (Gla.stateB (wts m c) (rows m c) b 16)) := by
  have h0 : ¬t.val % 2 = 0 := by rw [ht]; show ¬(2 * b.val + 1) % 2 = 0; omega
  have h1 : t.val - 1 = 2 * b.val := by rw [ht]; show 2 * b.val + 1 - 1 = _; omega
  exact (flushed7_B m c t h0).trans (congrArg _ (out0_B_eq (hb := blocks m c t b 1 ht) (S := Gla.stateB (wts m c) (rows m c) b 16)
    (hS := scratch_before m c b _ _ h1) ..))

/-- What point `2 b + p` writes back. -/
theorem flushed_eq (b : Fin 32) (p : Fin 2) :
    (dats m 0 c).flushed 7 (pt b p) = (cfg0.win 7).cut (grid0.coords (pt b p))
      (outAll (wts m c) (blockRows m c b p) (Gla.stateB (wts m c) (rows m c) b (16 * p.val))) := by
  match p with
  | 0 => exact (flushed_first m c b (pt b 0) rfl).trans (congrArg (fun S => (cfg0.win 7).cut _ (outAll _ _ S)) (state_zero m c b).symm)
  | 1 => exact flushed_second m c b (pt b 1) rfl

theorem idx0_7 : ∀ t : Fin cfg0.N, win0_7.index t (0 : Fin 2) = t.val ∧ win0_7.index t (1 : Fin 2) = 0 :=
  (by decide +kernel : ∀ t : Fin grid0.N, _)
theorem flush_all : ∀ t : Fin cfg0.N, (cfg0.win 7).flush t = true :=
  (by decide +kernel : ∀ t : Fin grid0.N, win0_7.flush t = true)

/-- The array after the run: the layer's result at every row. -/
theorem array_at (b : Fin 32) (n : Fin 32) (i : Fin 64) (j : Fin 1024) :
    ((dats m 0 c).arrAt 7 cfg0.N : Vec Ideal S65536x1024 .f32) (ix2 ⟨2048 * b.val + 64 * n.val + i.val, by omega⟩ j)
      = Gla.layerAt (wts m c) (rows m c) b n.val i j := by
  obtain ⟨p, k, hk, rfl⟩ : ∃ (p : Fin 2) (k : Fin 16) (hk : 16 * p.val + k.val < 32), n = ⟨16 * p.val + k.val, hk⟩ :=
    ⟨⟨n.val / 16, by omega⟩, ⟨n.val % 16, by omega⟩, by simp only; omega, Fin.ext (by simp only; omega)⟩
  have hr := blocks7 m c (pt b p) (flush_all _)
  rw [flushed_eq] at hr
  obtain ⟨e0, e1⟩ := idx0_7 (pt b p)
  generalize (dats m 0 c).arrAt 7 cfg0.N = A at hr ⊢
  have hy := congrFun hr (ix2 (⟨64 * k.val + i.val, by omega⟩ : Fin 1024) j : S1024x1024.Idx)
  have hl : ((cfg0.win 7).blk (pt b p)).view.read (Elt Ideal) A (ix2 (⟨64 * k.val + i.val, by omega⟩ : Fin 1024) j : S1024x1024.Idx)
      = (A : Vec Ideal S65536x1024 .f32) (ix2 ⟨2048 * b.val + 64 * (16 * p.val + k.val) + i.val, by omega⟩ j) := by
    show A (((cfg0.win 7).blk (pt b p)).view.emb _) = _
    congr 1
    funext a
    apply Fin.ext
    match a with
    | ⟨0, _⟩ =>
      show win0_7.index (pt b p) (0 : Fin 2) * 1024 + 1 * (64 * k.val + i.val) = 2048 * b.val + 64 * (16 * p.val + k.val) + i.val
      rw [e0]; show (2 * b.val + p.val) * 1024 + 1 * (64 * k.val + i.val) = _; omega
    | ⟨1, _⟩ =>
      show win0_7.index (pt b p) (1 : Fin 2) * 1024 + 1 * j.val = j.val
      rw [e1]; omega
  refine hl.symm.trans (hy.trans ?_)
  show outAll _ _ _ ((cfg0.win 7).xinj (grid0.coords (pt b p)) (ix2 (⟨64 * k.val + i.val, by omega⟩ : Fin 1024) j : S1024x1024.Idx)) = _
  refine (outAll_at _ _ _ k.val i j _ rfl rfl).trans ?_
  rw [chunkP_eq m c b p k.val k.isLt]
  have hs : Gla.state (wts m c) (chunkP (blockRows m c b p)) (Gla.stateB (wts m c) (rows m c) b (16 * p.val)) k.val
      = Gla.stateB (wts m c) (rows m c) b (16 * p.val + k.val) := by
    match p with
    | 0 =>
      rw [state_zero m c b, state_first m c b k.val (by omega)]; simp
    | 1 => exact state_second m c b k.val (by omega)
  rw [hs]

end Cert.KernelIdeal.Model
-- ==== Proof.RRows.lean ====
/-
  The reference before its loop, row by row: the normalised rows, their projections and the decays' pre-activations.
-/
module

public import proofs.«01_k».proof.Proof.Layer
public import proofs.«01_k».proof.Proof.Gen.ReferenceIdeal.Run
public import Idealize.ShloMosaic.Lib.Pointwise
public import Idealize.ShloMosaic.Lib.Pipeline.Value

@[expose] public section

set_option maxRecDepth 16384

noncomputable section

namespace Cert.ReferenceIdeal.Model

open Idealize.ShloMosaic Idealize.ShloMosaic.TcCoe Idealize.ShloMosaic.Pointwise Idealize.ShloMosaic.Tactic Idealize.ShloMosaic.StableHlo
open Cert.ReferenceIdeal Cert.ReferenceIdeal.Gen Cert.ReferenceIdeal.Value

variable (V : Valuation τ sig (Elt Ideal))

/-- The weights a valuation holds. -/
def wts : Gla.W where
  g d := (V (Proc.devRef .tc main_arg1) : Vec Ideal S1024 .f32) (ix1 d)
  w d j := (V (Proc.devRef .tc main_arg2) : Vec Ideal S1024x3088 .f32) (ix2 d j)
  w2 r j := (V (Proc.devRef .tc main_arg3) : Vec Ideal S16x512 .f32) (ix2 r j)
  b j := (V (Proc.devRef .tc main_arg4) : Vec Ideal S512 .f32) (ix1 j)
  gon e := (V (Proc.devRef .tc main_arg5) : Vec Ideal S256 .f32) (ix1 e)
  wout d j := (V (Proc.devRef .tc main_arg6) : Vec Ideal S1024x1024 .f32) (ix2 d j)

/-- The rows it holds. -/
def rows (b : Fin 32) (r : Fin 2048) (d : Fin 1024) : EReal := (V (Proc.devRef .tc main_arg0) : Vec Ideal S32x2048x1024 .f32) (ix3 b r d)

/-- The rows normalised. -/
theorem v12_at (b : Fin 32) (r : Fin 2048) (d : Fin 1024) :
    (after hostOps0 V (Proc.devRef .tc main_v12) : Vec Ideal S32x2048x1024 .f32) (ix3 b r d) = Gla.hn (wts V) (rows V b r) d := by
  after_results
  pointwise [Gla.hn, wts, rows]

theorem v13_at (b : Fin 32) (r : Fin 2048) (j : Fin 3088) :
    (after hostOps0 V (Proc.devRef .tc main_v13) : Vec Ideal S32x2048x3088 .f32) (ix3 b r j) = Gla.pr (wts V) (rows V b r) j := by
  have h := v12_at V b r
  have e : @Eq (FVec Ideal S32x2048x3088 .f32) (after hostOps0 V (Proc.devRef .tc main_v13))
      (Host.dotGeneral (φ₁ := .f32) (φ₂ := .f32) dot_S32x2048x1024_S1024x3088_S32x2048x3088_2_0_01_1_n_n none
        (after hostOps0 V (Proc.devRef .tc main_v12) : FVec Ideal S32x2048x1024 .f32) (V (Proc.devRef .tc main_arg2) : FVec Ideal S1024x3088 .f32)) := by
    after_results
  rw [e]
  generalize (after hostOps0 V (Proc.devRef .tc main_v12) : Vec Ideal S32x2048x1024 .f32) = A at h ⊢
  pointwise [Gla.pr]
  simp only [h]
  rfl

theorem v14_at (b : Fin 32) (r : Fin 2048) (j : Fin 512) :
    (after hostOps0 V (Proc.devRef .tc main_v14) : Vec Ideal S32x2048x512 .f32) (ix3 b r j) = Gla.q (wts V) (rows V b r) j := by
  have h := v13_at V b r ⟨j.val, by omega⟩
  have e : @Eq (FVec Ideal S32x2048x512 .f32) (after hostOps0 V (Proc.devRef .tc main_v14))
      (extractStridedSlice S32x2048x512 ![0, 0, 0] (after hostOps0 V (Proc.devRef .tc main_v13) : FVec Ideal S32x2048x3088 .f32)
        slices_S32x2048x3088_S32x2048x512_0_0_0) := by
    after_results
  rw [e]
  generalize (after hostOps0 V (Proc.devRef .tc main_v13) : Vec Ideal S32x2048x3088 .f32) = A at h ⊢
  pointwise [Gla.q]
  exact h

theorem v15_at (b : Fin 32) (r : Fin 2048) (j : Fin 512) :
    (after hostOps0 V (Proc.devRef .tc main_v15) : Vec Ideal S32x2048x512 .f32) (ix3 b r j) = Gla.k (wts V) (rows V b r) j := by
  have h := v13_at V b r ⟨512 + j.val, by omega⟩
  have e : @Eq (FVec Ideal S32x2048x512 .f32) (after hostOps0 V (Proc.devRef .tc main_v15))
      (extractStridedSlice S32x2048x512 ![0, 0, 512] (after hostOps0 V (Proc.devRef .tc main_v13) : FVec Ideal S32x2048x3088 .f32)
        slices_S32x2048x3088_S32x2048x512_0_0_512) := by
    after_results
  rw [e]
  generalize (after hostOps0 V (Proc.devRef .tc main_v13) : Vec Ideal S32x2048x3088 .f32) = A at h ⊢
  pointwise [Gla.k]
  exact h

theorem v16_at (b : Fin 32) (r : Fin 2048) (j : Fin 1024) :
    (after hostOps0 V (Proc.devRef .tc main_v16) : Vec Ideal S32x2048x1024 .f32) (ix3 b r j) = Gla.v (wts V) (rows V b r) j := by
  have h := v13_at V b r ⟨1024 + j.val, by omega⟩
  have e : @Eq (FVec Ideal S32x2048x1024 .f32) (after hostOps0 V (Proc.devRef .tc main_v16))
      (extractStridedSlice S32x2048x1024 ![0, 0, 1024] (after hostOps0 V (Proc.devRef .tc main_v13) : FVec Ideal S32x2048x3088 .f32)
        slices_S32x2048x3088_S32x2048x1024_0_0_1024) := by
    after_results
  rw [e]
  generalize (after hostOps0 V (Proc.devRef .tc main_v13) : Vec Ideal S32x2048x3088 .f32) = A at h ⊢
  pointwise [Gla.v]
  exact h

theorem v17_at (b : Fin 32) (r : Fin 2048) (j : Fin 1024) :
    (after hostOps0 V (Proc.devRef .tc main_v17) : Vec Ideal S32x2048x1024 .f32) (ix3 b r j) = Gla.og (wts V) (rows V b r) j := by
  have h := v13_at V b r ⟨2048 + j.val, by omega⟩
  have e : @Eq (FVec Ideal S32x2048x1024 .f32) (after hostOps0 V (Proc.devRef .tc main_v17))
      (extractStridedSlice S32x2048x1024 ![0, 0, 2048] (after hostOps0 V (Proc.devRef .tc main_v13) : FVec Ideal S32x2048x3088 .f32)
        slices_S32x2048x3088_S32x2048x1024_0_0_2048) := by
    after_results
  rw [e]
  generalize (after hostOps0 V (Proc.devRef .tc main_v13) : Vec Ideal S32x2048x3088 .f32) = A at h ⊢
  pointwise [Gla.og]
  exact h

theorem v18_at (b : Fin 32) (r : Fin 2048) (j : Fin 16) :
    (after hostOps0 V (Proc.devRef .tc main_v18) : Vec Ideal S32x2048x16 .f32) (ix3 b r j) = Gla.gr (wts V) (rows V b r) j := by
  have h := v13_at V b r ⟨3072 + j.val, by omega⟩
  have e : @Eq (FVec Ideal S32x2048x16 .f32) (after hostOps0 V (Proc.devRef .tc main_v18))
      (extractStridedSlice S32x2048x16 ![0, 0, 3072] (after hostOps0 V (Proc.devRef .tc main_v13) : FVec Ideal S32x2048x3088 .f32)
        slices_S32x2048x3088_S32x2048x16_0_0_3072) := by
    after_results
  rw [e]
  generalize (after hostOps0 V (Proc.devRef .tc main_v13) : Vec Ideal S32x2048x3088 .f32) = A at h ⊢
  pointwise [Gla.gr]
  exact h

/-- The decays' pre-activations. -/
theorem v22_at (b : Fin 32) (r : Fin 2048) (j : Fin 512) :
    (after hostOps0 V (Proc.devRef .tc main_v22) : Vec Ideal S32x2048x512 .f32) (ix3 b r j) = Gla.z (wts V) (rows V b r) j := by
  have h := v18_at V b r
  have e : @Eq (FVec Ideal S32x2048x512 .f32) (after hostOps0 V (Proc.devRef .tc main_v22))
      (addf (Host.dotGeneral (φ₁ := .f32) (φ₂ := .f32) dot_S32x2048x16_S16x512_S32x2048x512_2_0_01_1_n_n none
        (after hostOps0 V (Proc.devRef .tc main_v18) : FVec Ideal S32x2048x16 .f32) (V (Proc.devRef .tc main_arg3) : FVec Ideal S16x512 .f32))
        (broadcastInDim S32x2048x512 ![0, 1, 2] bcast_S1x1x512_S32x2048x512_0_1_2
          (broadcastInDim S1x1x512 ![2] bcast_S512_S1x1x512_2 (V (Proc.devRef .tc main_arg4) : FVec Ideal S512 .f32)))) := by
    after_results
  rw [e]
  generalize (after hostOps0 V (Proc.devRef .tc main_v18) : Vec Ideal S32x2048x16 .f32) = A at h ⊢
  pointwise [Gla.z]
  simp only [h]
  rfl

end Cert.ReferenceIdeal.Model
-- ==== Proof.RDecay.lean ====
/-
  The reference before its loop, chunk by chunk: the decays, the queries, keys and values laid out by head and chunk.
-/
module

public import proofs.«01_k».proof.Proof.RRows

@[expose] public section

set_option maxRecDepth 16384

noncomputable section

namespace Cert.ReferenceIdeal.Model

open Idealize.ShloMosaic Idealize.ShloMosaic.TcCoe Idealize.ShloMosaic.Pointwise Idealize.ShloMosaic.Tactic Idealize.ShloMosaic.StableHlo
open Cert.ReferenceIdeal Cert.ReferenceIdeal.Gen Cert.ReferenceIdeal.Value

variable (U : Valuation τ sig (Elt Ideal))

theorem log1p_exp_ne_bot (t : EReal) : Ideal.log1p (Ideal.exp t) ≠ ⊥ := by
  unfold Ideal.log1p
  induction t with
  | bot =>
    have h : Ideal.log (1 + 0) = 0 := by
      rw [add_zero, ← EReal.coe_one, Ideal.log_coe, if_neg (by norm_num), Real.log_one, EReal.coe_zero]
    rw [Ideal.exp_bot, h]; exact EReal.zero_ne_bot
  | coe a =>
    have h : (0 : ℝ) < 1 + Real.exp a := by positivity
    rw [Ideal.exp_coe, ← EReal.coe_one, ← EReal.coe_add, Ideal.log_coe, if_neg (not_le.mpr h)]
    exact EReal.coe_ne_bot _
  | top =>
    show Ideal.log (1 + ⊤) ≠ ⊥
    rw [EReal.add_top_of_ne_bot (by rw [← EReal.coe_one]; exact EReal.coe_ne_bot 1)]
    exact top_ne_bot

/-- Minus the softplus of minus a number is the logarithm of its sigmoid. -/
theorem log_sigmoid (a : EReal) : -(max (-a) 0 + Ideal.log1p (Ideal.exp (-(max (-a) (- -a))))) = Gla.logSigmoid a := by
  unfold Gla.logSigmoid
  rw [neg_neg, max_comm (-a) a]
  have h0 : max (-a) 0 ≠ ⊥ := (lt_of_lt_of_le EReal.bot_lt_zero (le_max_right _ _)).ne'
  rw [EReal.neg_add (Or.inl h0) (Or.inr (log1p_exp_ne_bot _)), EReal.neg_strictAnti.antitone.map_max, neg_neg, neg_zero]

/-- The logarithm of the sigmoid as the reference computes it. -/
def lsTerm (z : FVec Ideal S32x2048x512 .f32) : FVec Ideal S32x2048x512 .f32 :=
  Host.negf (select (cmpf .une (subf (Host.negf z) (broadcastInDim S32x2048x512 ![] bcast_S_S32x2048x512 (constant S_ .f32 0x00000000#32)))
      (subf (Host.negf z) (broadcastInDim S32x2048x512 ![] bcast_S_S32x2048x512 (constant S_ .f32 0x00000000#32))))
    (addf (Host.negf z) (broadcastInDim S32x2048x512 ![] bcast_S_S32x2048x512 (constant S_ .f32 0x00000000#32)))
    (addf (maximumf (Host.negf z) (broadcastInDim S32x2048x512 ![] bcast_S_S32x2048x512 (constant S_ .f32 0x00000000#32)))
      (Host.log1p (Host.exp (Host.negf (Host.absf
        (subf (Host.negf z) (broadcastInDim S32x2048x512 ![] bcast_S_S32x2048x512 (constant S_ .f32 0x00000000#32)))))))))

theorem lsTerm_at (z : FVec Ideal S32x2048x512 .f32) (b : Fin 32) (r : Fin 2048) (j : Fin 512) :
    lsTerm z (ix3 b r j) = Gla.logSigmoid (z (ix3 b r j)) := by
  rw [← log_sigmoid]
  pointwise [lsTerm]
  rw [if_neg (by simp)]
  rfl

theorem v23_at (b : Fin 32) (r : Fin 2048) (j : Fin 512) :
    (after hostOps0_1 U (Proc.devRef .tc main_v23) : Vec Ideal S32x2048x512 .f32) (ix3 b r j)
      = Gla.logSigmoid ((U (Proc.devRef .tc main_v22) : Vec Ideal S32x2048x512 .f32) (ix3 b r j)) := by
  have e : @Eq (FVec Ideal S32x2048x512 .f32) (after hostOps0_1 U (Proc.devRef .tc main_v23)) (lsTerm (U (Proc.devRef .tc main_v22))) := by
    after_results
    rfl
  rw [e, lsTerm_at]

/-- Row `c` of chunk `n`. -/
abbrev rowOf (n : Fin 32) (c : Fin 64) : Fin 2048 := ⟨64 * n.val + c.val, by omega⟩

/-- The 512 key components of a batch's rows, laid out by head, chunk and row. -/
theorem keys_at (A : Vec Ideal S32x2048x512 .f32) (b : Fin 32) (h : Fin 4) (n : Fin 32) (c : Fin 64) (d : Fin 128) :
    transpose S32x4x32x64x128 [0, 3, 1, 2, 4] (shapeCast S32x32x64x4x128 A shapeCasts_S32x2048x512_S32x32x64x4x128)
      transposes_S32x32x64x4x128_S32x4x32x64x128_0_3_1_2_4 (ix5 b h n c d) = A (ix3 b (rowOf n c) (Gla.key h d)) := by
  generalize hB : shapeCast S32x32x64x4x128 A shapeCasts_S32x2048x512_S32x32x64x4x128 = B
  pointwise
  rw [← hB]
  refine shapeCast_apply _ _ _ _ ?_
  rw [Shape.rowMajor_val_three, Shape.rowMajor_val_five]
  show (b.val * 2048 + (64 * n.val + c.val)) * 512 + (128 * h.val + d.val) = (((b.val * 32 + n.val) * 64 + c.val) * 4 + h.val) * 128 + d.val
  omega

/-- The 1024 value components likewise. -/
theorem vals_at (A : Vec Ideal S32x2048x1024 .f32) (b : Fin 32) (h : Fin 4) (n : Fin 32) (c : Fin 64) (d : Fin 256) :
    transpose S32x4x32x64x256 [0, 3, 1, 2, 4] (shapeCast S32x32x64x4x256 A shapeCasts_S32x2048x1024_S32x32x64x4x256)
      transposes_S32x32x64x4x256_S32x4x32x64x256_0_3_1_2_4 (ix5 b h n c d) = A (ix3 b (rowOf n c) (Gla.val h d)) := by
  generalize hB : shapeCast S32x32x64x4x256 A shapeCasts_S32x2048x1024_S32x32x64x4x256 = B
  pointwise
  rw [← hB]
  refine shapeCast_apply _ _ _ _ ?_
  rw [Shape.rowMajor_val_three, Shape.rowMajor_val_five]
  show (b.val * 2048 + (64 * n.val + c.val)) * 1024 + (256 * h.val + d.val) = (((b.val * 32 + n.val) * 64 + c.val) * 4 + h.val) * 256 + d.val
  omega

theorem v31_at (b : Fin 32) (h : Fin 4) (n : Fin 32) (c : Fin 64) (d : Fin 128) :
    (after hostOps0_2 U (Proc.devRef .tc main_v31) : Vec Ideal S32x4x32x64x128 .f32) (ix5 b h n c d)
      = (U (Proc.devRef .tc main_v15) : Vec Ideal S32x2048x512 .f32) (ix3 b (rowOf n c) (Gla.key h d)) := by
  refine Eq.trans ?_ (keys_at _ b h n c d)
  after_results
  rfl

theorem v33_at (b : Fin 32) (h : Fin 4) (n : Fin 32) (c : Fin 64) (d : Fin 256) :
    (after hostOps0_2 U (Proc.devRef .tc main_v33) : Vec Ideal S32x4x32x64x256 .f32) (ix5 b h n c d)
      = (U (Proc.devRef .tc main_v16) : Vec Ideal S32x2048x1024 .f32) (ix3 b (rowOf n c) (Gla.val h d)) := by
  refine Eq.trans ?_ (vals_at _ b h n c d)
  after_results
  rfl

theorem v29_at (b : Fin 32) (h : Fin 4) (n : Fin 32) (c : Fin 64) (d : Fin 128) :
    (after hostOps0_2 U (Proc.devRef .tc main_v29) : Vec Ideal S32x4x32x64x128 .f32) (ix5 b h n c d)
      = @HMul.hMul EReal EReal EReal _ ((U (Proc.devRef .tc main_v14) : Vec Ideal S32x2048x512 .f32) (ix3 b (rowOf n c) (Gla.key h d))) (Ideal.ofBits .f32 0x3DB504F3#32) := by
  rw [← keys_at (U (Proc.devRef .tc main_v14))]
  have e : @Eq (FVec Ideal S32x4x32x64x128 .f32) (after hostOps0_2 U (Proc.devRef .tc main_v29))
      (mulf (transpose S32x4x32x64x128 [0, 3, 1, 2, 4] (shapeCast S32x32x64x4x128 (U (Proc.devRef .tc main_v14) : FVec Ideal S32x2048x512 .f32) shapeCasts_S32x2048x512_S32x32x64x4x128)
        transposes_S32x32x64x4x128_S32x4x32x64x128_0_3_1_2_4 : FVec Ideal S32x4x32x64x128 .f32)
        (broadcastInDim S32x4x32x64x128 ![] bcast_S_S32x4x32x64x128 (constant S_ .f32 0x3DB504F3#32))) := by
    after_results
    rfl
  rw [e]
  generalize shapeCast S32x32x64x4x128 (U (Proc.devRef .tc main_v14) : FVec Ideal S32x2048x512 .f32) shapeCasts_S32x2048x512_S32x32x64x4x128 = A
  pointwise

theorem sixteen_lit : Ideal.ofBits .f32 0x41800000#32 = ((16 : ℝ) : EReal) := by
  simp [Ideal.ofBits, Ideal.ieee]
  rw [← EReal.coe_mul]; norm_num

theorem sixteenth_lit : Ideal.ofBits .f32 0x3D800000#32 = ((1 / 16 : ℝ) : EReal) := by
  simp [Ideal.ofBits, Ideal.ieee]
  rw [← EReal.coe_mul]; norm_num

/-- Divided by sixteen is multiplied by a sixteenth. -/
theorem div_sixteen (a : EReal) : Ideal.div a (Ideal.ofBits .f32 0x41800000#32) = a * Ideal.ofBits .f32 0x3D800000#32 := by
  rw [sixteen_lit, sixteenth_lit, Ideal.div_coe (by norm_num)]

theorem v35_at (b : Fin 32) (h : Fin 4) (n : Fin 32) (c : Fin 64) (d : Fin 128) :
    (after hostOps0_2 U (Proc.devRef .tc main_v35) : Vec Ideal S32x4x32x64x128 .f32) (ix5 b h n c d)
      = @HMul.hMul EReal EReal EReal _ ((U (Proc.devRef .tc main_v23) : Vec Ideal S32x2048x512 .f32) (ix3 b (rowOf n c) (Gla.key h d))) (Ideal.ofBits .f32 0x3D800000#32) := by
  rw [← div_sixteen]
  refine Eq.trans ?_ ((keys_at (Host.divf (U (Proc.devRef .tc main_v23) : FVec Ideal S32x2048x512 .f32)
    (broadcastInDim S32x2048x512 ![] bcast_S_S32x2048x512 (constant S_ .f32 0x41800000#32)) : FVec Ideal S32x2048x512 .f32) b h n c d).trans ?_)
  · after_results
    rfl
  · pointwise

/-- A left fold of a sum is the sum. -/
theorem foldl_add_eq {N : ℕ} (f : Fin N → EReal) : (List.finRange N).foldl (fun r n => r + f n) 0 = ∑ n, f n := by
  rw [Fin.sum_univ_def, List.sum_eq_foldl, List.foldl_map]

/-- A window of 64 places that ends at place `c`: its places at or above the first are the places up to `c`. -/
theorem window_sum (f : Fin 64 → EReal) (c : Fin 64) :
    ∑ n : Fin 64, (if h : 63 ≤ c.val + n.val then f ⟨c.val + n.val - 63, by omega⟩ else 0) = ∑ c' : Fin 64, if c' ≤ c then f c' else 0 := by
  rw [← Equiv.sum_comp (Equiv.addRight (c + 1)) fun c' : Fin 64 => if c' ≤ c then f c' else 0]
  refine Finset.sum_congr rfl fun n _ => ?_
  have hv : (n + (c + 1)).val = (n.val + c.val + 1) % 64 := by
    rw [Fin.val_add, Fin.val_add]; show (n.val + (c.val + 1) % 64) % 64 = _; omega
  show _ = if n + (c + 1) ≤ c then f (n + (c + 1)) else 0
  by_cases h : 63 ≤ c.val + n.val
  · rw [dif_pos h, if_pos (show n + (c + 1) ≤ c from (show (n + (c + 1)).val ≤ c.val by omega))]
    congr 1
    exact Fin.ext (by rw [hv]; simp only; omega)
  · rw [dif_neg h, if_neg (show ¬n + (c + 1) ≤ c from (show ¬(n + (c + 1)).val ≤ c.val by omega))]

/-- The window's places. -/
abbrev Win : Shape := ⟨5, ![1, 1, 1, 64, 1]⟩

theorem win_count : Win.numel = 64 := by decide

theorem win_place (n : Fin Win.numel) : Win.rowMajor.symm n = (ix5 0 0 0 (n.cast win_count) 0 : Win.Idx) := by
  rw [Equiv.symm_apply_eq]
  apply Fin.ext
  rw [Shape.rowMajor_val_five]
  show n.val = (((0 * 1 + 0) * 1 + 0) * 64 + n.val) * 1 + 0
  omega

/-- The sums of a window of 64 rows that begins 63 rows above are the sums of the rows up to each row. -/
theorem cumsum_at (A : FVec Ideal S32x4x32x64x128 .f32) (b : Fin 32) (h : Fin 4) (n : Fin 32) (c : Fin 64) (d : Fin 128) :
    Host.reduceWindowAdd ![1, 1, 1, 64, 1] ![1, 1, 1, 1, 1] ![0, 0, 0, 63, 0] ![0, 0, 0, 0, 0] A
      (broadcastInDim S_ ![] bcast_S_S_ (constant (F := Ideal) S_ .f32 0x00000000#32))
      reduceWindows_S32x4x32x64x128_S32x4x32x64x128_w1s1p0_0_w1s1p0_0_w1s1p0_0_w64s1p63_0_w1s1p0_0 h_S_ (ix5 b h n c d)
      = ∑ c' : Fin 64, if c' ≤ c then A (ix5 b h n c' d) else 0 := by
  have hz : (broadcastInDim S_ ![] bcast_S_S_ (constant (F := Ideal) S_ .f32 0x00000000#32) : FVec Ideal S_ .f32) (Shape.Idx.first h_S_) = 0 := by
    pointwise
  unfold Host.reduceWindowAdd
  rw [hz]
  show Ideal.hostReduceWindowAdd _ _ _ _ _ A 0 (ix5 b h n c d) = _
  unfold Ideal.hostReduceWindowAdd Host.reduceWindow
  dsimp only
  refine (foldl_add_eq (N := Win.numel) _).trans ?_
  rw [← window_sum]
  refine Fintype.sum_equiv (finCongr win_count) _ _ fun k => ?_
  have hk : (finCongr win_count k).val = k.val := rfl
  have hk' : k.val < 64 := lt_of_lt_of_eq k.isLt win_count
  have hw := win_place k
  by_cases hc : 63 ≤ c.val + k.val
  · rw [dif_pos (show 63 ≤ c.val + (finCongr win_count k).val from hc), dif_pos]
    · congr 1
      funext a
      apply Fin.ext
      match a with
      | ⟨0, _⟩ => show b.val * 1 + (Win.rowMajor.symm k 0).val - 0 = b.val; rw [hw]; show b.val * 1 + 0 - 0 = _; omega
      | ⟨1, _⟩ => show h.val * 1 + (Win.rowMajor.symm k 1).val - 0 = h.val; rw [hw]; show h.val * 1 + 0 - 0 = _; omega
      | ⟨2, _⟩ => show n.val * 1 + (Win.rowMajor.symm k 2).val - 0 = n.val; rw [hw]; show n.val * 1 + 0 - 0 = _; omega
      | ⟨3, _⟩ => show c.val * 1 + (Win.rowMajor.symm k 3).val - 63 = c.val + k.val - 63; rw [hw]; show c.val * 1 + k.val - 63 = _; omega
      | ⟨4, _⟩ => show d.val * 1 + (Win.rowMajor.symm k 4).val - 0 = d.val; rw [hw]; show d.val * 1 + 0 - 0 = _; omega
    · intro a
      match a with
      | ⟨0, _⟩ => show 0 ≤ b.val * 1 + (Win.rowMajor.symm k 0).val ∧ b.val * 1 + (Win.rowMajor.symm k 0).val - 0 < 32; rw [hw]; show 0 ≤ b.val * 1 + 0 ∧ b.val * 1 + 0 - 0 < 32; omega
      | ⟨1, _⟩ => show 0 ≤ h.val * 1 + (Win.rowMajor.symm k 1).val ∧ h.val * 1 + (Win.rowMajor.symm k 1).val - 0 < 4; rw [hw]; show 0 ≤ h.val * 1 + 0 ∧ h.val * 1 + 0 - 0 < 4; omega
      | ⟨2, _⟩ => show 0 ≤ n.val * 1 + (Win.rowMajor.symm k 2).val ∧ n.val * 1 + (Win.rowMajor.symm k 2).val - 0 < 32; rw [hw]; show 0 ≤ n.val * 1 + 0 ∧ n.val * 1 + 0 - 0 < 32; omega
      | ⟨3, _⟩ => show 63 ≤ c.val * 1 + (Win.rowMajor.symm k 3).val ∧ c.val * 1 + (Win.rowMajor.symm k 3).val - 63 < 64; rw [hw]; show 63 ≤ c.val * 1 + k.val ∧ c.val * 1 + k.val - 63 < 64; omega
      | ⟨4, _⟩ => show 0 ≤ d.val * 1 + (Win.rowMajor.symm k 4).val ∧ d.val * 1 + (Win.rowMajor.symm k 4).val - 0 < 128; rw [hw]; show 0 ≤ d.val * 1 + 0 ∧ d.val * 1 + 0 - 0 < 128; omega
  · rw [dif_neg (show ¬63 ≤ c.val + (finCongr win_count k).val from hc), dif_neg]
    intro hin
    have h3 := (hin (3 : Fin 5)).1
    change 63 ≤ c.val * 1 + (Win.rowMajor.symm k 3).val at h3
    rw [hw] at h3
    change 63 ≤ c.val * 1 + k.val at h3
    omega

theorem v36_at (b : Fin 32) (h : Fin 4) (n : Fin 32) (c : Fin 64) (d : Fin 128) :
    (after hostOps0_3 U (Proc.devRef .tc main_v36) : Vec Ideal S32x4x32x64x128 .f32) (ix5 b h n c d)
      = @Finset.sum (Fin 64) EReal _ Finset.univ fun c' => if c' ≤ c then (U (Proc.devRef .tc main_v35) : Vec Ideal S32x4x32x64x128 .f32) (ix5 b h n c' d) else 0 := by
  refine Eq.trans ?_ (cumsum_at _ b h n c d)
  after_results
  rfl

end Cert.ReferenceIdeal.Model
-- ==== Proof.RChunk.lean ====
/-
  The reference before its loop: what one chunk contributes by itself, and the arrays that the loop goes through.
-/
module

public import proofs.«01_k».proof.Proof.RDecay

@[expose] public section

set_option maxRecDepth 16384

noncomputable section

namespace Cert.ReferenceIdeal.Model

open Idealize.ShloMosaic Idealize.ShloMosaic.TcCoe Idealize.ShloMosaic.Pointwise Idealize.ShloMosaic.Tactic Idealize.ShloMosaic.StableHlo
open Cert.ReferenceIdeal Cert.ReferenceIdeal.Gen Cert.ReferenceIdeal.Value

/-! ## Each array in terms of the arrays it is computed from -/

section
variable (U : Valuation τ sig (Elt Ideal))

abbrev u29 : FVec Ideal S32x4x32x64x128 .f32 := U (Proc.devRef .tc main_v29)
abbrev u31 : FVec Ideal S32x4x32x64x128 .f32 := U (Proc.devRef .tc main_v31)
abbrev u33 : FVec Ideal S32x4x32x64x256 .f32 := U (Proc.devRef .tc main_v33)
abbrev u36 : FVec Ideal S32x4x32x64x128 .f32 := U (Proc.devRef .tc main_v36)
abbrev u39 : FVec Ideal S32x4x32x64x128 .f32 := U (Proc.devRef .tc main_v39)
abbrev u42 : FVec Ideal S32x4x32x64x128 .f32 := U (Proc.devRef .tc main_v42)
abbrev u46 : FVec Ideal S32x4x32x64x128 .f32 := U (Proc.devRef .tc main_v46)
abbrev u48 : FVec Ideal S32x4x32x128 .f32 := U (Proc.devRef .tc main_v48)
abbrev u49 : FVec Ideal S32x4x32x64x64 .f32 := U (Proc.devRef .tc main_v49)
abbrev u51 : IVec S64x64 1 := U (Proc.devRef .tc main_v51)
abbrev u52 : FVec Ideal S32x4x32x64x64 .f32 := U (Proc.devRef .tc main_v52)
abbrev u53 : FVec Ideal S32x4x32x64x256 .f32 := U (Proc.devRef .tc main_v53)

theorem v39_at (b : Fin 32) (h : Fin 4) (n : Fin 32) (c : Fin 64) (d : Fin 128) :
    u39 (after hostOps0_4 U) (ix5 b h n c d) = u29 U (ix5 b h n c d) * Ideal.exp (u36 U (ix5 b h n c d)) := by
  unfold u39
  after_results
  pointwise

theorem v42_at (b : Fin 32) (h : Fin 4) (n : Fin 32) (c : Fin 64) (d : Fin 128) :
    u42 (after hostOps0_4 U) (ix5 b h n c d) = u31 U (ix5 b h n c d) * Ideal.exp (-u36 U (ix5 b h n c d)) := by
  unfold u42
  after_results
  pointwise

theorem v46_at (b : Fin 32) (h : Fin 4) (n : Fin 32) (c : Fin 64) (d : Fin 128) :
    u46 (after hostOps0_4 U) (ix5 b h n c d) = u31 U (ix5 b h n c d) * Ideal.exp (u36 U (ix5 b h n 63 d) - u36 U (ix5 b h n c d)) := by
  unfold u46
  after_results
  pointwise

theorem v48_at (b : Fin 32) (h : Fin 4) (n : Fin 32) (d : Fin 128) :
    u48 (after hostOps0_4 U) (ix4 b h n d) = Ideal.exp (u36 U (ix5 b h n 63 d)) := by
  unfold u48
  after_results
  pointwise

theorem v49_at (b : Fin 32) (h : Fin 4) (n : Fin 32) (c s : Fin 64) :
    u49 (after hostOps0_4 U) (ix5 b h n c s) = ∑ d, u39 (after hostOps0_4 U) (ix5 b h n c d) * u42 (after hostOps0_4 U) (ix5 b h n s d) := by
  have e : u49 (after hostOps0_4 U) = Host.dotGeneral (φ₁ := .f32) (φ₂ := .f32) dot_S32x4x32x64x128_S32x4x32x64x128_S32x4x32x64x64_4_4_3_3_012_012 none
      (u39 (after hostOps0_4 U)) (u42 (after hostOps0_4 U)) := by
    unfold u49 u39 u42
    after_results
  rw [e]
  generalize u39 (after hostOps0_4 U) = A
  generalize u42 (after hostOps0_4 U) = B
  pointwise

theorem v50_at (c s : Fin 64) : (after hostOps0_4 U (Proc.devRef .tc main_v50) : IVec S64x64 1) (ix2 c s) = 1#1 := by
  after_results
  pointwise

/-- The triangle. -/
theorem le_bit : ∀ c s : Fin 64, IntOp.cmpi .sge (BitVec.ofNat 32 c.val) (BitVec.ofNat 32 s.val) = if s ≤ c then 1#1 else 0#1 := by
  decide +kernel

theorem v51_at (hU : ∀ c s : Fin 64, (U (Proc.devRef .tc main_v50) : IVec S64x64 1) (ix2 c s) = 1#1) (c s : Fin 64) :
    u51 (after hostOps0_5 U) (ix2 c s) = if s ≤ c then 1#1 else 0#1 := by
  have e : u51 (after hostOps0_5 U) = select (cmpi .sge (addi (iotaInDim S64x64 32 0) (broadcastInDim S64x64 ![] bcast_S_S64x64 (constantI S_ 32 0#32))) (iotaInDim S64x64 32 1))
      (U (Proc.devRef .tc main_v50) : IVec S64x64 1) (broadcastInDim S64x64 ![] bcast_S_S64x64 (constantI S_ 1 0#1)) := by
    unfold u51
    after_results
    rfl
  rw [e]
  generalize (U (Proc.devRef .tc main_v50) : IVec S64x64 1) = A at hU ⊢
  pointwise
  rw [hU, show IntOp.addi (BitVec.ofNat 32 c.val) 0#32 = BitVec.ofNat 32 c.val from BitVec.add_zero _, le_bit]
  by_cases h : s ≤ c <;> simp [h, Scalar.select]

theorem v52_at (b : Fin 32) (h : Fin 4) (n : Fin 32) (c s : Fin 64) (hU : ∀ c s : Fin 64, u51 U (ix2 c s) = if s ≤ c then 1#1 else 0#1) :
    u52 (after hostOps0_7 (after hostOps0_6 U)) (ix5 b h n c s) = if s ≤ c then u49 U (ix5 b h n c s) else 0 := by
  have e : u52 (after hostOps0_7 (after hostOps0_6 U)) = select (broadcastInDim S32x4x32x64x64 ![3, 4] bcast_S64x64_S32x4x32x64x64_3_4 (u51 U)) (u49 U)
      (broadcastInDim S32x4x32x64x64 ![] bcast_S_S32x4x32x64x64 (constant (F := Ideal) S_ .f32 0x00000000#32)) := by
    unfold u52
    after_results
    rfl
  rw [e]
  generalize u51 U = A at hU ⊢
  pointwise
  rw [hU]
  by_cases hs : s ≤ c <;> simp [hs, Scalar.select]

theorem v53_at (b : Fin 32) (h : Fin 4) (n : Fin 32) (c : Fin 64) (d : Fin 256) :
    u53 (after hostOps0_8 U) (ix5 b h n c d) = ∑ s, u52 U (ix5 b h n c s) * u33 U (ix5 b h n s d) := by
  unfold u53
  after_results
  pointwise

theorem v60_0_at (n b : Fin 32) (h : Fin 4) (c : Fin 64) (d : Fin 128) :
    (after hostOps0_8 U (Proc.devRef .tc main_v60_0) : FVec Ideal S32x32x4x64x128 .f32) (ix5 n b h c d) = u39 U (ix5 b h n c d) := by
  after_results
  rw [id_eq]
  pointwise

theorem v60_1_at (n b : Fin 32) (h : Fin 4) (c : Fin 64) (d : Fin 128) :
    (after hostOps0_8 U (Proc.devRef .tc main_v60_1) : FVec Ideal S32x32x4x64x128 .f32) (ix5 n b h c d) = u46 U (ix5 b h n c d) := by
  after_results
  rw [id_eq]
  pointwise

theorem v60_2_at (n b : Fin 32) (h : Fin 4) (c : Fin 64) (d : Fin 256) :
    (after hostOps0_8 U (Proc.devRef .tc main_v60_2) : FVec Ideal S32x32x4x64x256 .f32) (ix5 n b h c d) = u33 U (ix5 b h n c d) := by
  after_results
  rw [id_eq]
  pointwise

theorem v60_3_at (n b : Fin 32) (h : Fin 4) (d : Fin 128) :
    (after hostOps0_8 U (Proc.devRef .tc main_v60_3) : FVec Ideal S32x32x4x128 .f32) (ix4 n b h d) = u48 U (ix4 b h n d) := by
  after_results
  rw [id_eq]
  pointwise

theorem v60_5_at (b : Fin 32) (h : Fin 4) (d : Fin 128) (e : Fin 256) :
    (after hostOps0_8 U (Proc.devRef .tc main_v60_5) : FVec Ideal S32x4x128x256 .f32) (ix4 b h d e) = (0 : EReal) := by
  after_results
  rw [id_eq]
  pointwise

end

/-! ## The arrays the loop starts with -/

section
variable (V : Valuation τ sig (Elt Ideal))

/-- The buffers after each of the lists that run before the loop. -/
abbrev e1 : Valuation τ sig (Elt Ideal) := after hostOps0 V
abbrev e2 : Valuation τ sig (Elt Ideal) := after hostOps0_1 (e1 V)
abbrev e3 : Valuation τ sig (Elt Ideal) := after hostOps0_2 (e2 V)
abbrev e4 : Valuation τ sig (Elt Ideal) := after hostOps0_3 (e3 V)
abbrev e5 : Valuation τ sig (Elt Ideal) := after hostOps0_4 (e4 V)
abbrev e6 : Valuation τ sig (Elt Ideal) := after hostOps0_5 (e5 V)
abbrev e7 : Valuation τ sig (Elt Ideal) := after hostOps0_6 (e6 V)
abbrev e8 : Valuation τ sig (Elt Ideal) := after hostOps0_7 (e7 V)
abbrev e9 : Valuation τ sig (Elt Ideal) := after hostOps0_8 (e8 V)

/-- A buffer that a list does not write keeps its contents. -/
theorem keep1 (U : Valuation τ sig (Elt Ideal)) {r : Ref sig .tc} (h : r ∉ hostOps0_1_W) : after hostOps0_1 U (Proc.devRef .tc r) = U (Proc.devRef .tc r) :=
  after_of_writes_sub hostOps0_1 U hostOps0_1_writes h
theorem keep2 (U : Valuation τ sig (Elt Ideal)) {r : Ref sig .tc} (h : r ∉ hostOps0_2_W) : after hostOps0_2 U (Proc.devRef .tc r) = U (Proc.devRef .tc r) :=
  after_of_writes_sub hostOps0_2 U hostOps0_2_writes h
theorem keep3 (U : Valuation τ sig (Elt Ideal)) {r : Ref sig .tc} (h : r ∉ hostOps0_3_W) : after hostOps0_3 U (Proc.devRef .tc r) = U (Proc.devRef .tc r) :=
  after_of_writes_sub hostOps0_3 U hostOps0_3_writes h
theorem keep4 (U : Valuation τ sig (Elt Ideal)) {r : Ref sig .tc} (h : r ∉ hostOps0_4_W) : after hostOps0_4 U (Proc.devRef .tc r) = U (Proc.devRef .tc r) :=
  after_of_writes_sub hostOps0_4 U hostOps0_4_writes h
theorem keep5 (U : Valuation τ sig (Elt Ideal)) {r : Ref sig .tc} (h : r ∉ hostOps0_5_W) : after hostOps0_5 U (Proc.devRef .tc r) = U (Proc.devRef .tc r) :=
  after_of_writes_sub hostOps0_5 U hostOps0_5_writes h
theorem keep6 (U : Valuation τ sig (Elt Ideal)) {r : Ref sig .tc} (h : r ∉ hostOps0_6_W) : after hostOps0_6 U (Proc.devRef .tc r) = U (Proc.devRef .tc r) :=
  after_of_writes_sub hostOps0_6 U hostOps0_6_writes h
theorem keep7 (U : Valuation τ sig (Elt Ideal)) {r : Ref sig .tc} (h : r ∉ hostOps0_7_W) : after hostOps0_7 U (Proc.devRef .tc r) = U (Proc.devRef .tc r) :=
  after_of_writes_sub hostOps0_7 U hostOps0_7_writes h
theorem keep8 (U : Valuation τ sig (Elt Ideal)) {r : Ref sig .tc} (h : r ∉ hostOps0_8_W) : after hostOps0_8 U (Proc.devRef .tc r) = U (Proc.devRef .tc r) :=
  after_of_writes_sub hostOps0_8 U hostOps0_8_writes h

/-- The rows of a chunk. -/
abbrev chk (b n : Fin 32) : Fin 64 → Fin 1024 → EReal := Gla.chunks (rows V) b n.val

theorem chk_row (b n : Fin 32) (c : Fin 64) : rows V b (rowOf n c) = chk V b n c := by
  unfold chk rowOf
  rw [Gla.chunks_of]

theorem e_v31 (b : Fin 32) (h : Fin 4) (n : Fin 32) (c : Fin 64) (d : Fin 128) :
    u31 (e4 V) (ix5 b h n c d) = Gla.k (wts V) (chk V b n c) (Gla.key h d) := by
  unfold u31 e4 e3
  rw [keep3 _ (by decide), v31_at]
  unfold e2
  rw [keep1 _ (by decide)]
  unfold e1
  rw [v15_at, chk_row]

theorem e_v33 (b : Fin 32) (h : Fin 4) (n : Fin 32) (c : Fin 64) (d : Fin 256) :
    u33 (e4 V) (ix5 b h n c d) = Gla.v (wts V) (chk V b n c) (Gla.val h d) := by
  unfold u33 e4 e3
  rw [keep3 _ (by decide), v33_at]
  unfold e2
  rw [keep1 _ (by decide)]
  unfold e1
  rw [v16_at, chk_row]

theorem e_v29 (b : Fin 32) (h : Fin 4) (n : Fin 32) (c : Fin 64) (d : Fin 128) :
    u29 (e4 V) (ix5 b h n c d) = Gla.q (wts V) (chk V b n c) (Gla.key h d) * FloatOps.ofBits (F := Ideal) (φ := .f32) 0x3DB504F3 := by
  unfold u29 e4 e3
  rw [keep3 _ (by decide), v29_at]
  unfold e2
  rw [keep1 _ (by decide)]
  unfold e1
  rw [v14_at, chk_row]
  rfl

theorem e_v36 (b : Fin 32) (h : Fin 4) (n : Fin 32) (c : Fin 64) (d : Fin 128) :
    u36 (e4 V) (ix5 b h n c d) = Gla.bc (wts V) (chk V b n) c (Gla.key h d) := by
  unfold u36 e4
  rw [v36_at]
  unfold Gla.bc
  refine Finset.sum_congr rfl fun c' _ => ?_
  unfold e3
  rw [v35_at]
  unfold e2
  rw [v23_at]
  unfold e1
  rw [v22_at, chk_row]
  rfl

theorem e_v39 (b : Fin 32) (h : Fin 4) (n : Fin 32) (c : Fin 64) (d : Fin 128) :
    u39 (e5 V) (ix5 b h n c d) = Gla.qIn (wts V) (chk V b n) c (Gla.key h d) := by
  unfold e5
  rw [v39_at, e_v29, e_v36]
  rfl

theorem e_v42 (b : Fin 32) (h : Fin 4) (n : Fin 32) (c : Fin 64) (d : Fin 128) :
    u42 (e5 V) (ix5 b h n c d) = Gla.kIn (wts V) (chk V b n) c (Gla.key h d) := by
  unfold e5
  rw [v42_at, e_v31, e_v36]
  rfl

theorem e_v46 (b : Fin 32) (h : Fin 4) (n : Fin 32) (c : Fin 64) (d : Fin 128) :
    u46 (e5 V) (ix5 b h n c d) = Gla.kEnd (wts V) (chk V b n) c (Gla.key h d) := by
  unfold e5
  rw [v46_at, e_v31, e_v36, e_v36]
  rfl

theorem e_v48 (b : Fin 32) (h : Fin 4) (n : Fin 32) (d : Fin 128) :
    u48 (e5 V) (ix4 b h n d) = Gla.decay (wts V) (chk V b n) (Gla.key h d) := by
  unfold e5
  rw [v48_at, e_v36]
  rfl

theorem e_v52 (b : Fin 32) (h : Fin 4) (n : Fin 32) (c s : Fin 64) :
    u52 (e8 V) (ix5 b h n c s) = Gla.att (wts V) (chk V b n) h c s := by
  unfold e8 e7
  rw [v52_at _ _ _ _ _ _ (v51_at _ (v50_at _))]
  unfold u49
  rw [keep5 _ (by decide)]
  have := v49_at (e4 V) b h n c s
  unfold u49 at this
  rw [this]
  unfold Gla.att
  refine if_congr Iff.rfl (Finset.sum_congr rfl fun d _ => ?_) rfl
  rw [e_v39, e_v42]

/-- An array made by the fourth list or before reaches the eighth. -/
theorem e8_e5 {r : Ref sig .tc} (h₁ : r ∉ hostOps0_5_W) (h₂ : r ∉ hostOps0_6_W) (h₃ : r ∉ hostOps0_7_W) :
    e8 V (Proc.devRef .tc r) = e5 V (Proc.devRef .tc r) :=
  (keep7 _ h₃).trans ((keep6 _ h₂).trans (keep5 _ h₁))

theorem e8_v33 : u33 (e8 V) = u33 (e4 V) :=
  (e8_e5 V (by decide) (by decide) (by decide)).trans (keep4 _ (by decide))

theorem entry_v53 (b : Fin 32) (h : Fin 4) (n : Fin 32) (c : Fin 64) (d : Fin 256) :
    u53 (e9 V) (ix5 b h n c d) = ∑ s, Gla.att (wts V) (chk V b n) h c s * Gla.v (wts V) (chk V b n s) (Gla.val h d) := by
  unfold e9
  rw [v53_at]
  refine Finset.sum_congr rfl fun s _ => ?_
  rw [e_v52, e8_v33, e_v33]

theorem entry_0 (n b : Fin 32) (h : Fin 4) (c : Fin 64) (d : Fin 128) :
    (e9 V (Proc.devRef .tc main_v60_0) : FVec Ideal S32x32x4x64x128 .f32) (ix5 n b h c d) = Gla.qIn (wts V) (chk V b n) c (Gla.key h d) :=
  (v60_0_at (e8 V) n b h c d).trans ((congrFun (e8_e5 V (r := main_v39) (by decide) (by decide) (by decide)) _).trans (e_v39 V b h n c d))

theorem entry_1 (n b : Fin 32) (h : Fin 4) (c : Fin 64) (d : Fin 128) :
    (e9 V (Proc.devRef .tc main_v60_1) : FVec Ideal S32x32x4x64x128 .f32) (ix5 n b h c d) = Gla.kEnd (wts V) (chk V b n) c (Gla.key h d) :=
  (v60_1_at (e8 V) n b h c d).trans ((congrFun (e8_e5 V (r := main_v46) (by decide) (by decide) (by decide)) _).trans (e_v46 V b h n c d))

theorem entry_2 (n b : Fin 32) (h : Fin 4) (c : Fin 64) (d : Fin 256) :
    (e9 V (Proc.devRef .tc main_v60_2) : FVec Ideal S32x32x4x64x256 .f32) (ix5 n b h c d) = Gla.v (wts V) (chk V b n c) (Gla.val h d) :=
  (v60_2_at (e8 V) n b h c d).trans ((congrFun (e8_v33 V) _).trans (e_v33 V b h n c d))

theorem entry_3 (n b : Fin 32) (h : Fin 4) (d : Fin 128) :
    (e9 V (Proc.devRef .tc main_v60_3) : FVec Ideal S32x32x4x128 .f32) (ix4 n b h d) = Gla.decay (wts V) (chk V b n) (Gla.key h d) :=
  (v60_3_at (e8 V) n b h d).trans ((congrFun (e8_e5 V (r := main_v48) (by decide) (by decide) (by decide)) _).trans (e_v48 V b h n d))

theorem entry_5 (b : Fin 32) (h : Fin 4) (d : Fin 128) (e : Fin 256) :
    (e9 V (Proc.devRef .tc main_v60_5) : FVec Ideal S32x4x128x256 .f32) (ix4 b h d e) = (0 : EReal) :=
  v60_5_at (e8 V) b h d e

end

end Cert.ReferenceIdeal.Model
-- ==== Proof.RLoop.lean ====
/-
  The reference's loop over the chunks: what one trip does, and the arrays after each trip.
-/
module

public import proofs.«01_k».proof.Proof.RChunk
public import Idealize.ShloMosaic.Lib.WordCmp

@[expose] public section

set_option maxRecDepth 16384

noncomputable section

namespace Cert.ReferenceIdeal.Model

open Idealize.SL.Sem Idealize.ShloMosaic Idealize.ShloMosaic.TcCoe Idealize.ShloMosaic.Pointwise Idealize.ShloMosaic.Tactic Idealize.ShloMosaic.StableHlo
open Cert.ReferenceIdeal Cert.ReferenceIdeal.Gen Cert.ReferenceIdeal.Value

/-! ## The arrays of one chunk -/

theorem ctr_toInt : ∀ n : Fin 32, (Scf.iv 0#32 1#32 n.val : BitVec 32).toInt = (n.val : Int) := by
  decide +kernel

theorem start_five (n : Fin 32) (a : Fin 5) :
    ((![(fun _ => Scf.iv 0#32 1#32 n.val : IVec S_ 32), constantI S_ 32 0#32, constantI S_ 32 0#32, constantI S_ 32 0#32, constantI S_ 32 0#32] : Fin 5 → IVec S_ 32) a
      (Shape.Idx.first h_S_)).toInt = ((![n.val, 0, 0, 0, 0] : Fin 5 → Nat) a : Int) := by
  fin_cases a
  · exact ctr_toInt n
  all_goals rfl

theorem start_four (n : Fin 32) (a : Fin 4) :
    ((![(fun _ => Scf.iv 0#32 1#32 n.val : IVec S_ 32), constantI S_ 32 0#32, constantI S_ 32 0#32, constantI S_ 32 0#32] : Fin 4 → IVec S_ 32) a
      (Shape.Idx.first h_S_)).toInt = ((![n.val, 0, 0, 0] : Fin 4 → Nat) a : Int) := by
  fin_cases a
  · exact ctr_toInt n
  all_goals rfl

theorem slice_keys (T : FVec Ideal S32x32x4x64x128 .f32) (start : Fin 5 → Int) (hs : S32x32x4x64x128.Slices (fun _ => 0) S1x32x4x64x128)
    (hc : S1x32x4x64x128.ShapeCasts S32x4x64x128) (n : Fin 32) (e : ∀ a, start a = ((![n.val, 0, 0, 0, 0] : Fin 5 → Nat) a : Int))
    (b : Fin 32) (h : Fin 4) (c : Fin 64) (d : Fin 128) :
    shapeCast S32x4x64x128 (Host.dynamicSlice S1x32x4x64x128 T start hs) hc (ix4 b h c d) = T (ix5 n b h c d) := by
  rw [WordCmp.dynamicSlice_eq_extract S1x32x4x64x128 T start hs ![n.val, 0, 0, 0, 0] ⟨rfl, fun a => by fin_cases a <;> simp <;> omega⟩ e]
  pointwise

theorem slice_vals (T : FVec Ideal S32x32x4x64x256 .f32) (start : Fin 5 → Int) (hs : S32x32x4x64x256.Slices (fun _ => 0) S1x32x4x64x256)
    (hc : S1x32x4x64x256.ShapeCasts S32x4x64x256) (n : Fin 32) (e : ∀ a, start a = ((![n.val, 0, 0, 0, 0] : Fin 5 → Nat) a : Int))
    (b : Fin 32) (h : Fin 4) (c : Fin 64) (d : Fin 256) :
    shapeCast S32x4x64x256 (Host.dynamicSlice S1x32x4x64x256 T start hs) hc (ix4 b h c d) = T (ix5 n b h c d) := by
  rw [WordCmp.dynamicSlice_eq_extract S1x32x4x64x256 T start hs ![n.val, 0, 0, 0, 0] ⟨rfl, fun a => by fin_cases a <;> simp <;> omega⟩ e]
  pointwise

theorem slice_decay (T : FVec Ideal S32x32x4x128 .f32) (start : Fin 4 → Int) (hs : S32x32x4x128.Slices (fun _ => 0) S1x32x4x128)
    (hc : S1x32x4x128.ShapeCasts S32x4x128) (n : Fin 32) (e : ∀ a, start a = ((![n.val, 0, 0, 0] : Fin 4 → Nat) a : Int))
    (b : Fin 32) (h : Fin 4) (d : Fin 128) :
    shapeCast S32x4x128 (Host.dynamicSlice S1x32x4x128 T start hs) hc (ix3 b h d) = T (ix4 n b h d) := by
  rw [WordCmp.dynamicSlice_eq_extract S1x32x4x128 T start hs ![n.val, 0, 0, 0] ⟨rfl, fun a => by fin_cases a <;> simp <;> omega⟩ e]
  pointwise

/-- Putting a block in the place of one chunk. -/
theorem put_chunk (T : FVec Ideal S32x32x4x64x256 .f32) (B : FVec Ideal S32x4x64x256 .f32) (start : Fin 5 → Int)
    (hb : S32x4x64x256.BroadcastsInDim S1x32x4x64x256 ![1, 2, 3, 4])
    (hs : S32x32x4x64x256.Slices (fun _ => 0) S1x32x4x64x256) (n : Fin 32) (e : ∀ a, start a = ((![n.val, 0, 0, 0, 0] : Fin 5 → Nat) a : Int))
    (m b : Fin 32) (h : Fin 4) (c : Fin 64) (d : Fin 256) :
    Host.dynamicUpdateSlice T (broadcastInDim S1x32x4x64x256 ![1, 2, 3, 4] hb B) start hs (ix5 m b h c d) = if m = n then B (ix4 b h c d) else T (ix5 m b h c d) := by
  rw [WordCmp.dynamicUpdateSlice_eq_update T _ start hs ![n.val, 0, 0, 0, 0] ⟨rfl, fun a => by fin_cases a <;> simp <;> omega⟩ e]
  pointwise
  by_cases hmn : m = n
  · subst hmn
    simp
  · have : ¬(n.val ≤ m.val ∧ m.val < n.val + 1) := fun h => hmn (Fin.ext (by omega))
    rw [dif_neg this, if_neg hmn]

/-! ## One trip -/

abbrev w0 (V : Valuation τ sig (Elt Ideal)) : FVec Ideal S32x32x4x64x128 .f32 := V (Proc.devRef .tc main_v60_0)
abbrev w1 (V : Valuation τ sig (Elt Ideal)) : FVec Ideal S32x32x4x64x128 .f32 := V (Proc.devRef .tc main_v60_1)
abbrev w2 (V : Valuation τ sig (Elt Ideal)) : FVec Ideal S32x32x4x64x256 .f32 := V (Proc.devRef .tc main_v60_2)
abbrev w3 (V : Valuation τ sig (Elt Ideal)) : FVec Ideal S32x32x4x128 .f32 := V (Proc.devRef .tc main_v60_3)
abbrev w5 (V : Valuation τ sig (Elt Ideal)) : FVec Ideal S32x4x128x256 .f32 := V (Proc.devRef .tc main_v60_5)
abbrev w6 (V : Valuation τ sig (Elt Ideal)) : FVec Ideal S32x32x4x64x256 .f32 := V (Proc.devRef .tc main_v60_6)

theorem trip_state (V0 : Valuation τ sig (Elt Ideal)) (n : Fin 32) (hn : V0 (Proc.devRef .tc main_v60_4) = fun _ => Scf.iv 0#32 1#32 n.val)
    (b : Fin 32) (h : Fin 4) (d : Fin 128) (e : Fin 256) :
    w5 (afterL bodyI V0) (ix4 b h d e)
      = w3 V0 (ix4 n b h d) * w5 V0 (ix4 b h d e) + ∑ c, w1 V0 (ix5 n b h c d) * w2 V0 (ix5 n b h c e) := by
  unfold w5 w1 w2 w3
  rw [trip_main_v60_5, id_eq, hn]
  generalize hA : shapeCast S32x4x128 _ _ = A
  generalize hB : shapeCast S32x4x64x128 _ _ = B
  generalize hC : shapeCast S32x4x64x256 _ _ = C
  pointwise
  subst hA hB hC
  refine congrArg₂ (fun x y : EReal => x + y) (congrArg (fun x : EReal => x * _) (slice_decay _ _ _ _ n (start_four n) b h d)) (Finset.sum_congr rfl fun c _ => ?_)
  exact congrArg₂ (fun x y : EReal => x * y) (slice_keys _ _ _ _ n (start_five n) b h c d) (slice_vals _ _ _ _ n (start_five n) b h c e)

theorem trip_out (V0 : Valuation τ sig (Elt Ideal)) (n : Fin 32) (hn : V0 (Proc.devRef .tc main_v60_4) = fun _ => Scf.iv 0#32 1#32 n.val)
    (m b : Fin 32) (h : Fin 4) (c : Fin 64) (e : Fin 256) :
    w6 (afterL bodyI V0) (ix5 m b h c e)
      = if m = n then ∑ d, w0 V0 (ix5 n b h c d) * w5 V0 (ix4 b h d e) else w6 V0 (ix5 m b h c e) := by
  unfold w6 w0 w5
  rw [trip_main_v60_6, id_eq, hn]
  generalize hA : shapeCast S32x4x64x128 _ _ = A
  refine (put_chunk _ _ _ _ _ n (start_five n) m b h c e).trans ?_
  refine if_congr Iff.rfl ?_ rfl
  pointwise
  refine Finset.sum_congr rfl fun d _ => ?_
  subst hA
  exact congrArg (fun x : EReal => x * _) (slice_keys _ _ _ _ n (start_five n) b h c d)

/-! ## All trips -/

section
variable (V : Valuation τ sig (Elt Ideal)) (n b : Fin 32) (h : Fin 4)

theorem start_0 (c : Fin 64) (d : Fin 128) : w0 (e9 V) (ix5 n b h c d) = Gla.qIn (wts V) (chk V b n) c (Gla.key h d) := entry_0 V n b h c d
theorem start_1 (c : Fin 64) (d : Fin 128) : w1 (e9 V) (ix5 n b h c d) = Gla.kEnd (wts V) (chk V b n) c (Gla.key h d) := entry_1 V n b h c d
theorem start_2 (c : Fin 64) (d : Fin 256) : w2 (e9 V) (ix5 n b h c d) = Gla.v (wts V) (chk V b n c) (Gla.val h d) := entry_2 V n b h c d
theorem start_3 (d : Fin 128) : w3 (e9 V) (ix4 n b h d) = Gla.decay (wts V) (chk V b n) (Gla.key h d) := entry_3 V n b h d

end

/-- The condition of the loop changes no array that the loop carries. -/
theorem cond_w (V : Valuation τ sig (Elt Ideal)) {r : Ref sig .tc} (h : r ∉ condOps_W) : after condOps V (Proc.devRef .tc r) = V (Proc.devRef .tc r) :=
  after_of_writes_sub condOps V condOps_writes h

variable (m : (ℓ : Loc nD τ sig) → Buf (Elt Ideal) ℓ)

theorem at_zero (c : Dev nD) : atK m 0 c = e9 (launchContents m c) := by
  show entryContents preI m c = _
  simp only [entryContents, preI, afterL_cons, afterL_nil]

theorem at_succ (c : Dev nD) (k : ℕ) : atK m (k + 1) c = afterL bodyI (after condOps (atK m k c)) := rfl

theorem at_const (c : Dev nD) : ∀ k, w0 (atK m k c) = w0 (e9 (launchContents m c)) ∧ w1 (atK m k c) = w1 (e9 (launchContents m c))
    ∧ w2 (atK m k c) = w2 (e9 (launchContents m c)) ∧ w3 (atK m k c) = w3 (e9 (launchContents m c))
  | 0 => by rw [at_zero]; exact ⟨rfl, rfl, rfl, rfl⟩
  | k + 1 => by
    obtain ⟨h0, h1, h2, h3⟩ := at_const c k
    rw [at_succ]
    exact ⟨((trip_main_v60_0 _).trans (cond_w _ (by decide))).trans h0, ((trip_main_v60_1 _).trans (cond_w _ (by decide))).trans h1,
      ((trip_main_v60_2 _).trans (cond_w _ (by decide))).trans h2, ((trip_main_v60_3 _).trans (cond_w _ (by decide))).trans h3⟩

/-- The weights and the rows of the reference's arguments. -/
abbrev rW (c : Dev nD) : Gla.W := wts (launchContents m c)
abbrev rX (c : Dev nD) : Fin 32 → Fin 2048 → Fin 1024 → EReal := rows (launchContents m c)

/-- The state before trip `k` and what the trips before it have put in place. -/
theorem at_trip (c : Dev nD) : ∀ k, k ≤ 32 →
    (∀ b h d e, w5 (atK m k c) (ix4 b h d e) = Gla.stateB (rW m c) (rX m c) b k h d e)
    ∧ (∀ (n b : Fin 32) h i e, n.val < k → w6 (atK m k c) (ix5 n b h i e)
        = ∑ d, Gla.qIn (rW m c) (chk (launchContents m c) b n) i (Gla.key h d) * Gla.stateB (rW m c) (rX m c) b n.val h d e)
  | 0, _ => by
    refine ⟨fun b h d e => ?_, fun n b h i e hn => absurd hn (by omega)⟩
    rw [at_zero]
    exact entry_5 _ b h d e
  | k + 1, hk => by
    obtain ⟨hS, hO⟩ := at_trip c k (by omega)
    obtain ⟨h0, h1, h2, h3⟩ := at_const m c k
    have hc : after condOps (atK m k c) (Proc.devRef .tc main_v60_4) = fun _ => Scf.iv 0#32 1#32 (⟨k, hk⟩ : Fin 32).val :=
      (cond_w _ (by decide)).trans (atK_ctr m c k)
    have c0 : w0 (after condOps (atK m k c)) = _ := (cond_w _ (by decide)).trans h0
    have c1 : w1 (after condOps (atK m k c)) = _ := (cond_w _ (by decide)).trans h1
    have c2 : w2 (after condOps (atK m k c)) = _ := (cond_w _ (by decide)).trans h2
    have c3 : w3 (after condOps (atK m k c)) = _ := (cond_w _ (by decide)).trans h3
    have c5 : w5 (after condOps (atK m k c)) = w5 (atK m k c) := cond_w _ (by decide)
    have c6 : w6 (after condOps (atK m k c)) = w6 (atK m k c) := cond_w _ (by decide)
    refine ⟨fun b h d e => ?_, fun n b h i e hn => ?_⟩
    · rw [at_succ, trip_state _ ⟨k, hk⟩ hc, c1, c2, c3, c5, hS]
      rw [start_3]
      show _ = Gla.next (rW m c) (chk (launchContents m c) b ⟨k, hk⟩) (Gla.stateB (rW m c) (rX m c) b k) h d e
      unfold Gla.next
      refine congrArg _ (Finset.sum_congr rfl fun i _ => ?_)
      rw [start_1, start_2]
    · rw [at_succ, trip_out _ ⟨k, hk⟩ hc, c0, c5, c6]
      split_ifs with hnk
      · subst hnk
        refine Finset.sum_congr rfl fun d _ => ?_
        rw [start_0, hS]
      · exact hO n b h i e (by have : n.val ≠ k := fun h => hnk (Fin.ext h); omega)

end Cert.ReferenceIdeal.Model
-- ==== Proof.RPost.lean ====
/-
  The reference after its loop: the gate, the normalisation of each head and the output projection.
-/
module

public import proofs.«01_k».proof.Proof.RLoop

@[expose] public section

set_option maxRecDepth 16384

noncomputable section

namespace Cert.ReferenceIdeal.Model

open Idealize.SL.Sem Idealize.ShloMosaic Idealize.ShloMosaic.TcCoe Idealize.ShloMosaic.Pointwise Idealize.ShloMosaic.Tactic Idealize.ShloMosaic.StableHlo
open Cert.ReferenceIdeal Cert.ReferenceIdeal.Gen Cert.ReferenceIdeal.Value

section
variable (U : Valuation τ sig (Elt Ideal))

abbrev p17 : FVec Ideal S32x2048x1024 .f32 := U (Proc.devRef .tc main_v17)
abbrev p64 : FVec Ideal S32x2048x4x256 .f32 := U (Proc.devRef .tc main_v64)
abbrev p78 : FVec Ideal S32x2048x1024 .f32 := U (Proc.devRef .tc main_v78)
abbrev p79 : FVec Ideal S32x2048x1024 .f32 := U (Proc.devRef .tc main_v79)
abbrev p83 : FVec Ideal S65536x1024 .f32 := U (Proc.devRef .tc main_v83)

/-- From chunks back to rows. -/
theorem rows_of_chunks (A : FVec Ideal S32x4x32x64x256 .f32) (b : Fin 32) (h : Fin 4) (n : Fin 32) (c : Fin 64) (e : Fin 256) :
    shapeCast S32x2048x4x256 (transpose S32x32x64x4x256 [0, 2, 3, 1, 4] A transposes_S32x4x32x64x256_S32x32x64x4x256_0_2_3_1_4) shapeCasts_S32x32x64x4x256_S32x2048x4x256
      (ix4 b (rowOf n c) h e) = A (ix5 b h n c e) := by
  refine (Idealize.ShloMosaic.shapeCast_apply (k := ix5 b n c h e) _ _ _ ?_).trans ?_
  · rw [Shape.rowMajor_val_four, Shape.rowMajor_val_five]
    show (((b.val * 32 + n.val) * 64 + c.val) * 4 + h.val) * 256 + e.val = ((b.val * 2048 + (64 * n.val + c.val)) * 4 + h.val) * 256 + e.val
    omega
  · pointwise

theorem v64_at (b : Fin 32) (h : Fin 4) (n : Fin 32) (c : Fin 64) (e : Fin 256) :
    p64 (after hostOps0_9 U) (ix4 b (rowOf n c) h e) = u53 U (ix5 b h n c e) + w6 U (ix5 n b h c e) := by
  have e' : p64 (after hostOps0_9 U) = shapeCast S32x2048x4x256 (transpose S32x32x64x4x256 [0, 2, 3, 1, 4]
      (addf (u53 U) (transpose S32x4x32x64x256 [1, 2, 0, 3, 4] (w6 U) transposes_S32x32x4x64x256_S32x4x32x64x256_1_2_0_3_4))
      transposes_S32x4x32x64x256_S32x32x64x4x256_0_2_3_1_4) shapeCasts_S32x32x64x4x256_S32x2048x4x256 := by
    unfold p64
    after_results
    rfl
  rw [e', rows_of_chunks]
  pointwise

/-- Heads side by side. -/
theorem heads_flat (A : FVec Ideal S32x2048x4x256 .f32) (b : Fin 32) (r : Fin 2048) (h : Fin 4) (e : Fin 256) :
    shapeCast S32x2048x1024 A shapeCasts_S32x2048x4x256_S32x2048x1024 (ix3 b r (Gla.val h e)) = A (ix4 b r h e) := by
  refine Idealize.ShloMosaic.shapeCast_apply (k := ix4 b r h e) _ _ _ ?_
  rw [Shape.rowMajor_val_four, Shape.rowMajor_val_three]
  show ((b.val * 2048 + r.val) * 4 + h.val) * 256 + e.val = (b.val * 2048 + r.val) * 1024 + (256 * h.val + e.val)
  omega

theorem v78_at (b : Fin 32) (r : Fin 2048) (h : Fin 4) (e : Fin 256) :
    p78 (after hostOps0_9 U) (ix3 b r (Gla.val h e)) =
      (fun ov : Fin 256 → EReal => ov e * Ideal.rsqrt (Ideal.div (∑ e', ov e' * ov e') (Ideal.ofBits .f32 0x43800000#32) + Ideal.ofBits .f32 0x358637BD#32) * (wts U).gon e)
        (fun e => p64 (after hostOps0_9 U) (ix4 b r h e)) := by
  have e' : p78 (after hostOps0_9 U) = shapeCast S32x2048x1024 (mulf (mulf (p64 (after hostOps0_9 U))
      (broadcastInDim S32x2048x4x256 ![0, 1, 2, 3] bcast_S32x2048x4x1_S32x2048x4x256_0_1_2_3
        (Host.rsqrt (addf (Host.divf (broadcastInDim S32x2048x4x1 ![0, 1, 2] bcast_S32x2048x4_S32x2048x4x1_0_1_2
            (Host.reduceAdd (mulf (p64 (after hostOps0_9 U)) (p64 (after hostOps0_9 U))) (constant (F := Ideal) S_ .f32 0x00000000#32) reducesTo_S32x2048x4x256_S32x2048x4_d3 h_S_))
            (broadcastInDim S32x2048x4x1 ![] bcast_S_S32x2048x4x1 (constant (F := Ideal) S_ .f32 0x43800000#32)))
          (broadcastInDim S32x2048x4x1 ![] bcast_S_S32x2048x4x1 (constant (F := Ideal) S_ .f32 0x358637BD#32))))))
      (broadcastInDim S32x2048x4x256 ![0, 1, 2, 3] bcast_S1x1x1x256_S32x2048x4x256_0_1_2_3
        (broadcastInDim S1x1x1x256 ![3] bcast_S256_S1x1x1x256_3 (U (Proc.devRef .tc main_arg5) : FVec Ideal S256 .f32)))) shapeCasts_S32x2048x4x256_S32x2048x1024 := by
    unfold p78 p64
    after_results
    rfl
  rw [e', heads_flat]
  generalize p64 (after hostOps0_9 U) = A
  pointwise [wts]

theorem v79_at (b : Fin 32) (r : Fin 2048) (j : Fin 1024) :
    p79 (after hostOps0_10 U) (ix3 b r j) = p17 U (ix3 b r j) * Ideal.div 1 (1 + Ideal.exp (-p17 U (ix3 b r j))) := by
  have e' : p79 (after hostOps0_10 U) = mulf (p17 U) (Host.divf (broadcastInDim S32x2048x1024 ![] bcast_S_S32x2048x1024 (constant (F := Ideal) S_ .f32 0x3F800000#32))
      (addf (broadcastInDim S32x2048x1024 ![] bcast_S_S32x2048x1024 (constant (F := Ideal) S_ .f32 0x3F800000#32)) (Host.exp (Host.negf (p17 U))))) := by
    unfold p79
    after_results
    rfl
  rw [e']
  pointwise

/-- The 1024 columns are 4 heads of 256. -/
theorem sum_heads (f : Fin 1024 → EReal) : ∑ k, f k = ∑ h : Fin 4, ∑ e : Fin 256, f (Gla.val h e) := by
  rw [← Fintype.sum_prod_type']
  refine (Fintype.sum_equiv (finProdFinEquiv (m := 4) (n := 256)) _ f fun x => congrArg f (Fin.ext ?_)).symm
  show 256 * x.1.val + x.2.val = x.2.val + 256 * x.1.val
  omega

theorem v83_at (b : Fin 32) (r : Fin 2048) (j : Fin 1024) :
    p83 (after hostOps0_11 U) (ix2 ⟨2048 * b.val + r.val, by omega⟩ j) =
      rows U b r j + ∑ h, ∑ e, p78 U (ix3 b r (Gla.val h e)) * p79 U (ix3 b r (Gla.val h e)) * (wts U).wout (Gla.val h e) j := by
  have e' : p83 (after hostOps0_11 U) = shapeCast S65536x1024 (addf (U (Proc.devRef .tc main_arg0) : FVec Ideal S32x2048x1024 .f32)
      (Host.dotGeneral (φ₁ := .f32) (φ₂ := .f32) dot_S32x2048x1024_S1024x1024_S32x2048x1024_2_0_01_1_n_n none (mulf (p78 U) (p79 U))
        (U (Proc.devRef .tc main_arg6) : FVec Ideal S1024x1024 .f32))) shapeCasts_S32x2048x1024_S65536x1024 := by
    unfold p83
    after_results
    rfl
  rw [e']
  refine (Idealize.ShloMosaic.shapeCast_apply (k := ix3 b r j) _ _ _ ?_).trans ?_
  · rw [Shape.rowMajor_val_two, Shape.rowMajor_val_three]
    show (b.val * 2048 + r.val) * 1024 + j.val = (2048 * b.val + r.val) * 1024 + j.val
    omega
  · pointwise
    refine congrArg _ ?_
    exact sum_heads fun k => p78 U (ix3 b r k) * p79 U (ix3 b r k) * (wts U).wout k j

end

/-! ## The result of the run -/

/-- What the lists after the loop write. -/
abbrev wr9 : List (Ref sig .tc) := [main_v61, main_v62, main_v63, main_v64, main_v65, main_cst_8, main_v66, main_v67, main_cst_9, main_v68, main_v69,
  main_cst_10, main_v70, main_v71, main_v72, main_v73, main_v74, main_v75, main_v76, main_v77, main_v78]
theorem wr9_holds : (hostOps0_9 : List (HloOp τ sig (Elt Ideal))).Forall fun op => op.writes ⊆ (wr9.map (Proc.devRef (τ := τ) .tc)).toFinset :=
  StableHlo.forall_writes_sub_of_map rfl
abbrev wr10 : List (Ref sig .tc) := [main_call9_v0, main_call9_v1, main_call9_cst, main_call9_v2, main_call9_v3, main_call9_cst_0, main_call9_v4, main_call9_v5, main_v79]
theorem wr10_holds : (hostOps0_10 : List (HloOp τ sig (Elt Ideal))).Forall fun op => op.writes ⊆ (wr10.map (Proc.devRef (τ := τ) .tc)).toFinset :=
  StableHlo.forall_writes_sub_of_map rfl
abbrev wr11 : List (Ref sig .tc) := [main_v80, main_v81, main_v82, main_v83]
theorem wr11_holds : (hostOps0_11 : List (HloOp τ sig (Elt Ideal))).Forall fun op => op.writes ⊆ (wr11.map (Proc.devRef (τ := τ) .tc)).toFinset :=
  StableHlo.forall_writes_sub_of_map rfl

section
variable (m : (ℓ : Loc nD τ sig) → Buf (Elt Ideal) ℓ) (c : Dev nD)

/-- One trip keeps what its lists do not write. -/
theorem trip_keep (U : Valuation τ sig (Elt Ideal)) {r : Ref sig .tc} (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) (h6 : r ∉ while0Ops0_6_W) :
    afterL bodyI U (Proc.devRef .tc r) = U (Proc.devRef .tc r) := by
  simp only [bodyI, afterL_cons, afterL_nil]
  rw [after_of_writes_sub while0Ops0_6 _ while0Ops0_6_writes h6, after_of_writes_sub while0Ops0_5 _ while0Ops0_5_writes h5,
    after_of_writes_sub while0Ops0_4 _ while0Ops0_4_writes h4, after_of_writes_sub while0Ops0_3 _ while0Ops0_3_writes h3,
    after_of_writes_sub while0Ops0_2 _ while0Ops0_2_writes h2, after_of_writes_sub while0Ops0_1 _ while0Ops0_1_writes h1,
    after_of_writes_sub while0Ops0 _ while0Ops0_writes h0]

/-- The whole loop keeps what neither its condition nor its body writes. -/
theorem loop_keep {r : Ref sig .tc} (hc : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) (h6 : r ∉ while0Ops0_6_W) :
    ∀ k, after condOps (atK m k c) (Proc.devRef .tc r) = e9 (launchContents m c) (Proc.devRef .tc r)
  | 0 => by rw [cond_w _ hc, at_zero]
  | k + 1 => by rw [cond_w _ hc, at_succ, trip_keep _ h0 h1 h2 h3 h4 h5 h6, loop_keep hc h0 h1 h2 h3 h4 h5 h6 k]

/-- What no list before the loop writes the loop starts with. -/
theorem entry_keep (V : Valuation τ sig (Elt Ideal)) {r : Ref sig .tc} (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W) (h7 : r ∉ hostOps0_7_W) (h8 : r ∉ hostOps0_8_W) :
    e9 V (Proc.devRef .tc r) = V (Proc.devRef .tc r) := by
  rw [show e9 V = after hostOps0_8 (e8 V) from rfl, keep8 _ h8, e8_e5 V h5 h6 h7]
  rw [show e5 V = after hostOps0_4 (e4 V) from rfl, keep4 _ h4]
  rw [show e4 V = after hostOps0_3 (e3 V) from rfl, keep3 _ h3]
  rw [show e3 V = after hostOps0_2 (e2 V) from rfl, keep2 _ h2]
  rw [show e2 V = after hostOps0_1 (e1 V) from rfl, keep1 _ h1]
  exact after_of_writes_sub hostOps0 V hostOps0_writes h0

/-- The buffers when the loop ends, and after each of the lists that follow it. -/
abbrev f0 : Valuation τ sig (Elt Ideal) := after condOps (atK m 32 c)
abbrev f1 : Valuation τ sig (Elt Ideal) := after hostOps0_9 (f0 m c)
abbrev f2 : Valuation τ sig (Elt Ideal) := after hostOps0_10 (f1 m c)
abbrev f3 : Valuation τ sig (Elt Ideal) := after hostOps0_11 (f2 m c)

theorem final_eq : finalContents condOps preI bodyI postI 32 m c = f3 m c := by
  show afterL postI (after condOps (atK m 32 c)) = _
  simp only [postI, afterL_cons, afterL_nil]

/-- An argument is the same at the end of the loop. -/
theorem arg_end {r : Ref sig .tc} (h : r ∈ ([main_arg0, main_arg1, main_arg2, main_arg3, main_arg4, main_arg5, main_arg6] : List (Ref sig .tc))) :
    f0 m c (Proc.devRef .tc r) = launchContents m c (Proc.devRef .tc r) := by
  fin_cases h <;>
  exact (loop_keep m c (by decide) (by decide) (by decide) (by decide) (by decide) (by decide) (by decide) (by decide) 32).trans
    (entry_keep _ (by decide) (by decide) (by decide) (by decide) (by decide) (by decide) (by decide) (by decide) (by decide))

theorem arg_mid {r : Ref sig .tc} (h : r ∈ ([main_arg0, main_arg1, main_arg2, main_arg3, main_arg4, main_arg5, main_arg6] : List (Ref sig .tc))) :
    f2 m c (Proc.devRef .tc r) = launchContents m c (Proc.devRef .tc r) := by
  refine Eq.trans ?_ (arg_end m c h)
  fin_cases h <;>
  exact (after_of_writes_sub hostOps0_10 _ wr10_holds (by decide)).trans (after_of_writes_sub hostOps0_9 _ wr9_holds (by decide))

/-- An argument is the same when the run ends. -/
theorem arg_final {r : Ref sig .tc} (h : r ∈ ([main_arg0, main_arg1, main_arg2, main_arg3, main_arg4, main_arg5, main_arg6] : List (Ref sig .tc))) :
    finalContents condOps preI bodyI postI 32 m c (Proc.devRef .tc r) = launchContents m c (Proc.devRef .tc r) := by
  rw [final_eq]
  refine Eq.trans ?_ (arg_mid m c h)
  fin_cases h <;>
  exact after_of_writes_sub hostOps0_11 _ wr11_holds (by decide)

/-- The weights are read off the arguments. -/
theorem wts_congr (U V : Valuation τ sig (Elt Ideal))
    (h : ∀ r ∈ ([main_arg0, main_arg1, main_arg2, main_arg3, main_arg4, main_arg5, main_arg6] : List (Ref sig .tc)), U (Proc.devRef .tc r) = V (Proc.devRef .tc r)) :
    wts U = wts V := by
  unfold wts
  rw [h main_arg1 (by simp), h main_arg2 (by simp), h main_arg3 (by simp), h main_arg4 (by simp), h main_arg5 (by simp), h main_arg6 (by simp)]

theorem wts_end : wts (f0 m c) = rW m c := wts_congr _ _ fun _ h => arg_end m c h
theorem wts_mid : wts (f2 m c) = rW m c := wts_congr _ _ fun _ h => arg_mid m c h
theorem rows_mid : rows (f2 m c) = rX m c := by
  unfold rX rows
  rw [arg_mid m c (r := main_arg0) (by simp)]

/-- The gate's argument at the end of the loop. -/
theorem f0_17 (b : Fin 32) (r : Fin 2048) (j : Fin 1024) : p17 (f0 m c) (ix3 b r j) = Gla.og (rW m c) (rX m c b r) j := by
  have e : p17 (f0 m c) = p17 (e1 (launchContents m c)) := by
    refine (loop_keep m c (by decide) (by decide) (by decide) (by decide) (by decide) (by decide) (by decide) (by decide) 32).trans ?_
    rw [show e9 (launchContents m c) = after hostOps0_8 (e8 (launchContents m c)) from rfl, keep8 _ (by decide), e8_e5 _ (by decide) (by decide) (by decide)]
    exact (keep4 _ (by decide)).trans ((keep3 _ (by decide)).trans ((keep2 _ (by decide)).trans (keep1 _ (by decide))))
  rw [e]
  exact v17_at _ b r j

theorem f0_53 (b : Fin 32) (h : Fin 4) (n : Fin 32) (i : Fin 64) (e : Fin 256) :
    u53 (f0 m c) (ix5 b h n i e) = ∑ s, Gla.att (rW m c) (chk (launchContents m c) b n) h i s * Gla.v (rW m c) (chk (launchContents m c) b n s) (Gla.val h e) := by
  have e' : u53 (f0 m c) = u53 (e9 (launchContents m c)) :=
    loop_keep m c (by decide) (by decide) (by decide) (by decide) (by decide) (by decide) (by decide) (by decide) 32
  rw [e', entry_v53]

theorem f0_6 (b : Fin 32) (h : Fin 4) (n : Fin 32) (i : Fin 64) (e : Fin 256) :
    w6 (f0 m c) (ix5 n b h i e) = ∑ d, Gla.qIn (rW m c) (chk (launchContents m c) b n) i (Gla.key h d) * Gla.stateB (rW m c) (rX m c) b n.val h d e := by
  have e' : w6 (f0 m c) = w6 (atK m 32 c) := cond_w _ (by decide)
  rw [e', (at_trip m c 32 (le_refl _)).2 n b h i e n.isLt]

theorem f1_64 (b : Fin 32) (h : Fin 4) (n : Fin 32) (i : Fin 64) (e : Fin 256) :
    p64 (f1 m c) (ix4 b (rowOf n i) h e) = Gla.o (rW m c) (chk (launchContents m c) b n) (Gla.stateB (rW m c) (rX m c) b n.val) h i e := by
  unfold f1
  rw [v64_at, f0_53, f0_6]
  rfl

/-- The reference's result. -/
theorem result_at (b n : Fin 32) (i : Fin 64) (j : Fin 1024) :
    (finalContents condOps preI bodyI postI 32 m c (Proc.devRef .tc main_v83) : FVec Ideal S65536x1024 .f32)
      (ix2 ⟨2048 * b.val + 64 * n.val + i.val, by omega⟩ j) = Gla.layerAt (rW m c) (rX m c) b n.val i j := by
  rw [final_eq]
  have hr : (⟨2048 * b.val + 64 * n.val + i.val, by omega⟩ : Fin 65536) = ⟨2048 * b.val + (rowOf n i).val, by omega⟩ := Fin.ext (Nat.add_assoc _ _ _)
  rw [hr]
  refine (v83_at (f2 m c) b (rowOf n i) j).trans ?_
  rw [wts_mid, rows_mid]
  show _ = Gla.out (rW m c) (chk (launchContents m c) b n) (Gla.stateB (rW m c) (rX m c) b n.val) i j
  unfold Gla.out
  refine congrArg₂ (fun x y : EReal => x + y) (congrFun (chk_row _ b n i) j) (Finset.sum_congr rfl fun h _ => Finset.sum_congr rfl fun e _ => congrArg (fun x : EReal => x * _) ?_)
  have h78 : p78 (f2 m c) = p78 (f1 m c) := after_of_writes_sub hostOps0_10 _ wr10_holds (by decide)
  have h17 : p17 (f1 m c) = p17 (f0 m c) := after_of_writes_sub hostOps0_9 _ wr9_holds (by decide)
  rw [h78, show f1 m c = after hostOps0_9 (f0 m c) from rfl, v78_at, wts_end]
  rw [show f2 m c = after hostOps0_10 (f1 m c) from rfl, v79_at, h17, f0_17, show rX m c b (rowOf n i) = chk (launchContents m c) b n i from chk_row _ b n i]
  unfold Gla.gated Gla.gateOf
  have hov : (fun e => p64 (after hostOps0_9 (f0 m c)) (ix4 b (rowOf n i) h e)) = Gla.o (rW m c) (chk (launchContents m c) b n) (Gla.stateB (rW m c) (rX m c) b n.val) h i :=
    funext fun e => f1_64 m c b h n i e
  rw [hov]

end

end Cert.ReferenceIdeal.Model
-- ==== Proof.Equation.lean ====
/-
  The two runs: the reference's arguments stay, and both programs leave the same array.
-/
module

public import proofs.«01_k».proof.Defs
public import proofs.«01_k».proof.Proof.KArray
public import proofs.«01_k».proof.Proof.RPost
public import Idealize.ShloMosaic.Adequacy
public import Idealize.ShloMosaic.Init

@[expose] public section

set_option maxRecDepth 16384

noncomputable section

namespace Cert.Proof

open Idealize.SL.Sem Idealize.ShloMosaic Idealize.ShloMosaic.TcCoe Idealize.ShloMosaic.StableHlo

section Reference
open Cert.ReferenceIdeal Cert.ReferenceIdeal.Gen Cert.ReferenceIdeal.Value Cert.ReferenceIdeal.Model

variable (m : (ℓ : Loc nD τ sig) → Buf (Elt Ideal) ℓ) (g : Dev nD → PrngReg)

/-- The run of the reference, read at its result and its arguments. -/
theorem reference_run : θ_run (defs (F := Ideal)) (onTc (τ := τ) (main (F := Ideal))) ⟨m, fun _ => 0, g⟩ (fun r => ∀ c : Dev nD,
      r.2.mem ((c.tc : Thread nD τ).loc main_v83) = finalContents condOps preI bodyI postI 32 m c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := Ideal)) _ _).mono
    (fun r h c => ⟨h c main_v83 rfl,
      (h c main_arg0 rfl).trans (arg_final m c (by simp)), (h c main_arg1 rfl).trans (arg_final m c (by simp)),
      (h c main_arg2 rfl).trans (arg_final m c (by simp)), (h c main_arg3 rfl).trans (arg_final m c (by simp)),
      (h c main_arg4 rfl).trans (arg_final m c (by simp)), (h c main_arg5 rfl).trans (arg_final m c (by simp)),
      (h c main_arg6 rfl).trans (arg_final m c (by simp))⟩)
    (run_fold (F := Ideal) m g)

end Reference

theorem frame_reference : Cert.quiescent_ReferenceIdeal := fun m g _ =>
  (θ_run Cert.ReferenceIdeal.defs _ _).mono (fun r h => ⟨fun c => (h c).2, sem_eq_zero_of_no_sems (by decide) r.2⟩) (reference_run m g)

/-- Every row of the result is a row of a chunk of a batch. -/
theorem row_split (R : Fin 65536) : ∃ (b n : Fin 32) (i : Fin 64), R = ⟨2048 * b.val + 64 * n.val + i.val, by omega⟩ :=
  ⟨⟨R.val / 2048, by omega⟩, ⟨R.val % 2048 / 64, by omega⟩, ⟨R.val % 64, by omega⟩, Fin.ext (by simp only; omega)⟩

/-- Both programs compute the same extended reals. -/
theorem equal_results : Cert.algebraic_KernelIdeal_ReferenceIdeal := by
  intro m g m' g' _ hag
  refine ⟨fun c => (Cert.KernelIdeal.Gen.dats m 0 c).arrAt 7 Cert.KernelIdeal.cfg0.N, Cert.KernelIdeal.Value.run_blocks m g,
    (θ_run Cert.ReferenceIdeal.defs _ _).mono (fun r h c => ⟨(h c).1.trans ?_, (h c).2⟩) (reference_run m' g')⟩
  obtain ⟨h0, h1, h2, h3, h4, h5, h6⟩ := hag c
  have hw : Cert.ReferenceIdeal.Model.rW m' c = Cert.KernelIdeal.Model.wts m c := by
    show Gla.W.mk _ _ _ _ _ _ = Gla.W.mk _ _ _ _ _ _
    exact congr (congr (congr (congr (congr (congrArg Gla.W.mk (funext fun d => congrFun h1 (ix1 d))) (funext fun d => funext fun j => congrFun h2 (ix2 d j)))
      (funext fun d => funext fun j => congrFun h3 (ix2 d j))) (funext fun d => congrFun h4 (ix1 d))) (funext fun d => congrFun h5 (ix1 d)))
      (funext fun d => funext fun j => congrFun h6 (ix2 d j))
  have hx : Cert.ReferenceIdeal.Model.rX m' c = Cert.KernelIdeal.Model.rows m c :=
    funext fun b => funext fun r => funext fun d => congrFun h0 (ix3 b r d)
  refine funext fun k => ?_
  obtain ⟨R, j, rfl⟩ : ∃ (R : Fin 65536) (j : Fin 1024), k = ix2 R j := ⟨k 0, k 1, by funext a; fin_cases a <;> rfl⟩
  obtain ⟨b, n, i, rfl⟩ := row_split R
  refine (Cert.ReferenceIdeal.Model.result_at m' c b n i j).trans ?_
  rw [hw, hx]
  exact (Cert.KernelIdeal.Model.array_at m c b n i j).symm

end Cert.Proof
-- ==== Proof.FModel.lean ====
/-
  What one grid point of the second kernel computes, written once for all its tiles and column blocks.

  A grid point holds 512 rows.  The printed body spells out every tile it moves through its scratch and every block of
  256 columns; here each of them is one definition with the tile's or the block's number as an argument.

  The body reorders its rows before the wide product: row `64 s + v` goes to place `8 v + s`.  So eight neighbouring
  places hold rows that are 64 apart, and the row before a place's own is found eight places earlier.  After the product
  back to the narrow width the rows are put in order again.  Both moves go through a scratch of 576 rows, in which the
  eight runs of 64 rows lie 72 apart.
-/
module

public import proofs.«01_k».proof.Proof.Gen.Kernel2Ideal.Frame.RunA

@[expose] public section

set_option maxRecDepth 16384

noncomputable section

namespace Cert.Kernel2Ideal.Model

open Idealize.ShloMosaic Idealize.ShloMosaic.TcCoe
open Cert.Kernel2Ideal Cert.Kernel2Ideal.Gen

variable {F : FTy → Type} [FloatOps F]

/-! ## Where the tiles lie -/

theorem slRun : ∀ s l : Fin 8, S512x1024.Slices ![64 * s.val, 128 * l.val] S64x128 := by decide
theorem slOct : ∀ (v : Fin 64) (l : Fin 8), S512x1024.Slices ![8 * v.val, 128 * l.val] S8x128 := by decide
theorem inbRun : ∀ (s l : Fin 8) (a : Fin 3), (![l.val, 72 * s.val, 0] : Fin 3 → ℕ) a + S1x64x128.size a ≤ S8x576x128.size a := by decide
theorem inbOct : ∀ (v : Fin 64) (l : Fin 8) (a : Fin 3), S1x8x128.size a = 0 ∨
    (![l.val, v.val, 0] : Fin 3 → ℕ) a + (![1, 72, 1] : Fin 3 → ℕ) a * (S1x8x128.size a - 1) < S8x576x128.size a := by decide
theorem inbSlot : ∀ (k : Fin 22) (a : Fin 3), (![k.val, 0, 0] : Fin 3 → ℕ) a + S1x16x256.size a ≤ S22x16x256.size a := by decide
theorem inbAct : ∀ (c : Fin 11) (a : Fin 2), (![0, 256 * c.val] : Fin 2 → ℕ) a + S512x256.size a ≤ S512x2816.size a := by decide

theorem catEight : ∀ f : Fin 8 → Vec F S8x128 .f32,
    Shape.Concatenates ((List.ofFn fun n : Fin 8 => (⟨S8x128, f n⟩ : (s : Shape) × (s.Idx → Elt F .f32))).map (·.1)) S8x1024 1 :=
  fun f => concatenates_S8x128_S8x128_S8x128_S8x128_S8x128_S8x128_S8x128_S8x128_S8x1024_d1
theorem catRow : ∀ f : Fin 64 → Vec F S8x1024 .f32,
    Shape.Concatenates ((List.ofFn fun n : Fin 64 => (⟨S8x1024, f n⟩ : (s : Shape) × (s.Idx → Elt F .f32))).map (·.1)) S512x1024 0 := by
  intro f
  rw [List.map_ofFn]
  show Shape.Concatenates (List.ofFn fun _ : Fin 64 => S8x1024) S512x1024 0
  decide
theorem catRuns : ∀ f : Fin 8 → Vec F S64x128 .f32,
    Shape.Concatenates ((List.ofFn fun n : Fin 8 => (⟨S64x128, f n⟩ : (s : Shape) × (s.Idx → Elt F .f32))).map (·.1)) S64x1024 1 :=
  fun f => concatenates_S64x128_S64x128_S64x128_S64x128_S64x128_S64x128_S64x128_S64x128_S64x1024_d1
theorem catAll : ∀ f : Fin 8 → Vec F S64x1024 .f32,
    Shape.Concatenates ((List.ofFn fun n : Fin 8 => (⟨S64x1024, f n⟩ : (s : Shape) × (s.Idx → Elt F .f32))).map (·.1)) S512x1024 0 :=
  fun f => concatenates_S64x1024_S64x1024_S64x1024_S64x1024_S64x1024_S64x1024_S64x1024_S64x1024_S512x1024_d0

/-! ## What a point reads -/

/-- What a grid point reads: its rows and the layer's weights, the wide ones a block of 256 columns at a time. -/
structure Pt (F : FTy → Type) where
  x : Vec F S512x1024 .f32
  mx : Vec F S512x1024 .bf16
  wmix : Vec F S1024x1024 .bf16
  p : Vec F S1x512x256 .f32
  gf : Vec F S1x1024 .f32
  wup : Fin 22 → Vec F S1024x256 .bf16
  wdw : Fin 22 → Vec F S3x256 .f32
  bdw : Fin 22 → Vec F S1x256 .f32
  wdn : Vec F S2816x1024 .bf16
  gp : Vec F S1x1024 .f32
  wg : Vec F S1024x1024 .bf16
  bg : Vec F S1x1024 .f32
  wp : Vec F S256x1024 .bf16
  gfin : Vec F S1x1024 .f32

/-! ## Rows in and out of the scratch -/

/-- The row tile `s` of the lane tile `l` of `a`, and the place in the scratch it is written at. -/
def runPiece (a : Vec F S512x1024 .f32) (s l : Fin 8) : View.Piece (Elt F) S8x576x128 .f32 :=
  ⟨Rect.unit (s := S8x576x128) ![l.val, 72 * s.val, 0] S1x64x128.size (inbRun s l),
    shapeCast S1x64x128 (extractStridedSlice S64x128 ![64 * s.val, 128 * l.val] a (slRun s l)) shapeCasts_S64x128_S1x64x128⟩

/-- The first `n` row tiles written, the last one first. -/
def runs (a : Vec F S512x1024 .f32) : ℕ → List (View.Piece (Elt F) S8x576x128 .f32)
  | 0 => []
  | n + 1 => runPiece a (Fin.ofNat 8 n) (Fin.ofNat 8 (n / 8)) :: runs a n

/-- Places `v`, `v + 72`, … of the lane tile `l` of the scratch. -/
def octRect (v : Fin 64) (l : Fin 8) : LoadRect S8x576x128 := ⟨![l.val, v.val, 0], S1x8x128.size, ![1, 72, 1], inbOct v l⟩

/-- Eight rows of `a` and the places they are written at. -/
def octPiece (a : Vec F S512x1024 .f32) (v : Fin 64) (l : Fin 8) : View.Piece (Elt F) S8x576x128 .f32 :=
  ⟨⟨octRect v l, spos_1_72_1⟩,
    shapeCast S1x8x128 (extractStridedSlice S8x128 ![8 * v.val, 128 * l.val] a (slOct v l)) shapeCasts_S8x128_S1x8x128⟩

/-- The first `n` eights of rows written over `L`, the last one first. -/
def octs (L : List (View.Piece (Elt F) S8x576x128 .f32)) (a : Vec F S512x1024 .f32) : ℕ → List (View.Piece (Elt F) S8x576x128 .f32)
  | 0 => L
  | n + 1 => octPiece a (Fin.ofNat 64 n) (Fin.ofNat 8 (n / 64)) :: octs L a n

section
variable (arg19 : Memref sig .tc .vmem S8x576x128 .f32)

/-- Eight rows read from the scratch. -/
def octBack (L : List (View.Piece (Elt F) S8x576x128 .f32)) (v : Fin 64) : Vec F S8x1024 .f32 :=
  concatenate S8x1024 1 (List.ofFn fun l : Fin 8 => (⟨S8x128, shapeCast S8x128 (View.readCov arg19.view L (octRect v l))
    shapeCasts_S1x8x128_S8x128⟩ : (s : Shape) × (s.Idx → Elt F .f32))) (catEight _)

/-- All rows of `a`, reordered. -/
def spread (a : Vec F S512x1024 .f32) : Vec F S512x1024 .f32 :=
  concatenate S512x1024 0 (List.ofFn fun v : Fin 64 => (⟨S8x1024, octBack arg19 (runs a 64) v⟩ : (s : Shape) × (s.Idx → Elt F .f32)))
    (catRow _)

/-- A row tile read from the scratch. -/
def runBack (L : List (View.Piece (Elt F) S8x576x128 .f32)) (s : Fin 8) : Vec F S64x1024 .f32 :=
  concatenate S64x1024 1 (List.ofFn fun l : Fin 8 => (⟨S64x128, shapeCast S64x128 (View.readCov arg19.view L
    (Rect.unit (s := S8x576x128) ![l.val, 72 * s.val, 0] S1x64x128.size (inbRun s l)).toLoadRect)
    shapeCasts_S1x64x128_S64x128⟩ : (s : Shape) × (s.Idx → Elt F .f32))) (catRuns _)

/-- All rows of `a` put in order again, through a scratch that held `L`. -/
def gather (L : List (View.Piece (Elt F) S8x576x128 .f32)) (a : Vec F S512x1024 .f32) : Vec F S512x1024 .f32 :=
  concatenate S512x1024 0 (List.ofFn fun s : Fin 8 => (⟨S64x1024, runBack arg19 (octs L a 512) s⟩ : (s : Shape) × (s.Idx → Elt F .f32)))
    (catAll _)
end

/-! ## The feed-forward block -/

/-- The point's rows with the mixer's output added. -/
def mixed (Q : Pt F) : Vec F S512x1024 .f32 := k0_pay3 Q.x Q.mx Q.wmix
/-- The rows normalised. -/
def nrm (Q : Pt F) : Vec F S512x1024 .f32 := k0_pay4 Q.x Q.mx Q.wmix Q.gf

/-- Eight rows moved down by one: the last of `prev` above the first seven of `u`. -/
def wrap (prev u : Vec F S8x256 .f32) : Vec F S8x256 .f32 :=
  select (cmpi .eq (iota .tc S8x256 32 [0] iota_S8x256_d0_w32) (broadcast S8x256 0#32))
    (dynamicRotate 0 1#32 none prev rotates_S8x256_d0) (dynamicRotate 0 1#32 none u rotates_S8x256_d0)

section
variable (u : Vec F S512x256 .f32) (prev : Vec F S1x16x256 .f32)
/-- The first eight places of the rows moved down by one. -/
def top1 : Vec F S8x256 .f32 :=
  wrap (extractStridedSlice S8x256 ![8, 0] (shapeCast S16x256 prev shapeCasts_S1x16x256_S16x256) slices_S16x256_o8_0_S8x256)
    (extractStridedSlice S8x256 ![504, 0] u slices_S512x256_o504_0_S8x256)
/-- The first eight places of the rows moved down by two. -/
def top2 : Vec F S8x256 .f32 :=
  wrap (extractStridedSlice S8x256 ![0, 0] (shapeCast S16x256 prev shapeCasts_S1x16x256_S16x256) slices_S16x256_o0_0_S8x256)
    (extractStridedSlice S8x256 ![496, 0] u slices_S512x256_o496_0_S8x256)
/-- The rows moved down by one. -/
def back1 : Vec F S512x256 .f32 :=
  concatenate S512x256 0 [⟨S8x256, top1 u prev⟩, ⟨S504x256, extractStridedSlice S504x256 ![0, 0] u slices_S512x256_o0_0_S504x256⟩]
    concatenates_S8x256_S504x256_S512x256_d0
/-- The rows moved down by two. -/
def back2 : Vec F S512x256 .f32 :=
  concatenate S512x256 0 [⟨S8x256, top2 u prev⟩, ⟨S8x256, top1 u prev⟩,
    ⟨S496x256, extractStridedSlice S496x256 ![0, 0] u slices_S512x256_o0_0_S496x256⟩] concatenates_S8x256_S8x256_S496x256_S512x256_d0
/-- The depthwise convolution over three rows. -/
def conv3 (w : Vec F S3x256 .f32) (b : Vec F S1x256 .f32) : Vec F S512x256 .f32 :=
  addf (addf (addf
      (mulf (broadcastTo S512x256 (extractStridedSlice S1x256 ![0, 0] w slices_S3x256_o0_0_S1x256) broadcasts_S1x256_S512x256) (back2 u prev))
      (mulf (broadcastTo S512x256 (extractStridedSlice S1x256 ![1, 0] w slices_S3x256_o1_0_S1x256) broadcasts_S1x256_S512x256) (back1 u prev)))
      (mulf (broadcastTo S512x256 (extractStridedSlice S1x256 ![2, 0] w slices_S3x256_o2_0_S1x256) broadcasts_S1x256_S512x256) u))
    (broadcastTo S512x256 (shapeCast S1x256 b shapeCasts_S1x256_S1x256) broadcasts_S1x256_S512x256)
end

/-- The gated product of two convolved blocks. -/
def glu (a b : Vec F S512x256 .f32) : Vec F S512x256 .bf16 :=
  shapeCast S512x256 (truncf .bf16 (mulf (mulf a
    (divf (broadcast S512x256 (Scalar.ofBits .f32 0x3F800000#32 : F .f32))
      (addf (broadcast S512x256 (Scalar.ofBits .f32 0x3F800000#32 : F .f32))
        (exp (subf (broadcast S512x256 (Scalar.ofBits .f32 0x00000000#32 : F .f32)) a))))) b) bitsLt_bf16_f32)
    shapeCasts_S512x256_S512x256

section
variable (arg17 : Memref sig .tc .vmem S22x16x256 .f32) (arg18 : Memref sig .tc .vmem S512x2816 .bf16)
  (arg19 : Memref sig .tc .vmem S8x576x128 .f32) (Q : Pt F)

/-- The reordered normalised rows. -/
def hn : Vec F S512x1024 .bf16 := truncf .bf16 (spread arg19 (nrm Q)) bitsLt_bf16_f32
/-- Block `k` of the wide product. -/
def wide (k : Fin 22) : Vec F S512x256 .f32 := k0_pay294 (hn arg19 Q) (Q.wup k)

/-- The last sixteen places of block `k`, and where they are kept for the next point. -/
def keep (k : Fin 22) : View.Piece (Elt F) S22x16x256 .f32 :=
  ⟨Rect.unit (s := S22x16x256) ![k.val, 0, 0] S1x16x256.size (inbSlot k),
    shapeCast S1x16x256 (extractStridedSlice S16x256 ![496, 0] (wide arg19 Q k) slices_S512x256_o496_0_S16x256) shapeCasts_S16x256_S1x16x256⟩
/-- The first `n` blocks kept over `L`, the last one first. -/
def keeps (L : List (View.Piece (Elt F) S22x16x256 .f32)) : ℕ → List (View.Piece (Elt F) S22x16x256 .f32)
  | 0 => L
  | n + 1 => keep arg19 Q (Fin.ofNat 22 n) :: keeps L n

/-- The zeros the first point of a batch starts from. -/
def zeros : List (View.Piece (Elt F) S22x16x256 .f32) :=
  [⟨Rect.unit (s := S22x16x256) ![0, 0, 0] S22x16x256.size inb_S22x16x256_S22x16x256_0_0_0, k0_pay2⟩]
/-- What the first point of a batch finds kept. -/
def prevA (k : Fin 22) : Vec F S1x16x256 .f32 :=
  View.readCov arg17.view (keeps arg19 Q zeros k.val) (Rect.unit (s := S22x16x256) ![k.val, 0, 0] S1x16x256.size (inbSlot k)).toLoadRect

/-- Block `k` convolved. -/
def conv (prev : Fin 22 → Vec F S1x16x256 .f32) (k : Fin 22) : Vec F S512x256 .f32 :=
  conv3 (wide arg19 Q k) (prev k) (Q.wdw k) (Q.bdw k)

/-- Block `c` of the gated rows, and its place. -/
def actPiece (prev : Fin 22 → Vec F S1x16x256 .f32) (c : Fin 11) : View.Piece (Elt F) S512x2816 .bf16 :=
  ⟨Rect.unit (s := S512x2816) ![0, 256 * c.val] S512x256.size (inbAct c),
    glu (conv arg19 Q prev ⟨2 * c.val, by omega⟩) (conv arg19 Q prev ⟨2 * c.val + 1, by omega⟩)⟩
/-- The first `n` blocks of the gated rows, the last one first. -/
def acts (prev : Fin 22 → Vec F S1x16x256 .f32) : ℕ → List (View.Piece (Elt F) S512x2816 .bf16)
  | 0 => []
  | n + 1 => actPiece arg19 Q prev (Fin.ofNat 11 n) :: acts prev n
/-- The gated rows. -/
def act (prev : Fin 22 → Vec F S1x16x256 .f32) : Vec F S512x2816 .bf16 :=
  View.readCov arg18.view (acts arg19 Q prev 11) (Rect.unit (s := S512x2816) ![0, 0] S512x2816.size inb_S512x2816_S512x2816_0_0).toLoadRect
/-- The rows with the feed-forward block's output added. -/
def fed (prev : Fin 22 → Vec F S1x16x256 .f32) : Vec F S512x1024 .f32 :=
  addf (mixed Q) (gather arg19 (runs (nrm Q) 64) (k0_pay423 (act arg18 arg19 Q prev) Q.wdn))

/-! ## The per-layer embedding -/

/-- Rows divided by the root of their mean square, times weights. -/
def rmsRows (y : Vec F S512x1024 .f32) (g : Vec F S1x1024 .f32) : Vec F S512x1024 .f32 :=
  mulf (mulf y (broadcastTo S512x1024 (rsqrt (addf (divf
      (shapeCast S512x1 (multiReduction .add [1] S512 (mulf y y) 0x00000000#32 reduces_S512x1024_S512 (.inl rfl) rfl) shapeCasts_S512_S512x1)
      (broadcast S512x1 (Scalar.ofBits .f32 0x44800000#32 : F .f32))) (broadcast S512x1 (Scalar.ofBits .f32 0x358637BD#32 : F .f32))))
      broadcasts_S512x1_S512x1024))
    (broadcastTo S512x1024 (shapeCast S1x1024 g shapeCasts_S1x1024_S1x1024) broadcasts_S1x1024_S512x1024)

/-- The product the gate is made of. -/
def gateIn (y : Vec F S512x1024 .f32) : Vec F S512x1024 .f32 :=
  matmul dot_S512x1024_S1024x1024_S512x1024_1_0_0_1_n_n none (truncf .bf16 (rmsRows y Q.gp) bitsLt_bf16_f32)
    (shapeCast S1024x1024 Q.wg shapeCasts_S1024x1024_S1024x1024) (constant S512x1024 .f32 0x00000000#32)

/-- The point's result rows, from the rows after the feed-forward block. -/
def finish (y : Vec F S512x1024 .f32) : Vec F S512x1024 .f32 := k0_pay1 y (k0_pay1000 (gateIn Q y) Q.bg Q.p Q.wp) Q.gfin

/-- The result's one piece. -/
def outPieces (prev : Fin 22 → Vec F S1x16x256 .f32) : List (View.Piece (Elt F) S512x1024 .f32) :=
  [⟨Rect.unit (s := S512x1024) ![0, 0] S512x1024.size inb_S512x1024_S512x1024_0_0, finish Q (fed arg18 arg19 Q prev)⟩]

end

end Cert.Kernel2Ideal.Model
-- ==== Proof.FTile.lean ====
/-
  Rows in and out of the second kernel's scratch: the reordering and its inverse, at an index.
-/
module

public import proofs.«01_k».proof.Proof.FModel
public import Idealize.ShloMosaic.Lib.Pointwise
public import Idealize.ShloMosaic.Lib.Pipeline.CanonAppend

@[expose] public section

set_option maxRecDepth 16384

noncomputable section

namespace Cert.Kernel2Ideal.Model

open Idealize.ShloMosaic Idealize.ShloMosaic.TcCoe Idealize.ShloMosaic.Pointwise
open Cert.Kernel2Ideal Cert.Kernel2Ideal.Gen

/-- The place of row `r` after the reordering. -/
abbrev place (r : Fin 512) : Fin 512 := ⟨8 * (r.val % 64) + r.val / 64, by omega⟩

/-! ## The pieces -/

theorem runs_mem (a : Vec Ideal S512x1024 .f32) : ∀ n, ∀ p ∈ runs a n, ∃ s l, p = runPiece a s l
  | 0, p, hp => absurd hp List.not_mem_nil
  | n + 1, p, hp => by
    rcases List.mem_cons.mp hp with rfl | hp
    · exact ⟨_, _, rfl⟩
    · exact runs_mem a n p hp

theorem mem_runs (a : Vec Ideal S512x1024 .f32) : ∀ n k, k < n → runPiece a (Fin.ofNat 8 k) (Fin.ofNat 8 (k / 8)) ∈ runs a n
  | 0, k, hk => absurd hk (Nat.not_lt_zero k)
  | n + 1, k, hk => by
    rcases Nat.lt_succ_iff_lt_or_eq.mp hk with h | rfl
    · exact List.mem_cons_of_mem _ (mem_runs a n k h)
    · exact List.mem_cons_self

theorem octs_append (L : List (View.Piece (Elt Ideal) S8x576x128 .f32)) (a : Vec Ideal S512x1024 .f32) : ∀ n, octs L a n = octs [] a n ++ L
  | 0 => rfl
  | n + 1 => by
    show _ :: octs L a n = _
    rw [octs_append L a n]; rfl

theorem octs_mem (a : Vec Ideal S512x1024 .f32) : ∀ n, ∀ p ∈ octs [] a n, ∃ v l, p = octPiece a v l
  | 0, p, hp => absurd hp List.not_mem_nil
  | n + 1, p, hp => by
    rcases List.mem_cons.mp hp with rfl | hp
    · exact ⟨_, _, rfl⟩
    · exact octs_mem a n p hp

theorem mem_octs (a : Vec Ideal S512x1024 .f32) : ∀ n k, k < n → octPiece a (Fin.ofNat 64 k) (Fin.ofNat 8 (k / 64)) ∈ octs [] a n
  | 0, k, hk => absurd hk (Nat.not_lt_zero k)
  | n + 1, k, hk => by
    rcases Nat.lt_succ_iff_lt_or_eq.mp hk with h | rfl
    · exact List.mem_cons_of_mem _ (mem_octs a n k h)
    · exact List.mem_cons_self

/-! ## What the scratch holds -/

/-- The scratch after the row tiles: run `s` of lane tile `l` begins at row `72 s`. -/
def runAll (a : Vec Ideal S512x1024 .f32) : S8x576x128.Idx → EReal := fun y =>
  a (ix2 ⟨(64 * ((y 1).val / 72) + (y 1).val % 72) % 512, by omega⟩ ⟨(128 * (y 0).val + (y 2).val) % 1024, by omega⟩)

/-- The scratch after the eights of rows. -/
def octAll (a : Vec Ideal S512x1024 .f32) : S8x576x128.Idx → EReal := fun y =>
  a (ix2 ⟨(8 * ((y 1).val % 72) + (y 1).val / 72) % 512, by omega⟩ ⟨(128 * (y 0).val + (y 2).val) % 1024, by omega⟩)

theorem at_congr {a : Vec Ideal S512x1024 .f32} {i i' : Fin 512} {j j' : Fin 1024} (hi : i.val = i'.val) (hj : j.val = j'.val) :
    a (ix2 i j) = a (ix2 i' j') := by rw [Fin.ext hi, Fin.ext hj]

theorem runPiece_at (a : Vec Ideal S512x1024 .f32) (s l : Fin 8) (v : Fin 64) (e : Fin 128) :
    shapeCast S1x64x128 (extractStridedSlice S64x128 ![64 * s.val, 128 * l.val] a (slRun s l)) shapeCasts_S64x128_S1x64x128 (ix3 0 v e) =
      a (ix2 ⟨64 * s.val + v.val, by omega⟩ ⟨128 * l.val + e.val, by omega⟩) := by pointwise []

theorem octPiece_at (a : Vec Ideal S512x1024 .f32) (v : Fin 64) (l s : Fin 8) (e : Fin 128) :
    shapeCast S1x8x128 (extractStridedSlice S8x128 ![8 * v.val, 128 * l.val] a (slOct v l)) shapeCasts_S8x128_S1x8x128 (ix3 0 s e) =
      a (ix2 ⟨8 * v.val + s.val, by omega⟩ ⟨128 * l.val + e.val, by omega⟩) := by pointwise []

theorem runs_eq (a : Vec Ideal S512x1024 .f32) : ∀ p ∈ runs a 64, ∀ x : p.1.shape.Idx, p.2 x = runAll a (p.1.emb x) := by
  intro p hp x
  obtain ⟨s, l, rfl⟩ := runs_mem a 64 p hp
  obtain ⟨q, v, e, rfl⟩ : ∃ (q : Fin 1) (v : Fin 64) (e : Fin 128), x = ix3 q v e :=
    ⟨x 0, x 1, x 2, by funext b; match b with | ⟨0, _⟩ => rfl | ⟨1, _⟩ => rfl | ⟨2, _⟩ => rfl⟩
  obtain rfl : q = 0 := Subsingleton.elim _ _
  refine (runPiece_at a s l v e).trans ?_
  unfold runAll
  refine at_congr ?_ ?_
  · show 64 * s.val + v.val = (64 * ((72 * s.val + 1 * v.val) / 72) + (72 * s.val + 1 * v.val) % 72) % 512
    omega
  · show 128 * l.val + e.val = (128 * (l.val + 1 * 0) + (0 + 1 * e.val)) % 1024
    omega

theorem octs_eq (a : Vec Ideal S512x1024 .f32) : ∀ p ∈ octs [] a 512, ∀ x : p.1.shape.Idx, p.2 x = octAll a (p.1.emb x) := by
  intro p hp x
  obtain ⟨v, l, rfl⟩ := octs_mem a 512 p hp
  obtain ⟨q, s, e, rfl⟩ : ∃ (q : Fin 1) (s : Fin 8) (e : Fin 128), x = ix3 q s e :=
    ⟨x 0, x 1, x 2, by funext b; match b with | ⟨0, _⟩ => rfl | ⟨1, _⟩ => rfl | ⟨2, _⟩ => rfl⟩
  obtain rfl : q = 0 := Subsingleton.elim _ _
  refine (octPiece_at a v l s e).trans ?_
  unfold octAll
  refine at_congr ?_ ?_
  · show 8 * v.val + s.val = (8 * ((v.val + 72 * s.val) % 72) + (v.val + 72 * s.val) / 72) % 512
    have hd : (v.val + 72 * s.val) / 72 = s.val := by omega
    have hr : (v.val + 72 * s.val) % 72 = v.val := by omega
    omega
  · show 128 * l.val + e.val = (128 * (l.val + 1 * 0) + (0 + 1 * e.val)) % 1024
    omega

/-- A tile's elements lie under it. -/
theorem run_mem (a : Vec Ideal S512x1024 .f32) (s l : Fin 8) (v : Fin 64) (e : Fin 128) (y : S8x576x128.Idx)
    (h0 : (y 0).val = l.val) (h1 : (y 1).val = 72 * s.val + v.val) (h2 : (y 2).val = e.val) : ∃ p ∈ runs a 64, y ∈ p.1.set := by
  have hm := mem_runs a 64 (8 * l.val + s.val) (by omega)
  rw [show Fin.ofNat 8 (8 * l.val + s.val) = s from Fin.ext (by show (8 * l.val + s.val) % 8 = s.val; omega),
    show Fin.ofNat 8 ((8 * l.val + s.val) / 8) = l from Fin.ext (by show ((8 * l.val + s.val) / 8) % 8 = l.val; omega)] at hm
  refine ⟨_, hm, ?_⟩
  show y ∈ (Rect.unit (s := S8x576x128) ![l.val, 72 * s.val, 0] S1x64x128.size (inbRun s l)).set
  rw [Rect.mem_set_unit]
  intro b
  match b with
  | ⟨0, _⟩ => show l.val ≤ (y 0).val ∧ (y 0).val < l.val + 1; omega
  | ⟨1, _⟩ => show 72 * s.val ≤ (y 1).val ∧ (y 1).val < 72 * s.val + 64; omega
  | ⟨2, _⟩ => show 0 ≤ (y 2).val ∧ (y 2).val < 0 + 128; omega

theorem oct_mem (a : Vec Ideal S512x1024 .f32) (v : Fin 64) (l s : Fin 8) (e : Fin 128) (y : S8x576x128.Idx)
    (h0 : (y 0).val = l.val) (h1 : (y 1).val = 72 * s.val + v.val) (h2 : (y 2).val = e.val) : ∃ p ∈ octs [] a 512, y ∈ p.1.set := by
  have hm := mem_octs a 512 (64 * l.val + v.val) (by omega)
  rw [show Fin.ofNat 64 (64 * l.val + v.val) = v from Fin.ext (by show (64 * l.val + v.val) % 64 = v.val; omega),
    show Fin.ofNat 8 ((64 * l.val + v.val) / 64) = l from Fin.ext (by show ((64 * l.val + v.val) / 64) % 8 = l.val; omega)] at hm
  refine ⟨_, hm, ?_⟩
  have hy : y = (octPiece a v l).1.emb (ix3 0 s e) := by
    funext b
    apply Fin.ext
    match b with
    | ⟨0, _⟩ => show (y 0).val = l.val + 1 * 0; omega
    | ⟨1, _⟩ => show (y 1).val = v.val + 72 * s.val; omega
    | ⟨2, _⟩ => show (y 2).val = 0 + 1 * e.val; omega
  rw [hy, ← Rect.map_emb_univ]
  exact Finset.mem_map_of_mem _ (Finset.mem_univ _)

/-! ## Reading it back -/

section
variable (arg19 : Memref sig .tc .vmem S8x576x128 .f32)

theorem oct_cast (v : Vec Ideal S1x8x128 .f32) (s : Fin 8) (e : Fin 128) :
    shapeCast S8x128 v shapeCasts_S1x8x128_S8x128 (ix2 s e) = v (ix3 0 s e) := by pointwise []
theorem run_cast (w : Vec Ideal S1x64x128 .f32) (v : Fin 64) (e : Fin 128) :
    shapeCast S64x128 w shapeCasts_S1x64x128_S64x128 (ix2 v e) = w (ix3 0 v e) := by pointwise []

/-- Eight rows read from the scratch. -/
theorem octBack_at (a : Vec Ideal S512x1024 .f32) (v : Fin 64) (s : Fin 8) (d : Fin 1024) :
    octBack arg19 (runs a 64) v (ix2 s d) = a (ix2 ⟨64 * s.val + v.val, by omega⟩ d) := by
  unfold octBack
  refine (concatenate_ofFn_apply (t := S8x1024) (s₁ := S8x128) 1 (fun l : Fin 8 => shapeCast S8x128
    (View.readCov arg19.view (runs a 64) (octRect v l)) shapeCasts_S1x8x128_S8x128) _ rfl 128 rfl (ix2 s d)
    ⟨d.val / 128, by omega⟩ rfl (ix2 s ⟨d.val % 128, by omega⟩) rfl (fun b hb => ?_)).trans ?_
  · match b with
    | ⟨0, _⟩ => rfl
    | ⟨1, _⟩ => exact absurd rfl hb
  · refine (oct_cast _ s ⟨d.val % 128, by omega⟩).trans ?_
    rw [View.readCov_eq_canon']
    have e0 : ∀ y : S8x576x128.Idx, (y 0).val = d.val / 128 → (y 1).val = 72 * s.val + v.val → (y 2).val = d.val % 128 →
        View.canon (runs a 64) y = a (ix2 ⟨64 * s.val + v.val, by omega⟩ d) := by
      intro y h0 h1 h2
      rw [View.canon_apply_of_pieces (Val := Elt Ideal) (e := .f32) (runAll a) _ (runs_eq a) y
        (run_mem a s ⟨d.val / 128, by omega⟩ v ⟨d.val % 128, by omega⟩ y h0 h1 h2)]
      exact at_congr (by dsimp only; omega) (by dsimp only; omega)
    refine e0 _ ?_ ?_ ?_
    · show d.val / 128 + 1 * 0 = d.val / 128; omega
    · show v.val + 72 * s.val = 72 * s.val + v.val; omega
    · show 0 + 1 * (d.val % 128) = d.val % 128; omega

/-- The reordered rows: row `r` is found at its place. -/
theorem spread_at (a : Vec Ideal S512x1024 .f32) (r : Fin 512) (d : Fin 1024) : spread arg19 a (ix2 (place r) d) = a (ix2 r d) := by
  unfold spread
  refine (concatenate_ofFn_apply (t := S512x1024) (s₁ := S8x1024) 0 (fun v : Fin 64 => octBack arg19 (runs a 64) v) _ rfl 8 rfl
    (ix2 (place r) d) ⟨r.val % 64, by omega⟩ (by show (8 * (r.val % 64) + r.val / 64) / 8 = r.val % 64; omega) (ix2 ⟨r.val / 64, by omega⟩ d)
    (by show r.val / 64 = (8 * (r.val % 64) + r.val / 64) % 8; omega) (fun b hb => ?_)).trans ?_
  · match b with
    | ⟨0, _⟩ => exact absurd rfl hb
    | ⟨1, _⟩ => rfl
  · refine (octBack_at arg19 a _ _ d).trans (at_congr ?_ rfl)
    show 64 * (r.val / 64) + r.val % 64 = r.val
    omega

/-- A row tile read from the scratch. -/
theorem runBack_at (L : List (View.Piece (Elt Ideal) S8x576x128 .f32)) (a : Vec Ideal S512x1024 .f32) (s : Fin 8) (v : Fin 64) (d : Fin 1024) :
    runBack arg19 (octs L a 512) s (ix2 v d) = a (ix2 ⟨8 * v.val + s.val, by omega⟩ d) := by
  unfold runBack
  refine (concatenate_ofFn_apply (t := S64x1024) (s₁ := S64x128) 1 (fun l : Fin 8 => shapeCast S64x128
    (View.readCov arg19.view (octs L a 512) (Rect.unit (s := S8x576x128) ![l.val, 72 * s.val, 0] S1x64x128.size (inbRun s l)).toLoadRect)
    shapeCasts_S1x64x128_S64x128) _ rfl 128 rfl (ix2 v d)
    ⟨d.val / 128, by omega⟩ rfl (ix2 v ⟨d.val % 128, by omega⟩) rfl (fun b hb => ?_)).trans ?_
  · match b with
    | ⟨0, _⟩ => rfl
    | ⟨1, _⟩ => exact absurd rfl hb
  · refine (run_cast _ v ⟨d.val % 128, by omega⟩).trans ?_
    rw [View.readCov_eq_canon', octs_append L a 512]
    have e0 : ∀ y : S8x576x128.Idx, (y 0).val = d.val / 128 → (y 1).val = 72 * s.val + v.val → (y 2).val = d.val % 128 →
        View.canon (octs [] a 512 ++ L) y = a (ix2 ⟨8 * v.val + s.val, by omega⟩ d) := by
      intro y h0 h1 h2
      rw [View.canon_append_of_pieces (Val := Elt Ideal) (e := .f32) (octAll a) _ _ (octs_eq a) y
        (oct_mem a v ⟨d.val / 128, by omega⟩ s ⟨d.val % 128, by omega⟩ y h0 h1 h2)]
      have hd : (y 1).val / 72 = s.val := by omega
      have hr : (y 1).val % 72 = v.val := by omega
      exact at_congr (by dsimp only; omega) (by dsimp only; omega)
    refine e0 _ ?_ ?_ ?_
    · show d.val / 128 + 1 * 0 = d.val / 128; omega
    · show 72 * s.val + 1 * v.val = 72 * s.val + v.val; omega
    · show 0 + 1 * (d.val % 128) = d.val % 128; omega

/-- The rows in order again: row `r` comes from its place. -/
theorem gather_at (L : List (View.Piece (Elt Ideal) S8x576x128 .f32)) (a : Vec Ideal S512x1024 .f32) (r : Fin 512) (d : Fin 1024) :
    gather arg19 L a (ix2 r d) = a (ix2 (place r) d) := by
  unfold gather
  refine (concatenate_ofFn_apply (t := S512x1024) (s₁ := S64x1024) 0 (fun s : Fin 8 => runBack arg19 (octs L a 512) s) _ rfl 64 rfl
    (ix2 r d) ⟨r.val / 64, by omega⟩ rfl (ix2 ⟨r.val % 64, by omega⟩ d) rfl (fun b hb => ?_)).trans ?_
  · match b with
    | ⟨0, _⟩ => exact absurd rfl hb
    | ⟨1, _⟩ => rfl
  · exact runBack_at arg19 L a _ _ d

end

end Cert.Kernel2Ideal.Model
-- ==== Proof.FSpec.lean ====
/-
  The feed-forward half of a layer, over the extended reals: the mixer's output projected onto the stream, the gated
  feed-forward part with its short convolution, the per-layer embedding and the last normalisation.

  Everything is a function of one row, but the convolution, which also reads the two rows before it.
-/
module

public import Idealize.ShloMosaic.PureOps.Ideal

@[expose] public section

noncomputable section

namespace Cert.Ffn

open Idealize.ShloMosaic

/-- The weights. -/
structure W where
  wmix : Fin 1024 → Fin 1024 → EReal
  gf : Fin 1024 → EReal
  wup : Fin 1024 → Fin 5632 → EReal
  wdw : Fin 3 → Fin 5632 → EReal
  bdw : Fin 5632 → EReal
  wdn : Fin 2816 → Fin 1024 → EReal
  gp : Fin 1024 → EReal
  wg : Fin 1024 → Fin 1024 → EReal
  bg : Fin 1024 → EReal
  wp : Fin 256 → Fin 1024 → EReal
  gfin : Fin 1024 → EReal

/-- A row normalised and scaled by `g`. -/
def rms (g x : Fin 1024 → EReal) (d : Fin 1024) : EReal :=
  x d * Ideal.rsqrt (Ideal.div (∑ e, x e * x e) (Ideal.ofBits .f32 0x44800000#32) + Ideal.ofBits .f32 0x358637BD#32) * g d

/-- The logistic function. -/
def sigm (a : EReal) : EReal := Ideal.div 1 (1 + Ideal.exp (-a))

/-- The two halves of the widened row. -/
abbrev left (j : Fin 2816) : Fin 5632 := ⟨j.val, by omega⟩
abbrev right (j : Fin 2816) : Fin 5632 := ⟨2816 + j.val, by omega⟩

section
variable (P : W)

/-- The mixer's output `mx` of a row, projected and added to the row `x`. -/
def mixd (x mx : Fin 1024 → EReal) (d : Fin 1024) : EReal := x d + ∑ k, mx k * P.wmix k d
/-- A row widened. -/
def up (x : Fin 1024 → EReal) (j : Fin 5632) : EReal := ∑ d, rms P.gf x d * P.wup d j
/-- The convolution over a widened row and the two before it. -/
def conv (u2 u1 u0 : Fin 5632 → EReal) (j : Fin 5632) : EReal := P.wdw 0 j * u2 j + P.wdw 1 j * u1 j + P.wdw 2 j * u0 j + P.bdw j
/-- The gated activation. -/
def act (c : Fin 5632 → EReal) (j : Fin 2816) : EReal := c (left j) * sigm (c (left j)) * c (right j)
/-- The feed-forward part added to the row `y`. -/
def down (y : Fin 1024 → EReal) (a : Fin 2816 → EReal) (d : Fin 1024) : EReal := y d + ∑ k, a k * P.wdn k d
/-- The embedding's gate. -/
def gate (y : Fin 1024 → EReal) (d : Fin 1024) : EReal := sigm ((∑ k, rms P.gp y k * P.wg k d) + P.bg d)
/-- The gated embedding added to the row. -/
def embed (y : Fin 1024 → EReal) (p : Fin 256 → EReal) (d : Fin 1024) : EReal := y d + (∑ k, p k * P.wp k d) * gate P y d
/-- A result row, from the row, its two predecessors widened, and its embedding. -/
def out (y : Fin 1024 → EReal) (u2 u1 : Fin 5632 → EReal) (p : Fin 256 → EReal) : Fin 1024 → EReal :=
  rms P.gfin (embed P (down P y (act (conv P u2 u1 (up P y)))) p)

/-- The widened row `k` places before row `r`, zero before the first row. -/
def back (Y : Fin 2048 → Fin 1024 → EReal) (k : ℕ) (r : Fin 2048) (j : Fin 5632) : EReal :=
  if k ≤ r.val then up P (Y ⟨r.val - k, by omega⟩) j else 0

/-- One row of the result for a batch element with rows `Y` (the mixer's output added) and embeddings `E`. -/
def layer (Y : Fin 2048 → Fin 1024 → EReal) (E : Fin 2048 → Fin 256 → EReal) (r : Fin 2048) : Fin 1024 → EReal :=
  out P (Y r) (back P Y 2 r) (back P Y 1 r) (E r)

end

end Cert.Ffn
-- ==== Proof.FRows.lean ====
/-
  A grid point of the second kernel, row by row: the rows before each row, its convolution and its gated row.
-/
module

public import proofs.«01_k».proof.Proof.FTile
public import proofs.«01_k».proof.Proof.FSpec

@[expose] public section

set_option maxRecDepth 16384

noncomputable section

namespace Cert.Kernel2Ideal.Model

open Idealize.ShloMosaic Idealize.ShloMosaic.TcCoe Idealize.ShloMosaic.Pointwise
open Cert.Kernel2Ideal Cert.Kernel2Ideal.Gen

/-! ## Rows moved down -/

theorem iota_bit : ∀ s : Fin 8, IntOp.cmpi .eq (BitVec.ofNat 32 s.val) 0#32 = if s.val = 0 then 1#1 else 0#1 := by decide +kernel

theorem wrap_first (prev u : Vec Ideal S8x256 .f32) (j : Fin 256) : wrap prev u (ix2 0 j) = prev (ix2 7 j) := by
  pointwise [wrap]

theorem wrap_next (prev u : Vec Ideal S8x256 .f32) (s : Fin 8) (hs : s.val ≠ 0) (j : Fin 256) :
    wrap prev u (ix2 s j) = u (ix2 ⟨s.val - 1, by omega⟩ j) := by
  pointwise [wrap]
  rw [iota_bit, if_neg hs]
  refine Eq.trans (by simp [Scalar.select]) (?_ : u (ix2 ⟨(s.val + 8 - 1) % 8, by omega⟩ j) = _)
  have e : ∀ i : Fin 8, i.val = s.val - 1 → u (ix2 i j) = u (ix2 ⟨s.val - 1, by omega⟩ j) := by
    intro i h; rw [Fin.ext (b := ⟨s.val - 1, by omega⟩) h]
  exact e _ (by dsimp only; omega)

section
variable (u : Vec Ideal S512x256 .f32) (prev : Vec Ideal S1x16x256 .f32)

theorem top1_first (j : Fin 256) : top1 u prev (ix2 0 j) = prev (ix3 0 15 j) := by
  refine (wrap_first _ _ j).trans ?_
  pointwise []
theorem top2_first (j : Fin 256) : top2 u prev (ix2 0 j) = prev (ix3 0 7 j) := by
  refine (wrap_first _ _ j).trans ?_
  pointwise []
theorem top1_next (s : Fin 8) (hs : s.val ≠ 0) (j : Fin 256) : top1 u prev (ix2 s j) = u (ix2 ⟨504 + (s.val - 1), by omega⟩ j) := by
  refine (wrap_next _ _ s hs j).trans ?_
  pointwise []
theorem top2_next (s : Fin 8) (hs : s.val ≠ 0) (j : Fin 256) : top2 u prev (ix2 s j) = u (ix2 ⟨496 + (s.val - 1), by omega⟩ j) := by
  refine (wrap_next _ _ s hs j).trans ?_
  pointwise []

theorem back1_low (i : Fin 512) (hi : i.val < 8) (j : Fin 256) : back1 u prev (ix2 i j) = top1 u prev (ix2 ⟨i.val, hi⟩ j) := by
  unfold back1
  generalize top1 u prev = a
  pointwise []
  rw [dif_pos hi]
theorem back1_high (i : Fin 512) (hi : 8 ≤ i.val) (j : Fin 256) : back1 u prev (ix2 i j) = u (ix2 ⟨i.val - 8, by omega⟩ j) := by
  unfold back1
  generalize top1 u prev = a
  pointwise []
  rw [dif_neg (by omega)]
theorem back2_low (i : Fin 512) (hi : i.val < 8) (j : Fin 256) : back2 u prev (ix2 i j) = top2 u prev (ix2 ⟨i.val, hi⟩ j) := by
  unfold back2
  generalize top1 u prev = a
  generalize top2 u prev = b
  pointwise []
  rw [dif_pos hi]
theorem back2_mid (i : Fin 512) (hi : 8 ≤ i.val) (hi' : i.val < 16) (j : Fin 256) :
    back2 u prev (ix2 i j) = top1 u prev (ix2 ⟨i.val - 8, by omega⟩ j) := by
  unfold back2
  generalize top1 u prev = a
  generalize top2 u prev = b
  pointwise []
  rw [dif_neg (by omega), dif_pos (by omega)]
theorem back2_high (i : Fin 512) (hi : 16 ≤ i.val) (j : Fin 256) : back2 u prev (ix2 i j) = u (ix2 ⟨i.val - 16, by omega⟩ j) := by
  unfold back2
  generalize top1 u prev = a
  generalize top2 u prev = b
  pointwise []
  rw [dif_neg (by omega), dif_neg (by omega)]
  have e : ∀ i' : Fin 512, i'.val = i.val - 16 → u (ix2 i' j) = u (ix2 ⟨i.val - 16, by omega⟩ j) := by
    intro i' h; rw [Fin.ext (b := ⟨i.val - 16, by omega⟩) h]
  exact e _ (by dsimp only; omega)

theorem conv3_at (w : Vec Ideal S3x256 .f32) (b : Vec Ideal S1x256 .f32) (i : Fin 512) (j : Fin 256) :
    conv3 u prev w b (ix2 i j) = w (ix2 0 j) * back2 u prev (ix2 i j) + w (ix2 1 j) * back1 u prev (ix2 i j) + w (ix2 2 j) * u (ix2 i j) + b (ix2 0 j) := by
  unfold conv3
  generalize back1 u prev = a1
  generalize back2 u prev = a2
  pointwise []
end

theorem glu_at (a b : Vec Ideal S512x256 .f32) (i : Fin 512) (j : Fin 256) :
    glu a b (ix2 i j) = a (ix2 i j) * Ffn.sigm (a (ix2 i j)) * b (ix2 i j) := by
  pointwise [glu, Ffn.sigm]
  rw [zero_sub]

/-! ## The point's rows -/

/-- Column `j` of block `k` of the widened row. -/
abbrev col (k : Fin 22) (j : Fin 256) : Fin 5632 := ⟨2816 * (k.val % 2) + 256 * (k.val / 2) + j.val, by omega⟩

/-- A point holds the layer's weights, the rows `X`, the mixer's rows `M` and the embeddings `E`. -/
structure Pt.Is (Q : Pt Ideal) (P : Ffn.W) (X M : Fin 512 → Fin 1024 → EReal) (E : Fin 512 → Fin 256 → EReal) : Prop where
  x : ∀ r d, Q.x (ix2 r d) = X r d
  mx : ∀ r d, Q.mx (ix2 r d) = M r d
  p : ∀ r e, Q.p (ix3 0 r e) = E r e
  wmix : ∀ k d, Q.wmix (ix2 k d) = P.wmix k d
  gf : ∀ d, Q.gf (ix2 0 d) = P.gf d
  wup : ∀ k d j, Q.wup k (ix2 d j) = P.wup d (col k j)
  wdw : ∀ k t j, Q.wdw k (ix2 t j) = P.wdw t (col k j)
  bdw : ∀ k j, Q.bdw k (ix2 0 j) = P.bdw (col k j)
  wdn : ∀ k d, Q.wdn (ix2 k d) = P.wdn k d
  gp : ∀ d, Q.gp (ix2 0 d) = P.gp d
  wg : ∀ k d, Q.wg (ix2 k d) = P.wg k d
  bg : ∀ d, Q.bg (ix2 0 d) = P.bg d
  wp : ∀ k d, Q.wp (ix2 k d) = P.wp k d
  gfin : ∀ d, Q.gfin (ix2 0 d) = P.gfin d

/-- The widened row before row `r`; `c` comes before the first. -/
def _root_.Cert.Ffn.before1 (P : Ffn.W) (Y : Fin 512 → Fin 1024 → EReal) (c : Fin 5632 → EReal) (r : Fin 512) (j : Fin 5632) : EReal :=
  if r.val = 0 then c j else Ffn.up P (Y ⟨r.val - 1, by omega⟩) j
/-- The widened row two before row `r`; `c'` and `c` come before the first. -/
def _root_.Cert.Ffn.before2 (P : Ffn.W) (Y : Fin 512 → Fin 1024 → EReal) (c' c : Fin 5632 → EReal) (r : Fin 512) (j : Fin 5632) : EReal :=
  if r.val = 0 then c' j else if r.val = 1 then c j else Ffn.up P (Y ⟨r.val - 2, by omega⟩) j

section
variable (arg17 : Memref sig .tc .vmem S22x16x256 .f32) (arg18 : Memref sig .tc .vmem S512x2816 .bf16)
  (arg19 : Memref sig .tc .vmem S8x576x128 .f32)
variable {Q : Pt Ideal} {P : Ffn.W} {X M : Fin 512 → Fin 1024 → EReal} {E : Fin 512 → Fin 256 → EReal} (hQ : Q.Is P X M E)

/-- The gated rows, from the block each column lies in. -/
def actAll (Q : Pt Ideal) (prev : Fin 22 → Vec Ideal S1x16x256 .f32) : S512x2816.Idx → EReal := fun y =>
  glu (conv arg19 Q prev ⟨2 * ((y 1).val / 256) % 22, by omega⟩) (conv arg19 Q prev ⟨(2 * ((y 1).val / 256) + 1) % 22, by omega⟩)
    (ix2 ⟨(y 0).val % 512, by omega⟩ ⟨(y 1).val % 256, by omega⟩)

theorem actAll_at (Q : Pt Ideal) (prev : Fin 22 → Vec Ideal S1x16x256 .f32) (y : S512x2816.Idx) (i : Fin 512) (c : Fin 11) (e : Fin 256)
    (h0 : (y 0).val = i.val) (h1 : (y 1).val = 256 * c.val + e.val) : actAll arg19 Q prev y =
      glu (conv arg19 Q prev ⟨2 * c.val, by omega⟩) (conv arg19 Q prev ⟨2 * c.val + 1, by omega⟩) (ix2 i e) := by
  unfold actAll
  have e1 : (⟨2 * ((y 1).val / 256) % 22, by omega⟩ : Fin 22) = ⟨2 * c.val, by omega⟩ := Fin.ext (by dsimp only; omega)
  have e2 : (⟨(2 * ((y 1).val / 256) + 1) % 22, by omega⟩ : Fin 22) = ⟨2 * c.val + 1, by omega⟩ := Fin.ext (by dsimp only; omega)
  have e3 : (⟨(y 0).val % 512, by omega⟩ : Fin 512) = i := Fin.ext (by dsimp only; omega)
  have e4 : (⟨(y 1).val % 256, by omega⟩ : Fin 256) = e := Fin.ext (by dsimp only; omega)
  rw [e1, e2, e3, e4]

theorem acts_mem (Q : Pt Ideal) (prev : Fin 22 → Vec Ideal S1x16x256 .f32) : ∀ n, ∀ p ∈ acts arg19 Q prev n, ∃ c, p = actPiece arg19 Q prev c
  | 0, p, hp => absurd hp List.not_mem_nil
  | n + 1, p, hp => by
    rcases List.mem_cons.mp hp with rfl | hp
    · exact ⟨_, rfl⟩
    · exact acts_mem Q prev n p hp

theorem mem_acts (Q : Pt Ideal) (prev : Fin 22 → Vec Ideal S1x16x256 .f32) : ∀ n k, k < n →
    actPiece arg19 Q prev (Fin.ofNat 11 k) ∈ acts arg19 Q prev n
  | 0, k, hk => absurd hk (Nat.not_lt_zero k)
  | n + 1, k, hk => by
    rcases Nat.lt_succ_iff_lt_or_eq.mp hk with h | rfl
    · exact List.mem_cons_of_mem _ (mem_acts Q prev n k h)
    · exact List.mem_cons_self

theorem acts_eq (Q : Pt Ideal) (prev : Fin 22 → Vec Ideal S1x16x256 .f32) :
    ∀ p ∈ acts arg19 Q prev 11, ∀ x : p.1.shape.Idx, p.2 x = actAll arg19 Q prev (p.1.emb x) := by
  intro p hp x
  obtain ⟨c, rfl⟩ := acts_mem arg19 Q prev 11 p hp
  obtain ⟨i, e, rfl⟩ : ∃ (i : Fin 512) (e : Fin 256), x = ix2 i e :=
    ⟨x 0, x 1, by funext b; match b with | ⟨0, _⟩ => rfl | ⟨1, _⟩ => rfl⟩
  refine (actAll_at arg19 Q prev _ i c e ?_ ?_).symm
  · show 0 + 1 * i.val = i.val; omega
  · show 256 * c.val + 1 * e.val = 256 * c.val + e.val; omega

theorem act_mem (Q : Pt Ideal) (prev : Fin 22 → Vec Ideal S1x16x256 .f32) (i : Fin 512) (j : Fin 2816) :
    ∃ p ∈ acts arg19 Q prev 11, (ix2 i j : S512x2816.Idx) ∈ p.1.set := by
  refine ⟨_, mem_acts arg19 Q prev 11 (j.val / 256) (by omega), ?_⟩
  show (ix2 i j : S512x2816.Idx) ∈ (Rect.unit (s := S512x2816) ![0, 256 * (Fin.ofNat 11 (j.val / 256)).val] S512x256.size (inbAct _)).set
  rw [Rect.mem_set_unit]
  have e : (Fin.ofNat 11 (j.val / 256)).val = j.val / 256 := by show j.val / 256 % 11 = j.val / 256; omega
  intro b
  match b with
  | ⟨0, _⟩ => show 0 ≤ i.val ∧ i.val < 0 + 512; omega
  | ⟨1, _⟩ => show 256 * (Fin.ofNat 11 (j.val / 256)).val ≤ j.val ∧ j.val < 256 * (Fin.ofNat 11 (j.val / 256)).val + 256; omega

theorem act_whole (Q : Pt Ideal) (prev : Fin 22 → Vec Ideal S1x16x256 .f32) (i : Fin 512) (j : Fin 2816) : act arg18 arg19 Q prev (ix2 i j) = actAll arg19 Q prev (ix2 i j) := by
  unfold act
  rw [View.readCov_eq_canon']
  have hi : (Rect.unit (s := S512x2816) ![0, 0] S512x2816.size inb_S512x2816_S512x2816_0_0).toLoadRect.idx (ix2 i j) = ix2 i j := by
    funext b
    apply Fin.ext
    match b with
    | ⟨0, _⟩ => show 0 + 1 * i.val = i.val; omega
    | ⟨1, _⟩ => show 0 + 1 * j.val = j.val; omega
  refine (congrArg (View.canon (acts arg19 Q prev 11)) hi).trans ?_
  exact View.canon_apply_of_pieces (Val := Elt Ideal) (e := .bf16) (actAll arg19 Q prev) _ (acts_eq arg19 Q prev) _
    (act_mem arg19 Q prev i j)

/-- The rows with the mixer's output added. -/
abbrev Ys (P : Ffn.W) (X M : Fin 512 → Fin 1024 → EReal) (r : Fin 512) : Fin 1024 → EReal := Ffn.mixd P (X r) (M r)

include hQ

theorem mixed_eq (r : Fin 512) (d : Fin 1024) : mixed Q (ix2 r d) = Ys P X M r d := by
  pointwise [mixed, k0_pay3, Ffn.mixd]
  simp only [hQ.x, hQ.mx, hQ.wmix]

theorem nrm_eq (r : Fin 512) (d : Fin 1024) : nrm Q (ix2 r d) = Ffn.rms P.gf (Ys P X M r) d := by
  have h := mixed_eq hQ
  unfold mixed at h
  unfold nrm k0_pay4
  generalize k0_pay3 Q.x Q.mx Q.wmix = y at *
  pointwise [Ffn.rms]
  simp only [h, hQ.gf]

theorem hn_eq (r : Fin 512) (d : Fin 1024) : hn arg19 Q (ix2 (place r) d) = Ffn.rms P.gf (Ys P X M r) d :=
  (spread_at arg19 (nrm Q) r d).trans (nrm_eq hQ r d)

theorem wide_eq (k : Fin 22) (r : Fin 512) (j : Fin 256) : wide arg19 Q k (ix2 (place r) j) = Ffn.up P (Ys P X M r) (col k j) := by
  have h := hn_eq arg19 hQ r
  unfold wide k0_pay294
  generalize hn arg19 Q = a at *
  generalize place r = i at *
  pointwise [Ffn.up]
  simp only [h, hQ.wup]

theorem wide_row (k : Fin 22) (i : Fin 512) (r : Fin 512) (h : i = place r) (j : Fin 256) :
    wide arg19 Q k (ix2 i j) = Ffn.up P (Ys P X M r) (col k j) := by rw [h, wide_eq arg19 hQ]

section
variable {prev : Fin 22 → Vec Ideal S1x16x256 .f32} {c' c : Fin 5632 → EReal} (h7 : ∀ k j, prev k (ix3 0 7 j) = c' (col k j))
  (h15 : ∀ k j, prev k (ix3 0 15 j) = c (col k j))

include h15
theorem back1_eq (k : Fin 22) (r : Fin 512) (j : Fin 256) :
    back1 (wide arg19 Q k) (prev k) (ix2 (place r) j) = Ffn.before1 P (Ys P X M) c r (col k j) := by
  unfold Ffn.before1
  by_cases hv : r.val % 64 = 0
  · rw [back1_low _ _ _ (by dsimp only; omega)]
    by_cases h0 : r.val = 0
    · rw [if_pos h0]
      have e : (⟨(place r).val, by dsimp only; omega⟩ : Fin 8) = 0 := Fin.ext (by show 8 * (r.val % 64) + r.val / 64 = 0; omega)
      rw [e, top1_first, h15]
    · rw [if_neg h0, top1_next _ _ _ (by dsimp only; omega)]
      exact wide_row arg19 hQ k _ _ (Fin.ext (by dsimp only; omega)) j
  · rw [back1_high _ _ _ (by dsimp only; omega), if_neg (by omega)]
    exact wide_row arg19 hQ k _ _ (Fin.ext (by dsimp only; omega)) j

include h7
theorem back2_eq (k : Fin 22) (r : Fin 512) (j : Fin 256) :
    back2 (wide arg19 Q k) (prev k) (ix2 (place r) j) = Ffn.before2 P (Ys P X M) c' c r (col k j) := by
  unfold Ffn.before2
  by_cases hv : r.val % 64 = 0
  · rw [back2_low _ _ _ (by dsimp only; omega)]
    by_cases h0 : r.val = 0
    · rw [if_pos h0]
      have e : (⟨(place r).val, by dsimp only; omega⟩ : Fin 8) = 0 := Fin.ext (by show 8 * (r.val % 64) + r.val / 64 = 0; omega)
      rw [e, top2_first, h7]
    · rw [if_neg h0, if_neg (by omega), top2_next _ _ _ (by dsimp only; omega)]
      exact wide_row arg19 hQ k _ _ (Fin.ext (by dsimp only; omega)) j
  · by_cases hw : r.val % 64 = 1
    · rw [back2_mid _ _ _ (by dsimp only; omega) (by dsimp only; omega), if_neg (by omega)]
      by_cases h0 : r.val = 1
      · rw [if_pos h0]
        have e : (⟨(place r).val - 8, by dsimp only; omega⟩ : Fin 8) = 0 :=
          Fin.ext (by show 8 * (r.val % 64) + r.val / 64 - 8 = 0; omega)
        rw [e, top1_first, h15]
      · rw [if_neg h0, top1_next _ _ _ (by dsimp only; omega)]
        exact wide_row arg19 hQ k _ _ (Fin.ext (by dsimp only; omega)) j
    · rw [back2_high _ _ _ (by dsimp only; omega), if_neg (by omega), if_neg (by omega)]
      exact wide_row arg19 hQ k _ _ (Fin.ext (by dsimp only; omega)) j

/-- Row `r` convolved. -/
abbrev cv (P : Ffn.W) (X M : Fin 512 → Fin 1024 → EReal) (c' c : Fin 5632 → EReal) (r : Fin 512) : Fin 5632 → EReal :=
  Ffn.conv P (Ffn.before2 P (Ys P X M) c' c r) (Ffn.before1 P (Ys P X M) c r) (Ffn.up P (Ys P X M r))

theorem conv_eq (k : Fin 22) (r : Fin 512) (j : Fin 256) : conv arg19 Q prev k (ix2 (place r) j) = cv P X M c' c r (col k j) := by
  unfold conv
  rw [conv3_at, back2_eq arg19 hQ h7 h15, back1_eq arg19 hQ h15, wide_eq arg19 hQ]
  simp only [hQ.wdw, hQ.bdw]
  rfl

theorem act_eq (r : Fin 512) (i : Fin 2816) : act arg18 arg19 Q prev (ix2 (place r) i) = Ffn.act (cv P X M c' c r) i := by
  rw [act_whole, actAll_at arg19 Q prev (ix2 (place r) i) (place r) ⟨i.val / 256, by omega⟩ ⟨i.val % 256, by omega⟩ rfl
    (by show i.val = 256 * (i.val / 256) + i.val % 256; omega), glu_at, conv_eq arg19 hQ h7 h15, conv_eq arg19 hQ h7 h15]
  unfold Ffn.act
  have el : col ⟨2 * (i.val / 256), by omega⟩ ⟨i.val % 256, by omega⟩ = Ffn.left i := Fin.ext (by dsimp only; omega)
  have er : col ⟨2 * (i.val / 256) + 1, by omega⟩ ⟨i.val % 256, by omega⟩ = Ffn.right i := Fin.ext (by dsimp only; omega)
  rw [el, er]

theorem fed_eq (r : Fin 512) (d : Fin 1024) : fed arg18 arg19 Q prev (ix2 r d) = Ffn.down P (Ys P X M r) (Ffn.act (cv P X M c' c r)) d := by
  have hd : k0_pay423 (act arg18 arg19 Q prev) Q.wdn (ix2 (place r) d) = ∑ k, Ffn.act (cv P X M c' c r) k * P.wdn k d := by
    have h := act_eq arg18 arg19 hQ h7 h15 r
    generalize act arg18 arg19 Q prev = a at *
    generalize place r = i at *
    pointwise [k0_pay423]
    simp only [h, hQ.wdn]
  unfold fed Ffn.down
  refine congrArg₂ (fun x y : EReal => x + y) (mixed_eq hQ r d) ?_
  exact (gather_at arg19 _ _ r d).trans hd
end

theorem rmsRows_eq (y : Vec Ideal S512x1024 .f32) (Y : Fin 512 → Fin 1024 → EReal) (hy : ∀ r d, y (ix2 r d) = Y r d) (r : Fin 512) (d : Fin 1024) :
    rmsRows y Q.gp (ix2 r d) = Ffn.rms P.gp (Y r) d := by
  pointwise [rmsRows, Ffn.rms]
  simp only [hy, hQ.gp]

theorem gateIn_eq (y : Vec Ideal S512x1024 .f32) (Y : Fin 512 → Fin 1024 → EReal) (hy : ∀ r d, y (ix2 r d) = Y r d) (r : Fin 512) (d : Fin 1024) :
    gateIn Q y (ix2 r d) = ∑ k, Ffn.rms P.gp (Y r) k * P.wg k d := by
  have h := rmsRows_eq hQ y Y hy
  unfold gateIn
  generalize rmsRows y Q.gp = a at *
  pointwise []
  simp only [h, hQ.wg]

theorem emb_eq (y : Vec Ideal S512x1024 .f32) (Y : Fin 512 → Fin 1024 → EReal) (hy : ∀ r d, y (ix2 r d) = Y r d) (r : Fin 512) (d : Fin 1024) :
    k0_pay1000 (gateIn Q y) Q.bg Q.p Q.wp (ix2 r d) = (∑ k, E r k * P.wp k d) * Ffn.gate P (Y r) d := by
  have h := gateIn_eq hQ y Y hy
  generalize gateIn Q y = a at *
  pointwise [k0_pay1000, Ffn.gate, Ffn.sigm]
  simp only [h, hQ.bg, hQ.p, hQ.wp, zero_sub]

theorem finish_eq (y : Vec Ideal S512x1024 .f32) (Y : Fin 512 → Fin 1024 → EReal) (hy : ∀ r d, y (ix2 r d) = Y r d) (r : Fin 512) (d : Fin 1024) :
    finish Q y (ix2 r d) = Ffn.rms P.gfin (Ffn.embed P (Y r) (E r)) d := by
  have h := emb_eq hQ y Y hy
  unfold finish
  generalize k0_pay1000 (gateIn Q y) Q.bg Q.p Q.wp = a at *
  pointwise [k0_pay1, Ffn.rms, Ffn.embed]
  simp only [h, hy, hQ.gfin]

end

/-! ## What is kept for the next point -/

section
variable (arg17 : Memref sig .tc .vmem S22x16x256 .f32) (arg19 : Memref sig .tc .vmem S8x576x128 .f32) (Q : Pt Ideal)

theorem keeps_append (L : List (View.Piece (Elt Ideal) S22x16x256 .f32)) : ∀ n, keeps arg19 Q L n = keeps arg19 Q [] n ++ L
  | 0 => rfl
  | n + 1 => by
    show _ :: keeps arg19 Q L n = _
    rw [keeps_append L n]; rfl

theorem keeps_mem : ∀ n, n ≤ 22 → ∀ p ∈ keeps arg19 Q [] n, ∃ k : Fin 22, k.val < n ∧ p = keep arg19 Q k
  | 0, _, p, hp => absurd hp List.not_mem_nil
  | n + 1, hn, p, hp => by
    rcases List.mem_cons.mp hp with rfl | hp
    · exact ⟨Fin.ofNat 22 n, by show n % 22 < n + 1; omega, rfl⟩
    · obtain ⟨k, hk, h⟩ := keeps_mem n (by omega) p hp
      exact ⟨k, by omega, h⟩

theorem mem_keeps : ∀ n k, k < n → keep arg19 Q (Fin.ofNat 22 k) ∈ keeps arg19 Q [] n
  | 0, k, hk => absurd hk (Nat.not_lt_zero k)
  | n + 1, k, hk => by
    rcases Nat.lt_succ_iff_lt_or_eq.mp hk with h | rfl
    · exact List.mem_cons_of_mem _ (mem_keeps n k h)
    · exact List.mem_cons_self

/-- The last sixteen places of every block. -/
def keptAll : S22x16x256.Idx → EReal := fun y =>
  wide arg19 Q ⟨(y 0).val % 22, by omega⟩ (ix2 ⟨(496 + (y 1).val) % 512, by omega⟩ ⟨(y 2).val % 256, by omega⟩)

theorem keptAll_at (y : S22x16x256.Idx) (k : Fin 22) (i : Fin 16) (j : Fin 256) (h0 : (y 0).val = k.val) (h1 : (y 1).val = i.val)
    (h2 : (y 2).val = j.val) : keptAll arg19 Q y = wide arg19 Q k (ix2 ⟨496 + i.val, by omega⟩ j) := by
  unfold keptAll
  have e1 : (⟨(y 0).val % 22, by omega⟩ : Fin 22) = k := Fin.ext (by dsimp only; omega)
  have e2 : (⟨(496 + (y 1).val) % 512, by omega⟩ : Fin 512) = ⟨496 + i.val, by omega⟩ := Fin.ext (by dsimp only; omega)
  have e3 : (⟨(y 2).val % 256, by omega⟩ : Fin 256) = j := Fin.ext (by dsimp only; omega)
  rw [e1, e2, e3]

theorem keep_val (u : Vec Ideal S512x256 .f32) (i : Fin 16) (j : Fin 256) :
    shapeCast S1x16x256 (extractStridedSlice S16x256 ![496, 0] u slices_S512x256_o496_0_S16x256) shapeCasts_S16x256_S1x16x256 (ix3 0 i j) =
      u (ix2 ⟨496 + i.val, by omega⟩ j) := by pointwise []

theorem keeps_eq (n : ℕ) (hn : n ≤ 22) : ∀ p ∈ keeps arg19 Q [] n, ∀ x : p.1.shape.Idx, p.2 x = keptAll arg19 Q (p.1.emb x) := by
  intro p hp x
  obtain ⟨k, _, rfl⟩ := keeps_mem arg19 Q n hn p hp
  obtain ⟨q, i, j, rfl⟩ : ∃ (q : Fin 1) (i : Fin 16) (j : Fin 256), x = ix3 q i j :=
    ⟨x 0, x 1, x 2, by funext b; match b with | ⟨0, _⟩ => rfl | ⟨1, _⟩ => rfl | ⟨2, _⟩ => rfl⟩
  obtain rfl : q = 0 := Subsingleton.elim _ _
  refine (keep_val (wide arg19 Q k) i j).trans (keptAll_at arg19 Q _ k i j ?_ ?_ ?_).symm
  · show k.val + 1 * 0 = k.val; omega
  · show 0 + 1 * i.val = i.val; omega
  · show 0 + 1 * j.val = j.val; omega

theorem mem_slot (k k' : Fin 22) (i : Fin 16) (j : Fin 256) : (ix3 k i j : S22x16x256.Idx) ∈
    (Rect.unit (s := S22x16x256) ![k'.val, 0, 0] S1x16x256.size (inbSlot k')).set ↔ k = k' := by
  rw [Rect.mem_set_unit]
  constructor
  · intro h
    have h0 : k'.val ≤ k.val ∧ k.val < k'.val + 1 := h 0
    exact Fin.ext (by omega)
  · rintro rfl b
    match b with
    | ⟨0, _⟩ => show k.val ≤ k.val ∧ k.val < k.val + 1; omega
    | ⟨1, _⟩ => show 0 ≤ i.val ∧ i.val < 0 + 16; omega
    | ⟨2, _⟩ => show 0 ≤ j.val ∧ j.val < 0 + 256; omega

/-- What is kept, over whatever was there. -/
theorem kept_at (L : List (View.Piece (Elt Ideal) S22x16x256 .f32)) (k : Fin 22) (i : Fin 16) (j : Fin 256) :
    View.canon (keeps arg19 Q L 22) (ix3 k i j) = wide arg19 Q k (ix2 ⟨496 + i.val, by omega⟩ j) := by
  rw [keeps_append arg19 Q L 22]
  refine (View.canon_append_of_pieces (Val := Elt Ideal) (e := .f32) (keptAll arg19 Q) L _ (keeps_eq arg19 Q 22 le_rfl) _
    ⟨_, mem_keeps arg19 Q 22 k.val k.isLt, ?_⟩).trans (keptAll_at arg19 Q (ix3 k i j) k i j rfl rfl rfl)
  rw [show Fin.ofNat 22 k.val = k from Fin.ext (Nat.mod_eq_of_lt k.isLt)]
  exact (mem_slot k k i j).mpr rfl

theorem canon_skip (L' L : List (View.Piece (Elt Ideal) S22x16x256 .f32)) (y : S22x16x256.Idx) (h : ∀ p ∈ L', y ∉ p.1.set) :
    View.canon (L' ++ L) y = View.canon L y := by
  induction L' with
  | nil => rfl
  | cons p L' ih =>
    rw [List.cons_append, View.canon_cons_of_not_mem p (L' ++ L) (h p List.mem_cons_self)]
    exact ih fun q hq => h q (List.mem_cons_of_mem _ hq)

theorem zero_at (x : S22x16x256.Idx) : (k0_pay2 : FVec Ideal S22x16x256 .f32) x = 0 := by
  obtain ⟨k, i, j, rfl⟩ : ∃ (k : Fin 22) (i : Fin 16) (j : Fin 256), x = ix3 k i j :=
    ⟨x 0, x 1, x 2, by funext b; match b with | ⟨0, _⟩ => rfl | ⟨1, _⟩ => rfl | ⟨2, _⟩ => rfl⟩
  pointwise [k0_pay2]

/-- The first point of a batch finds zeros. -/
theorem prevA_eq (k : Fin 22) (i : Fin 16) (j : Fin 256) : prevA arg17 arg19 Q k (ix3 0 i j) = 0 := by
  unfold prevA
  rw [View.readCov_eq_canon', keeps_append arg19 Q zeros k.val]
  have e0 : ∀ y : S22x16x256.Idx, y = ix3 k i j → View.canon (keeps arg19 Q [] k.val ++ zeros) y = 0 := by
    rintro y rfl
    rw [canon_skip]
    · exact View.canon_apply_of_pieces (Val := Elt Ideal) (e := .f32) (fun _ => 0) zeros (fun p hp x => by
        obtain rfl := List.mem_singleton.mp hp
        exact zero_at x) (ix3 k i j) ⟨_, List.mem_singleton_self _, by
          rw [Rect.mem_set_unit]
          intro b
          match b with
          | ⟨0, _⟩ => show 0 ≤ k.val ∧ k.val < 0 + 22; omega
          | ⟨1, _⟩ => show 0 ≤ i.val ∧ i.val < 0 + 16; omega
          | ⟨2, _⟩ => show 0 ≤ j.val ∧ j.val < 0 + 256; omega⟩
    · intro p hp
      obtain ⟨k', hk, rfl⟩ := keeps_mem arg19 Q k.val (by omega) p hp
      intro h
      have := (mem_slot k k' i j).mp h
      rw [this] at hk
      exact Nat.lt_irrefl _ hk
  refine e0 _ ?_
  funext b
  apply Fin.ext
  match b with
  | ⟨0, _⟩ => show k.val + 1 * 0 = k.val; omega
  | ⟨1, _⟩ => show 0 + 1 * i.val = i.val; omega
  | ⟨2, _⟩ => show 0 + 1 * j.val = j.val; omega

end

end Cert.Kernel2Ideal.Model
-- ==== Proof.FGlue.lean ====
/-
  The printed body of the second kernel against the model: what a grid point writes, in either case, is the model's pieces.

  The first point of a batch (case A) starts from zeros, the others (case B) from the sixteen places of each block that
  the point before kept.
-/
module

public import proofs.«01_k».proof.Proof.FModel
public import proofs.«01_k».proof.Proof.Gen.Kernel2Ideal.Frame.RunB

@[expose] public section

set_option maxRecDepth 65536

noncomputable section

namespace Cert.Kernel2Ideal.Model

open Idealize.ShloMosaic Idealize.ShloMosaic.TcCoe
open Cert.Kernel2Ideal Cert.Kernel2Ideal.Gen

variable {F : FTy → Type} [FloatOps F]

/-! ## What a point loads -/

theorem inbUp : ∀ (k : Fin 22) (a : Fin 2),
    (![0, 2816 * (k.val % 2) + 256 * (k.val / 2)] : Fin 2 → ℕ) a + S1024x256.size a ≤ S1024x5632.size a := by decide
theorem inbDw : ∀ (k : Fin 22) (a : Fin 2),
    (![0, 2816 * (k.val % 2) + 256 * (k.val / 2)] : Fin 2 → ℕ) a + S3x256.size a ≤ S3x5632.size a := by decide
theorem inbBias : ∀ (k : Fin 22) (a : Fin 2),
    (![0, 2816 * (k.val % 2) + 256 * (k.val / 2)] : Fin 2 → ℕ) a + S1x256.size a ≤ S1x5632.size a := by decide

section
variable (c : Dev nD) (i : grid0.Coords)
  (arg2 : Memref sig .tc .vmem S512x1024 .f32) (harg2 : arg2.IsWhole) (arg3 : Memref sig .tc .vmem S512x1024 .bf16) (harg3 :
  arg3.IsWhole) (arg4 : Memref sig .tc .vmem S1024x1024 .bf16) (harg4 : arg4.IsWhole) (arg5 : Memref sig .tc .vmem S1x512x256
  .f32) (harg5 : arg5.IsWhole) (arg6 : Memref sig .tc .vmem S1x1024 .f32) (harg6 : arg6.IsWhole) (arg7 : Memref sig .tc .vmem
  S1024x5632 .bf16) (harg7 : arg7.IsWhole) (arg8 : Memref sig .tc .vmem S3x5632 .f32) (harg8 : arg8.IsWhole) (arg9 : Memref
  sig .tc .vmem S1x5632 .f32) (harg9 : arg9.IsWhole) (arg10 : Memref sig .tc .vmem S2816x1024 .bf16) (harg10 : arg10.IsWhole)
  (arg11 : Memref sig .tc .vmem S1x1024 .f32) (harg11 : arg11.IsWhole) (arg12 : Memref sig .tc .vmem S1024x1024 .bf16)
  (harg12 : arg12.IsWhole) (arg13 : Memref sig .tc .vmem S1x1024 .f32) (harg13 : arg13.IsWhole) (arg14 : Memref sig .tc .vmem
  S256x1024 .bf16) (harg14 : arg14.IsWhole) (arg15 : Memref sig .tc .vmem S1x1024 .f32) (harg15 : arg15.IsWhole)
  (arg16 : Memref sig .tc .vmem S512x1024 .f32) (harg16 : arg16.IsWhole) (arg17 : Memref sig .tc .vmem S22x16x256 .f32)
  (harg17 : arg17.IsWhole) (arg18 : Memref sig .tc .vmem S512x2816 .bf16) (harg18 : arg18.IsWhole) (arg19 : Memref sig .tc
  .vmem S8x576x128 .f32) (harg19 : arg19.IsWhole)
  (x0 : Vec F S512x1024 .f32) (x1 : Vec F S512x1024 .bf16) (x2 : Vec F S1024x1024 .bf16) (x3 : Vec F S1x512x256 .f32) (x4 :
  Vec F S1x1024 .f32) (x5 : Vec F S1024x5632 .bf16) (x6 : Vec F S3x5632 .f32) (x7 : Vec F S1x5632 .f32) (x8 : Vec F
  S2816x1024 .bf16) (x9 : Vec F S1x1024 .f32) (x10 : Vec F S1024x1024 .bf16) (x11 : Vec F S1x1024 .f32) (x12 : Vec F
  S256x1024 .bf16) (x13 : Vec F S1x1024 .f32)
  (xs0 : Vec F S22x16x256 .f32)

/-- What a point loads: its blocks, the wide weights by blocks of 256 columns, the even blocks from the left half and the
    odd ones from the right. -/
def pt : Pt F where
  x := View.readAt (Elt F) arg2.view (Rect.unit (s := S512x1024) ![0, 0] S512x1024.size inb_S512x1024_S512x1024_0_0).toLoadRect (harg2.unread x0)
  mx := View.readAt (Elt F) arg3.view (Rect.unit (s := S512x1024) ![0, 0] S512x1024.size inb_S512x1024_S512x1024_0_0).toLoadRect (harg3.unread x1)
  wmix := View.readAt (Elt F) arg4.view (Rect.unit (s := S1024x1024) ![0, 0] S1024x1024.size inb_S1024x1024_S1024x1024_0_0).toLoadRect (harg4.unread x2)
  p := View.readAt (Elt F) arg5.view (Rect.unit (s := S1x512x256) ![0, 0, 0] S1x512x256.size inb_S1x512x256_S1x512x256_0_0_0).toLoadRect (harg5.unread x3)
  gf := View.readAt (Elt F) arg6.view (Rect.unit (s := S1x1024) ![0, 0] S1x1024.size inb_S1x1024_S1x1024_0_0).toLoadRect (harg6.unread x4)
  wup k := View.readAt (Elt F) arg7.view (Rect.unit (s := S1024x5632) ![0, 2816 * (k.val % 2) + 256 * (k.val / 2)] S1024x256.size (inbUp k)).toLoadRect (harg7.unread x5)
  wdw k := View.readAt (Elt F) arg8.view (Rect.unit (s := S3x5632) ![0, 2816 * (k.val % 2) + 256 * (k.val / 2)] S3x256.size (inbDw k)).toLoadRect (harg8.unread x6)
  bdw k := View.readAt (Elt F) arg9.view (Rect.unit (s := S1x5632) ![0, 2816 * (k.val % 2) + 256 * (k.val / 2)] S1x256.size (inbBias k)).toLoadRect (harg9.unread x7)
  wdn := View.readAt (Elt F) arg10.view (Rect.unit (s := S2816x1024) ![0, 0] S2816x1024.size inb_S2816x1024_S2816x1024_0_0).toLoadRect (harg10.unread x8)
  gp := View.readAt (Elt F) arg11.view (Rect.unit (s := S1x1024) ![0, 0] S1x1024.size inb_S1x1024_S1x1024_0_0).toLoadRect (harg11.unread x9)
  wg := View.readAt (Elt F) arg12.view (Rect.unit (s := S1024x1024) ![0, 0] S1024x1024.size inb_S1024x1024_S1024x1024_0_0).toLoadRect (harg12.unread x10)
  bg := View.readAt (Elt F) arg13.view (Rect.unit (s := S1x1024) ![0, 0] S1x1024.size inb_S1x1024_S1x1024_0_0).toLoadRect (harg13.unread x11)
  wp := View.readAt (Elt F) arg14.view (Rect.unit (s := S256x1024) ![0, 0] S256x1024.size inb_S256x1024_S256x1024_0_0).toLoadRect (harg14.unread x12)
  gfin := View.readAt (Elt F) arg15.view (Rect.unit (s := S1x1024) ![0, 0] S1x1024.size inb_S1x1024_S1x1024_0_0).toLoadRect (harg15.unread x13)

/-- What a later point of a batch finds kept. -/
def prevB (k : Fin 22) : Vec F S1x16x256 .f32 :=
  View.readAt (Elt F) arg17.view (Rect.unit (s := S22x16x256) ![k.val, 0, 0] S1x16x256.size (inbSlot k)).toLoadRect (harg17.unread xs0)

theorem kept_A (hc : cond0_0 i) :
    (kernelRun0_A c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19 hc
    x0 x1 x2 x3 x4 x5 x6 x7 x8 x9 x10 x11 x12 x13).2.1 =
    keeps arg19 (pt arg2 harg2 arg3 harg3 arg4 harg4 arg5 harg5 arg6 harg6 arg7 harg7 arg8 harg8 arg9 harg9 arg10 harg10
    arg11 harg11 arg12 harg12 arg13 harg13 arg14 harg14 arg15 harg15 x0 x1 x2 x3 x4 x5 x6 x7 x8 x9 x10 x11 x12 x13) zeros 22 := by sl_kernel_rfl

theorem kept_B (hc : ¬cond0_0 i) :
    (kernelRun0_B c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19 hc
    x0 x1 x2 x3 x4 x5 x6 x7 x8 x9 x10 x11 x12 x13 xs0).2.1 =
    keeps arg19 (pt arg2 harg2 arg3 harg3 arg4 harg4 arg5 harg5 arg6 harg6 arg7 harg7 arg8 harg8 arg9 harg9 arg10 harg10
    arg11 harg11 arg12 harg12 arg13 harg13 arg14 harg14 arg15 harg15 x0 x1 x2 x3 x4 x5 x6 x7 x8 x9 x10 x11 x12 x13) [] 22 := by sl_kernel_rfl

theorem out_A (hc : cond0_0 i) :
    (kernelRun0_A c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19 hc
    x0 x1 x2 x3 x4 x5 x6 x7 x8 x9 x10 x11 x12 x13).1 =
    outPieces arg18 arg19 (pt arg2 harg2 arg3 harg3 arg4 harg4 arg5 harg5 arg6 harg6 arg7 harg7 arg8 harg8 arg9 harg9 arg10
    harg10 arg11 harg11 arg12 harg12 arg13 harg13 arg14 harg14 arg15 harg15 x0 x1 x2 x3 x4 x5 x6 x7 x8 x9 x10 x11 x12 x13)
    (prevA arg17 arg19 (pt arg2 harg2 arg3 harg3 arg4 harg4 arg5 harg5 arg6 harg6 arg7 harg7 arg8 harg8 arg9 harg9 arg10
    harg10 arg11 harg11 arg12 harg12 arg13 harg13 arg14 harg14 arg15 harg15 x0 x1 x2 x3 x4 x5 x6 x7 x8 x9 x10 x11 x12 x13)) := by sl_kernel_rfl

theorem out_B (hc : ¬cond0_0 i) :
    (kernelRun0_B c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19 hc
    x0 x1 x2 x3 x4 x5 x6 x7 x8 x9 x10 x11 x12 x13 xs0).1 =
    outPieces arg18 arg19 (pt arg2 harg2 arg3 harg3 arg4 harg4 arg5 harg5 arg6 harg6 arg7 harg7 arg8 harg8 arg9 harg9 arg10
    harg10 arg11 harg11 arg12 harg12 arg13 harg13 arg14 harg14 arg15 harg15 x0 x1 x2 x3 x4 x5 x6 x7 x8 x9 x10 x11 x12 x13)
    (prevB arg17 harg17 xs0) := by sl_kernel_rfl

end

end Cert.Kernel2Ideal.Model
-- ==== Proof.FPoint.lean ====
/-
  What a grid point of the second kernel leaves, in terms of its input blocks and of what was kept before it.
-/
module

public import proofs.«01_k».proof.Proof.FRows
public import proofs.«01_k».proof.Proof.FGlue
public import proofs.«01_k».proof.Proof.Gen.Kernel2Ideal.Frame
public import Idealize.ShloMosaic.Lib.Pipeline.Value
public import Idealize.ShloMosaic.Lib.Pipeline.ValueKit

@[expose] public section

set_option maxRecDepth 16384

noncomputable section

namespace Cert.Kernel2Ideal.Model

open Idealize.ShloMosaic Idealize.ShloMosaic.TcCoe Idealize.ShloMosaic.Pointwise
open Cert.Kernel2Ideal Cert.Kernel2Ideal.Gen

/-- A load of a box of a whole buffer, at an index of the box: the buffer's value at the index moved by the box's corner. -/
theorem load_at {κ : Kind} {sp : Space} {S : Shape} {e : EltTy} (M : Memref sig κ sp S e) (hM : M.IsWhole) (d : S.Idx → Elt Ideal e)
    (off size : Fin S.rank → ℕ) (inb : ∀ a, off a + size a ≤ S.size a) (x : (Rect.unit off size inb).shape.Idx) (y : S.Idx)
    (h : ∀ a, (y a).val = off a + (x a).val) :
    View.readAt (Elt Ideal) M.view (Rect.unit off size inb).toLoadRect (hM.unread d) x = d y := by
  rw [View.readAt_eq_ld, Memref.IsWhole.read_unread]
  exact View.ld_unit_apply_of d off size inb x y h

/-- What the input blocks of a point hold. -/
structure Blocks (P : Ffn.W) (X M : Fin 512 → Fin 1024 → EReal) (E : Fin 512 → Fin 256 → EReal)
    (x0 : Vec Ideal S512x1024 .f32) (x1 : Vec Ideal S512x1024 .bf16) (x2 : Vec Ideal S1024x1024 .bf16) (x3 : Vec Ideal
    S1x512x256 .f32) (x4 : Vec Ideal S1x1024 .f32) (x5 : Vec Ideal S1024x5632 .bf16) (x6 : Vec Ideal S3x5632 .f32) (x7 : Vec
    Ideal S1x5632 .f32) (x8 : Vec Ideal S2816x1024 .bf16) (x9 : Vec Ideal S1x1024 .f32) (x10 : Vec Ideal S1024x1024 .bf16) (x11
    : Vec Ideal S1x1024 .f32) (x12 : Vec Ideal S256x1024 .bf16) (x13 : Vec Ideal S1x1024 .f32) : Prop where
  x : ∀ r d, x0 (ix2 r d) = X r d
  mx : ∀ r d, x1 (ix2 r d) = M r d
  wmix : ∀ k d, x2 (ix2 k d) = P.wmix k d
  p : ∀ r e, x3 (ix3 0 r e) = E r e
  gf : ∀ d, x4 (ix2 0 d) = P.gf d
  wup : ∀ d j, x5 (ix2 d j) = P.wup d j
  wdw : ∀ t j, x6 (ix2 t j) = P.wdw t j
  bdw : ∀ j, x7 (ix2 0 j) = P.bdw j
  wdn : ∀ k d, x8 (ix2 k d) = P.wdn k d
  gp : ∀ d, x9 (ix2 0 d) = P.gp d
  wg : ∀ k d, x10 (ix2 k d) = P.wg k d
  bg : ∀ d, x11 (ix2 0 d) = P.bg d
  wp : ∀ k d, x12 (ix2 k d) = P.wp k d
  gfin : ∀ d, x13 (ix2 0 d) = P.gfin d

/-- A point's result: rows `X` and `M`, embeddings `E`, and the two widened rows before them. -/
def pointOut (P : Ffn.W) (X M : Fin 512 → Fin 1024 → EReal) (E : Fin 512 → Fin 256 → EReal) (c' c : Fin 5632 → EReal) (r : Fin 512) :
    Fin 1024 → EReal :=
  Ffn.out P (Ys P X M r) (Ffn.before2 P (Ys P X M) c' c r) (Ffn.before1 P (Ys P X M) c r) (E r)

/-- A point's result is its one piece. -/
theorem outPieces_at (arg18 : Memref sig .tc .vmem S512x2816 .bf16) (arg19 : Memref sig .tc .vmem S8x576x128 .f32) {Q : Pt Ideal} {P : Ffn.W}
    {X M : Fin 512 → Fin 1024 → EReal} {E : Fin 512 → Fin 256 → EReal} (hQ : Q.Is P X M E) {prev : Fin 22 → Vec Ideal S1x16x256 .f32}
    {c' c : Fin 5632 → EReal} (h7 : ∀ k j, prev k (ix3 0 7 j) = c' (col k j)) (h15 : ∀ k j, prev k (ix3 0 15 j) = c (col k j))
    (r : Fin 512) (d : Fin 1024) : View.canon (outPieces arg18 arg19 Q prev) (ix2 r d) = pointOut P X M E c' c r d := by
  have h := finish_eq hQ (fed arg18 arg19 Q prev) _ (fed_eq arg18 arg19 hQ h7 h15) r d
  unfold outPieces
  generalize finish Q (fed arg18 arg19 Q prev) = a at *
  refine (View.canon_apply_of_pieces (Val := Elt Ideal) (e := .f32) a _ (fun p hp x => ?_) (ix2 r d) ⟨_, List.mem_singleton_self _, ?_⟩).trans h
  · obtain rfl := List.mem_singleton.mp hp
    refine congrArg a ?_
    funext b
    apply Fin.ext
    match b with
    | ⟨0, _⟩ => show (x 0).val = 0 + 1 * (x 0).val; omega
    | ⟨1, _⟩ => show (x 1).val = 0 + 1 * (x 1).val; omega
  · rw [Rect.mem_set_unit]
    intro b
    match b with
    | ⟨0, _⟩ => show 0 ≤ r.val ∧ r.val < 0 + 512; omega
    | ⟨1, _⟩ => show 0 ≤ d.val ∧ d.val < 0 + 1024; omega

/-- What a point keeps: its last rows widened, row 510 at place 7 and row 511 at place 15. -/
theorem keeps_at (arg19 : Memref sig .tc .vmem S8x576x128 .f32) {Q : Pt Ideal} {P : Ffn.W} {X M : Fin 512 → Fin 1024 → EReal}
    {E : Fin 512 → Fin 256 → EReal} (hQ : Q.Is P X M E) (L : List (View.Piece (Elt Ideal) S22x16x256 .f32)) (k : Fin 22) (i : Fin 16) (r : Fin 512)
    (h : 496 + i.val = 8 * (r.val % 64) + r.val / 64) (j : Fin 256) :
    View.canon (keeps arg19 Q L 22) (ix3 k i j) = Ffn.up P (Ys P X M r) (col k j) :=
  (kept_at arg19 Q L k i j).trans (wide_row arg19 hQ k _ r (Fin.ext h) j)

section
variable (c : Dev nD) (i : grid0.Coords)
  (arg2 : Memref sig .tc .vmem S512x1024 .f32) (harg2 : arg2.IsWhole) (arg3 : Memref sig .tc .vmem S512x1024 .bf16) (harg3 :
  arg3.IsWhole) (arg4 : Memref sig .tc .vmem S1024x1024 .bf16) (harg4 : arg4.IsWhole) (arg5 : Memref sig .tc .vmem S1x512x256
  .f32) (harg5 : arg5.IsWhole) (arg6 : Memref sig .tc .vmem S1x1024 .f32) (harg6 : arg6.IsWhole) (arg7 : Memref sig .tc .vmem
  S1024x5632 .bf16) (harg7 : arg7.IsWhole) (arg8 : Memref sig .tc .vmem S3x5632 .f32) (harg8 : arg8.IsWhole) (arg9 : Memref
  sig .tc .vmem S1x5632 .f32) (harg9 : arg9.IsWhole) (arg10 : Memref sig .tc .vmem S2816x1024 .bf16) (harg10 : arg10.IsWhole)
  (arg11 : Memref sig .tc .vmem S1x1024 .f32) (harg11 : arg11.IsWhole) (arg12 : Memref sig .tc .vmem S1024x1024 .bf16)
  (harg12 : arg12.IsWhole) (arg13 : Memref sig .tc .vmem S1x1024 .f32) (harg13 : arg13.IsWhole) (arg14 : Memref sig .tc .vmem
  S256x1024 .bf16) (harg14 : arg14.IsWhole) (arg15 : Memref sig .tc .vmem S1x1024 .f32) (harg15 : arg15.IsWhole)
  (arg16 : Memref sig .tc .vmem S512x1024 .f32) (harg16 : arg16.IsWhole) (arg17 : Memref sig .tc .vmem S22x16x256 .f32)
  (harg17 : arg17.IsWhole) (arg18 : Memref sig .tc .vmem S512x2816 .bf16) (harg18 : arg18.IsWhole) (arg19 : Memref sig .tc
  .vmem S8x576x128 .f32) (harg19 : arg19.IsWhole)
  {x0 : Vec Ideal S512x1024 .f32} {x1 : Vec Ideal S512x1024 .bf16} {x2 : Vec Ideal S1024x1024 .bf16} {x3 : Vec Ideal S1x512x256
  .f32} {x4 : Vec Ideal S1x1024 .f32} {x5 : Vec Ideal S1024x5632 .bf16} {x6 : Vec Ideal S3x5632 .f32} {x7 : Vec Ideal S1x5632
  .f32} {x8 : Vec Ideal S2816x1024 .bf16} {x9 : Vec Ideal S1x1024 .f32} {x10 : Vec Ideal S1024x1024 .bf16} {x11 : Vec Ideal
  S1x1024 .f32} {x12 : Vec Ideal S256x1024 .bf16} {x13 : Vec Ideal S1x1024 .f32}
  (xs0 : Vec Ideal S22x16x256 .f32)
  {P : Ffn.W} {X M : Fin 512 → Fin 1024 → EReal} {E : Fin 512 → Fin 256 → EReal}
  (hb : Blocks P X M E x0 x1 x2 x3 x4 x5 x6 x7 x8 x9 x10 x11 x12 x13)

include hb

theorem pt_is :
    Pt.Is (pt arg2 harg2 arg3 harg3 arg4 harg4 arg5 harg5 arg6 harg6 arg7 harg7 arg8 harg8 arg9 harg9 arg10 harg10 arg11 harg11 arg12
    harg12 arg13 harg13 arg14 harg14 arg15 harg15
      x0 x1 x2 x3 x4 x5 x6 x7 x8 x9 x10 x11 x12 x13) P X M E where
  x r d := by
    refine (load_at arg2 harg2 x0 _ _ inb_S512x1024_S512x1024_0_0 (ix2 r d) (ix2 r d)
      (fun a => by match a with | ⟨0, _⟩ => exact (Nat.zero_add _).symm | ⟨1, _⟩ => exact (Nat.zero_add _).symm)).trans ?_
    rw [hb.x]
  mx r d := by
    refine (load_at arg3 harg3 x1 _ _ inb_S512x1024_S512x1024_0_0 (ix2 r d) (ix2 r d)
      (fun a => by match a with | ⟨0, _⟩ => exact (Nat.zero_add _).symm | ⟨1, _⟩ => exact (Nat.zero_add _).symm)).trans ?_
    rw [hb.mx]
  p r e := by
    refine (load_at arg5 harg5 x3 _ _ inb_S1x512x256_S1x512x256_0_0_0 (ix3 0 r e) (ix3 0 r e)
      (fun a => by match a with | ⟨0, _⟩ => exact (Nat.zero_add _).symm | ⟨1, _⟩ => exact (Nat.zero_add _).symm | ⟨2, _⟩ => exact (Nat.zero_add _).symm)).trans ?_
    rw [hb.p]
  wmix k d := by
    refine (load_at arg4 harg4 x2 _ _ inb_S1024x1024_S1024x1024_0_0 (ix2 k d) (ix2 k d)
      (fun a => by match a with | ⟨0, _⟩ => exact (Nat.zero_add _).symm | ⟨1, _⟩ => exact (Nat.zero_add _).symm)).trans ?_
    rw [hb.wmix]
  gf d := by
    refine (load_at arg6 harg6 x4 _ _ inb_S1x1024_S1x1024_0_0 (ix2 0 d) (ix2 0 d)
      (fun a => by match a with | ⟨0, _⟩ => exact (Nat.zero_add _).symm | ⟨1, _⟩ => exact (Nat.zero_add _).symm)).trans ?_
    rw [hb.gf]
  wup k d j := by
    refine (load_at arg7 harg7 x5 _ _ (inbUp k) (ix2 d j) (ix2 d (col k j))
      (fun a => by match a with | ⟨0, _⟩ => exact (Nat.zero_add _).symm | ⟨1, _⟩ => rfl)).trans ?_
    rw [hb.wup]
  wdw k t j := by
    refine (load_at arg8 harg8 x6 _ _ (inbDw k) (ix2 t j) (ix2 t (col k j))
      (fun a => by match a with | ⟨0, _⟩ => exact (Nat.zero_add _).symm | ⟨1, _⟩ => rfl)).trans ?_
    rw [hb.wdw]
  bdw k j := by
    refine (load_at arg9 harg9 x7 _ _ (inbBias k) (ix2 0 j) (ix2 0 (col k j))
      (fun a => by match a with | ⟨0, _⟩ => exact (Nat.zero_add _).symm | ⟨1, _⟩ => rfl)).trans ?_
    rw [hb.bdw]
  wdn k d := by
    refine (load_at arg10 harg10 x8 _ _ inb_S2816x1024_S2816x1024_0_0 (ix2 k d) (ix2 k d)
      (fun a => by match a with | ⟨0, _⟩ => exact (Nat.zero_add _).symm | ⟨1, _⟩ => exact (Nat.zero_add _).symm)).trans ?_
    rw [hb.wdn]
  gp d := by
    refine (load_at arg11 harg11 x9 _ _ inb_S1x1024_S1x1024_0_0 (ix2 0 d) (ix2 0 d)
      (fun a => by match a with | ⟨0, _⟩ => exact (Nat.zero_add _).symm | ⟨1, _⟩ => exact (Nat.zero_add _).symm)).trans ?_
    rw [hb.gp]
  wg k d := by
    refine (load_at arg12 harg12 x10 _ _ inb_S1024x1024_S1024x1024_0_0 (ix2 k d) (ix2 k d)
      (fun a => by match a with | ⟨0, _⟩ => exact (Nat.zero_add _).symm | ⟨1, _⟩ => exact (Nat.zero_add _).symm)).trans ?_
    rw [hb.wg]
  bg d := by
    refine (load_at arg13 harg13 x11 _ _ inb_S1x1024_S1x1024_0_0 (ix2 0 d) (ix2 0 d)
      (fun a => by match a with | ⟨0, _⟩ => exact (Nat.zero_add _).symm | ⟨1, _⟩ => exact (Nat.zero_add _).symm)).trans ?_
    rw [hb.bg]
  wp k d := by
    refine (load_at arg14 harg14 x12 _ _ inb_S256x1024_S256x1024_0_0 (ix2 k d) (ix2 k d)
      (fun a => by match a with | ⟨0, _⟩ => exact (Nat.zero_add _).symm | ⟨1, _⟩ => exact (Nat.zero_add _).symm)).trans ?_
    rw [hb.wp]
  gfin d := by
    refine (load_at arg15 harg15 x13 _ _ inb_S1x1024_S1x1024_0_0 (ix2 0 d) (ix2 0 d)
      (fun a => by match a with | ⟨0, _⟩ => exact (Nat.zero_add _).symm | ⟨1, _⟩ => exact (Nat.zero_add _).symm)).trans ?_
    rw [hb.gfin]

omit hb

theorem prevB_eq (k : Fin 22) (i : Fin 16) (j : Fin 256) : prevB arg17 harg17 xs0 k (ix3 0 i j) = xs0 (ix3 k i j) :=
  load_at arg17 harg17 xs0 _ _ (inbSlot k) (ix3 0 i j) (ix3 k i j) (fun a => by
    match a with
    | ⟨0, _⟩ => rfl
    | ⟨1, _⟩ => exact (Nat.zero_add _).symm
    | ⟨2, _⟩ => exact (Nat.zero_add _).symm)

include hb

/-- The first point of a batch: its result. -/
theorem out0_A_eq (hc : cond0_0 i) (r : Fin 512) (d : Fin 1024) :
    out0_A_14 c i arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 hc
      x0 x1 x2 x3 x4 x5 x6 x7 x8 x9 x10 x11 x12 x13 (ix2 r d) = pointOut P X M E (fun _ => 0) (fun _ => 0) r d := by
  unfold out0_A_14
  rw [View.read_writes_junk_eq_canon, out_A]
  exact outPieces_at arg18 arg19 (pt_is arg2 harg2 arg3 harg3 arg4 harg4 arg5 harg5 arg6 harg6 arg7 harg7 arg8 harg8 arg9 harg9 arg10
  harg10 arg11 harg11 arg12 harg12 arg13 harg13 arg14 harg14 arg15 harg15 hb) (fun k j => prevA_eq arg17 arg19 _ k 7 j) (fun k j =>
  prevA_eq arg17 arg19 _ k 15 j) r d

/-- A later point of a batch: its result. -/
theorem out0_B_eq (hc : ¬cond0_0 i) (c' c1 : Fin 5632 → EReal) (h7 : ∀ k j, xs0 (ix3 k 7 j) = c' (col k j))
    (h15 : ∀ k j, xs0 (ix3 k 15 j) = c1 (col k j)) (r : Fin 512) (d : Fin 1024) :
    out0_B_14 c i arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 hc
      x0 x1 x2 x3 x4 x5 x6 x7 x8 x9 x10 x11 x12 x13 xs0 (ix2 r d) = pointOut P X M E c' c1 r d := by
  unfold out0_B_14
  rw [View.read_writes_junk_eq_canon, out_B]
  exact outPieces_at arg18 arg19 (pt_is arg2 harg2 arg3 harg3 arg4 harg4 arg5 harg5 arg6 harg6 arg7 harg7 arg8 harg8 arg9 harg9 arg10
  harg10 arg11 harg11 arg12 harg12 arg13 harg13 arg14 harg14 arg15 harg15 hb) (fun k j => (prevB_eq arg17 harg17 xs0 k 7 j).trans (h7 k
  j))
    (fun k j => (prevB_eq arg17 harg17 xs0 k 15 j).trans (h15 k j)) r d

/-- The first point of a batch: what it keeps. -/
theorem sout0_A_eq (hc : cond0_0 i) (k : Fin 22) (i' : Fin 16) (r : Fin 512) (h : 496 + i'.val = 8 * (r.val % 64) + r.val / 64) (j : Fin 256) :
    sout0_A_0 c i arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 hc
      x0 x1 x2 x3 x4 x5 x6 x7 x8 x9 x10 x11 x12 x13 (ix3 k i' j) = Ffn.up P (Ys P X M r) (col k j) := by
  unfold sout0_A_0
  rw [View.read_writes_junk_eq_canon, kept_A]
  exact keeps_at arg19 (pt_is arg2 harg2 arg3 harg3 arg4 harg4 arg5 harg5 arg6 harg6 arg7 harg7 arg8 harg8 arg9 harg9 arg10 harg10 arg11
  harg11 arg12 harg12 arg13 harg13 arg14 harg14 arg15 harg15 hb) _ k i' r h j

/-- A later point of a batch: what it keeps. -/
theorem sout0_B_eq (hc : ¬cond0_0 i) (k : Fin 22) (i' : Fin 16) (r : Fin 512) (h : 496 + i'.val = 8 * (r.val % 64) + r.val / 64) (j : Fin 256) :
    sout0_B_0 c i arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 hc
      x0 x1 x2 x3 x4 x5 x6 x7 x8 x9 x10 x11 x12 x13 xs0 (ix3 k i' j) = Ffn.up P (Ys P X M r) (col k j) := by
  unfold sout0_B_0
  rw [View.read_writes_junk_eq_canon, kept_B]
  exact keeps_at arg19 (pt_is arg2 harg2 arg3 harg3 arg4 harg4 arg5 harg5 arg6 harg6 arg7 harg7 arg8 harg8 arg9 harg9 arg10 harg10 arg11
  harg11 arg12 harg12 arg13 harg13 arg14 harg14 arg15 harg15 hb) _ k i' r h j

end

end Cert.Kernel2Ideal.Model
-- ==== Proof.FHost.lean ====
/-
  What the second kernel's host code hands to its grid points: the rows and the embeddings' second layer as they are, and
  the weights.
-/
module

public import proofs.«01_k».proof.Proof.FPoint
public import Idealize.ShloMosaic.Lib.StableHlo.Run

@[expose] public section

set_option maxRecDepth 16384

noncomputable section

namespace Cert.Kernel2Ideal.Model

open Idealize.ShloMosaic Idealize.ShloMosaic.TcCoe Idealize.ShloMosaic.Pointwise
open Cert.Kernel2Ideal Cert.Kernel2Ideal.Gen Idealize.SL.Sem

variable (m : (ℓ : Loc nD τ sig) → Buf (Elt Ideal) ℓ) (c : Dev nD)

/-- The weights, from the arrays the program is called with. -/
def wts : Ffn.W where
  wmix d j := (m ((c : Thread nD τ).loc main_arg2) : Vec Ideal S1024x1024 .f32) (ix2 d j)
  gf d := (m ((c : Thread nD τ).loc main_arg4) : Vec Ideal S1024 .f32) (ix1 d)
  wup d j := (m ((c : Thread nD τ).loc main_arg5) : Vec Ideal S1024x5632 .f32) (ix2 d j)
  wdw t j := (m ((c : Thread nD τ).loc main_arg6) : Vec Ideal S3x5632 .f32) (ix2 t j)
  bdw j := (m ((c : Thread nD τ).loc main_arg7) : Vec Ideal S5632 .f32) (ix1 j)
  wdn d j := (m ((c : Thread nD τ).loc main_arg8) : Vec Ideal S2816x1024 .f32) (ix2 d j)
  gp d := (m ((c : Thread nD τ).loc main_arg9) : Vec Ideal S1024 .f32) (ix1 d)
  wg d j := (m ((c : Thread nD τ).loc main_arg10) : Vec Ideal S1024x1024 .f32) (ix2 d j)
  bg d := (m ((c : Thread nD τ).loc main_arg11) : Vec Ideal S1024 .f32) (ix1 d)
  wp d j := (m ((c : Thread nD τ).loc main_arg12) : Vec Ideal S256x1024 .f32) (ix2 d j)
  gfin d := (m ((c : Thread nD τ).loc main_arg13) : Vec Ideal S1024 .f32) (ix1 d)

/-- Row `r` of batch `b` of the stream, of the mixer's output, and of the layer's embeddings. -/
def xrow (b : Fin 32) (r : Fin 2048) (d : Fin 1024) : EReal := (m ((c : Thread nD τ).loc main_arg0) : Vec Ideal S32x2048x1024 .f32) (ix3 b r d)
def mrow (b : Fin 32) (r : Fin 2048) (d : Fin 1024) : EReal := (m ((c : Thread nD τ).loc main_arg1) : Vec Ideal S32x2048x1024 .bf16) (ix3 b r d)
def erow (b : Fin 32) (r : Fin 2048) (e : Fin 256) : EReal := (m ((c : Thread nD τ).loc main_arg3) : Vec Ideal S2x32x2048x256 .f32) (ix4 1 b r e)

/-! ## The arrays at the grid's entry -/

theorem V_v0 : V m c main_v0 = (shapeCast S65536x1024 (m ((c : Thread nD τ).loc main_arg0) : Vec Ideal S32x2048x1024 .f32) shapeCasts_S32x2048x1024_S65536x1024 : Vec Ideal S65536x1024 .f32) := by
  simp only [V, hostOps0]
  after_results
  rfl
theorem V_v1 : V m c main_v1 = (shapeCast S65536x1024 (m ((c : Thread nD τ).loc main_arg1) : Vec Ideal S32x2048x1024 .bf16) shapeCasts_S32x2048x1024_S65536x1024 : Vec Ideal S65536x1024 .bf16) := by
  simp only [V, hostOps0]
  after_results
  rfl
theorem V_v2 : V m c main_v2 = (shapeCast S2x65536x256 (m ((c : Thread nD τ).loc main_arg3) : Vec Ideal S2x32x2048x256 .f32) shapeCasts_S2x32x2048x256_S2x65536x256 : Vec Ideal S2x65536x256 .f32) := by
  simp only [V, hostOps0]
  after_results
  rfl
theorem V_v4 : V m c main_v4 = (shapeCast S1x1024 (m ((c : Thread nD τ).loc main_arg4) : Vec Ideal S1024 .f32) shapeCasts_S1024_S1x1024 : Vec Ideal S1x1024 .f32) := by
  simp only [V, hostOps0]
  after_results
  rfl
theorem V_v6 : V m c main_v6 = (shapeCast S1x5632 (m ((c : Thread nD τ).loc main_arg7) : Vec Ideal S5632 .f32) shapeCasts_S5632_S1x5632 : Vec Ideal S1x5632 .f32) := by
  simp only [V, hostOps0]
  after_results
  rfl
theorem V_v8 : V m c main_v8 = (shapeCast S1x1024 (m ((c : Thread nD τ).loc main_arg9) : Vec Ideal S1024 .f32) shapeCasts_S1024_S1x1024 : Vec Ideal S1x1024 .f32) := by
  simp only [V, hostOps0]
  after_results
  rfl
theorem V_v10 : V m c main_v10 = (shapeCast S1x1024 (m ((c : Thread nD τ).loc main_arg11) : Vec Ideal S1024 .f32) shapeCasts_S1024_S1x1024 : Vec Ideal S1x1024 .f32) := by
  simp only [V, hostOps0]
  after_results
  rfl
theorem V_v12 : V m c main_v12 = (shapeCast S1x1024 (m ((c : Thread nD τ).loc main_arg13) : Vec Ideal S1024 .f32) shapeCasts_S1024_S1x1024 : Vec Ideal S1x1024 .f32) := by
  simp only [V, hostOps0]
  after_results
  rfl
theorem V_v3 : V m c main_v3 = (m ((c : Thread nD τ).loc main_arg2) : Vec Ideal S1024x1024 .f32) := by
  simp only [V, hostOps0]
  after_results
  rfl
theorem V_v5 : V m c main_v5 = (m ((c : Thread nD τ).loc main_arg5) : Vec Ideal S1024x5632 .f32) := by
  simp only [V, hostOps0]
  after_results
  rfl
theorem V_arg6 : V m c main_arg6 = (m ((c : Thread nD τ).loc main_arg6) : Vec Ideal S3x5632 .f32) := by
  simp only [V, hostOps0]
  after_results
theorem V_v7 : V m c main_v7 = (m ((c : Thread nD τ).loc main_arg8) : Vec Ideal S2816x1024 .f32) := by
  simp only [V, hostOps0]
  after_results
  rfl
theorem V_v9 : V m c main_v9 = (m ((c : Thread nD τ).loc main_arg10) : Vec Ideal S1024x1024 .f32) := by
  simp only [V, hostOps0]
  after_results
  rfl
theorem V_v11 : V m c main_v11 = (m ((c : Thread nD τ).loc main_arg12) : Vec Ideal S256x1024 .f32) := by
  simp only [V, hostOps0]
  after_results
  rfl

/-- A batch of rows laid out as one array. -/
theorem flat_at {e : EltTy} (u : Vec Ideal S32x2048x1024 e) (b : Fin 32) (r : Fin 2048) (d : Fin 1024) (R : Fin 65536) (hR : R.val = 2048 * b.val + r.val) :
    shapeCast S65536x1024 u shapeCasts_S32x2048x1024_S65536x1024 (ix2 R d) = u (ix3 b r d) := by
  refine shapeCast_apply _ _ _ (ix3 b r d) ?_
  rw [Shape.rowMajor_val_three, Shape.rowMajor_val_two]
  show (b.val * 2048 + r.val) * 1024 + d.val = R.val * 1024 + d.val
  omega

/-- The embeddings of all rows laid out as one array. -/
theorem flatE_at (u : Vec Ideal S2x32x2048x256 .f32) (b : Fin 32) (r : Fin 2048) (e : Fin 256) (R : Fin 65536) (hR : R.val = 2048 * b.val + r.val) :
    shapeCast S2x65536x256 u shapeCasts_S2x32x2048x256_S2x65536x256 (ix3 1 R e) = u (ix4 1 b r e) := by
  refine shapeCast_apply _ _ _ (ix4 1 b r e) ?_
  rw [Shape.rowMajor_val_four, Shape.rowMajor_val_three]
  show ((1 * 32 + b.val) * 2048 + r.val) * 256 + e.val = (1 * 65536 + R.val) * 256 + e.val
  omega

/-- A vector laid out as one row. -/
theorem row_at {n : ℕ} (u : Vec Ideal ⟨1, ![n]⟩ .f32) (h : (⟨1, ![n]⟩ : Shape).ShapeCasts ⟨2, ![1, n]⟩) (d : Fin n) :
    shapeCast ⟨2, ![1, n]⟩ u h (ix2 0 d) = u (ix1 d) := by
  refine shapeCast_apply _ _ _ (ix1 d) ?_
  rw [Shape.rowMajor_val_one, Shape.rowMajor_val_two]
  show d.val = 0 * n + d.val
  omega

/-! ## The blocks -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_3 : ∀ t : Fin cfg0.N, win0_3.index t (0 : Fin 3) = 1 ∧ win0_3.index t (1 : Fin 3) = t.val ∧ win0_3.index t (2 : Fin 3) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 2) = 0 ∧ win0_10.index t (1 : Fin 2) = 0 :=
  (by decide +kernel : ∀ t : Fin grid0.N, _)
theorem idx0_11 : ∀ t : Fin cfg0.N, win0_11.index t (0 : Fin 2) = 0 ∧ win0_11.index t (1 : Fin 2) = 0 :=
  (by decide +kernel : ∀ t : Fin grid0.N, _)
theorem idx0_12 : ∀ t : Fin cfg0.N, win0_12.index t (0 : Fin 2) = 0 ∧ win0_12.index t (1 : Fin 2) = 0 :=
  (by decide +kernel : ∀ t : Fin grid0.N, _)
theorem idx0_13 : ∀ t : Fin cfg0.N, win0_13.index t (0 : Fin 2) = 0 ∧ win0_13.index t (1 : Fin 2) = 0 :=
  (by decide +kernel : ∀ t : Fin grid0.N, _)

section
variable (A : (b : Ref sig .tc) → Buf (Elt Ideal) ((c : Thread nD τ).loc b)) (t : Fin cfg0.N)

theorem blk0_read (r : Fin 512) (d : Fin 1024) (R : Fin 65536) (hR : R.val = 512 * t.val + r.val) :
    (((cfg0.win 0).blk t).view.read (Elt Ideal) (A (Pipeline.arrRef spec0 0)) : Vec Ideal S512x1024 .f32) (ix2 r d)
      = (A main_v0 : Vec Ideal S65536x1024 .f32) (ix2 R d) := by
  obtain ⟨e0, e1⟩ := idx0_0 t
  show A main_v0 (((cfg0.win 0).blk t).view.emb (ix2 r d)) = _
  congr 1
  funext a
  apply Fin.ext
  match a with
  | ⟨0, _⟩ => show win0_0.index t (0 : Fin 2) * 512 + 1 * r.val = R.val; rw [e0]; omega
  | ⟨1, _⟩ => show win0_0.index t (1 : Fin 2) * 1024 + 1 * d.val = d.val; rw [e1]; omega
theorem blk1_read (r : Fin 512) (d : Fin 1024) (R : Fin 65536) (hR : R.val = 512 * t.val + r.val) :
    (((cfg0.win 1).blk t).view.read (Elt Ideal) (A (Pipeline.arrRef spec0 1)) : Vec Ideal S512x1024 .bf16) (ix2 r d)
      = (A main_v1 : Vec Ideal S65536x1024 .bf16) (ix2 R d) := by
  obtain ⟨e0, e1⟩ := idx0_1 t
  show A main_v1 (((cfg0.win 1).blk t).view.emb (ix2 r d)) = _
  congr 1
  funext a
  apply Fin.ext
  match a with
  | ⟨0, _⟩ => show win0_1.index t (0 : Fin 2) * 512 + 1 * r.val = R.val; rw [e0]; omega
  | ⟨1, _⟩ => show win0_1.index t (1 : Fin 2) * 1024 + 1 * d.val = d.val; rw [e1]; omega
theorem blk3_read (r : Fin 512) (e : Fin 256) (R : Fin 65536) (hR : R.val = 512 * t.val + r.val) :
    (((cfg0.win 3).blk t).view.read (Elt Ideal) (A (Pipeline.arrRef spec0 3)) : Vec Ideal S1x512x256 .f32) (ix3 0 r e)
      = (A main_v2 : Vec Ideal S2x65536x256 .f32) (ix3 1 R e) := by
  obtain ⟨e0, e1, e2⟩ := idx0_3 t
  show A main_v2 (((cfg0.win 3).blk t).view.emb (ix3 0 r e)) = _
  congr 1
  funext a
  apply Fin.ext
  match a with
  | ⟨0, _⟩ => show win0_3.index t (0 : Fin 3) * 1 + 1 * 0 = 1; rw [e0]
  | ⟨1, _⟩ => show win0_3.index t (1 : Fin 3) * 512 + 1 * r.val = R.val; rw [e1]; omega
  | ⟨2, _⟩ => show win0_3.index t (2 : Fin 3) * 256 + 1 * e.val = e.val; rw [e2]; omega
theorem blk2_read (i : Fin 1024) (j : Fin 1024) :
    (((cfg0.win 2).blk t).view.read (Elt Ideal) (A (Pipeline.arrRef spec0 2)) : Vec Ideal S1024x1024 .bf16) (ix2 i j) = (A main_v3 : Vec Ideal S1024x1024 .bf16) (ix2 i j) := by
  obtain ⟨e0, e1⟩ := idx0_2 t
  show A main_v3 (((cfg0.win 2).blk t).view.emb (ix2 i j)) = _
  congr 1
  funext a
  apply Fin.ext
  match a with
  | ⟨0, _⟩ => show win0_2.index t (0 : Fin 2) * 1024 + 1 * i.val = i.val; rw [e0]; omega
  | ⟨1, _⟩ => show win0_2.index t (1 : Fin 2) * 1024 + 1 * j.val = j.val; rw [e1]; omega
theorem blk4_read (j : Fin 1024) :
    (((cfg0.win 4).blk t).view.read (Elt Ideal) (A (Pipeline.arrRef spec0 4)) : Vec Ideal S1x1024 .f32) (ix2 0 j) = (A main_v4 : Vec Ideal S1x1024 .f32) (ix2 0 j) := by
  obtain ⟨e0, e1⟩ := idx0_4 t
  show A main_v4 (((cfg0.win 4).blk t).view.emb (ix2 0 j)) = _
  congr 1
  funext a
  apply Fin.ext
  match a with
  | ⟨0, _⟩ => show win0_4.index t (0 : Fin 2) * 1 + 1 * 0 = 0; rw [e0]
  | ⟨1, _⟩ => show win0_4.index t (1 : Fin 2) * 1024 + 1 * j.val = j.val; rw [e1]; omega
theorem blk5_read (i : Fin 1024) (j : Fin 5632) :
    (((cfg0.win 5).blk t).view.read (Elt Ideal) (A (Pipeline.arrRef spec0 5)) : Vec Ideal S1024x5632 .bf16) (ix2 i j) = (A main_v5 : Vec Ideal S1024x5632 .bf16) (ix2 i j) := by
  obtain ⟨e0, e1⟩ := idx0_5 t
  show A main_v5 (((cfg0.win 5).blk t).view.emb (ix2 i j)) = _
  congr 1
  funext a
  apply Fin.ext
  match a with
  | ⟨0, _⟩ => show win0_5.index t (0 : Fin 2) * 1024 + 1 * i.val = i.val; rw [e0]; omega
  | ⟨1, _⟩ => show win0_5.index t (1 : Fin 2) * 5632 + 1 * j.val = j.val; rw [e1]; omega
theorem blk6_read (i : Fin 3) (j : Fin 5632) :
    (((cfg0.win 6).blk t).view.read (Elt Ideal) (A (Pipeline.arrRef spec0 6)) : Vec Ideal S3x5632 .f32) (ix2 i j) = (A main_arg6 : Vec Ideal S3x5632 .f32) (ix2 i j) := by
  obtain ⟨e0, e1⟩ := idx0_6 t
  show A main_arg6 (((cfg0.win 6).blk t).view.emb (ix2 i j)) = _
  congr 1
  funext a
  apply Fin.ext
  match a with
  | ⟨0, _⟩ => show win0_6.index t (0 : Fin 2) * 3 + 1 * i.val = i.val; rw [e0]; omega
  | ⟨1, _⟩ => show win0_6.index t (1 : Fin 2) * 5632 + 1 * j.val = j.val; rw [e1]; omega
theorem blk7_read (j : Fin 5632) :
    (((cfg0.win 7).blk t).view.read (Elt Ideal) (A (Pipeline.arrRef spec0 7)) : Vec Ideal S1x5632 .f32) (ix2 0 j) = (A main_v6 : Vec Ideal S1x5632 .f32) (ix2 0 j) := by
  obtain ⟨e0, e1⟩ := idx0_7 t
  show A main_v6 (((cfg0.win 7).blk t).view.emb (ix2 0 j)) = _
  congr 1
  funext a
  apply Fin.ext
  match a with
  | ⟨0, _⟩ => show win0_7.index t (0 : Fin 2) * 1 + 1 * 0 = 0; rw [e0]
  | ⟨1, _⟩ => show win0_7.index t (1 : Fin 2) * 5632 + 1 * j.val = j.val; rw [e1]; omega
theorem blk8_read (i : Fin 2816) (j : Fin 1024) :
    (((cfg0.win 8).blk t).view.read (Elt Ideal) (A (Pipeline.arrRef spec0 8)) : Vec Ideal S2816x1024 .bf16) (ix2 i j) = (A main_v7 : Vec Ideal S2816x1024 .bf16) (ix2 i j) := by
  obtain ⟨e0, e1⟩ := idx0_8 t
  show A main_v7 (((cfg0.win 8).blk t).view.emb (ix2 i j)) = _
  congr 1
  funext a
  apply Fin.ext
  match a with
  | ⟨0, _⟩ => show win0_8.index t (0 : Fin 2) * 2816 + 1 * i.val = i.val; rw [e0]; omega
  | ⟨1, _⟩ => show win0_8.index t (1 : Fin 2) * 1024 + 1 * j.val = j.val; rw [e1]; omega
theorem blk9_read (j : Fin 1024) :
    (((cfg0.win 9).blk t).view.read (Elt Ideal) (A (Pipeline.arrRef spec0 9)) : Vec Ideal S1x1024 .f32) (ix2 0 j) = (A main_v8 : Vec Ideal S1x1024 .f32) (ix2 0 j) := by
  obtain ⟨e0, e1⟩ := idx0_9 t
  show A main_v8 (((cfg0.win 9).blk t).view.emb (ix2 0 j)) = _
  congr 1
  funext a
  apply Fin.ext
  match a with
  | ⟨0, _⟩ => show win0_9.index t (0 : Fin 2) * 1 + 1 * 0 = 0; rw [e0]
  | ⟨1, _⟩ => show win0_9.index t (1 : Fin 2) * 1024 + 1 * j.val = j.val; rw [e1]; omega
theorem blk10_read (i : Fin 1024) (j : Fin 1024) :
    (((cfg0.win 10).blk t).view.read (Elt Ideal) (A (Pipeline.arrRef spec0 10)) : Vec Ideal S1024x1024 .bf16) (ix2 i j) = (A main_v9 : Vec Ideal S1024x1024 .bf16) (ix2 i j) := by
  obtain ⟨e0, e1⟩ := idx0_10 t
  show A main_v9 (((cfg0.win 10).blk t).view.emb (ix2 i j)) = _
  congr 1
  funext a
  apply Fin.ext
  match a with
  | ⟨0, _⟩ => show win0_10.index t (0 : Fin 2) * 1024 + 1 * i.val = i.val; rw [e0]; omega
  | ⟨1, _⟩ => show win0_10.index t (1 : Fin 2) * 1024 + 1 * j.val = j.val; rw [e1]; omega
theorem blk11_read (j : Fin 1024) :
    (((cfg0.win 11).blk t).view.read (Elt Ideal) (A (Pipeline.arrRef spec0 11)) : Vec Ideal S1x1024 .f32) (ix2 0 j) = (A main_v10 : Vec Ideal S1x1024 .f32) (ix2 0 j) := by
  obtain ⟨e0, e1⟩ := idx0_11 t
  show A main_v10 (((cfg0.win 11).blk t).view.emb (ix2 0 j)) = _
  congr 1
  funext a
  apply Fin.ext
  match a with
  | ⟨0, _⟩ => show win0_11.index t (0 : Fin 2) * 1 + 1 * 0 = 0; rw [e0]
  | ⟨1, _⟩ => show win0_11.index t (1 : Fin 2) * 1024 + 1 * j.val = j.val; rw [e1]; omega
theorem blk12_read (i : Fin 256) (j : Fin 1024) :
    (((cfg0.win 12).blk t).view.read (Elt Ideal) (A (Pipeline.arrRef spec0 12)) : Vec Ideal S256x1024 .bf16) (ix2 i j) = (A main_v11 : Vec Ideal S256x1024 .bf16) (ix2 i j) := by
  obtain ⟨e0, e1⟩ := idx0_12 t
  show A main_v11 (((cfg0.win 12).blk t).view.emb (ix2 i j)) = _
  congr 1
  funext a
  apply Fin.ext
  match a with
  | ⟨0, _⟩ => show win0_12.index t (0 : Fin 2) * 256 + 1 * i.val = i.val; rw [e0]; omega
  | ⟨1, _⟩ => show win0_12.index t (1 : Fin 2) * 1024 + 1 * j.val = j.val; rw [e1]; omega
theorem blk13_read (j : Fin 1024) :
    (((cfg0.win 13).blk t).view.read (Elt Ideal) (A (Pipeline.arrRef spec0 13)) : Vec Ideal S1x1024 .f32) (ix2 0 j) = (A main_v12 : Vec Ideal S1x1024 .f32) (ix2 0 j) := by
  obtain ⟨e0, e1⟩ := idx0_13 t
  show A main_v12 (((cfg0.win 13).blk t).view.emb (ix2 0 j)) = _
  congr 1
  funext a
  apply Fin.ext
  match a with
  | ⟨0, _⟩ => show win0_13.index t (0 : Fin 2) * 1 + 1 * 0 = 0; rw [e0]
  | ⟨1, _⟩ => show win0_13.index t (1 : Fin 2) * 1024 + 1 * j.val = j.val; rw [e1]; omega

end

/-- Row `r` of the block of point `4 b + q`: row `512 q + r` of batch `b`. -/
abbrev blockRow (q : Fin 4) (r : Fin 512) : Fin 2048 := ⟨512 * q.val + r.val, by omega⟩

/-- The blocks of point `4 b + q`. -/
theorem blocks (t : Fin cfg0.N) (b : Fin 32) (q : Fin 4) (ht : t.val = 4 * b.val + q.val) :
    Blocks (wts m c) (fun r => xrow m c b (blockRow q r)) (fun r => mrow m c b (blockRow q r)) (fun r => erow m c b (blockRow q r))
      (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) where
  x r d := (blk0_read c (V m c) t r d ⟨512 * t.val + r.val, by omega⟩ rfl).trans ((congrFun (V_v0 m c) _).trans
    (flat_at _ b (blockRow q r) d _ (by dsimp only; omega)))
  mx r d := (blk1_read c (V m c) t r d ⟨512 * t.val + r.val, by omega⟩ rfl).trans ((congrFun (V_v1 m c) _).trans
    (flat_at _ b (blockRow q r) d _ (by dsimp only; omega)))
  p r e := (blk3_read c (V m c) t r e ⟨512 * t.val + r.val, by omega⟩ rfl).trans ((congrFun (V_v2 m c) _).trans
    (flatE_at _ b (blockRow q r) e _ (by dsimp only; omega)))
  wmix i j := (blk2_read c (V m c) t i j).trans (congrFun (V_v3 m c) (ix2 i j))
  gf d := (blk4_read c (V m c) t d).trans ((congrFun (V_v4 m c) (ix2 0 d)).trans (row_at _ _ d))
  wup i j := (blk5_read c (V m c) t i j).trans (congrFun (V_v5 m c) (ix2 i j))
  wdw i j := (blk6_read c (V m c) t i j).trans (congrFun (V_arg6 m c) (ix2 i j))
  bdw d := (blk7_read c (V m c) t d).trans ((congrFun (V_v6 m c) (ix2 0 d)).trans (row_at _ _ d))
  wdn i j := (blk8_read c (V m c) t i j).trans (congrFun (V_v7 m c) (ix2 i j))
  gp d := (blk9_read c (V m c) t d).trans ((congrFun (V_v8 m c) (ix2 0 d)).trans (row_at _ _ d))
  wg i j := (blk10_read c (V m c) t i j).trans (congrFun (V_v9 m c) (ix2 i j))
  bg d := (blk11_read c (V m c) t d).trans ((congrFun (V_v10 m c) (ix2 0 d)).trans (row_at _ _ d))
  wp i j := (blk12_read c (V m c) t i j).trans (congrFun (V_v11 m c) (ix2 i j))
  gfin d := (blk13_read c (V m c) t d).trans ((congrFun (V_v12 m c) (ix2 0 d)).trans (row_at _ _ d))

end Cert.Kernel2Ideal.Model
-- ==== Proof.FArray.lean ====
/-
  The array the second kernel leaves: the layer's result, row by row. A point that does not begin a batch takes up the widened
  rows its predecessor kept, which are the two rows before its own.
-/
module

public import proofs.«01_k».proof.Proof.FHost
public import proofs.«01_k».proof.Proof.Gen.Kernel2Ideal.Value

@[expose] public section

set_option maxRecDepth 16384

noncomputable section

namespace Cert.Kernel2Ideal.Model

open Idealize.ShloMosaic Idealize.ShloMosaic.TcCoe Idealize.ShloMosaic.Pointwise
open Cert.Kernel2Ideal Cert.Kernel2Ideal.Gen Cert.Kernel2Ideal.Value

attribute [local irreducible] outsAt0 out0_A_14 sout0_A_0 out0_B_14 sout0_B_0

/-- A row of a block, the two rows before the block taken up: a row of the layer. -/
theorem layer_of_block (P : Ffn.W) (Y : Fin 2048 → Fin 1024 → EReal) (E : Fin 2048 → Fin 256 → EReal) (q : Fin 4) (r : Fin 512) :
    Ffn.out P (Y (blockRow q r))
      (Ffn.before2 P (fun r => Y (blockRow q r)) (Ffn.back P Y 2 (blockRow q 0)) (Ffn.back P Y 1 (blockRow q 0)) r)
      (Ffn.before1 P (fun r => Y (blockRow q r)) (Ffn.back P Y 1 (blockRow q 0)) r) (E (blockRow q r))
      = Ffn.layer P Y E (blockRow q r) := by
  have h1 : Ffn.before1 P (fun r => Y (blockRow q r)) (Ffn.back P Y 1 (blockRow q 0)) r = Ffn.back P Y 1 (blockRow q r) := by
    funext j
    unfold Ffn.before1
    by_cases h : r.val = 0
    · rw [if_pos h, show (0 : Fin 512) = r from Fin.ext h.symm]
    · rw [if_neg h]
      unfold Ffn.back
      rw [if_pos (by show 1 ≤ 512 * q.val + r.val; omega)]
      exact congrArg (fun i => Ffn.up P (Y i) j) (Fin.ext (by show 512 * q.val + (r.val - 1) = 512 * q.val + r.val - 1; omega))
  have h2 : Ffn.before2 P (fun r => Y (blockRow q r)) (Ffn.back P Y 2 (blockRow q 0)) (Ffn.back P Y 1 (blockRow q 0)) r
      = Ffn.back P Y 2 (blockRow q r) := by
    funext j
    unfold Ffn.before2
    by_cases h : r.val = 0
    · rw [if_pos h, show (0 : Fin 512) = r from Fin.ext h.symm]
    · rw [if_neg h]
      by_cases h' : r.val = 1
      · rw [if_pos h']
        unfold Ffn.back
        by_cases hq : q.val = 0
        · rw [if_neg (by show ¬1 ≤ 512 * q.val + 0; omega), if_neg (by show ¬2 ≤ 512 * q.val + r.val; omega)]
        · rw [if_pos (by show 1 ≤ 512 * q.val + 0; omega), if_pos (by show 2 ≤ 512 * q.val + r.val; omega)]
          exact congrArg (fun i => Ffn.up P (Y i) j) (Fin.ext (by show 512 * q.val + 0 - 1 = 512 * q.val + r.val - 2; omega))
      · rw [if_neg h']
        unfold Ffn.back
        rw [if_pos (by show 2 ≤ 512 * q.val + r.val; omega)]
        exact congrArg (fun i => Ffn.up P (Y i) j) (Fin.ext (by show 512 * q.val + (r.val - 2) = 512 * q.val + r.val - 2; omega))
  rw [h1, h2]
  rfl

variable (m : (ℓ : Loc nD τ sig) → Buf (Elt Ideal) ℓ) (c : Dev nD)

/-- The rows with the mixer's output added. -/
def rows (b : Fin 32) (r : Fin 2048) : Fin 1024 → EReal := Ffn.mixd (wts m c) (xrow m c b r) (mrow m c b r)

/-- Grid point `4 b + q`. -/
abbrev gridPt (b : Fin 32) (q : Fin 4) : Fin cfg0.N := ⟨4 * b.val + q.val, by show _ < 128; omega⟩

/-- What a point keeps for its successor: its last two rows widened, among others. -/
theorem scratch_at (b : Fin 32) (q : Fin 4) (t : Fin cfg0.N) (ht : t.val = 4 * b.val + q.val) (k : Fin 22) (i : Fin 16) (r : Fin 512)
    (h : 496 + i.val = 8 * (r.val % 64) + r.val / 64) (j : Fin 256) :
    (outsAt0 m c t.val t.isLt).2 (ix3 k i j) = Ffn.up (wts m c) (rows m c b (blockRow q r)) (col k j) := by
  by_cases h0 : t.val % 4 = 0
  · refine (congrFun (congrArg Prod.snd (outsAt0_A m c t h0)) (ix3 k i j)).trans ?_
    exact sout0_A_eq (hb := blocks m c t b q ht) (h := h) ..
  · refine (congrFun (congrArg Prod.snd (outsAt0_B m c t h0)) (ix3 k i j)).trans ?_
    exact sout0_B_eq (hb := blocks m c t b q ht) (h := h) ..

/-- What a batch's later point finds kept: the widened row `s` places before its block. -/
theorem scratch_before (b : Fin 32) (q : Fin 4) (hq : q.val ≠ 0) (n : ℕ) (hn : n < cfg0.N) (h : n = 4 * b.val + q.val - 1) (k : Fin 22)
    (i : Fin 16) (s : ℕ) (hs : s = 1 ∨ s = 2) (hi : i.val + 8 * s = 23) (j : Fin 256) :
    (outsAt0 m c n hn).2 (ix3 k i j) = Ffn.back (wts m c) (rows m c b) s (blockRow q 0) (col k j) := by
  refine (scratch_at m c b ⟨q.val - 1, by omega⟩ ⟨n, hn⟩ (by dsimp only; omega) k i ⟨512 - s, by omega⟩ (by dsimp only; omega) j).trans ?_
  unfold Ffn.back
  rw [if_pos (by show s ≤ 512 * q.val + 0; omega)]
  exact congrArg (fun i => Ffn.up (wts m c) (rows m c b i) (col k j))
    (Fin.ext (by show 512 * (q.val - 1) + (512 - s) = 512 * q.val + 0 - s; omega))

/-- What point `4 b + q` computes. -/
def outAll (b : Fin 32) (q : Fin 4) : S512x1024.Idx → EReal :=
  fun y => pointOut (wts m c) (fun r => xrow m c b (blockRow q r)) (fun r => mrow m c b (blockRow q r)) (fun r => erow m c b (blockRow q r))
    (Ffn.back (wts m c) (rows m c b) 2 (blockRow q 0)) (Ffn.back (wts m c) (rows m c b) 1 (blockRow q 0)) (y 0) (y 1)

theorem outAll_at (b : Fin 32) (q : Fin 4) (r : Fin 512) (d : Fin 1024) (y : S512x1024.Idx) (h0 : (y 0).val = r.val) (h1 : (y 1).val = d.val) :
    outAll m c b q y = Ffn.layer (wts m c) (rows m c b) (erow m c b) (blockRow q r) d := by
  have e0 : (y 0 : Fin 512) = r := Fin.ext h0
  have e1 : (y 1 : Fin 1024) = d := Fin.ext h1
  unfold outAll
  rw [e0, e1]
  exact congrFun (layer_of_block (wts m c) (rows m c b) (erow m c b) q r) d

/-- Before a batch's first row there is nothing. -/
theorem back_zero (b : Fin 32) (q : Fin 4) (hq : q.val = 0) (s : ℕ) (hs : 0 < s) :
    (fun _ => 0) = Ffn.back (wts m c) (rows m c b) s (blockRow q 0) := by
  funext j
  unfold Ffn.back
  rw [if_neg (by show ¬s ≤ 512 * q.val + 0; omega)]

/-- What point `4 b + q` writes back. -/
theorem flushed_eq (b : Fin 32) (q : Fin 4) (t : Fin cfg0.N) (ht : t.val = 4 * b.val + q.val) :
    (dats m 0 c).flushed 14 t = (cfg0.win 14).cut (grid0.coords t) (outAll m c b q) := by
  by_cases h0 : t.val % 4 = 0
  · refine (flushed14_A m c t h0).trans (congrArg _ (funext fun y => ?_))
    obtain ⟨r, d, rfl⟩ : ∃ (r : Fin 512) (d : Fin 1024), y = ix2 r d := ⟨y 0, y 1, by funext a; fin_cases a <;> rfl⟩
    refine (out0_A_eq (hb := blocks m c t b q ht) ..).trans ?_
    show pointOut _ _ _ _ _ _ r d = pointOut _ _ _ _ _ _ r d
    rw [← back_zero m c b q (by omega) 2 (by omega), ← back_zero m c b q (by omega) 1 (by omega)]
  · refine (flushed14_B m c t h0).trans (congrArg _ (funext fun y => ?_))
    obtain ⟨r, d, rfl⟩ : ∃ (r : Fin 512) (d : Fin 1024), y = ix2 r d := ⟨y 0, y 1, by funext a; fin_cases a <;> rfl⟩
    exact out0_B_eq (hb := blocks m c t b q ht)
      (h7 := fun k j => scratch_before m c b q (by omega) _ _ (by omega) k 7 2 (Or.inr rfl) rfl j)
      (h15 := fun k j => scratch_before m c b q (by omega) _ _ (by omega) k 15 1 (Or.inl rfl) rfl j) ..

theorem idx0_14 : ∀ t : Fin cfg0.N, win0_14.index t (0 : Fin 2) = t.val ∧ win0_14.index t (1 : Fin 2) = 0 :=
  (by decide +kernel : ∀ t : Fin grid0.N, _)
theorem flush_all : ∀ t : Fin cfg0.N, (cfg0.win 14).flush t = true :=
  (by decide +kernel : ∀ t : Fin grid0.N, win0_14.flush t = true)

/-- The array after the run: the layer's result at every row. -/
theorem array_at (b : Fin 32) (r : Fin 2048) (d : Fin 1024) :
    ((dats m 0 c).arrAt 14 cfg0.N : Vec Ideal S65536x1024 .f32) (ix2 ⟨2048 * b.val + r.val, by omega⟩ d)
      = Ffn.layer (wts m c) (rows m c b) (erow m c b) r d := by
  obtain ⟨q, k, rfl⟩ : ∃ (q : Fin 4) (k : Fin 512), r = blockRow q k :=
    ⟨⟨r.val / 512, by omega⟩, ⟨r.val % 512, by omega⟩, Fin.ext (by simp only; omega)⟩
  have hr := blocks14 m c (gridPt b q) (flush_all _)
  rw [flushed_eq m c b q (gridPt b q) rfl] at hr
  obtain ⟨e0, e1⟩ := idx0_14 (gridPt b q)
  generalize (dats m 0 c).arrAt 14 cfg0.N = A at hr ⊢
  have hy := congrFun hr (ix2 k d : S512x1024.Idx)
  have hl : ((cfg0.win 14).blk (gridPt b q)).view.read (Elt Ideal) A (ix2 k d : S512x1024.Idx)
      = (A : Vec Ideal S65536x1024 .f32) (ix2 ⟨2048 * b.val + (512 * q.val + k.val), by omega⟩ d) := by
    show A (((cfg0.win 14).blk (gridPt b q)).view.emb _) = _
    congr 1
    funext a
    apply Fin.ext
    match a with
    | ⟨0, _⟩ =>
      show win0_14.index (gridPt b q) (0 : Fin 2) * 512 + 1 * k.val = 2048 * b.val + (512 * q.val + k.val)
      rw [e0]; show (4 * b.val + q.val) * 512 + 1 * k.val = _; omega
    | ⟨1, _⟩ =>
      show win0_14.index (gridPt b q) (1 : Fin 2) * 1024 + 1 * d.val = d.val
      rw [e1]; omega
  refine hl.symm.trans (hy.trans ?_)
  show outAll m c b q ((cfg0.win 14).xinj (grid0.coords (gridPt b q)) (ix2 k d : S512x1024.Idx)) = _
  exact outAll_at m c b q k d _ rfl rfl

end Cert.Kernel2Ideal.Model
-- ==== Proof.FRef.lean ====
/-
  The feed-forward reference, stage by stage, at one row.
-/
module

public import proofs.«01_k».proof.Proof.FSpec
public import proofs.«01_k».proof.Proof.Gen.Reference2Ideal.Run
public import Idealize.ShloMosaic.Lib.Pointwise
public import Idealize.ShloMosaic.Lib.Pipeline.Value

@[expose] public section

set_option maxRecDepth 16384

noncomputable section

namespace Cert.Reference2Ideal.Model

open Idealize.ShloMosaic Idealize.ShloMosaic.TcCoe Idealize.ShloMosaic.Pointwise Idealize.ShloMosaic.Tactic Idealize.ShloMosaic.StableHlo
open Cert.Reference2Ideal Cert.Reference2Ideal.Gen Cert.Reference2Ideal.Value

variable (V : Valuation τ sig (Elt Ideal))

/-- The weights a valuation holds. -/
def wts : Ffn.W where
  wmix d j := (V (Proc.devRef .tc main_arg2) : Vec Ideal S1024x1024 .f32) (ix2 d j)
  gf d := (V (Proc.devRef .tc main_arg4) : Vec Ideal S1024 .f32) (ix1 d)
  wup d j := (V (Proc.devRef .tc main_arg5) : Vec Ideal S1024x5632 .f32) (ix2 d j)
  wdw t j := (V (Proc.devRef .tc main_arg6) : Vec Ideal S3x5632 .f32) (ix2 t j)
  bdw j := (V (Proc.devRef .tc main_arg7) : Vec Ideal S5632 .f32) (ix1 j)
  wdn d j := (V (Proc.devRef .tc main_arg8) : Vec Ideal S2816x1024 .f32) (ix2 d j)
  gp d := (V (Proc.devRef .tc main_arg9) : Vec Ideal S1024 .f32) (ix1 d)
  wg d j := (V (Proc.devRef .tc main_arg10) : Vec Ideal S1024x1024 .f32) (ix2 d j)
  bg d := (V (Proc.devRef .tc main_arg11) : Vec Ideal S1024 .f32) (ix1 d)
  wp d j := (V (Proc.devRef .tc main_arg12) : Vec Ideal S256x1024 .f32) (ix2 d j)
  gfin d := (V (Proc.devRef .tc main_arg13) : Vec Ideal S1024 .f32) (ix1 d)

/-- The rows with the mixer's output added. -/
def rows (b : Fin 32) (r : Fin 2048) : Fin 1024 → EReal :=
  Ffn.mixd (wts V) (fun d => (V (Proc.devRef .tc main_arg0) : Vec Ideal S32x2048x1024 .f32) (ix3 b r d))
    (fun d => (V (Proc.devRef .tc main_arg1) : Vec Ideal S32x2048x1024 .bf16) (ix3 b r d))

/-- The rows' embeddings. -/
def embs (b : Fin 32) (r : Fin 2048) (e : Fin 256) : EReal := (V (Proc.devRef .tc main_arg3) : Vec Ideal S2x32x2048x256 .f32) (ix4 1 b r e)

abbrev v2 : FVec Ideal S32x2048x1024 .f32 := res_main_v2 V
abbrev v17 : FVec Ideal S32x2050x5632 .f32 := res_main_v17 V
abbrev v42 : FVec Ideal S32x2048x5632 .f32 := res_main_v42 V
abbrev v43 : FVec Ideal S32x2048x2816 .f32 := res_main_v43 V
abbrev v48 : FVec Ideal S32x2048x1024 .f32 := res_main_v48 V
abbrev v76 : FVec Ideal S32x2048x1024 .f32 := res_main_v76 V

theorem v2_at (b : Fin 32) (r : Fin 2048) (d : Fin 1024) : v2 V (ix3 b r d) = rows V b r d := by
  unfold v2 res_main_v2
  pointwise [rows, Ffn.mixd, wts]

/-- The normalisation the reference writes. -/
def hostRms (A : FVec Ideal S32x2048x1024 .f32) (g : FVec Ideal S1024 .f32) : FVec Ideal S32x2048x1024 .f32 :=
  mulf (mulf A (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf A A) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 g))

theorem hostRms_at (A : FVec Ideal S32x2048x1024 .f32) (g : FVec Ideal S1024 .f32) (b : Fin 32) (r : Fin 2048) (d : Fin 1024) :
    hostRms A g (ix3 b r d) = Ffn.rms (fun d => g (ix1 d)) (fun d => A (ix3 b r d)) d := by
  unfold hostRms
  pointwise [Ffn.rms]

/-- The widened rows behind two rows of padding. -/
theorem v17_eq : v17 V = pad S32x2050x5632 ![0, 2, 0] ![0, 0, 0] ![0, 0, 0] (Host.dotGeneral (φ₁ := .f32) (φ₂ := .f32) dot_S32x2048x1024_S1024x5632_S32x2048x5632_2_0_01_1_n_n none
    (hostRms (v2 V) (V (Proc.devRef .tc main_arg4))) (V (Proc.devRef .tc main_arg5) : FVec Ideal S1024x5632 .f32)) (sitofp (F := Ideal) .f32 (constantI S_ 32 0#32)) pads_S32x2048x5632_S32x2050x5632_000_200_000 h_S_ := rfl

theorem wide_at (b : Fin 32) (r : Fin 2048) (j : Fin 5632) :
    Host.dotGeneral (F := Ideal) (φ₁ := .f32) (φ₂ := .f32) dot_S32x2048x1024_S1024x5632_S32x2048x5632_2_0_01_1_n_n none
      (hostRms (v2 V) (V (Proc.devRef .tc main_arg4))) (V (Proc.devRef .tc main_arg5) : FVec Ideal S1024x5632 .f32) (ix3 b r j) =
    Ffn.up (wts V) (rows V b r) j := by
  have h := hostRms_at (v2 V) (V (Proc.devRef .tc main_arg4)) b r
  have hr : (fun d => v2 V (ix3 b r d)) = rows V b r := funext fun d => v2_at V b r d
  rw [hr] at h
  generalize hostRms (v2 V) (V (Proc.devRef .tc main_arg4)) = A at h ⊢
  pointwise [Ffn.up]
  simp only [h]
  rfl

theorem v17_at (b : Fin 32) (r : Fin 2048) (k : Fin 3) (j : Fin 5632) :
    v17 V (ix3 b ⟨r.val + k.val, by omega⟩ j) = Ffn.back (wts V) (rows V b) (2 - k.val) r j := by
  have h := wide_at V b
  rw [v17_eq]
  generalize Host.dotGeneral (F := Ideal) (φ₁ := .f32) (φ₂ := .f32) dot_S32x2048x1024_S1024x5632_S32x2048x5632_2_0_01_1_n_n none
      (hostRms (v2 V) (V (Proc.devRef .tc main_arg4))) (V (Proc.devRef .tc main_arg5) : FVec Ideal S1024x5632 .f32) = A at h ⊢
  have z : (FloatOps.sitofp (F := Ideal) FTy.f32 (0#32 : BitVec 32) : EReal) = 0 := by
    show (((0#32 : BitVec 32).toInt : ℝ) : EReal) = 0
    simp
  unfold Ffn.back
  pointwise
  by_cases hk : 2 ≤ r.val + k.val
  · rw [dif_pos ⟨hk, by omega⟩, if_pos (by omega), h]
    exact congrArg (fun q => Ffn.up (wts V) (rows V b q) j) (Fin.ext (by simp only; omega))
  · rw [dif_neg (fun q => hk q.1), if_neg (by omega)]
    exact z

theorem v42_at (b : Fin 32) (r : Fin 2048) (j : Fin 5632) :
    v42 V (ix3 b r j) = Ffn.conv (wts V) (Ffn.back (wts V) (rows V b) 2 r) (Ffn.back (wts V) (rows V b) 1 r) (Ffn.up (wts V) (rows V b r)) j := by
  have h0 := v17_at V b r 0 j
  have h1 := v17_at V b r 1 j
  have h2 := v17_at V b r 2 j
  have hu : Ffn.up (wts V) (rows V b r) j = Ffn.back (wts V) (rows V b) 0 r j := by
    unfold Ffn.back
    rw [if_pos (Nat.zero_le _)]
    rfl
  unfold Ffn.conv
  rw [hu]
  refine Eq.trans ?_ (congrArg₂ (fun x y : EReal => x + y) (congrArg₂ (fun x y : EReal => x + y) (congrArg₂ (fun x y : EReal => x + y)
    (congrArg (fun x : EReal => _ * x) h0) (congrArg (fun x : EReal => _ * x) h1)) (congrArg (fun x : EReal => _ * x) h2)) rfl)
  unfold v42 res_main_v42 v17
  generalize res_main_v17 V = A
  pointwise [wts]
  simp only [Nat.add_comm 1, Nat.add_comm 2]

theorem v48_at (b : Fin 32) (r : Fin 2048) (d : Fin 1024) :
    v48 V (ix3 b r d) = Ffn.down (wts V) (rows V b r) (Ffn.act fun j => v42 V (ix3 b r j)) d := by
  unfold Ffn.down
  rw [← v2_at V b r d]
  unfold v48 res_main_v48 res_main_v43
  pointwise [Ffn.act, Ffn.sigm, wts]

/-- The gated embedding added. -/
theorem v76_at (b : Fin 32) (r : Fin 2048) (d : Fin 1024) :
    v76 V (ix3 b r d) = Ffn.embed (wts V) (fun d => v48 V (ix3 b r d)) (embs V b r) d := by
  have h := hostRms_at (v48 V) (V (Proc.devRef .tc main_arg9)) b r
  have e : v76 V = addf (v48 V) (mulf (Host.dotGeneral (φ₁ := .f32) (φ₂ := .f32) dot_S32x2048x256_S256x1024_S32x2048x1024_2_0_01_1_n_n none
      (shapeCast S32x2048x256 (extractStridedSlice S1x32x2048x256 ![1, 0, 0, 0] (V (Proc.devRef .tc main_arg3) : FVec Ideal S2x32x2048x256 .f32) slices_S2x32x2048x256_S1x32x2048x256_1_0_0_0) shapeCasts_S1x32x2048x256_S32x2048x256)
        (V (Proc.devRef .tc main_arg12) : FVec Ideal S256x1024 .f32))
      (Host.divf (broadcastInDim S32x2048x1024 ![] bcast_S_S32x2048x1024 (constant S_ .f32 0x3F800000#32)) (addf (broadcastInDim S32x2048x1024 ![] bcast_S_S32x2048x1024 (constant S_ .f32 0x3F800000#32)) (Host.exp (Host.negf (addf
        (Host.dotGeneral (φ₁ := .f32) (φ₂ := .f32) dot_S32x2048x1024_S1024x1024_S32x2048x1024_2_0_01_1_n_n none (hostRms (v48 V) (V (Proc.devRef .tc main_arg9))) (V (Proc.devRef .tc main_arg10) : FVec Ideal S1024x1024 .f32))
        (broadcastInDim S32x2048x1024 ![0, 1, 2] bcast_S1x1x1024_S32x2048x1024_0_1_2 (broadcastInDim S1x1x1024 ![2] bcast_S1024_S1x1x1024_2 (V (Proc.devRef .tc main_arg11) : FVec Ideal S1024 .f32)))))))) ) := rfl
  have hp : ∀ (b : Fin 32) (r : Fin 2048) (k : Fin 256), shapeCast S32x2048x256 (extractStridedSlice S1x32x2048x256 ![1, 0, 0, 0] (V (Proc.devRef .tc main_arg3) : FVec Ideal S2x32x2048x256 .f32) slices_S2x32x2048x256_S1x32x2048x256_1_0_0_0)
      shapeCasts_S1x32x2048x256_S32x2048x256 (ix3 b r k) = embs V b r k := fun b r k => by
    refine (Idealize.ShloMosaic.shapeCast_apply (k := ix4 0 b r k) _ _ _ ?_).trans ?_
    · rw [Shape.rowMajor_val_three, Shape.rowMajor_val_four]
      show ((0 * 32 + b.val) * 2048 + r.val) * 256 + k.val = (b.val * 2048 + r.val) * 256 + k.val
      omega
    · pointwise [embs]
  rw [e]
  generalize shapeCast S32x2048x256 (extractStridedSlice S1x32x2048x256 ![1, 0, 0, 0] (V (Proc.devRef .tc main_arg3) : FVec Ideal S2x32x2048x256 .f32) slices_S2x32x2048x256_S1x32x2048x256_1_0_0_0)
      shapeCasts_S1x32x2048x256_S32x2048x256 = B at hp ⊢
  generalize hostRms (v48 V) (V (Proc.devRef .tc main_arg9)) = A at h ⊢
  generalize v48 V = Y at h ⊢
  pointwise [Ffn.embed, Ffn.gate, Ffn.sigm]
  simp only [h, hp]
  rfl

/-- The result. -/
theorem result_at (b : Fin 32) (r : Fin 2048) (d : Fin 1024) :
    shapeCast S65536x1024 (hostRms (v76 V) (V (Proc.devRef .tc main_arg13))) shapeCasts_S32x2048x1024_S65536x1024
      (ix2 ⟨2048 * b.val + r.val, by omega⟩ d) = Ffn.layer (wts V) (rows V b) (embs V b) r d := by
  refine (Idealize.ShloMosaic.shapeCast_apply (k := ix3 b r d) _ _ _ ?_).trans ?_
  · rw [Shape.rowMajor_val_two, Shape.rowMajor_val_three]
    show (b.val * 2048 + r.val) * 1024 + d.val = (2048 * b.val + r.val) * 1024 + d.val
    omega
  · rw [hostRms_at]
    have h42 : (fun j => v42 V (ix3 b r j)) = Ffn.conv (wts V) (Ffn.back (wts V) (rows V b) 2 r) (Ffn.back (wts V) (rows V b) 1 r) (Ffn.up (wts V) (rows V b r)) :=
      funext fun j => v42_at V b r j
    have h48 : (fun d => v48 V (ix3 b r d)) = Ffn.down (wts V) (rows V b r) (Ffn.act fun j => v42 V (ix3 b r j)) := funext fun d => v48_at V b r d
    have h76 : (fun d => v76 V (ix3 b r d)) = Ffn.embed (wts V) (fun d => v48 V (ix3 b r d)) (embs V b r) := funext fun d => v76_at V b r d
    rw [h76, h48, h42]
    rfl

end Cert.Reference2Ideal.Model
-- ==== Proof.FEquation.lean ====
/-
  The two runs of the feed-forward call: the reference's arguments stay, and both programs leave the same array.
-/
module

public import proofs.«01_k».proof.Defs
public import proofs.«01_k».proof.Proof.FArray
public import proofs.«01_k».proof.Proof.FRef
public import Idealize.ShloMosaic.Adequacy
public import Idealize.ShloMosaic.Init

@[expose] public section

set_option maxRecDepth 16384

noncomputable section

namespace Cert.Proof

open Idealize.SL.Sem Idealize.ShloMosaic Idealize.ShloMosaic.TcCoe Idealize.ShloMosaic.StableHlo

/-- The arguments of the second reference stay. -/
theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

/-- Every row of the result is a row of a batch. -/
theorem row_split2 (R : Fin 65536) : ∃ (b : Fin 32) (r : Fin 2048), R = ⟨2048 * b.val + r.val, by omega⟩ :=
  ⟨⟨R.val / 2048, by omega⟩, ⟨R.val % 2048, by omega⟩, Fin.ext (by simp only; omega)⟩

/-- Both programs compute the same extended reals. -/
theorem equal_results2 : Cert.algebraic_Kernel2Ideal_Reference2Ideal := by
  intro m g m' g' _ hag
  refine ⟨fun c => (Cert.Kernel2Ideal.Gen.dats m 0 c).arrAt 14 Cert.Kernel2Ideal.cfg0.N, Cert.Kernel2Ideal.Value.run_blocks m g,
    (θ_run Cert.Reference2Ideal.defs _ _).mono (fun r h c => ⟨(h c).1.trans ?_, (h c).2⟩) (Cert.Reference2Ideal.Value.run m' g')⟩
  obtain ⟨h0, h1, h2, h3, h4, h5, h6, h7, h8, h9, h10, h11, h12, h13⟩ := hag c
  have hw : Cert.Reference2Ideal.Model.wts (launchContents m' c) = Cert.Kernel2Ideal.Model.wts m c := by
    show Ffn.W.mk _ _ _ _ _ _ _ _ _ _ _ = Ffn.W.mk _ _ _ _ _ _ _ _ _ _ _
    congr 1
    · exact funext fun d => funext fun j => congrFun h2 (ix2 d j)
    · exact funext fun d => congrFun h4 (ix1 d)
    · exact funext fun d => funext fun j => congrFun h5 (ix2 d j)
    · exact funext fun d => funext fun j => congrFun h6 (ix2 d j)
    · exact funext fun d => congrFun h7 (ix1 d)
    · exact funext fun d => funext fun j => congrFun h8 (ix2 d j)
    · exact funext fun d => congrFun h9 (ix1 d)
    · exact funext fun d => funext fun j => congrFun h10 (ix2 d j)
    · exact funext fun d => congrFun h11 (ix1 d)
    · exact funext fun d => funext fun j => congrFun h12 (ix2 d j)
    · exact funext fun d => congrFun h13 (ix1 d)
  have hy : Cert.Reference2Ideal.Model.rows (launchContents m' c) = Cert.Kernel2Ideal.Model.rows m c := by
    funext b r
    unfold Cert.Reference2Ideal.Model.rows Cert.Kernel2Ideal.Model.rows
    rw [hw]
    congr 1
    · exact funext fun d => congrFun h0 (ix3 b r d)
    · exact funext fun d => congrFun h1 (ix3 b r d)
  have he : Cert.Reference2Ideal.Model.embs (launchContents m' c) = Cert.Kernel2Ideal.Model.erow m c :=
    funext fun b => funext fun r => funext fun e => congrFun h3 (ix4 1 b r e)
  refine funext fun k => ?_
  obtain ⟨R, d, rfl⟩ : ∃ (R : Fin 65536) (d : Fin 1024), k = ix2 R d := ⟨k 0, k 1, by funext a; fin_cases a <;> rfl⟩
  obtain ⟨b, r, rfl⟩ := row_split2 R
  refine (Cert.Reference2Ideal.Model.result_at (launchContents m' c) b r d).trans ?_
  rw [hw, hy, he]
  exact (Cert.Kernel2Ideal.Model.array_at m c b r d).symm

end Cert.Proof
-- ==== Proof.PSpec.lean ====
/-
  The projections of the forgetting attention, row by row: queries and keys normed by head, the output gate, the values, and
  the logarithms of the forget gates summed along the sequence.
-/
module

public import proofs.«01_k».proof.Proof.FSpec
public import proofs.«01_k».proof.Proof.Spec
public import Idealize.ShloMosaic.Lib.Pointwise

@[expose] public section

set_option maxRecDepth 16384

noncomputable section

namespace Cert.Fox

open Idealize.ShloMosaic

/-- The weights. -/
structure W where
  gm : Fin 1024 → EReal
  gkv : Fin 1024 → EReal
  wfox : Fin 1024 → Fin 2048 → EReal
  wkv : Fin 1024 → Fin 2064 → EReal
  bf : Fin 16 → EReal
  gq : Fin 64 → EReal
  gk : Fin 64 → EReal

/-- A row normed head by head, the heads being its stretches of 64 columns. -/
def headNorm (g : Fin 64 → EReal) (t : Fin 1024 → EReal) (j : Fin 1024) : EReal :=
  t j * Ideal.rsqrt (Ideal.div (∑ e : Fin 64, t ⟨64 * (j.val / 64) + e.val, by omega⟩ * t ⟨64 * (j.val / 64) + e.val, by omega⟩) (Ideal.ofBits .f32 0x42800000#32)
    + Ideal.ofBits .f32 0x358637BD#32) * g ⟨j.val % 64, by omega⟩

section
variable (P : W) (x : Fin 1024 → EReal)

/-- The row's queries, gates, keys, values and forget gates before their norms and sigmoids. -/
def qraw (j : Fin 1024) : EReal := ∑ d, Ffn.rms P.gm x d * P.wfox d ⟨j.val, by omega⟩
def og (j : Fin 1024) : EReal := ∑ d, Ffn.rms P.gm x d * P.wfox d ⟨1024 + j.val, by omega⟩
def kraw (j : Fin 1024) : EReal := ∑ d, Ffn.rms P.gkv x d * P.wkv d ⟨j.val, by omega⟩
def val (j : Fin 1024) : EReal := ∑ d, Ffn.rms P.gkv x d * P.wkv d ⟨1024 + j.val, by omega⟩
def fg (h : Fin 16) : EReal := ∑ d, Ffn.rms P.gkv x d * P.wkv d ⟨2048 + h.val, by omega⟩

/-- The queries, scaled for a softmax to the base two. -/
def q (j : Fin 1024) : EReal := headNorm P.gq (qraw P x) j * Ideal.ofBits .f32 0x3E38AA3B#32
/-- The output gate. -/
def sg (j : Fin 1024) : EReal := Ffn.sigm (og P x j)
/-- The keys. -/
def k (j : Fin 1024) : EReal := headNorm P.gk (kraw P x) j
/-- The logarithm of the forget gate. -/
def lf (h : Fin 16) : EReal := Gla.logSigmoid (fg P x h + P.bf h)

end

/-- The logarithms of the forget gates of the rows up to row `r`, to the base two. -/
def cum (P : W) (X : Fin 2048 → Fin 1024 → EReal) (r : Fin 2048) (h : Fin 16) : EReal :=
  (∑ r' : Fin 2048, if r' ≤ r then lf P (X r') h else 0) * Ideal.ofBits .f32 0x3FB8AA3B#32

/-! ## Sums -/
/-- A sum against a column of a block-diagonal matrix of ones is a sum over the column's block. -/
theorem head_sum (f : Fin 256 → EReal) (c : Fin 256) :
    ∑ e : Fin 256, f e * (if e.val / 64 = c.val / 64 then (1 : EReal) else 0) = ∑ e : Fin 64, f ⟨64 * (c.val / 64) + e.val, by omega⟩ := by
  rw [← Equiv.sum_comp (finProdFinEquiv : Fin 4 × Fin 64 ≃ Fin 256), Fintype.sum_prod_type]
  rw [Finset.sum_eq_single (⟨c.val / 64, by omega⟩ : Fin 4)]
  · refine Finset.sum_congr rfl fun e _ => ?_
    have h : (finProdFinEquiv ((⟨c.val / 64, by omega⟩ : Fin 4), e) : Fin 256) = ⟨64 * (c.val / 64) + e.val, by omega⟩ :=
      Fin.ext (Nat.add_comm _ _)
    rw [h, if_pos (by show (64 * (c.val / 64) + e.val) / 64 = c.val / 64; omega), mul_one]
  · intro a _ ha
    refine Finset.sum_eq_zero fun e _ => ?_
    have h : (finProdFinEquiv (a, e) : Fin 256).val = e.val + 64 * a.val := rfl
    rw [if_neg (by rw [h]; intro hc; exact ha (Fin.ext (by show a.val = c.val / 64; omega))), mul_zero]
  · intro h; exact absurd (Finset.mem_univ _) h

/-- A sum up to a row of the first half. -/
theorem prefix_first (g : Fin 2048 → EReal) (r : Fin 1024) :
    ∑ s : Fin 2048, (if s ≤ (⟨r.val, by omega⟩ : Fin 2048) then g s else 0) = ∑ s : Fin 1024, if s ≤ r then g ⟨s.val, by omega⟩ else 0 := by
  refine (Fin.sum_univ_add (a := 1024) (b := 1024) (fun s : Fin 2048 => if s ≤ (⟨r.val, by omega⟩ : Fin 2048) then g s else 0)).trans ?_
  rw [Finset.sum_eq_zero (s := Finset.univ) (f := fun i : Fin 1024 => if (Fin.natAdd 1024 i : Fin 2048) ≤ (⟨r.val, by omega⟩ : Fin 2048) then g (Fin.natAdd 1024 i) else 0), add_zero]
  · rfl
  · intro i _
    exact if_neg (show ¬(1024 + i.val ≤ r.val) by omega)

/-- A sum up to a row of the second half: the sum in that half, and all of the first. -/
theorem prefix_second (g : Fin 2048 → EReal) (r : Fin 1024) :
    ∑ s : Fin 2048, (if s ≤ (⟨1024 + r.val, by omega⟩ : Fin 2048) then g s else 0)
      = (∑ s : Fin 1024, if s ≤ r then g ⟨1024 + s.val, by omega⟩ else 0) + ∑ s : Fin 1024, if s ≤ (1023 : Fin 1024) then g ⟨s.val, by omega⟩ else 0 := by
  refine (Fin.sum_univ_add (a := 1024) (b := 1024) (fun s : Fin 2048 => if s ≤ (⟨1024 + r.val, by omega⟩ : Fin 2048) then g s else 0)).trans ?_
  rw [add_comm]
  congr 1
  · refine Finset.sum_congr rfl fun i _ => ?_
    show (if 1024 + i.val ≤ 1024 + r.val then _ else _) = if i.val ≤ r.val then _ else _
    simp only [Nat.add_le_add_iff_left]
    rfl
  · refine Finset.sum_congr rfl fun i _ => ?_
    rw [if_pos (show (Fin.castAdd 1024 i : Fin 2048) ≤ ⟨1024 + r.val, by omega⟩ from (show i.val ≤ 1024 + r.val by omega)),
      if_pos (show i ≤ (1023 : Fin 1024) from (show i.val ≤ 1023 by omega))]
    rfl

/-- A division by sixty-four. -/
theorem sixty_fourth (a : EReal) : Ideal.div a (Ideal.ofBits .f32 0x42800000#32) = a * Ideal.ofBits .f32 0x3C800000#32 := by
  have h1 : Ideal.ofBits .f32 0x42800000#32 = ((64 : ℝ) : EReal) := by
    simp [Ideal.ofBits, Ideal.ieee]
    rw [← EReal.coe_mul]; norm_num
  have h2 : Ideal.ofBits .f32 0x3C800000#32 = ((1 / 64 : ℝ) : EReal) := by
    simp [Ideal.ofBits, Ideal.ieee]
    rw [← EReal.coe_mul]; norm_num
  rw [h1, h2, Ideal.div_coe (by norm_num)]

end Cert.Fox
-- ==== Proof.PRows.lean ====
/-
  A grid point of the third kernel, row by row: what it computes from its blocks is the projections of its rows.
-/
module

public import proofs.«01_k».proof.Proof.PSpec
public import proofs.«01_k».proof.Proof.KRows
public import proofs.«01_k».proof.Proof.Gen.Kernel3Ideal.Skeleton
public import Idealize.ShloMosaic.Lib.Pointwise
public import Idealize.ShloMosaic.Lib.WordCmp

@[expose] public section

set_option maxRecDepth 16384

noncomputable section

namespace Cert.Kernel3Ideal.Model

open Idealize.ShloMosaic Idealize.ShloMosaic.TcCoe Idealize.ShloMosaic.Pointwise
open Cert.Kernel3Ideal Cert.Kernel3Ideal.Gen

/-- What a point loads. -/
structure Pt (F : FTy → Type) where
  x : Vec F S1024x1024 .f32
  gm : Vec F S1x1024 .f32
  gkv : Vec F S1x1024 .f32
  wq : Vec F S1024x1024 .bf16
  wog : Vec F S1024x1024 .bf16
  wk : Vec F S1024x1024 .bf16
  wvf : Vec F S1040x1024 .bf16
  bf : Vec F S16x1 .f32
  gq : Vec F S1x1024 .f32
  gk : Vec F S1x1024 .f32
  ones : Vec F S256x256 .bf16
  triu : Vec F S1024x1024 .bf16

section
variable {F : FTy → Type} [FloatOps F] (Q : Pt F)

/-- The zeros a product is added to. -/
def zeros : FVec F S1040x1024 .f32 := constant S1040x1024 .f32 0x00000000#32
/-- The rows normed for the queries and for the keys. -/
def h1 : FVec F S1024x1024 .bf16 := k0_pay4 Q.x Q.gm
def h2 : FVec F S1024x1024 .bf16 := k0_pay5 Q.x Q.gkv
/-- What the point stores: queries, gates, keys, values, summed logarithms and what it keeps; `p` is what was kept. -/
def qP : FVec F S1024x1024 .bf16 :=
  k0_pay11 (k0_pay6 Q.x Q.gm Q.wq) (k0_pay7 Q.gq) (k0_pay8 Q.x Q.gm Q.wq) (k0_pay9 Q.x Q.gm Q.wq Q.ones) (k0_pay10 Q.x Q.gm Q.wq) Q.ones Q.ones Q.ones
def sgP : FVec F S1024x1024 .bf16 := k0_pay12 (h1 Q) Q.wog
def kP : FVec F S1024x1024 .bf16 := k0_pay13 (h2 Q) Q.wk Q.gk Q.ones Q.ones Q.ones Q.ones
def vtP : FVec F S1024x1024 .bf16 := k0_pay16 (h2 Q) (k0_pay14 Q.wvf) zeros
def ctP (p : Vec F S16x1 .f32) : FVec F S16x1024 .f32 := k0_pay19 (h2 Q) (k0_pay14 Q.wvf) zeros Q.bf Q.triu p
def keepP (p : Vec F S16x1 .f32) : FVec F S16x128 .f32 := k0_pay18 (h2 Q) (k0_pay14 Q.wvf) zeros Q.bf Q.triu p

/-- The sums of squares by head, as four products with a block-diagonal matrix of ones. -/
def heads (t : FVec F S1024x1024 .bf16) (ones : Vec F S256x256 .bf16) : FVec F S1024x1024 .f32 :=
  concatenate S1024x1024 1 [
    ⟨S1024x256, matmul dot_S1024x256_S256x256_S1024x256_1_0_0_1_n_n none (extractStridedSlice S1024x256 ![0, 0] t slices_S1024x1024_o0_0_S1024x256) (shapeCast S256x256 ones shapeCasts_S256x256_S256x256) (constant S1024x256 .f32 0x00000000#32)⟩,
    ⟨S1024x256, matmul dot_S1024x256_S256x256_S1024x256_1_0_0_1_n_n none (extractStridedSlice S1024x256 ![0, 256] t slices_S1024x1024_o0_256_S1024x256) (shapeCast S256x256 ones shapeCasts_S256x256_S256x256) (constant S1024x256 .f32 0x00000000#32)⟩,
    ⟨S1024x256, matmul dot_S1024x256_S256x256_S1024x256_1_0_0_1_n_n none (extractStridedSlice S1024x256 ![0, 512] t slices_S1024x1024_o0_512_S1024x256) (shapeCast S256x256 ones shapeCasts_S256x256_S256x256) (constant S1024x256 .f32 0x00000000#32)⟩,
    ⟨S1024x256, matmul dot_S1024x256_S256x256_S1024x256_1_0_0_1_n_n none (extractStridedSlice S1024x256 ![0, 768] t slices_S1024x1024_o0_768_S1024x256) (shapeCast S256x256 ones shapeCasts_S256x256_S256x256) (constant S1024x256 .f32 0x00000000#32)⟩]
    concatenates_S1024x256_S1024x256_S1024x256_S1024x256_S1024x1024_d1

/-- Rows normed head by head. -/
def normed (t : FVec F S1024x1024 .f32) (g : Vec F S1x1024 .f32) (ones : Vec F S256x256 .bf16) : FVec F S1024x1024 .f32 :=
  mulf (mulf t (rsqrt (addf (mulf (heads (truncf .bf16 (mulf t t) bitsLt_bf16_f32) ones) (broadcast S1024x1024 (Scalar.ofBits .f32 0x3C800000#32)))
    (broadcast S1024x1024 (Scalar.ofBits .f32 0x358637BD#32))))) (broadcastTo S1024x1024 (shapeCast S1x1024 g shapeCasts_S1x1024_S1x1024) broadcasts_S1x1024_S1024x1024)

/-- The product the keys are normed from. -/
def kmat : FVec F S1024x1024 .f32 :=
  matmul dot_S1024x1024_S1024x1024_S1024x1024_1_0_0_1_n_n none (h2 Q) (shapeCast S1024x1024 Q.wk shapeCasts_S1024x1024_S1024x1024) (constant S1024x1024 .f32 0x00000000#32)

theorem qP_normed : qP Q = truncf .bf16 (mulf (normed (k0_pay6 Q.x Q.gm Q.wq) Q.gq Q.ones) (broadcast S1024x1024 (Scalar.ofBits .f32 0x3E38AA3B#32))) bitsLt_bf16_f32 := rfl
theorem kP_normed : kP Q = truncf .bf16 (normed (kmat Q) Q.gk Q.ones) bitsLt_bf16_f32 := rfl
end

/-- A point holds the weights and the rows `X`. -/
structure Pt.Is (Q : Pt Ideal) (P : Fox.W) (X : Fin 1024 → Fin 1024 → EReal) : Prop where
  x : ∀ r d, Q.x (ix2 r d) = X r d
  gm : ∀ d, Q.gm (ix2 0 d) = P.gm d
  gkv : ∀ d, Q.gkv (ix2 0 d) = P.gkv d
  wq : ∀ d (j : Fin 1024), Q.wq (ix2 d j) = P.wfox d ⟨j.val, by omega⟩
  wog : ∀ d (j : Fin 1024), Q.wog (ix2 d j) = P.wfox d ⟨1024 + j.val, by omega⟩
  wk : ∀ d (j : Fin 1024), Q.wk (ix2 d j) = P.wkv d ⟨j.val, by omega⟩
  wvf : ∀ (j : Fin 1040) d, Q.wvf (ix2 j d) = P.wkv d ⟨1024 + j.val, by omega⟩
  bf : ∀ h, Q.bf (ix2 h 0) = P.bf h
  gq : ∀ j : Fin 1024, Q.gq (ix2 0 j) = P.gq ⟨j.val % 64, by omega⟩
  gk : ∀ j : Fin 1024, Q.gk (ix2 0 j) = P.gk ⟨j.val % 64, by omega⟩
  ones : ∀ a b : Fin 256, Q.ones (ix2 a b) = if a.val / 64 = b.val / 64 then 1 else 0
  triu : ∀ a b : Fin 1024, Q.triu (ix2 a b) = if a ≤ b then 1 else 0

theorem heads_at (t : FVec Ideal S1024x1024 .bf16) (ones : Vec Ideal S256x256 .bf16)
    (ho : ∀ a b : Fin 256, ones (ix2 a b) = if a.val / 64 = b.val / 64 then 1 else 0) (r j : Fin 1024) :
    heads t ones (ix2 r j) = ∑ e : Fin 64, t (ix2 r ⟨64 * (j.val / 64) + e.val, by omega⟩) := by
  have key : ∀ (k : ℕ) (f : Fin 256 → EReal) (c : Fin 256), j.val = 256 * k + c.val →
      (∀ (e : Fin 256) (y : Fin 1024), y.val = 256 * k + e.val → f e = t (ix2 r y)) →
      ∑ e : Fin 256, f e * (if e.val / 64 = c.val / 64 then (1 : EReal) else 0) = ∑ e : Fin 64, t (ix2 r ⟨64 * (j.val / 64) + e.val, by omega⟩) := by
    intro k f c hc hf
    rw [Fox.head_sum]
    exact Finset.sum_congr rfl fun e _ => hf _ _ (by dsimp only; omega)
  pointwise [heads]
  simp only [ho]
  by_cases h0 : j.val < 256
  · rw [dif_pos h0]
    exact key 0 (fun e => t (ix2 r ⟨e.val, by omega⟩)) ⟨j.val, h0⟩ (by dsimp only; omega)
      fun e y hy => congrArg (fun i => t (ix2 r i)) (Fin.ext (by dsimp only; omega))
  rw [dif_neg h0]
  by_cases h1 : j.val - 256 < 256
  · rw [dif_pos h1]
    exact key 1 (fun e => t (ix2 r ⟨256 + e.val, by omega⟩)) ⟨j.val - 256, h1⟩ (by dsimp only; omega)
      fun e y hy => congrArg (fun i => t (ix2 r i)) (Fin.ext (by dsimp only; omega))
  rw [dif_neg h1]
  by_cases h2 : j.val - 256 - 256 < 256
  · rw [dif_pos h2]
    exact key 2 (fun e => t (ix2 r ⟨512 + e.val, by omega⟩)) ⟨j.val - 256 - 256, h2⟩ (by dsimp only; omega)
      fun e y hy => congrArg (fun i => t (ix2 r i)) (Fin.ext (by dsimp only; omega))
  rw [dif_neg h2]
  exact key 3 (fun e => t (ix2 r ⟨768 + e.val, by omega⟩)) ⟨j.val - 256 - 256 - 256, by omega⟩ (by dsimp only; omega)
    fun e y hy => congrArg (fun i => t (ix2 r i)) (Fin.ext (by dsimp only; omega))

theorem normed_at (t : FVec Ideal S1024x1024 .f32) (g : Vec Ideal S1x1024 .f32) (ones : Vec Ideal S256x256 .bf16)
    (ho : ∀ a b : Fin 256, ones (ix2 a b) = if a.val / 64 = b.val / 64 then 1 else 0) (gh : Fin 64 → EReal)
    (hg : ∀ j : Fin 1024, g (ix2 0 j) = gh ⟨j.val % 64, by omega⟩) (T : Fin 1024 → EReal) (r : Fin 1024) (hT : ∀ j, t (ix2 r j) = T j) (j : Fin 1024) :
    normed t g ones (ix2 r j) = Fox.headNorm gh T j := by
  have h := heads_at (truncf .bf16 (mulf t t) bitsLt_bf16_f32) ones ho r j
  unfold normed
  generalize heads (truncf .bf16 (mulf t t) bitsLt_bf16_f32) ones = a at *
  pointwise []
  rw [h, hg, hT]
  unfold Fox.headNorm
  rw [Fox.sixty_fourth]
  simp only [← hT]
  rfl

section
variable {Q : Pt Ideal} {P : Fox.W} {X : Fin 1024 → Fin 1024 → EReal} (hQ : Q.Is P X)
include hQ

theorem h1_eq (r d : Fin 1024) : h1 Q (ix2 r d) = Ffn.rms P.gm (X r) d := by
  pointwise [h1, k0_pay4, k0_pay3, Ffn.rms]
  simp only [hQ.x, hQ.gm]
theorem h2_eq (r d : Fin 1024) : h2 Q (ix2 r d) = Ffn.rms P.gkv (X r) d := by
  pointwise [h2, k0_pay5, k0_pay3, Ffn.rms]
  simp only [hQ.x, hQ.gkv]

theorem q_eq (r j : Fin 1024) : qP Q (ix2 r j) = Fox.q P (X r) j := by
  have h : ∀ j, k0_pay6 Q.x Q.gm Q.wq (ix2 r j) = Fox.qraw P (X r) j := fun j => by
    have h := h1_eq hQ
    unfold h1 at h
    pointwise [k0_pay6, Fox.qraw]
    simp only [h, hQ.wq]
  have e := normed_at _ Q.gq Q.ones hQ.ones P.gq hQ.gq _ r h j
  rw [qP_normed]
  generalize normed (k0_pay6 Q.x Q.gm Q.wq) Q.gq Q.ones = a at *
  pointwise [Fox.q]
  rw [e]

theorem sg_eq (r j : Fin 1024) : sgP Q (ix2 r j) = Fox.sg P (X r) j := by
  have h := h1_eq hQ
  pointwise [sgP, k0_pay12, Fox.sg, Fox.og, Ffn.sigm]
  simp only [h, hQ.wog, zero_sub]

theorem k_eq (r j : Fin 1024) : kP Q (ix2 r j) = Fox.k P (X r) j := by
  have h : ∀ j, kmat Q (ix2 r j) = Fox.kraw P (X r) j := fun j => by
    have h := h2_eq hQ
    pointwise [kmat, Fox.kraw]
    simp only [h, hQ.wk]
  have e := normed_at _ Q.gk Q.ones hQ.ones P.gk hQ.gk _ r h j
  rw [kP_normed]
  generalize normed (kmat Q) Q.gk Q.ones = a at *
  pointwise [Fox.k]
  rw [e]

theorem vt_eq (j r : Fin 1024) : vtP Q (ix2 j r) = Fox.val P (X r) j := by
  have h := h2_eq hQ
  pointwise [vtP, k0_pay16, k0_pay15, k0_pay14, zeros, Fox.val]
  simp only [h, hQ.wvf]
  exact Finset.sum_congr rfl fun d _ => mul_comm _ _

/-- The logarithms of the forget gates. -/
def lfP (Q : Pt Ideal) (h : Fin 16) (r : Fin 1024) : EReal :=
  Gla.logSigmoid ((∑ d, Q.wvf (ix2 ⟨1024 + h.val, by omega⟩ d) * h2 Q (ix2 r d)) + Q.bf (ix2 h 0))

theorem lf_eq (h : Fin 16) (r : Fin 1024) : lfP Q h r = Fox.lf P (X r) h := by
  unfold lfP Fox.lf Fox.fg
  simp only [h2_eq hQ, hQ.wvf, hQ.bf]
  congr 2
  exact Finset.sum_congr rfl fun d _ => by
    rw [mul_comm]
    congr 2
    exact Fin.ext (by dsimp only; omega)

omit hQ in
/-- The logarithm of a forget gate is not the positive infinity. -/
theorem lf_ne_top (P : Fox.W) (x : Fin 1024 → EReal) (h : Fin 16) : Fox.lf P x h ≠ ⊤ := by
  unfold Fox.lf
  induction Fox.fg P x h + P.bf h with
  | bot => rw [Gla.logSigmoid_bot]; exact bot_ne_top
  | coe a => rw [Gla.logSigmoid_coe]; exact EReal.coe_ne_top _
  | top => rw [Gla.logSigmoid_top]; exact EReal.zero_ne_top

theorem cum_eq (p : Vec Ideal S16x1 .f32) (h : Fin 16) (r : Fin 1024) :
    k0_pay17 (h2 Q) (k0_pay14 Q.wvf) zeros Q.bf Q.triu p (ix2 h r) = (∑ s : Fin 1024, if s ≤ r then Fox.lf P (X s) h else 0) + p (ix2 h 0) := by
  have ht := hQ.triu
  have hl := lf_eq hQ
  unfold lfP Gla.logSigmoid at hl
  pointwise [k0_pay17, k0_pay15, k0_pay14, zeros]
  have ha : ∀ a : EReal, (FloatOps.absf (F := Ideal) (φ := .f32) a : EReal) = max a (-a) := fun _ => rfl
  simp only [ht, zero_sub, ha, hl]
  congr 1
  rw [← Finset.sum_add_distrib, ← Finset.sum_add_distrib]
  refine Finset.sum_congr rfl fun s _ => ?_
  split_ifs
  · simp only [mul_one]; exact Cert.KernelIdeal.Model.split_sum (lf_ne_top _ _ _)
  · simp only [mul_zero, add_zero]

theorem ct_eq (p : Vec Ideal S16x1 .f32) (h : Fin 16) (r : Fin 1024) :
    ctP Q p (ix2 h r) = ((∑ s : Fin 1024, if s ≤ r then Fox.lf P (X s) h else 0) + p (ix2 h 0)) * Ideal.ofBits .f32 0x3FB8AA3B#32 := by
  have e := cum_eq hQ p h r
  unfold ctP k0_pay19
  generalize k0_pay17 (h2 Q) (k0_pay14 Q.wvf) zeros Q.bf Q.triu p = a at *
  pointwise []
  rw [e]

theorem keep_eq (p : Vec Ideal S16x1 .f32) (h : Fin 16) (l : Fin 128) :
    keepP Q p (ix2 h l) = (∑ s : Fin 1024, if s ≤ (1023 : Fin 1024) then Fox.lf P (X s) h else 0) + p (ix2 h 0) := by
  have e := cum_eq hQ p h 1023
  unfold keepP k0_pay18
  generalize k0_pay17 (h2 Q) (k0_pay14 Q.wvf) zeros Q.bf Q.triu p = a at *
  pointwise []
  exact e

end

end Cert.Kernel3Ideal.Model
-- ==== Proof.PGlue.lean ====
/-
  The printed body of the third kernel against the model: what a grid point writes, in either case, is the model's pieces.

  The first point of a batch (case A) starts its sums of logarithms from zeros, the second (case B) from what the first kept.
-/
module

public import proofs.«01_k».proof.Proof.PRows
public import proofs.«01_k».proof.Proof.Gen.Kernel3Ideal.Frame.RunB

@[expose] public section

set_option maxRecDepth 65536

noncomputable section

namespace Cert.Kernel3Ideal.Model

open Idealize.ShloMosaic Idealize.ShloMosaic.TcCoe
open Cert.Kernel3Ideal Cert.Kernel3Ideal.Gen

variable {F : FTy → Type} [FloatOps F]

/-- A block written whole. -/
def sq (a : FVec F S1024x1024 .bf16) : List (View.Piece (Elt F) S1024x1024 .bf16) :=
  [⟨Rect.unit (s := S1024x1024) ![0, 0] S1024x1024.size inb_S1024x1024_S1024x1024_0_0, a⟩]
def wide (a : FVec F S16x1024 .f32) : List (View.Piece (Elt F) S16x1024 .f32) :=
  [⟨Rect.unit (s := S16x1024) ![0, 0] S16x1024.size inb_S16x1024_S16x1024_0_0, a⟩]
def carry (a : FVec F S16x128 .f32) (L : List (View.Piece (Elt F) S16x128 .f32)) : List (View.Piece (Elt F) S16x128 .f32) :=
  ⟨Rect.unit (s := S16x128) ![0, 0] S16x128.size inb_S16x128_S16x128_0_0, a⟩ :: L

section
variable (c : Dev nD) (i : grid0.Coords)
  (arg2 : Memref sig .tc .vmem S1024x1024 .f32) (harg2 : arg2.IsWhole) (arg3 : Memref sig .tc .vmem S1x1024 .f32)
  (harg3 : arg3.IsWhole) (arg4 : Memref sig .tc .vmem S1x1024 .f32) (harg4 : arg4.IsWhole) (arg5 : Memref sig .tc
  .vmem S1024x1024 .bf16) (harg5 : arg5.IsWhole) (arg6 : Memref sig .tc .vmem S1024x1024 .bf16) (harg6 : arg6.IsWhole)
  (arg7 : Memref sig .tc .vmem S1024x1024 .bf16) (harg7 : arg7.IsWhole) (arg8 : Memref sig .tc .vmem S1040x1024 .bf16)
  (harg8 : arg8.IsWhole) (arg9 : Memref sig .tc .vmem S16x128 .f32) (harg9 : arg9.IsWhole) (arg10 : Memref sig .tc
  .vmem S1x1024 .f32) (harg10 : arg10.IsWhole) (arg11 : Memref sig .tc .vmem S1x1024 .f32) (harg11 : arg11.IsWhole)
  (arg12 : Memref sig .tc .vmem S256x256 .bf16) (harg12 : arg12.IsWhole) (arg13 : Memref sig .tc .vmem S1024x1024
  .bf16) (harg13 : arg13.IsWhole) (arg14 : Memref sig .tc .vmem S1024x1024 .bf16) (harg14 : arg14.IsWhole) (arg15 :
  Memref sig .tc .vmem S1024x1024 .bf16) (harg15 : arg15.IsWhole) (arg16 : Memref sig .tc .vmem S1024x1024 .bf16)
  (harg16 : arg16.IsWhole) (arg17 : Memref sig .tc .vmem S1024x1024 .bf16) (harg17 : arg17.IsWhole) (arg18 : Memref
  sig .tc .vmem S1024x128 .bf16) (harg18 : arg18.IsWhole) (arg19 : Memref sig .tc .vmem S16x1024 .f32) (harg19 :
  arg19.IsWhole) (arg20 : Memref sig .tc .vmem S16x128 .f32) (harg20 : arg20.IsWhole)
  (x0 : Vec F S1024x1024 .f32) (x1 : Vec F S1x1024 .f32) (x2 : Vec F S1x1024 .f32) (x3 : Vec F S1024x1024 .bf16) (x4 :
  Vec F S1024x1024 .bf16) (x5 : Vec F S1024x1024 .bf16) (x6 : Vec F S1040x1024 .bf16) (x7 : Vec F S16x128 .f32) (x8 :
  Vec F S1x1024 .f32) (x9 : Vec F S1x1024 .f32) (x10 : Vec F S256x256 .bf16) (x11 : Vec F S1024x1024 .bf16)
  (xs0 : Vec F S16x128 .f32)

/-- What a point loads: its blocks, and the first column of the biases. -/
def pt : Pt F where
  x := View.readAt (Elt F) arg2.view (Rect.unit (s := S1024x1024) ![0, 0] S1024x1024.size inb_S1024x1024_S1024x1024_0_0).toLoadRect (harg2.unread x0)
  gm := View.readAt (Elt F) arg3.view (Rect.unit (s := S1x1024) ![0, 0] S1x1024.size inb_S1x1024_S1x1024_0_0).toLoadRect (harg3.unread x1)
  gkv := View.readAt (Elt F) arg4.view (Rect.unit (s := S1x1024) ![0, 0] S1x1024.size inb_S1x1024_S1x1024_0_0).toLoadRect (harg4.unread x2)
  wq := View.readAt (Elt F) arg5.view (Rect.unit (s := S1024x1024) ![0, 0] S1024x1024.size inb_S1024x1024_S1024x1024_0_0).toLoadRect (harg5.unread x3)
  wog := View.readAt (Elt F) arg6.view (Rect.unit (s := S1024x1024) ![0, 0] S1024x1024.size inb_S1024x1024_S1024x1024_0_0).toLoadRect (harg6.unread x4)
  wk := View.readAt (Elt F) arg7.view (Rect.unit (s := S1024x1024) ![0, 0] S1024x1024.size inb_S1024x1024_S1024x1024_0_0).toLoadRect (harg7.unread x5)
  wvf := View.readAt (Elt F) arg8.view (Rect.unit (s := S1040x1024) ![0, 0] S1040x1024.size inb_S1040x1024_S1040x1024_0_0).toLoadRect (harg8.unread x6)
  bf := View.readAt (Elt F) arg9.view (Rect.unit (s := S16x128) ![0, 0] S16x1.size inb_S16x128_S16x1_0_0).toLoadRect (harg9.unread x7)
  gq := View.readAt (Elt F) arg10.view (Rect.unit (s := S1x1024) ![0, 0] S1x1024.size inb_S1x1024_S1x1024_0_0).toLoadRect (harg10.unread x8)
  gk := View.readAt (Elt F) arg11.view (Rect.unit (s := S1x1024) ![0, 0] S1x1024.size inb_S1x1024_S1x1024_0_0).toLoadRect (harg11.unread x9)
  ones := View.readAt (Elt F) arg12.view (Rect.unit (s := S256x256) ![0, 0] S256x256.size inb_S256x256_S256x256_0_0).toLoadRect (harg12.unread x10)
  triu := View.readAt (Elt F) arg13.view (Rect.unit (s := S1024x1024) ![0, 0] S1024x1024.size inb_S1024x1024_S1024x1024_0_0).toLoadRect (harg13.unread x11)

/-- What the first point of a batch starts from. -/
def prevA : Vec F S16x1 .f32 :=
  View.readCov arg20.view (Val := Elt F) (carry k0_pay2 []) (Rect.unit (s := S16x128) ![0, 0] S16x1.size inb_S16x128_S16x1_0_0).toLoadRect

/-- What the second starts from. -/
def prevB : Vec F S16x1 .f32 :=
  View.readAt (Elt F) arg20.view (Rect.unit (s := S16x128) ![0, 0] S16x1.size inb_S16x128_S16x1_0_0).toLoadRect (harg20.unread xs0)

theorem out12_A (hc : cond0_0 i) :
    (kernelRun0_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc x0 x1 x2 x3 x4 x5 x6 x7 x8 x9 x10 x11).1 =
    sq (qP (pt arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11)) := by sl_kernel_rfl

theorem out13_A (hc : cond0_0 i) :
    (kernelRun0_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc x0 x1 x2 x3 x4 x5 x6 x7 x8 x9 x10 x11).2.1 =
    sq (sgP (pt arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11)) := by sl_kernel_rfl

theorem out14_A (hc : cond0_0 i) :
    (kernelRun0_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc x0 x1 x2 x3 x4 x5 x6 x7 x8 x9 x10 x11).2.2.1 =
    sq (kP (pt arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11)) := by sl_kernel_rfl

theorem out15_A (hc : cond0_0 i) :
    (kernelRun0_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc x0 x1 x2 x3 x4 x5 x6 x7 x8 x9 x10 x11).2.2.2.1 =
    sq (vtP (pt arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11)) := by sl_kernel_rfl

theorem out17_A (hc : cond0_0 i) :
    (kernelRun0_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc x0 x1 x2 x3 x4 x5 x6 x7 x8 x9 x10 x11).2.2.2.2.2.1 =
    wide (ctP (pt arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11) (prevA arg20)) := by sl_kernel_rfl

theorem kept_A (hc : cond0_0 i) :
    (kernelRun0_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc x0 x1 x2 x3 x4 x5 x6 x7 x8 x9 x10 x11).2.2.2.2.2.2.1 =
    carry (keepP (pt arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11) (prevA arg20)) (carry k0_pay2
    []) := by sl_kernel_rfl

theorem out12_B (hc : ¬cond0_0 i) :
    (kernelRun0_B c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc x0 x1 x2 x3 x4 x5 x6 x7 x8 x9 x10 x11 xs0).1 =
    sq (qP (pt arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11)) := by sl_kernel_rfl

theorem out13_B (hc : ¬cond0_0 i) :
    (kernelRun0_B c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc x0 x1 x2 x3 x4 x5 x6 x7 x8 x9 x10 x11 xs0).2.1 =
    sq (sgP (pt arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11)) := by sl_kernel_rfl

theorem out14_B (hc : ¬cond0_0 i) :
    (kernelRun0_B c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc x0 x1 x2 x3 x4 x5 x6 x7 x8 x9 x10 x11 xs0).2.2.1 =
    sq (kP (pt arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11)) := by sl_kernel_rfl

theorem out15_B (hc : ¬cond0_0 i) :
    (kernelRun0_B c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc x0 x1 x2 x3 x4 x5 x6 x7 x8 x9 x10 x11 xs0).2.2.2.1 =
    sq (vtP (pt arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11)) := by sl_kernel_rfl

theorem out17_B (hc : ¬cond0_0 i) :
    (kernelRun0_B c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc x0 x1 x2 x3 x4 x5 x6 x7 x8 x9 x10 x11 xs0).2.2.2.2.2.1 =
    wide (ctP (pt arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11) (prevB arg20 harg20 xs0)) := by sl_kernel_rfl

theorem kept_B (hc : ¬cond0_0 i) :
    (kernelRun0_B c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc x0 x1 x2 x3 x4 x5 x6 x7 x8 x9 x10 x11 xs0).2.2.2.2.2.2.1 =
    carry (keepP (pt arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11) (prevB arg20 harg20 xs0)) [] := by sl_kernel_rfl

end

end Cert.Kernel3Ideal.Model
-- ==== Proof.PPoint.lean ====
/-
  What a grid point of the third kernel leaves, in terms of its input blocks and of what was kept before it.
-/
module

public import proofs.«01_k».proof.Proof.PGlue
public import proofs.«01_k».proof.Proof.Gen.Kernel3Ideal.Frame
public import Idealize.ShloMosaic.Lib.Pipeline.Value
public import Idealize.ShloMosaic.Lib.Pipeline.ValueKit

@[expose] public section

set_option maxRecDepth 16384

noncomputable section

namespace Cert.Kernel3Ideal.Model

open Idealize.ShloMosaic Idealize.ShloMosaic.TcCoe Idealize.ShloMosaic.Pointwise
open Cert.Kernel3Ideal Cert.Kernel3Ideal.Gen

/-- A load of a box of a whole buffer, at an index of the box: the buffer's value at the index moved by the box's corner. -/
theorem load_at {κ : Kind} {sp : Space} {S : Shape} {e : EltTy} (M : Memref sig κ sp S e) (hM : M.IsWhole) (d : S.Idx → Elt Ideal e)
    (off size : Fin S.rank → ℕ) (inb : ∀ a, off a + size a ≤ S.size a) (x : (Rect.unit off size inb).shape.Idx) (y : S.Idx)
    (h : ∀ a, (y a).val = off a + (x a).val) :
    View.readAt (Elt Ideal) M.view (Rect.unit off size inb).toLoadRect (hM.unread d) x = d y := by
  rw [View.readAt_eq_ld, Memref.IsWhole.read_unread]
  exact View.ld_unit_apply_of d off size inb x y h

theorem corner : ∀ a : Fin 2, (![0, 0] : Fin 2 → ℕ) a = 0 := by decide

/-- A block whose last piece is whole holds that piece. -/
theorem whole_at {S : Shape} {e : EltTy} {off : Fin S.rank → ℕ} (inb : ∀ a, off a + S.size a ≤ S.size a) (a : S.Idx → Elt Ideal e)
    (L : List (View.Piece (Elt Ideal) S e)) (h : ∀ a, off a = 0) : View.canon (⟨Rect.unit off S.size inb, a⟩ :: L) = a :=
  View.canon_cons_unit_lit inb a L h

theorem sq_at (a : FVec Ideal S1024x1024 .bf16) : View.canon (sq a) = a := by
  unfold sq
  exact whole_at (S := S1024x1024) (e := .bf16) inb_S1024x1024_S1024x1024_0_0 a [] corner
theorem wide_at (a : FVec Ideal S16x1024 .f32) : View.canon (wide a) = a := by
  unfold wide
  exact whole_at (S := S16x1024) (e := .f32) inb_S16x1024_S16x1024_0_0 a [] corner
theorem carry_at (a : FVec Ideal S16x128 .f32) (L : List (View.Piece (Elt Ideal) S16x128 .f32)) : View.canon (carry a L) = a := by
  unfold carry
  exact whole_at (S := S16x128) (e := .f32) inb_S16x128_S16x128_0_0 a L corner

/-- What the input blocks of a point hold. -/
structure Blocks (P : Fox.W) (X : Fin 1024 → Fin 1024 → EReal)
    (x0 : Vec Ideal S1024x1024 .f32) (x1 : Vec Ideal S1x1024 .f32) (x2 : Vec Ideal S1x1024 .f32) (x3 : Vec Ideal
  S1024x1024 .bf16) (x4 : Vec Ideal S1024x1024 .bf16) (x5 : Vec Ideal S1024x1024 .bf16) (x6 : Vec Ideal S1040x1024
  .bf16) (x7 : Vec Ideal S16x128 .f32) (x8 : Vec Ideal S1x1024 .f32) (x9 : Vec Ideal S1x1024 .f32) (x10 : Vec Ideal
  S256x256 .bf16) (x11 : Vec Ideal S1024x1024 .bf16) : Prop where
  x : ∀ r d, x0 (ix2 r d) = X r d
  gm : ∀ d, x1 (ix2 0 d) = P.gm d
  gkv : ∀ d, x2 (ix2 0 d) = P.gkv d
  wq : ∀ d (j : Fin 1024), x3 (ix2 d j) = P.wfox d ⟨j.val, by omega⟩
  wog : ∀ d (j : Fin 1024), x4 (ix2 d j) = P.wfox d ⟨1024 + j.val, by omega⟩
  wk : ∀ d (j : Fin 1024), x5 (ix2 d j) = P.wkv d ⟨j.val, by omega⟩
  wvf : ∀ (j : Fin 1040) d, x6 (ix2 j d) = P.wkv d ⟨1024 + j.val, by omega⟩
  bf : ∀ h l, x7 (ix2 h l) = P.bf h
  gq : ∀ j : Fin 1024, x8 (ix2 0 j) = P.gq ⟨j.val % 64, by omega⟩
  gk : ∀ j : Fin 1024, x9 (ix2 0 j) = P.gk ⟨j.val % 64, by omega⟩
  ones : ∀ a b : Fin 256, x10 (ix2 a b) = if a.val / 64 = b.val / 64 then 1 else 0
  triu : ∀ a b : Fin 1024, x11 (ix2 a b) = if a ≤ b then 1 else 0

section
variable (c : Dev nD) (i : grid0.Coords)
  (arg2 : Memref sig .tc .vmem S1024x1024 .f32) (harg2 : arg2.IsWhole) (arg3 : Memref sig .tc .vmem S1x1024 .f32)
  (harg3 : arg3.IsWhole) (arg4 : Memref sig .tc .vmem S1x1024 .f32) (harg4 : arg4.IsWhole) (arg5 : Memref sig .tc
  .vmem S1024x1024 .bf16) (harg5 : arg5.IsWhole) (arg6 : Memref sig .tc .vmem S1024x1024 .bf16) (harg6 : arg6.IsWhole)
  (arg7 : Memref sig .tc .vmem S1024x1024 .bf16) (harg7 : arg7.IsWhole) (arg8 : Memref sig .tc .vmem S1040x1024 .bf16)
  (harg8 : arg8.IsWhole) (arg9 : Memref sig .tc .vmem S16x128 .f32) (harg9 : arg9.IsWhole) (arg10 : Memref sig .tc
  .vmem S1x1024 .f32) (harg10 : arg10.IsWhole) (arg11 : Memref sig .tc .vmem S1x1024 .f32) (harg11 : arg11.IsWhole)
  (arg12 : Memref sig .tc .vmem S256x256 .bf16) (harg12 : arg12.IsWhole) (arg13 : Memref sig .tc .vmem S1024x1024
  .bf16) (harg13 : arg13.IsWhole) (arg14 : Memref sig .tc .vmem S1024x1024 .bf16) (harg14 : arg14.IsWhole) (arg15 :
  Memref sig .tc .vmem S1024x1024 .bf16) (harg15 : arg15.IsWhole) (arg16 : Memref sig .tc .vmem S1024x1024 .bf16)
  (harg16 : arg16.IsWhole) (arg17 : Memref sig .tc .vmem S1024x1024 .bf16) (harg17 : arg17.IsWhole) (arg18 : Memref
  sig .tc .vmem S1024x128 .bf16) (harg18 : arg18.IsWhole) (arg19 : Memref sig .tc .vmem S16x1024 .f32) (harg19 :
  arg19.IsWhole) (arg20 : Memref sig .tc .vmem S16x128 .f32) (harg20 : arg20.IsWhole)
  {x0 : Vec Ideal S1024x1024 .f32} {x1 : Vec Ideal S1x1024 .f32} {x2 : Vec Ideal S1x1024 .f32} {x3 : Vec Ideal
  S1024x1024 .bf16} {x4 : Vec Ideal S1024x1024 .bf16} {x5 : Vec Ideal S1024x1024 .bf16} {x6 : Vec Ideal S1040x1024
  .bf16} {x7 : Vec Ideal S16x128 .f32} {x8 : Vec Ideal S1x1024 .f32} {x9 : Vec Ideal S1x1024 .f32} {x10 : Vec Ideal
  S256x256 .bf16} {x11 : Vec Ideal S1024x1024 .bf16}
  (xs0 : Vec Ideal S16x128 .f32)
  {P : Fox.W} {X : Fin 1024 → Fin 1024 → EReal}
  (hb : Blocks P X x0 x1 x2 x3 x4 x5 x6 x7 x8 x9 x10 x11)

include hb

theorem pt_is :
    Pt.Is (pt arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) P X where
  x r d := by
    refine (load_at arg2 harg2 x0 _ _ inb_S1024x1024_S1024x1024_0_0 (ix2 r d) (ix2 r d)
      (fun a => by match a with | ⟨0, _⟩ => exact (Nat.zero_add _).symm | ⟨1, _⟩ => exact (Nat.zero_add _).symm)).trans ?_
    rw [hb.x]
  gm d := by
    refine (load_at arg3 harg3 x1 _ _ inb_S1x1024_S1x1024_0_0 (ix2 0 d) (ix2 0 d)
      (fun a => by match a with | ⟨0, _⟩ => exact (Nat.zero_add _).symm | ⟨1, _⟩ => exact (Nat.zero_add _).symm)).trans ?_
    rw [hb.gm]
  gkv d := by
    refine (load_at arg4 harg4 x2 _ _ inb_S1x1024_S1x1024_0_0 (ix2 0 d) (ix2 0 d)
      (fun a => by match a with | ⟨0, _⟩ => exact (Nat.zero_add _).symm | ⟨1, _⟩ => exact (Nat.zero_add _).symm)).trans ?_
    rw [hb.gkv]
  wq d j := by
    refine (load_at arg5 harg5 x3 _ _ inb_S1024x1024_S1024x1024_0_0 (ix2 d j) (ix2 d j)
      (fun a => by match a with | ⟨0, _⟩ => exact (Nat.zero_add _).symm | ⟨1, _⟩ => exact (Nat.zero_add _).symm)).trans ?_
    rw [hb.wq]
  wog d j := by
    refine (load_at arg6 harg6 x4 _ _ inb_S1024x1024_S1024x1024_0_0 (ix2 d j) (ix2 d j)
      (fun a => by match a with | ⟨0, _⟩ => exact (Nat.zero_add _).symm | ⟨1, _⟩ => exact (Nat.zero_add _).symm)).trans ?_
    rw [hb.wog]
  wk d j := by
    refine (load_at arg7 harg7 x5 _ _ inb_S1024x1024_S1024x1024_0_0 (ix2 d j) (ix2 d j)
      (fun a => by match a with | ⟨0, _⟩ => exact (Nat.zero_add _).symm | ⟨1, _⟩ => exact (Nat.zero_add _).symm)).trans ?_
    rw [hb.wk]
  wvf j d := by
    refine (load_at arg8 harg8 x6 _ _ inb_S1040x1024_S1040x1024_0_0 (ix2 j d) (ix2 j d)
      (fun a => by match a with | ⟨0, _⟩ => exact (Nat.zero_add _).symm | ⟨1, _⟩ => exact (Nat.zero_add _).symm)).trans ?_
    rw [hb.wvf]
  bf h := by
    refine (load_at arg9 harg9 x7 _ _ inb_S16x128_S16x1_0_0 (ix2 h 0) (ix2 h 0)
      (fun a => by match a with | ⟨0, _⟩ => exact (Nat.zero_add _).symm | ⟨1, _⟩ => exact (Nat.zero_add _).symm)).trans ?_
    rw [hb.bf]
  gq j := by
    refine (load_at arg10 harg10 x8 _ _ inb_S1x1024_S1x1024_0_0 (ix2 0 j) (ix2 0 j)
      (fun a => by match a with | ⟨0, _⟩ => exact (Nat.zero_add _).symm | ⟨1, _⟩ => exact (Nat.zero_add _).symm)).trans ?_
    rw [hb.gq]
  gk j := by
    refine (load_at arg11 harg11 x9 _ _ inb_S1x1024_S1x1024_0_0 (ix2 0 j) (ix2 0 j)
      (fun a => by match a with | ⟨0, _⟩ => exact (Nat.zero_add _).symm | ⟨1, _⟩ => exact (Nat.zero_add _).symm)).trans ?_
    rw [hb.gk]
  ones a b := by
    refine (load_at arg12 harg12 x10 _ _ inb_S256x256_S256x256_0_0 (ix2 a b) (ix2 a b)
      (fun a => by match a with | ⟨0, _⟩ => exact (Nat.zero_add _).symm | ⟨1, _⟩ => exact (Nat.zero_add _).symm)).trans ?_
    rw [hb.ones]
  triu a b := by
    refine (load_at arg13 harg13 x11 _ _ inb_S1024x1024_S1024x1024_0_0 (ix2 a b) (ix2 a b)
      (fun a => by match a with | ⟨0, _⟩ => exact (Nat.zero_add _).symm | ⟨1, _⟩ => exact (Nat.zero_add _).symm)).trans ?_
    rw [hb.triu]

omit hb

theorem prevB_eq (h : Fin 16) : prevB arg20 harg20 xs0 (ix2 h 0) = xs0 (ix2 h 0) :=
  load_at arg20 harg20 xs0 _ _ inb_S16x128_S16x1_0_0 (ix2 h 0) (ix2 h 0)
    (fun a => by match a with | ⟨0, _⟩ => exact (Nat.zero_add _).symm | ⟨1, _⟩ => exact (Nat.zero_add _).symm)

theorem zero_at (h : Fin 16) (l : Fin 128) : (k0_pay2 : FVec Ideal S16x128 .f32) (ix2 h l) = 0 := by
  pointwise [k0_pay2]

theorem prevA_eq (h : Fin 16) : (prevA arg20 : Vec Ideal S16x1 .f32) (ix2 h 0) = 0 := by
  unfold prevA
  rw [View.readCov_eq_canon', carry_at]
  refine Eq.trans ?_ (zero_at h 0)
  exact congrArg k0_pay2 (by
    funext b
    match b with
    | ⟨0, _⟩ => exact Fin.ext (by show 0 + 1 * h.val = h.val; omega)
    | ⟨1, _⟩ => rfl)

include hb

theorem out12_A_eq (hc : cond0_0 i) (r j : Fin 1024) :
    out0_A_12 c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19
    arg20 harg20 hc x0 x1 x2 x3 x4 x5 x6 x7 x8 x9 x10 x11 (ix2 r j) = Fox.q P (X r) j := by
  unfold out0_A_12
  rw [View.read_writes_junk_eq_canon, out12_A, sq_at]
  exact q_eq (pt_is arg2 harg2 arg3 harg3 arg4 harg4 arg5 harg5 arg6 harg6 arg7 harg7 arg8 harg8 arg9 harg9 arg10 harg10
    arg11 harg11 arg12 harg12 arg13 harg13 hb) r j

theorem out13_A_eq (hc : cond0_0 i) (r j : Fin 1024) :
    out0_A_13 c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19
    arg20 harg20 hc x0 x1 x2 x3 x4 x5 x6 x7 x8 x9 x10 x11 (ix2 r j) = Fox.sg P (X r) j := by
  unfold out0_A_13
  rw [View.read_writes_junk_eq_canon, out13_A, sq_at]
  exact sg_eq (pt_is arg2 harg2 arg3 harg3 arg4 harg4 arg5 harg5 arg6 harg6 arg7 harg7 arg8 harg8 arg9 harg9 arg10 harg10
    arg11 harg11 arg12 harg12 arg13 harg13 hb) r j

theorem out14_A_eq (hc : cond0_0 i) (r j : Fin 1024) :
    out0_A_14 c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19
    arg20 harg20 hc x0 x1 x2 x3 x4 x5 x6 x7 x8 x9 x10 x11 (ix2 r j) = Fox.k P (X r) j := by
  unfold out0_A_14
  rw [View.read_writes_junk_eq_canon, out14_A, sq_at]
  exact k_eq (pt_is arg2 harg2 arg3 harg3 arg4 harg4 arg5 harg5 arg6 harg6 arg7 harg7 arg8 harg8 arg9 harg9 arg10 harg10
    arg11 harg11 arg12 harg12 arg13 harg13 hb) r j

theorem out15_A_eq (hc : cond0_0 i) (j r : Fin 1024) :
    out0_A_15 c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19
    arg20 harg20 hc x0 x1 x2 x3 x4 x5 x6 x7 x8 x9 x10 x11 (ix2 j r) = Fox.val P (X r) j := by
  unfold out0_A_15
  rw [View.read_writes_junk_eq_canon, out15_A, sq_at]
  exact vt_eq (pt_is arg2 harg2 arg3 harg3 arg4 harg4 arg5 harg5 arg6 harg6 arg7 harg7 arg8 harg8 arg9 harg9 arg10 harg10
    arg11 harg11 arg12 harg12 arg13 harg13 hb) j r

theorem out17_A_eq (hc : cond0_0 i) (h : Fin 16) (r : Fin 1024) :
    out0_A_17 c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19
    arg20 harg20 hc x0 x1 x2 x3 x4 x5 x6 x7 x8 x9 x10 x11 (ix2 h r) = ((∑ s : Fin 1024, if s ≤ r then Fox.lf P (X s) h
    else 0) + 0) * Ideal.ofBits .f32 0x3FB8AA3B#32 := by
  unfold out0_A_17
  rw [View.read_writes_junk_eq_canon, out17_A, wide_at]
  refine (ct_eq (pt_is arg2 harg2 arg3 harg3 arg4 harg4 arg5 harg5 arg6 harg6 arg7 harg7 arg8 harg8 arg9 harg9 arg10 harg10
    arg11 harg11 arg12 harg12 arg13 harg13 hb) _ h r).trans ?_
  rw [prevA_eq arg20 h]

theorem sout_A_eq (hc : cond0_0 i) (h : Fin 16) (l : Fin 128) :
    sout0_A_0 c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19
    arg20 harg20 hc x0 x1 x2 x3 x4 x5 x6 x7 x8 x9 x10 x11 (ix2 h l) = (∑ s : Fin 1024, if s ≤ (1023 : Fin 1024) then
    Fox.lf P (X s) h else 0) + 0 := by
  unfold sout0_A_0
  rw [View.read_writes_junk_eq_canon, kept_A, carry_at]
  refine (keep_eq (pt_is arg2 harg2 arg3 harg3 arg4 harg4 arg5 harg5 arg6 harg6 arg7 harg7 arg8 harg8 arg9 harg9 arg10 harg10
    arg11 harg11 arg12 harg12 arg13 harg13 hb) _ h l).trans ?_
  rw [prevA_eq arg20 h]

theorem out12_B_eq (hc : ¬cond0_0 i) (r j : Fin 1024) :
    out0_B_12 c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19
    arg20 harg20 hc x0 x1 x2 x3 x4 x5 x6 x7 x8 x9 x10 x11 xs0 (ix2 r j) = Fox.q P (X r) j := by
  unfold out0_B_12
  rw [View.read_writes_junk_eq_canon, out12_B, sq_at]
  exact q_eq (pt_is arg2 harg2 arg3 harg3 arg4 harg4 arg5 harg5 arg6 harg6 arg7 harg7 arg8 harg8 arg9 harg9 arg10 harg10
    arg11 harg11 arg12 harg12 arg13 harg13 hb) r j

theorem out13_B_eq (hc : ¬cond0_0 i) (r j : Fin 1024) :
    out0_B_13 c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19
    arg20 harg20 hc x0 x1 x2 x3 x4 x5 x6 x7 x8 x9 x10 x11 xs0 (ix2 r j) = Fox.sg P (X r) j := by
  unfold out0_B_13
  rw [View.read_writes_junk_eq_canon, out13_B, sq_at]
  exact sg_eq (pt_is arg2 harg2 arg3 harg3 arg4 harg4 arg5 harg5 arg6 harg6 arg7 harg7 arg8 harg8 arg9 harg9 arg10 harg10
    arg11 harg11 arg12 harg12 arg13 harg13 hb) r j

theorem out14_B_eq (hc : ¬cond0_0 i) (r j : Fin 1024) :
    out0_B_14 c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19
    arg20 harg20 hc x0 x1 x2 x3 x4 x5 x6 x7 x8 x9 x10 x11 xs0 (ix2 r j) = Fox.k P (X r) j := by
  unfold out0_B_14
  rw [View.read_writes_junk_eq_canon, out14_B, sq_at]
  exact k_eq (pt_is arg2 harg2 arg3 harg3 arg4 harg4 arg5 harg5 arg6 harg6 arg7 harg7 arg8 harg8 arg9 harg9 arg10 harg10
    arg11 harg11 arg12 harg12 arg13 harg13 hb) r j

theorem out15_B_eq (hc : ¬cond0_0 i) (j r : Fin 1024) :
    out0_B_15 c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19
    arg20 harg20 hc x0 x1 x2 x3 x4 x5 x6 x7 x8 x9 x10 x11 xs0 (ix2 j r) = Fox.val P (X r) j := by
  unfold out0_B_15
  rw [View.read_writes_junk_eq_canon, out15_B, sq_at]
  exact vt_eq (pt_is arg2 harg2 arg3 harg3 arg4 harg4 arg5 harg5 arg6 harg6 arg7 harg7 arg8 harg8 arg9 harg9 arg10 harg10
    arg11 harg11 arg12 harg12 arg13 harg13 hb) j r

theorem out17_B_eq (hc : ¬cond0_0 i) (h : Fin 16) (r : Fin 1024) :
    out0_B_17 c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19
    arg20 harg20 hc x0 x1 x2 x3 x4 x5 x6 x7 x8 x9 x10 x11 xs0 (ix2 h r) = ((∑ s : Fin 1024, if s ≤ r then Fox.lf P (X s)
    h else 0) + xs0 (ix2 h 0)) * Ideal.ofBits .f32 0x3FB8AA3B#32 := by
  unfold out0_B_17
  rw [View.read_writes_junk_eq_canon, out17_B, wide_at]
  refine (ct_eq (pt_is arg2 harg2 arg3 harg3 arg4 harg4 arg5 harg5 arg6 harg6 arg7 harg7 arg8 harg8 arg9 harg9 arg10 harg10
    arg11 harg11 arg12 harg12 arg13 harg13 hb) _ h r).trans ?_
  rw [prevB_eq arg20 harg20 xs0 h]

theorem sout_B_eq (hc : ¬cond0_0 i) (h : Fin 16) (l : Fin 128) :
    sout0_B_0 c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19
    arg20 harg20 hc x0 x1 x2 x3 x4 x5 x6 x7 x8 x9 x10 x11 xs0 (ix2 h l) = (∑ s : Fin 1024, if s ≤ (1023 : Fin 1024) then
    Fox.lf P (X s) h else 0) + xs0 (ix2 h 0) := by
  unfold sout0_B_0
  rw [View.read_writes_junk_eq_canon, kept_B, carry_at]
  refine (keep_eq (pt_is arg2 harg2 arg3 harg3 arg4 harg4 arg5 harg5 arg6 harg6 arg7 harg7 arg8 harg8 arg9 harg9 arg10 harg10
    arg11 harg11 arg12 harg12 arg13 harg13 hb) _ h l).trans ?_
  rw [prevB_eq arg20 harg20 xs0 h]

end

end Cert.Kernel3Ideal.Model
-- ==== Proof.PHost.lean ====
/-
  What the third kernel's host code hands to its grid points: the rows as they are, the weights cut from the two wide
  projections, and the two matrices of ones, one by heads and one triangular.
-/
module

public import proofs.«01_k».proof.Proof.PPoint
public import Idealize.ShloMosaic.Lib.StableHlo.Run

@[expose] public section

set_option maxRecDepth 16384

noncomputable section

namespace Cert.Kernel3Ideal.Model

open Idealize.ShloMosaic Idealize.ShloMosaic.TcCoe Idealize.ShloMosaic.Pointwise
open Cert.Kernel3Ideal Cert.Kernel3Ideal.Gen Idealize.SL.Sem

/-! ## The two matrices of ones -/

/-- The numbers below 256, and each divided by 64, as the program divides: toward zero, then corrected where the signs differ. -/
def below : IVec S256 32 := iotaInDim S256 32 0
def sixtyFour : IVec S256 32 := broadcastInDim S256 ![] bcast_S_S256 (constantI S_ 32 64#32)
def headIx : IVec S256 32 :=
  select
    (andi (cmpi .ne (signi below) (broadcastInDim S256 ![] bcast_S_S256 (signi (constantI S_ 32 64#32))))
      (cmpi .ne (Host.remsi below sixtyFour) (broadcastInDim S256 ![] bcast_S_S256 (constantI S_ 32 0#32))))
    (subi (Host.divsi below sixtyFour) (broadcastInDim S256 ![] bcast_S_S256 (constantI S_ 32 1#32))) (Host.divsi below sixtyFour)

theorem headIx_at : ∀ a : Fin 256, headIx (ix1 a) = BitVec.ofNat 32 (a.val / 64) := by decide +kernel

/-- The bit of a truth value as a number. -/
theorem bit_num (p : Prop) [Decidable p] : (FloatOps.uitofp (F := Ideal) .bf16 (BitVec.ofBool (decide p)) : EReal) = if p then 1 else 0 := by
  show (((BitVec.ofBool (decide p)).toNat : ℝ) : EReal) = _
  by_cases h : p <;> simp [h]

def byHead : FVec Ideal S256x256 .bf16 :=
  uitofp .bf16 (cmpi .eq (broadcastInDim S256x256 ![0, 1] bcast_S256x1_S256x256_0_1 (broadcastInDim S256x1 ![0] bcast_S256_S256x1_0 headIx))
    (broadcastInDim S256x256 ![0, 1] bcast_S1x256_S256x256_0_1 (broadcastInDim S1x256 ![1] bcast_S256_S1x256_1 headIx)))

theorem byHead_at (a b : Fin 256) : byHead (ix2 a b) = if a.val / 64 = b.val / 64 then 1 else 0 := by
  have ha := headIx_at a
  have hb := headIx_at b
  unfold byHead
  generalize headIx = u at *
  pointwise []
  rw [ha, hb, WordCmp.cmpi_eq_ofNat (by omega) (by omega), bit_num]

def upTo : FVec Ideal S1024x1024 .bf16 :=
  uitofp .bf16 (cmpi .sle
    (broadcastInDim S1024x1024 ![0, 1] bcast_S1024x1_S1024x1024_0_1 (broadcastInDim S1024x1 ![0] bcast_S1024_S1024x1_0 (iotaInDim S1024 32 0)))
    (broadcastInDim S1024x1024 ![0, 1] bcast_S1x1024_S1024x1024_0_1 (broadcastInDim S1x1024 ![1] bcast_S1024_S1x1024_1 (iotaInDim S1024 32 0))))

theorem upTo_at (a b : Fin 1024) : upTo (ix2 a b) = if a ≤ b then 1 else 0 := by
  have h : ∀ a : Fin 1024, (iotaInDim S1024 32 0 : IVec S1024 32) (ix1 a) = BitVec.ofNat 32 a.val := fun _ => rfl
  have ha := h a
  have hb := h b
  unfold upTo
  generalize (iotaInDim S1024 32 0 : IVec S1024 32) = u at *
  pointwise []
  rw [ha, hb, WordCmp.cmpi_sle_ofNat (by omega) (by omega), bit_num]
  rfl

variable (m : (ℓ : Loc nD τ sig) → Buf (Elt Ideal) ℓ) (c : Dev nD)

/-- The weights, from the arrays the program is called with. -/
def wts : Fox.W where
  gm d := (m ((c : Thread nD τ).loc main_arg1) : Vec Ideal S1024 .f32) (ix1 d)
  gkv d := (m ((c : Thread nD τ).loc main_arg2) : Vec Ideal S1024 .f32) (ix1 d)
  wfox d j := (m ((c : Thread nD τ).loc main_arg3) : Vec Ideal S1024x2048 .f32) (ix2 d j)
  wkv d j := (m ((c : Thread nD τ).loc main_arg4) : Vec Ideal S1024x2064 .f32) (ix2 d j)
  bf h := (m ((c : Thread nD τ).loc main_arg5) : Vec Ideal S16 .f32) (ix1 h)
  gq d := (m ((c : Thread nD τ).loc main_arg6) : Vec Ideal S64 .f32) (ix1 d)
  gk d := (m ((c : Thread nD τ).loc main_arg7) : Vec Ideal S64 .f32) (ix1 d)

/-- Row `r` of batch `b` of the stream. -/
def xrow (b : Fin 32) (r : Fin 2048) (d : Fin 1024) : EReal := (m ((c : Thread nD τ).loc main_arg0) : Vec Ideal S32x2048x1024 .f32) (ix3 b r d)

/-! ## The arrays at the grid's entry -/

theorem V_v0 : V m c main_v0 = (shapeCast S65536x1024 (m ((c : Thread nD τ).loc main_arg0) : Vec Ideal S32x2048x1024 .f32) shapeCasts_S32x2048x1024_S65536x1024 : Vec Ideal S65536x1024 .f32) := by
  simp only [V, hostOps0, hostOps0_1, hostOps0_2, List.flatten_cons, List.flatten_nil, List.append_nil, List.cons_append, List.nil_append]
  after_results
  rfl
theorem V_v35 : V m c main_v35 = (shapeCast S1x1024 (m ((c : Thread nD τ).loc main_arg1) : Vec Ideal S1024 .f32) shapeCasts_S1024_S1x1024 : Vec Ideal S1x1024 .f32) := by
  simp only [V, hostOps0, hostOps0_1, hostOps0_2, List.flatten_cons, List.flatten_nil, List.append_nil, List.cons_append, List.nil_append]
  after_results
  rfl
theorem V_v36 : V m c main_v36 = (shapeCast S1x1024 (m ((c : Thread nD τ).loc main_arg2) : Vec Ideal S1024 .f32) shapeCasts_S1024_S1x1024 : Vec Ideal S1x1024 .f32) := by
  simp only [V, hostOps0, hostOps0_1, hostOps0_2, List.flatten_cons, List.flatten_nil, List.append_nil, List.cons_append, List.nil_append]
  after_results
  rfl
theorem V_v2 : V m c main_v2 = (truncf .bf16 (extractStridedSlice S1024x1024 ![0, 0] (m ((c : Thread nD τ).loc main_arg3) : Vec Ideal S1024x2048 .f32) slices_S1024x2048_S1024x1024_0_0) bitsLt_bf16_f32 : FVec Ideal S1024x1024 .bf16) := by
  simp only [V, hostOps0, hostOps0_1, hostOps0_2, List.flatten_cons, List.flatten_nil, List.append_nil, List.cons_append, List.nil_append]
  after_results
theorem V_v4 : V m c main_v4 = (truncf .bf16 (extractStridedSlice S1024x1024 ![0, 1024] (m ((c : Thread nD τ).loc main_arg3) : Vec Ideal S1024x2048 .f32) slices_S1024x2048_S1024x1024_0_1024) bitsLt_bf16_f32 : FVec Ideal S1024x1024 .bf16) := by
  simp only [V, hostOps0, hostOps0_1, hostOps0_2, List.flatten_cons, List.flatten_nil, List.append_nil, List.cons_append, List.nil_append]
  after_results
theorem V_v6 : V m c main_v6 = (truncf .bf16 (extractStridedSlice S1024x1024 ![0, 0] (m ((c : Thread nD τ).loc main_arg4) : Vec Ideal S1024x2064 .f32) slices_S1024x2064_S1024x1024_0_0) bitsLt_bf16_f32 : FVec Ideal S1024x1024 .bf16) := by
  simp only [V, hostOps0, hostOps0_1, hostOps0_2, List.flatten_cons, List.flatten_nil, List.append_nil, List.cons_append, List.nil_append]
  after_results
theorem V_v9 : V m c main_v9 = (truncf .bf16 (transpose S1040x1024 [1, 0] (extractStridedSlice S1024x1040 ![0, 1024] (m ((c : Thread nD τ).loc main_arg4) : Vec Ideal S1024x2064 .f32) slices_S1024x2064_S1024x1040_0_1024) transposes_S1024x1040_S1040x1024_1_0) bitsLt_bf16_f32 : FVec Ideal S1040x1024 .bf16) := by
  simp only [V, hostOps0, hostOps0_1, hostOps0_2, List.flatten_cons, List.flatten_nil, List.append_nil, List.cons_append, List.nil_append]
  after_results
theorem V_v11 : V m c main_v11 = (broadcastInDim S16x128 ![0, 1] bcast_S16x1_S16x128_0_1 (broadcastInDim S16x1 ![0] bcast_S16_S16x1_0 (m ((c : Thread nD τ).loc main_arg5) : Vec Ideal S16 .f32)) : Vec Ideal S16x128 .f32) := by
  simp only [V, hostOps0, hostOps0_1, hostOps0_2, List.flatten_cons, List.flatten_nil, List.append_nil, List.cons_append, List.nil_append]
  after_results
theorem V_v15 : V m c main_v15 = (shapeCast S1x1024 (shapeCast S1024 (broadcastInDim S16x64 ![0, 1] bcast_S1x64_S16x64_0_1 (shapeCast S1x64 (m ((c : Thread nD τ).loc main_arg6) : Vec Ideal S64 .f32) shapeCasts_S64_S1x64)) shapeCasts_S16x64_S1024) shapeCasts_S1024_S1x1024 : Vec Ideal S1x1024 .f32) := by
  simp only [V, hostOps0, hostOps0_1, hostOps0_2, List.flatten_cons, List.flatten_nil, List.append_nil, List.cons_append, List.nil_append]
  after_results
  rfl
theorem V_v19 : V m c main_v19 = (shapeCast S1x1024 (shapeCast S1024 (broadcastInDim S16x64 ![0, 1] bcast_S1x64_S16x64_0_1 (shapeCast S1x64 (m ((c : Thread nD τ).loc main_arg7) : Vec Ideal S64 .f32) shapeCasts_S64_S1x64)) shapeCasts_S16x64_S1024) shapeCasts_S1024_S1x1024 : Vec Ideal S1x1024 .f32) := by
  simp only [V, hostOps0, hostOps0_1, hostOps0_2, List.flatten_cons, List.flatten_nil, List.append_nil, List.cons_append, List.nil_append]
  after_results
  rfl
theorem V_v27 : V m c main_v27 = (byHead : FVec Ideal S256x256 .bf16) := by
  simp only [V, hostOps0, hostOps0_1, hostOps0_2, List.flatten_cons, List.flatten_nil, List.append_nil, List.cons_append, List.nil_append]
  after_results
  rfl
theorem V_v34 : V m c main_v34 = (upTo : FVec Ideal S1024x1024 .bf16) := by
  simp only [V, hostOps0, hostOps0_1, hostOps0_2, List.flatten_cons, List.flatten_nil, List.append_nil, List.cons_append, List.nil_append]
  after_results
  rfl

/-- A batch of rows laid out as one array. -/
theorem flat_at {e : EltTy} (u : Vec Ideal S32x2048x1024 e) (b : Fin 32) (r : Fin 2048) (d : Fin 1024) (R : Fin 65536) (hR : R.val = 2048 * b.val + r.val) :
    shapeCast S65536x1024 u shapeCasts_S32x2048x1024_S65536x1024 (ix2 R d) = u (ix3 b r d) := by
  refine shapeCast_apply _ _ _ (ix3 b r d) ?_
  rw [Shape.rowMajor_val_three, Shape.rowMajor_val_two]
  show (b.val * 2048 + r.val) * 1024 + d.val = R.val * 1024 + d.val
  omega

/-- A vector laid out as one row. -/
theorem row_at {n : ℕ} (u : Vec Ideal ⟨1, ![n]⟩ .f32) (h : (⟨1, ![n]⟩ : Shape).ShapeCasts ⟨2, ![1, n]⟩) (d : Fin n) :
    shapeCast ⟨2, ![1, n]⟩ u h (ix2 0 d) = u (ix1 d) := by
  refine shapeCast_apply _ _ _ (ix1 d) ?_
  rw [Shape.rowMajor_val_one, Shape.rowMajor_val_two]
  show d.val = 0 * n + d.val
  omega

/-- A head's gains, repeated for every head. -/
theorem gains_at (u : Vec Ideal S64 .f32) (j : Fin 1024) :
    shapeCast S1x1024 (shapeCast S1024 (broadcastInDim S16x64 ![0, 1] bcast_S1x64_S16x64_0_1 (shapeCast S1x64 u shapeCasts_S64_S1x64)) shapeCasts_S16x64_S1024)
      shapeCasts_S1024_S1x1024 (ix2 0 j) = u (ix1 ⟨j.val % 64, by omega⟩) := by
  rw [row_at]
  refine (shapeCast_apply (t := S1024) _ _ _ (ix2 ⟨j.val / 64, by omega⟩ ⟨j.val % 64, by omega⟩ : S16x64.Idx) ?_).trans ?_
  · rw [Shape.rowMajor_val_two, Shape.rowMajor_val_one]
    show j.val / 64 * 64 + j.val % 64 = j.val
    omega
  · pointwise []

theorem cut_at {n : ℕ} (o : ℕ) (w : ℕ) (u : Vec Ideal ⟨2, ![1024, n]⟩ .f32) (h : (⟨2, ![1024, n]⟩ : Shape).Slices ![0, o] ⟨2, ![1024, w]⟩) (d : Fin 1024) (j : Fin w) (k : Fin n) (hk : k.val = o + j.val) :
    extractStridedSlice ⟨2, ![1024, w]⟩ ![0, o] u h (ix2 d j) = u (ix2 d k) := by
  refine congrArg u ?_
  funext a
  apply Fin.ext
  match a with
  | ⟨0, _⟩ => show 0 + d.val = d.val; omega
  | ⟨1, _⟩ => show o + j.val = k.val; omega

theorem wvf_at (u : Vec Ideal S1024x2064 .f32) (j : Fin 1040) (d : Fin 1024) :
    (truncf .bf16 (transpose S1040x1024 [1, 0] (extractStridedSlice S1024x1040 ![0, 1024] u slices_S1024x2064_S1024x1040_0_1024) transposes_S1024x1040_S1040x1024_1_0) bitsLt_bf16_f32 : FVec Ideal S1040x1024 .bf16)
      (ix2 j d) = u (ix2 d ⟨1024 + j.val, by omega⟩) := by
  have h := cut_at 1024 1040 u slices_S1024x2064_S1024x1040_0_1024 d j ⟨1024 + j.val, by omega⟩ rfl
  generalize extractStridedSlice S1024x1040 ![0, 1024] u slices_S1024x2064_S1024x1040_0_1024 = a at *
  pointwise []
  exact h

theorem bias_at (u : Vec Ideal S16 .f32) (h : Fin 16) (l : Fin 128) :
    (broadcastInDim S16x128 ![0, 1] bcast_S16x1_S16x128_0_1 (broadcastInDim S16x1 ![0] bcast_S16_S16x1_0 u) : Vec Ideal S16x128 .f32) (ix2 h l) = u (ix1 h) := by
  pointwise []

/-! ## The blocks -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 2) = 0 ∧ win0_10.index t (1 : Fin 2) = 0 :=
  (by decide +kernel : ∀ t : Fin grid0.N, _)
theorem idx0_11 : ∀ t : Fin cfg0.N, win0_11.index t (0 : Fin 2) = 0 ∧ win0_11.index t (1 : Fin 2) = 0 :=
  (by decide +kernel : ∀ t : Fin grid0.N, _)

section
variable (A : (b : Ref sig .tc) → Buf (Elt Ideal) ((c : Thread nD τ).loc b)) (t : Fin cfg0.N)

theorem blk0_read (r d : Fin 1024) (R : Fin 65536) (hR : R.val = 1024 * t.val + r.val) :
    (((cfg0.win 0).blk t).view.read (Elt Ideal) (A (Pipeline.arrRef spec0 0)) : Vec Ideal S1024x1024 .f32) (ix2 r d)
      = (A main_v0 : Vec Ideal S65536x1024 .f32) (ix2 R d) := by
  obtain ⟨e0, e1⟩ := idx0_0 t
  show A main_v0 (((cfg0.win 0).blk t).view.emb (ix2 r d)) = _
  congr 1
  funext a
  apply Fin.ext
  match a with
  | ⟨0, _⟩ => show win0_0.index t (0 : Fin 2) * 1024 + 1 * r.val = R.val; rw [e0]; omega
  | ⟨1, _⟩ => show win0_0.index t (1 : Fin 2) * 1024 + 1 * d.val = d.val; rw [e1]; omega
theorem blk1_read (j : Fin 1024) :
    (((cfg0.win 1).blk t).view.read (Elt Ideal) (A (Pipeline.arrRef spec0 1)) : Vec Ideal S1x1024 .f32) (ix2 0 j) = (A main_v35 : Vec Ideal S1x1024 .f32) (ix2 0 j) := by
  obtain ⟨e0, e1⟩ := idx0_1 t
  show A main_v35 (((cfg0.win 1).blk t).view.emb (ix2 0 j)) = _
  congr 1
  funext a
  apply Fin.ext
  match a with
  | ⟨0, _⟩ => show win0_1.index t (0 : Fin 2) * 1 + 1 * 0 = 0; rw [e0]
  | ⟨1, _⟩ => show win0_1.index t (1 : Fin 2) * 1024 + 1 * j.val = j.val; rw [e1]; omega
theorem blk2_read (j : Fin 1024) :
    (((cfg0.win 2).blk t).view.read (Elt Ideal) (A (Pipeline.arrRef spec0 2)) : Vec Ideal S1x1024 .f32) (ix2 0 j) = (A main_v36 : Vec Ideal S1x1024 .f32) (ix2 0 j) := by
  obtain ⟨e0, e1⟩ := idx0_2 t
  show A main_v36 (((cfg0.win 2).blk t).view.emb (ix2 0 j)) = _
  congr 1
  funext a
  apply Fin.ext
  match a with
  | ⟨0, _⟩ => show win0_2.index t (0 : Fin 2) * 1 + 1 * 0 = 0; rw [e0]
  | ⟨1, _⟩ => show win0_2.index t (1 : Fin 2) * 1024 + 1 * j.val = j.val; rw [e1]; omega
theorem blk3_read (i : Fin 1024) (j : Fin 1024) :
    (((cfg0.win 3).blk t).view.read (Elt Ideal) (A (Pipeline.arrRef spec0 3)) : Vec Ideal S1024x1024 .bf16) (ix2 i j) = (A main_v2 : Vec Ideal S1024x1024 .bf16) (ix2 i j) := by
  obtain ⟨e0, e1⟩ := idx0_3 t
  show A main_v2 (((cfg0.win 3).blk t).view.emb (ix2 i j)) = _
  congr 1
  funext a
  apply Fin.ext
  match a with
  | ⟨0, _⟩ => show win0_3.index t (0 : Fin 2) * 1024 + 1 * i.val = i.val; rw [e0]; omega
  | ⟨1, _⟩ => show win0_3.index t (1 : Fin 2) * 1024 + 1 * j.val = j.val; rw [e1]; omega
theorem blk4_read (i : Fin 1024) (j : Fin 1024) :
    (((cfg0.win 4).blk t).view.read (Elt Ideal) (A (Pipeline.arrRef spec0 4)) : Vec Ideal S1024x1024 .bf16) (ix2 i j) = (A main_v4 : Vec Ideal S1024x1024 .bf16) (ix2 i j) := by
  obtain ⟨e0, e1⟩ := idx0_4 t
  show A main_v4 (((cfg0.win 4).blk t).view.emb (ix2 i j)) = _
  congr 1
  funext a
  apply Fin.ext
  match a with
  | ⟨0, _⟩ => show win0_4.index t (0 : Fin 2) * 1024 + 1 * i.val = i.val; rw [e0]; omega
  | ⟨1, _⟩ => show win0_4.index t (1 : Fin 2) * 1024 + 1 * j.val = j.val; rw [e1]; omega
theorem blk5_read (i : Fin 1024) (j : Fin 1024) :
    (((cfg0.win 5).blk t).view.read (Elt Ideal) (A (Pipeline.arrRef spec0 5)) : Vec Ideal S1024x1024 .bf16) (ix2 i j) = (A main_v6 : Vec Ideal S1024x1024 .bf16) (ix2 i j) := by
  obtain ⟨e0, e1⟩ := idx0_5 t
  show A main_v6 (((cfg0.win 5).blk t).view.emb (ix2 i j)) = _
  congr 1
  funext a
  apply Fin.ext
  match a with
  | ⟨0, _⟩ => show win0_5.index t (0 : Fin 2) * 1024 + 1 * i.val = i.val; rw [e0]; omega
  | ⟨1, _⟩ => show win0_5.index t (1 : Fin 2) * 1024 + 1 * j.val = j.val; rw [e1]; omega
theorem blk6_read (i : Fin 1040) (j : Fin 1024) :
    (((cfg0.win 6).blk t).view.read (Elt Ideal) (A (Pipeline.arrRef spec0 6)) : Vec Ideal S1040x1024 .bf16) (ix2 i j) = (A main_v9 : Vec Ideal S1040x1024 .bf16) (ix2 i j) := by
  obtain ⟨e0, e1⟩ := idx0_6 t
  show A main_v9 (((cfg0.win 6).blk t).view.emb (ix2 i j)) = _
  congr 1
  funext a
  apply Fin.ext
  match a with
  | ⟨0, _⟩ => show win0_6.index t (0 : Fin 2) * 1040 + 1 * i.val = i.val; rw [e0]; omega
  | ⟨1, _⟩ => show win0_6.index t (1 : Fin 2) * 1024 + 1 * j.val = j.val; rw [e1]; omega
theorem blk7_read (i : Fin 16) (j : Fin 128) :
    (((cfg0.win 7).blk t).view.read (Elt Ideal) (A (Pipeline.arrRef spec0 7)) : Vec Ideal S16x128 .f32) (ix2 i j) = (A main_v11 : Vec Ideal S16x128 .f32) (ix2 i j) := by
  obtain ⟨e0, e1⟩ := idx0_7 t
  show A main_v11 (((cfg0.win 7).blk t).view.emb (ix2 i j)) = _
  congr 1
  funext a
  apply Fin.ext
  match a with
  | ⟨0, _⟩ => show win0_7.index t (0 : Fin 2) * 16 + 1 * i.val = i.val; rw [e0]; omega
  | ⟨1, _⟩ => show win0_7.index t (1 : Fin 2) * 128 + 1 * j.val = j.val; rw [e1]; omega
theorem blk8_read (j : Fin 1024) :
    (((cfg0.win 8).blk t).view.read (Elt Ideal) (A (Pipeline.arrRef spec0 8)) : Vec Ideal S1x1024 .f32) (ix2 0 j) = (A main_v15 : Vec Ideal S1x1024 .f32) (ix2 0 j) := by
  obtain ⟨e0, e1⟩ := idx0_8 t
  show A main_v15 (((cfg0.win 8).blk t).view.emb (ix2 0 j)) = _
  congr 1
  funext a
  apply Fin.ext
  match a with
  | ⟨0, _⟩ => show win0_8.index t (0 : Fin 2) * 1 + 1 * 0 = 0; rw [e0]
  | ⟨1, _⟩ => show win0_8.index t (1 : Fin 2) * 1024 + 1 * j.val = j.val; rw [e1]; omega
theorem blk9_read (j : Fin 1024) :
    (((cfg0.win 9).blk t).view.read (Elt Ideal) (A (Pipeline.arrRef spec0 9)) : Vec Ideal S1x1024 .f32) (ix2 0 j) = (A main_v19 : Vec Ideal S1x1024 .f32) (ix2 0 j) := by
  obtain ⟨e0, e1⟩ := idx0_9 t
  show A main_v19 (((cfg0.win 9).blk t).view.emb (ix2 0 j)) = _
  congr 1
  funext a
  apply Fin.ext
  match a with
  | ⟨0, _⟩ => show win0_9.index t (0 : Fin 2) * 1 + 1 * 0 = 0; rw [e0]
  | ⟨1, _⟩ => show win0_9.index t (1 : Fin 2) * 1024 + 1 * j.val = j.val; rw [e1]; omega
theorem blk10_read (i : Fin 256) (j : Fin 256) :
    (((cfg0.win 10).blk t).view.read (Elt Ideal) (A (Pipeline.arrRef spec0 10)) : Vec Ideal S256x256 .bf16) (ix2 i j) = (A main_v27 : Vec Ideal S256x256 .bf16) (ix2 i j) := by
  obtain ⟨e0, e1⟩ := idx0_10 t
  show A main_v27 (((cfg0.win 10).blk t).view.emb (ix2 i j)) = _
  congr 1
  funext a
  apply Fin.ext
  match a with
  | ⟨0, _⟩ => show win0_10.index t (0 : Fin 2) * 256 + 1 * i.val = i.val; rw [e0]; omega
  | ⟨1, _⟩ => show win0_10.index t (1 : Fin 2) * 256 + 1 * j.val = j.val; rw [e1]; omega
theorem blk11_read (i : Fin 1024) (j : Fin 1024) :
    (((cfg0.win 11).blk t).view.read (Elt Ideal) (A (Pipeline.arrRef spec0 11)) : Vec Ideal S1024x1024 .bf16) (ix2 i j) = (A main_v34 : Vec Ideal S1024x1024 .bf16) (ix2 i j) := by
  obtain ⟨e0, e1⟩ := idx0_11 t
  show A main_v34 (((cfg0.win 11).blk t).view.emb (ix2 i j)) = _
  congr 1
  funext a
  apply Fin.ext
  match a with
  | ⟨0, _⟩ => show win0_11.index t (0 : Fin 2) * 1024 + 1 * i.val = i.val; rw [e0]; omega
  | ⟨1, _⟩ => show win0_11.index t (1 : Fin 2) * 1024 + 1 * j.val = j.val; rw [e1]; omega

end

/-- Row `r` of the block of point `2 b + s`: row `1024 s + r` of batch `b`. -/
abbrev blockRow (s : Fin 2) (r : Fin 1024) : Fin 2048 := ⟨1024 * s.val + r.val, by omega⟩

/-- The blocks of point `2 b + s`. -/
theorem blocks (t : Fin cfg0.N) (b : Fin 32) (s : Fin 2) (ht : t.val = 2 * b.val + s.val) :
    Blocks (wts m c) (fun r => xrow m c b (blockRow s r))
      (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) where
  x r d := (blk0_read c (V m c) t r d ⟨1024 * t.val + r.val, by omega⟩ rfl).trans ((congrFun (V_v0 m c) _).trans
    (flat_at _ b (blockRow s r) d _ (by dsimp only; omega)))
  gm d := (blk1_read c (V m c) t d).trans ((congrFun (V_v35 m c) (ix2 0 d)).trans (row_at _ _ d))
  gkv d := (blk2_read c (V m c) t d).trans ((congrFun (V_v36 m c) (ix2 0 d)).trans (row_at _ _ d))
  wq d j := (blk3_read c (V m c) t d j).trans ((congrFun (V_v2 m c) (ix2 d j)).trans (cut_at 0 1024 _ slices_S1024x2048_S1024x1024_0_0 d j _ (Nat.zero_add _).symm))
  wog d j := (blk4_read c (V m c) t d j).trans ((congrFun (V_v4 m c) (ix2 d j)).trans (cut_at 1024 1024 _ slices_S1024x2048_S1024x1024_0_1024 d j _ rfl))
  wk d j := (blk5_read c (V m c) t d j).trans ((congrFun (V_v6 m c) (ix2 d j)).trans (cut_at 0 1024 _ slices_S1024x2064_S1024x1024_0_0 d j _ (Nat.zero_add _).symm))
  wvf j d := (blk6_read c (V m c) t j d).trans ((congrFun (V_v9 m c) (ix2 j d)).trans (wvf_at _ j d))
  bf h l := (blk7_read c (V m c) t h l).trans ((congrFun (V_v11 m c) (ix2 h l)).trans (bias_at _ h l))
  gq j := (blk8_read c (V m c) t j).trans ((congrFun (V_v15 m c) (ix2 0 j)).trans (gains_at _ j))
  gk j := (blk9_read c (V m c) t j).trans ((congrFun (V_v19 m c) (ix2 0 j)).trans (gains_at _ j))
  ones a b := (blk10_read c (V m c) t a b).trans ((congrFun (V_v27 m c) (ix2 a b)).trans (byHead_at a b))
  triu a b := (blk11_read c (V m c) t a b).trans ((congrFun (V_v34 m c) (ix2 a b)).trans (upTo_at a b))

end Cert.Kernel3Ideal.Model
-- ==== Proof.PArray.lean ====
/-
  The arrays the third kernel leaves: queries, gates, keys, values and summed logarithms, row by row. The second point of a
  batch takes up the sums over all rows of the first.
-/
module

public import proofs.«01_k».proof.Proof.PHost
public import proofs.«01_k».proof.Proof.Gen.Kernel3Ideal.Value

@[expose] public section

set_option maxRecDepth 16384

noncomputable section

namespace Cert.Kernel3Ideal.Model

open Idealize.ShloMosaic Idealize.ShloMosaic.TcCoe Idealize.ShloMosaic.Pointwise
open Cert.Kernel3Ideal Cert.Kernel3Ideal.Gen Cert.Kernel3Ideal.Value

attribute [local irreducible] outsAt0 out0_A_12 out0_A_13 out0_A_14 out0_A_15 out0_A_16 out0_A_17 sout0_A_0
  out0_B_12 out0_B_13 out0_B_14 out0_B_15 out0_B_16 out0_B_17 sout0_B_0

theorem blockRow_zero (r : Fin 1024) : blockRow 0 r = ⟨r.val, by omega⟩ := Fin.ext (by show 1024 * 0 + r.val = r.val; omega)
theorem blockRow_one (r : Fin 1024) : blockRow 1 r = ⟨1024 + r.val, by omega⟩ := Fin.ext (by show 1024 * 1 + r.val = 1024 + r.val; omega)

/-- The sums of a batch's first point. -/
theorem cum_first (P : Fox.W) (X : Fin 2048 → Fin 1024 → EReal) (r : Fin 1024) (h : Fin 16) :
    ((∑ s : Fin 1024, if s ≤ r then Fox.lf P (X (blockRow 0 s)) h else 0) + 0) * Ideal.ofBits .f32 0x3FB8AA3B#32 = Fox.cum P X (blockRow 0 r) h := by
  simp only [blockRow_zero]
  unfold Fox.cum
  rw [Fox.prefix_first (fun s => Fox.lf P (X s) h) r, add_zero]

/-- The sums of its second point. -/
theorem cum_second (P : Fox.W) (X : Fin 2048 → Fin 1024 → EReal) (r : Fin 1024) (h : Fin 16) :
    ((∑ s : Fin 1024, if s ≤ r then Fox.lf P (X (blockRow 1 s)) h else 0)
      + ((∑ s : Fin 1024, if s ≤ (1023 : Fin 1024) then Fox.lf P (X (blockRow 0 s)) h else 0) + 0)) * Ideal.ofBits .f32 0x3FB8AA3B#32
      = Fox.cum P X (blockRow 1 r) h := by
  simp only [blockRow_zero, blockRow_one]
  unfold Fox.cum
  rw [Fox.prefix_second (fun s => Fox.lf P (X s) h) r, add_zero]

variable (m : (ℓ : Loc nD τ sig) → Buf (Elt Ideal) ℓ) (c : Dev nD)

/-- Grid point `2 b + s`. -/
abbrev gridPt (b : Fin 32) (s : Fin 2) : Fin cfg0.N := ⟨2 * b.val + s.val, by show _ < 64; omega⟩

/-- What the first point of a batch keeps. -/
theorem scratch_at (b : Fin 32) (n : ℕ) (hn : n < cfg0.N) (h : n = 2 * b.val) (i : Fin 16) (l : Fin 128) :
    (outsAt0 m c n hn).2.2.2.2.2.2 (ix2 i l)
      = (∑ s : Fin 1024, if s ≤ (1023 : Fin 1024) then Fox.lf (wts m c) (xrow m c b (blockRow 0 s)) i else 0) + 0 := by
  have h0 : (⟨n, hn⟩ : Fin cfg0.N).val % 2 = 0 := by show n % 2 = 0; omega
  refine (congrFun (congrArg (fun p => p.2.2.2.2.2.2) (outsAt0_A m c ⟨n, hn⟩ h0)) (ix2 i l)).trans ?_
  exact sout_A_eq (hb := blocks m c ⟨n, hn⟩ b 0 h) ..

/-- The queries: what point `2 b + s` computes. -/
def qAll (b : Fin 32) (s : Fin 2) : S1024x1024.Idx → EReal := fun y => Fox.q (wts m c) (xrow m c b (blockRow s (y 0))) (y 1)

theorem flushed_q (b : Fin 32) (s : Fin 2) (t : Fin cfg0.N) (ht : t.val = 2 * b.val + s.val) :
    (dats m 0 c).flushed 12 t = (cfg0.win 12).cut (grid0.coords t) (qAll m c b s) := by
  by_cases h0 : t.val % 2 = 0
  · refine (flushed12_A m c t h0).trans (congrArg _ (funext fun y => ?_))
    obtain ⟨i, j, rfl⟩ : ∃ (i : Fin 1024) (j : Fin 1024), y = ix2 i j := ⟨y 0, y 1, by funext a; fin_cases a <;> rfl⟩
    exact out12_A_eq (hb := blocks m c t b s ht) ..
  · refine (flushed12_B m c t h0).trans (congrArg _ (funext fun y => ?_))
    obtain ⟨i, j, rfl⟩ : ∃ (i : Fin 1024) (j : Fin 1024), y = ix2 i j := ⟨y 0, y 1, by funext a; fin_cases a <;> rfl⟩
    exact out12_B_eq (hb := blocks m c t b s ht) ..
theorem idx0_12 : ∀ t : Fin cfg0.N, win0_12.index t (0 : Fin 2) = t.val ∧ win0_12.index t (1 : Fin 2) = 0 :=
  (by decide +kernel : ∀ t : Fin grid0.N, _)
theorem flush_q : ∀ t : Fin cfg0.N, (cfg0.win 12).flush t = true :=
  (by decide +kernel : ∀ t : Fin grid0.N, win0_12.flush t = true)

/-- The array of the queries. -/
theorem q_array (b : Fin 32) (r : Fin 2048) (j : Fin 1024) :
    ((dats m 0 c).arrAt 12 cfg0.N : Vec Ideal S65536x1024 .bf16) (ix2 ⟨2048 * b.val + r.val, by omega⟩ j) = Fox.q (wts m c) (xrow m c b r) j := by
  obtain ⟨s, k, rfl⟩ : ∃ (s : Fin 2) (k : Fin 1024), r = blockRow s k :=
    ⟨⟨r.val / 1024, by omega⟩, ⟨r.val % 1024, by omega⟩, Fin.ext (by simp only; omega)⟩
  have hr := blocks12 m c (gridPt b s) (flush_q _)
  rw [flushed_q m c b s (gridPt b s) rfl] at hr
  obtain ⟨e0, e1⟩ := idx0_12 (gridPt b s)
  generalize (dats m 0 c).arrAt 12 cfg0.N = A at hr ⊢
  have hy := congrFun hr (ix2 k j : S1024x1024.Idx)
  have hl : ((cfg0.win 12).blk (gridPt b s)).view.read (Elt Ideal) A (ix2 k j : S1024x1024.Idx)
      = (A : Vec Ideal S65536x1024 .bf16) (ix2 ⟨2048 * b.val + (1024 * s.val + k.val), by omega⟩ j) := by
    show A (((cfg0.win 12).blk (gridPt b s)).view.emb _) = _
    congr 1
    funext a
    apply Fin.ext
    match a with
    | ⟨0, _⟩ =>
      show win0_12.index (gridPt b s) (0 : Fin 2) * 1024 + 1 * k.val = 2048 * b.val + (1024 * s.val + k.val)
      rw [e0]; show (2 * b.val + s.val) * 1024 + 1 * k.val = _; omega
    | ⟨1, _⟩ =>
      show win0_12.index (gridPt b s) (1 : Fin 2) * 1024 + 1 * j.val = j.val
      rw [e1]; omega
  refine hl.symm.trans (hy.trans ?_)
  show qAll m c b s ((cfg0.win 12).xinj (grid0.coords (gridPt b s)) (ix2 k j : S1024x1024.Idx)) = _
  rfl

/-- The gates: what point `2 b + s` computes. -/
def sgAll (b : Fin 32) (s : Fin 2) : S1024x1024.Idx → EReal := fun y => Fox.sg (wts m c) (xrow m c b (blockRow s (y 0))) (y 1)

theorem flushed_sg (b : Fin 32) (s : Fin 2) (t : Fin cfg0.N) (ht : t.val = 2 * b.val + s.val) :
    (dats m 0 c).flushed 13 t = (cfg0.win 13).cut (grid0.coords t) (sgAll m c b s) := by
  by_cases h0 : t.val % 2 = 0
  · refine (flushed13_A m c t h0).trans (congrArg _ (funext fun y => ?_))
    obtain ⟨i, j, rfl⟩ : ∃ (i : Fin 1024) (j : Fin 1024), y = ix2 i j := ⟨y 0, y 1, by funext a; fin_cases a <;> rfl⟩
    exact out13_A_eq (hb := blocks m c t b s ht) ..
  · refine (flushed13_B m c t h0).trans (congrArg _ (funext fun y => ?_))
    obtain ⟨i, j, rfl⟩ : ∃ (i : Fin 1024) (j : Fin 1024), y = ix2 i j := ⟨y 0, y 1, by funext a; fin_cases a <;> rfl⟩
    exact out13_B_eq (hb := blocks m c t b s ht) ..
theorem idx0_13 : ∀ t : Fin cfg0.N, win0_13.index t (0 : Fin 2) = t.val ∧ win0_13.index t (1 : Fin 2) = 0 :=
  (by decide +kernel : ∀ t : Fin grid0.N, _)
theorem flush_sg : ∀ t : Fin cfg0.N, (cfg0.win 13).flush t = true :=
  (by decide +kernel : ∀ t : Fin grid0.N, win0_13.flush t = true)

/-- The array of the gates. -/
theorem sg_array (b : Fin 32) (r : Fin 2048) (j : Fin 1024) :
    ((dats m 0 c).arrAt 13 cfg0.N : Vec Ideal S65536x1024 .bf16) (ix2 ⟨2048 * b.val + r.val, by omega⟩ j) = Fox.sg (wts m c) (xrow m c b r) j := by
  obtain ⟨s, k, rfl⟩ : ∃ (s : Fin 2) (k : Fin 1024), r = blockRow s k :=
    ⟨⟨r.val / 1024, by omega⟩, ⟨r.val % 1024, by omega⟩, Fin.ext (by simp only; omega)⟩
  have hr := blocks13 m c (gridPt b s) (flush_sg _)
  rw [flushed_sg m c b s (gridPt b s) rfl] at hr
  obtain ⟨e0, e1⟩ := idx0_13 (gridPt b s)
  generalize (dats m 0 c).arrAt 13 cfg0.N = A at hr ⊢
  have hy := congrFun hr (ix2 k j : S1024x1024.Idx)
  have hl : ((cfg0.win 13).blk (gridPt b s)).view.read (Elt Ideal) A (ix2 k j : S1024x1024.Idx)
      = (A : Vec Ideal S65536x1024 .bf16) (ix2 ⟨2048 * b.val + (1024 * s.val + k.val), by omega⟩ j) := by
    show A (((cfg0.win 13).blk (gridPt b s)).view.emb _) = _
    congr 1
    funext a
    apply Fin.ext
    match a with
    | ⟨0, _⟩ =>
      show win0_13.index (gridPt b s) (0 : Fin 2) * 1024 + 1 * k.val = 2048 * b.val + (1024 * s.val + k.val)
      rw [e0]; show (2 * b.val + s.val) * 1024 + 1 * k.val = _; omega
    | ⟨1, _⟩ =>
      show win0_13.index (gridPt b s) (1 : Fin 2) * 1024 + 1 * j.val = j.val
      rw [e1]; omega
  refine hl.symm.trans (hy.trans ?_)
  show sgAll m c b s ((cfg0.win 13).xinj (grid0.coords (gridPt b s)) (ix2 k j : S1024x1024.Idx)) = _
  rfl

/-- The keys: what point `2 b + s` computes. -/
def kAll (b : Fin 32) (s : Fin 2) : S1024x1024.Idx → EReal := fun y => Fox.k (wts m c) (xrow m c b (blockRow s (y 0))) (y 1)

theorem flushed_k (b : Fin 32) (s : Fin 2) (t : Fin cfg0.N) (ht : t.val = 2 * b.val + s.val) :
    (dats m 0 c).flushed 14 t = (cfg0.win 14).cut (grid0.coords t) (kAll m c b s) := by
  by_cases h0 : t.val % 2 = 0
  · refine (flushed14_A m c t h0).trans (congrArg _ (funext fun y => ?_))
    obtain ⟨i, j, rfl⟩ : ∃ (i : Fin 1024) (j : Fin 1024), y = ix2 i j := ⟨y 0, y 1, by funext a; fin_cases a <;> rfl⟩
    exact out14_A_eq (hb := blocks m c t b s ht) ..
  · refine (flushed14_B m c t h0).trans (congrArg _ (funext fun y => ?_))
    obtain ⟨i, j, rfl⟩ : ∃ (i : Fin 1024) (j : Fin 1024), y = ix2 i j := ⟨y 0, y 1, by funext a; fin_cases a <;> rfl⟩
    exact out14_B_eq (hb := blocks m c t b s ht) ..
theorem idx0_14 : ∀ t : Fin cfg0.N, win0_14.index t (0 : Fin 2) = t.val ∧ win0_14.index t (1 : Fin 2) = 0 :=
  (by decide +kernel : ∀ t : Fin grid0.N, _)
theorem flush_k : ∀ t : Fin cfg0.N, (cfg0.win 14).flush t = true :=
  (by decide +kernel : ∀ t : Fin grid0.N, win0_14.flush t = true)

/-- The array of the keys. -/
theorem k_array (b : Fin 32) (r : Fin 2048) (j : Fin 1024) :
    ((dats m 0 c).arrAt 14 cfg0.N : Vec Ideal S65536x1024 .bf16) (ix2 ⟨2048 * b.val + r.val, by omega⟩ j) = Fox.k (wts m c) (xrow m c b r) j := by
  obtain ⟨s, k, rfl⟩ : ∃ (s : Fin 2) (k : Fin 1024), r = blockRow s k :=
    ⟨⟨r.val / 1024, by omega⟩, ⟨r.val % 1024, by omega⟩, Fin.ext (by simp only; omega)⟩
  have hr := blocks14 m c (gridPt b s) (flush_k _)
  rw [flushed_k m c b s (gridPt b s) rfl] at hr
  obtain ⟨e0, e1⟩ := idx0_14 (gridPt b s)
  generalize (dats m 0 c).arrAt 14 cfg0.N = A at hr ⊢
  have hy := congrFun hr (ix2 k j : S1024x1024.Idx)
  have hl : ((cfg0.win 14).blk (gridPt b s)).view.read (Elt Ideal) A (ix2 k j : S1024x1024.Idx)
      = (A : Vec Ideal S65536x1024 .bf16) (ix2 ⟨2048 * b.val + (1024 * s.val + k.val), by omega⟩ j) := by
    show A (((cfg0.win 14).blk (gridPt b s)).view.emb _) = _
    congr 1
    funext a
    apply Fin.ext
    match a with
    | ⟨0, _⟩ =>
      show win0_14.index (gridPt b s) (0 : Fin 2) * 1024 + 1 * k.val = 2048 * b.val + (1024 * s.val + k.val)
      rw [e0]; show (2 * b.val + s.val) * 1024 + 1 * k.val = _; omega
    | ⟨1, _⟩ =>
      show win0_14.index (gridPt b s) (1 : Fin 2) * 1024 + 1 * j.val = j.val
      rw [e1]; omega
  refine hl.symm.trans (hy.trans ?_)
  show kAll m c b s ((cfg0.win 14).xinj (grid0.coords (gridPt b s)) (ix2 k j : S1024x1024.Idx)) = _
  rfl

/-- The values, a row for each column of the layer: what point `2 b + s` computes. -/
def vtAll (b : Fin 32) (s : Fin 2) : S1024x1024.Idx → EReal := fun y => Fox.val (wts m c) (xrow m c b (blockRow s (y 1))) (y 0)

theorem flushed_vt (b : Fin 32) (s : Fin 2) (t : Fin cfg0.N) (ht : t.val = 2 * b.val + s.val) :
    (dats m 0 c).flushed 15 t = (cfg0.win 15).cut (grid0.coords t) (vtAll m c b s) := by
  by_cases h0 : t.val % 2 = 0
  · refine (flushed15_A m c t h0).trans (congrArg _ (funext fun y => ?_))
    obtain ⟨i, j, rfl⟩ : ∃ (i : Fin 1024) (j : Fin 1024), y = ix2 i j := ⟨y 0, y 1, by funext a; fin_cases a <;> rfl⟩
    exact out15_A_eq (hb := blocks m c t b s ht) ..
  · refine (flushed15_B m c t h0).trans (congrArg _ (funext fun y => ?_))
    obtain ⟨i, j, rfl⟩ : ∃ (i : Fin 1024) (j : Fin 1024), y = ix2 i j := ⟨y 0, y 1, by funext a; fin_cases a <;> rfl⟩
    exact out15_B_eq (hb := blocks m c t b s ht) ..
theorem idx0_15 : ∀ t : Fin cfg0.N, win0_15.index t (0 : Fin 2) = t.val / 2 ∧ win0_15.index t (1 : Fin 2) = t.val % 2 :=
  (by decide +kernel : ∀ t : Fin grid0.N, _)
theorem flush_vt : ∀ t : Fin cfg0.N, (cfg0.win 15).flush t = true :=
  (by decide +kernel : ∀ t : Fin grid0.N, win0_15.flush t = true)

/-- The array of the values, a row for each column of the layer. -/
theorem vt_array (b : Fin 32) (r : Fin 2048) (j : Fin 1024) :
    ((dats m 0 c).arrAt 15 cfg0.N : Vec Ideal S32768x2048 .bf16) (ix2 ⟨1024 * b.val + j.val, by omega⟩ r) = Fox.val (wts m c) (xrow m c b r) j := by
  obtain ⟨s, k, rfl⟩ : ∃ (s : Fin 2) (k : Fin 1024), r = blockRow s k :=
    ⟨⟨r.val / 1024, by omega⟩, ⟨r.val % 1024, by omega⟩, Fin.ext (by simp only; omega)⟩
  have hr := blocks15 m c (gridPt b s) (flush_vt _)
  rw [flushed_vt m c b s (gridPt b s) rfl] at hr
  obtain ⟨e0, e1⟩ := idx0_15 (gridPt b s)
  generalize (dats m 0 c).arrAt 15 cfg0.N = A at hr ⊢
  have hy := congrFun hr (ix2 j k : S1024x1024.Idx)
  have hl : ((cfg0.win 15).blk (gridPt b s)).view.read (Elt Ideal) A (ix2 j k : S1024x1024.Idx)
      = (A : Vec Ideal S32768x2048 .bf16) (ix2 ⟨1024 * b.val + j.val, by omega⟩ (blockRow s k)) := by
    show A (((cfg0.win 15).blk (gridPt b s)).view.emb _) = _
    congr 1
    funext a
    apply Fin.ext
    match a with
    | ⟨0, _⟩ =>
      show win0_15.index (gridPt b s) (0 : Fin 2) * 1024 + 1 * j.val = 1024 * b.val + j.val
      rw [e0]; show (2 * b.val + s.val) / 2 * 1024 + 1 * j.val = _; omega
    | ⟨1, _⟩ =>
      show win0_15.index (gridPt b s) (1 : Fin 2) * 1024 + 1 * k.val = 1024 * s.val + k.val
      rw [e1]; show (2 * b.val + s.val) % 2 * 1024 + 1 * k.val = _; omega
  refine hl.symm.trans (hy.trans ?_)
  show vtAll m c b s ((cfg0.win 15).xinj (grid0.coords (gridPt b s)) (ix2 j k : S1024x1024.Idx)) = _
  rfl

/-- The summed logarithms, a row for each head: what point `2 b + s` computes. -/
def ctAll (b : Fin 32) (s : Fin 2) : S16x1024.Idx → EReal := fun y => Fox.cum (wts m c) (xrow m c b) (blockRow s (y 1)) (y 0)

theorem flushed_ct (b : Fin 32) (s : Fin 2) (t : Fin cfg0.N) (ht : t.val = 2 * b.val + s.val) :
    (dats m 0 c).flushed 17 t = (cfg0.win 17).cut (grid0.coords t) (ctAll m c b s) := by
  by_cases h0 : t.val % 2 = 0
  · refine (flushed17_A m c t h0).trans (congrArg _ (funext fun y => ?_))
    obtain ⟨i, j, rfl⟩ : ∃ (i : Fin 16) (j : Fin 1024), y = ix2 i j := ⟨y 0, y 1, by funext a; fin_cases a <;> rfl⟩
    obtain rfl : s = 0 := Fin.ext (by show s.val = 0; omega)
    refine (out17_A_eq (hb := blocks m c t b 0 ht) ..).trans ?_
    exact cum_first (wts m c) (xrow m c b) j i
  · refine (flushed17_B m c t h0).trans (congrArg _ (funext fun y => ?_))
    obtain ⟨i, j, rfl⟩ : ∃ (i : Fin 16) (j : Fin 1024), y = ix2 i j := ⟨y 0, y 1, by funext a; fin_cases a <;> rfl⟩
    obtain rfl : s = 1 := Fin.ext (by show s.val = 1; omega)
    refine (out17_B_eq (hb := blocks m c t b 1 ht) ..).trans ?_
    rw [scratch_at m c b _ _ (by have : t.val = 2 * b.val + 1 := ht; omega) i 0]
    exact cum_second (wts m c) (xrow m c b) j i
theorem idx0_17 : ∀ t : Fin cfg0.N, win0_17.index t (0 : Fin 2) = t.val / 2 ∧ win0_17.index t (1 : Fin 2) = t.val % 2 :=
  (by decide +kernel : ∀ t : Fin grid0.N, _)
theorem flush_ct : ∀ t : Fin cfg0.N, (cfg0.win 17).flush t = true :=
  (by decide +kernel : ∀ t : Fin grid0.N, win0_17.flush t = true)

/-- The array of the summed logarithms, a row for each head. -/
theorem ct_array (b : Fin 32) (r : Fin 2048) (j : Fin 16) :
    ((dats m 0 c).arrAt 17 cfg0.N : Vec Ideal S512x2048 .f32) (ix2 ⟨16 * b.val + j.val, by omega⟩ r) = Fox.cum (wts m c) (xrow m c b) r j := by
  obtain ⟨s, k, rfl⟩ : ∃ (s : Fin 2) (k : Fin 1024), r = blockRow s k :=
    ⟨⟨r.val / 1024, by omega⟩, ⟨r.val % 1024, by omega⟩, Fin.ext (by simp only; omega)⟩
  have hr := blocks17 m c (gridPt b s) (flush_ct _)
  rw [flushed_ct m c b s (gridPt b s) rfl] at hr
  obtain ⟨e0, e1⟩ := idx0_17 (gridPt b s)
  generalize (dats m 0 c).arrAt 17 cfg0.N = A at hr ⊢
  have hy := congrFun hr (ix2 j k : S16x1024.Idx)
  have hl : ((cfg0.win 17).blk (gridPt b s)).view.read (Elt Ideal) A (ix2 j k : S16x1024.Idx)
      = (A : Vec Ideal S512x2048 .f32) (ix2 ⟨16 * b.val + j.val, by omega⟩ (blockRow s k)) := by
    show A (((cfg0.win 17).blk (gridPt b s)).view.emb _) = _
    congr 1
    funext a
    apply Fin.ext
    match a with
    | ⟨0, _⟩ =>
      show win0_17.index (gridPt b s) (0 : Fin 2) * 16 + 1 * j.val = 16 * b.val + j.val
      rw [e0]; show (2 * b.val + s.val) / 2 * 16 + 1 * j.val = _; omega
    | ⟨1, _⟩ =>
      show win0_17.index (gridPt b s) (1 : Fin 2) * 1024 + 1 * k.val = 1024 * s.val + k.val
      rw [e1]; show (2 * b.val + s.val) % 2 * 1024 + 1 * k.val = _; omega
  refine hl.symm.trans (hy.trans ?_)
  show ctAll m c b s ((cfg0.win 17).xinj (grid0.coords (gridPt b s)) (ix2 j k : S16x1024.Idx)) = _
  rfl

end Cert.Kernel3Ideal.Model
-- ==== Proof.PRef.lean ====
/-
  The third call's reference, row by row: its queries, gates, keys, values and summed logarithms are the projections of its rows.
-/
module

public import proofs.«01_k».proof.Proof.PSpec
public import proofs.«01_k».proof.Proof.RDecay
public import proofs.«01_k».proof.Proof.Gen.Reference3Ideal.Run
public import Idealize.ShloMosaic.Lib.Pointwise

@[expose] public section

set_option maxRecDepth 16384

noncomputable section

namespace Cert.Reference3Ideal.Model

open Idealize.ShloMosaic Idealize.ShloMosaic.TcCoe Idealize.ShloMosaic.Pointwise Idealize.ShloMosaic.StableHlo
open Cert.Reference3Ideal Cert.Reference3Ideal.Gen

/-! ## Norms -/

/-- The norm of a row as the reference writes it. -/
def hostRms (A : FVec Ideal S32x2048x1024 .f32) (g : FVec Ideal S1024 .f32) : FVec Ideal S32x2048x1024 .f32 :=
  mulf (mulf A (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf A A) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 g))

theorem hostRms_at (A : FVec Ideal S32x2048x1024 .f32) (g : FVec Ideal S1024 .f32) (b : Fin 32) (r : Fin 2048) (d : Fin 1024) :
    hostRms A g (ix3 b r d) = Ffn.rms (fun d => g (ix1 d)) (fun d => A (ix3 b r d)) d := by
  unfold hostRms
  pointwise [Ffn.rms]

/-- A row's columns by head. -/
def byHead (T : FVec Ideal S32x2048x1024 .f32) : FVec Ideal S32x2048x16x64 .f32 := shapeCast S32x2048x16x64 T shapeCasts_S32x2048x1024_S32x2048x16x64

theorem byHead_at (T : FVec Ideal S32x2048x1024 .f32) (b : Fin 32) (r : Fin 2048) (h : Fin 16) (e : Fin 64) :
    byHead T (ix4 b r h e) = T (ix3 b r ⟨64 * h.val + e.val, by omega⟩) := by
  refine Idealize.ShloMosaic.shapeCast_apply (k := ix3 b r ⟨64 * h.val + e.val, by omega⟩) _ _ _ ?_
  rw [Shape.rowMajor_val_three, Shape.rowMajor_val_four]
  show (b.val * 2048 + r.val) * 1024 + (64 * h.val + e.val) = ((b.val * 2048 + r.val) * 16 + h.val) * 64 + e.val
  omega

/-- The norm by head as the reference writes it. -/
def headRms (u : FVec Ideal S32x2048x16x64 .f32) (g : FVec Ideal S64 .f32) : FVec Ideal S32x2048x16x64 .f32 :=
  mulf (mulf u (broadcastInDim S32x2048x16x64 ![0, 1, 2, 3] bcast_S32x2048x16x1_S32x2048x16x64_0_1_2_3 (Host.rsqrt (addf (Host.divf
    (broadcastInDim S32x2048x16x1 ![0, 1, 2] bcast_S32x2048x16_S32x2048x16x1_0_1_2 (Host.reduceAdd (mulf u u) (constant S_ .f32 0x00000000#32) reducesTo_S32x2048x16x64_S32x2048x16_d3 h_S_))
    (broadcastInDim S32x2048x16x1 ![] bcast_S_S32x2048x16x1 (constant S_ .f32 0x42800000#32))) (broadcastInDim S32x2048x16x1 ![] bcast_S_S32x2048x16x1 (constant S_ .f32 0x358637BD#32))))))
    (broadcastInDim S32x2048x16x64 ![0, 1, 2, 3] bcast_S1x1x1x64_S32x2048x16x64_0_1_2_3 (broadcastInDim S1x1x1x64 ![3] bcast_S64_S1x1x1x64_3 g))

theorem headRms_at (T : FVec Ideal S32x2048x1024 .f32) (g : FVec Ideal S64 .f32) (b : Fin 32) (r : Fin 2048) (t : Fin 1024 → EReal)
    (hT : ∀ j, T (ix3 b r j) = t j) (j : Fin 1024) :
    headRms (byHead T) g (ix4 b r ⟨j.val / 64, by omega⟩ ⟨j.val % 64, by omega⟩) = Fox.headNorm (fun i => g (ix1 i)) t j := by
  have h : ∀ e, byHead T (ix4 b r ⟨j.val / 64, by omega⟩ e) = t ⟨64 * (j.val / 64) + e.val, by omega⟩ := fun e => (byHead_at T b r _ e).trans (hT _)
  have hj : (⟨64 * (j.val / 64) + (⟨j.val % 64, by omega⟩ : Fin 64).val, by dsimp only; omega⟩ : Fin 1024) = j := Fin.ext (by dsimp only; omega)
  have h1 := (h ⟨j.val % 64, by omega⟩).trans (congrArg t hj)
  unfold headRms
  generalize byHead T = u at *
  pointwise [Fox.headNorm]
  rw [h1]
  simp only [h]

/-! ## The logarithm of the sigmoid, and its sums -/

/-- The logarithm of the sigmoid as the reference computes it. -/
def lsTerm (z : FVec Ideal S32x2048x16 .f32) : FVec Ideal S32x2048x16 .f32 :=
  Host.negf (select (cmpf .une (subf (Host.negf z) (broadcastInDim S32x2048x16 ![] bcast_S_S32x2048x16 (constant S_ .f32 0x00000000#32)))
      (subf (Host.negf z) (broadcastInDim S32x2048x16 ![] bcast_S_S32x2048x16 (constant S_ .f32 0x00000000#32))))
    (addf (Host.negf z) (broadcastInDim S32x2048x16 ![] bcast_S_S32x2048x16 (constant S_ .f32 0x00000000#32)))
    (addf (maximumf (Host.negf z) (broadcastInDim S32x2048x16 ![] bcast_S_S32x2048x16 (constant S_ .f32 0x00000000#32)))
      (Host.log1p (Host.exp (Host.negf (Host.absf
        (subf (Host.negf z) (broadcastInDim S32x2048x16 ![] bcast_S_S32x2048x16 (constant S_ .f32 0x00000000#32)))))))))

theorem lsTerm_at (z : FVec Ideal S32x2048x16 .f32) (b : Fin 32) (r : Fin 2048) (j : Fin 16) :
    lsTerm z (ix3 b r j) = Gla.logSigmoid (z (ix3 b r j)) := by
  rw [← Cert.ReferenceIdeal.Model.log_sigmoid]
  pointwise [lsTerm]
  rw [if_neg (by simp)]
  rfl

/-- A window of 2048 places that ends at place `c`: its places at or above the first are the places up to `c`. -/
theorem window_sum (f : Fin 2048 → EReal) (c : Fin 2048) :
    ∑ n : Fin 2048, (if h : 2047 ≤ c.val + n.val then f ⟨c.val + n.val - 2047, by omega⟩ else 0) = ∑ c' : Fin 2048, if c' ≤ c then f c' else 0 := by
  rw [← Equiv.sum_comp (Equiv.addRight (c + 1)) fun c' : Fin 2048 => if c' ≤ c then f c' else 0]
  refine Finset.sum_congr rfl fun n _ => ?_
  have hv : (n + (c + 1)).val = (n.val + c.val + 1) % 2048 := by
    rw [Fin.val_add, Fin.val_add]; show (n.val + (c.val + 1) % 2048) % 2048 = _; omega
  show _ = if n + (c + 1) ≤ c then f (n + (c + 1)) else 0
  by_cases h : 2047 ≤ c.val + n.val
  · rw [dif_pos h, if_pos (show n + (c + 1) ≤ c from (show (n + (c + 1)).val ≤ c.val by omega))]
    congr 1
    exact Fin.ext (by rw [hv]; simp only; omega)
  · rw [dif_neg h, if_neg (show ¬n + (c + 1) ≤ c from (show ¬(n + (c + 1)).val ≤ c.val by omega))]

/-- The window's places. -/
abbrev Win : Shape := ⟨3, ![1, 2048, 1]⟩

theorem win_count : Win.numel = 2048 := by decide

theorem win_place (n : Fin Win.numel) : Win.rowMajor.symm n = (ix3 0 (n.cast win_count) 0 : Win.Idx) := by
  rw [Equiv.symm_apply_eq]
  apply Fin.ext
  rw [Shape.rowMajor_val_three]
  show n.val = (0 * 2048 + n.val) * 1 + 0
  omega

/-- The sums of a window of 2048 rows that begins 2047 rows above are the sums of the rows up to each row. -/
theorem cumsum_at (A : FVec Ideal S32x2048x16 .f32) (b : Fin 32) (c : Fin 2048) (d : Fin 16) :
    Host.reduceWindowAdd ![1, 2048, 1] ![1, 1, 1] ![0, 2047, 0] ![0, 0, 0] A
      (broadcastInDim S_ ![] bcast_S_S_ (constant (F := Ideal) S_ .f32 0x00000000#32))
      reduceWindows_S32x2048x16_S32x2048x16_w1s1p0_0_w2048s1p2047_0_w1s1p0_0 h_S_ (ix3 b c d)
      = ∑ c' : Fin 2048, if c' ≤ c then A (ix3 b c' d) else 0 := by
  have hz : (broadcastInDim S_ ![] bcast_S_S_ (constant (F := Ideal) S_ .f32 0x00000000#32) : FVec Ideal S_ .f32) (Shape.Idx.first h_S_) = 0 := by
    pointwise
  unfold Host.reduceWindowAdd
  rw [hz]
  show Ideal.hostReduceWindowAdd _ _ _ _ _ A 0 (ix3 b c d) = _
  unfold Ideal.hostReduceWindowAdd Host.reduceWindow
  dsimp only
  refine (Cert.ReferenceIdeal.Model.foldl_add_eq (N := Win.numel) _).trans ?_
  rw [← window_sum]
  refine Fintype.sum_equiv (finCongr win_count) _ _ fun k => ?_
  have hk : (finCongr win_count k).val = k.val := rfl
  have hk' : k.val < 2048 := lt_of_lt_of_eq k.isLt win_count
  have hw := win_place k
  by_cases hc : 2047 ≤ c.val + k.val
  · rw [dif_pos (show 2047 ≤ c.val + (finCongr win_count k).val from hc), dif_pos]
    · congr 1
      funext a
      apply Fin.ext
      match a with
      | ⟨0, _⟩ => show b.val * 1 + (Win.rowMajor.symm k 0).val - 0 = b.val; rw [hw]; show b.val * 1 + 0 - 0 = _; omega
      | ⟨1, _⟩ => show c.val * 1 + (Win.rowMajor.symm k 1).val - 2047 = c.val + k.val - 2047; rw [hw]; show c.val * 1 + k.val - 2047 = _; omega
      | ⟨2, _⟩ => show d.val * 1 + (Win.rowMajor.symm k 2).val - 0 = d.val; rw [hw]; show d.val * 1 + 0 - 0 = _; omega
    · intro a
      match a with
      | ⟨0, _⟩ => show 0 ≤ b.val * 1 + (Win.rowMajor.symm k 0).val ∧ b.val * 1 + (Win.rowMajor.symm k 0).val - 0 < 32; rw [hw]; show 0 ≤ b.val * 1 + 0 ∧ b.val * 1 + 0 - 0 < 32; omega
      | ⟨1, _⟩ => show 2047 ≤ c.val * 1 + (Win.rowMajor.symm k 1).val ∧ c.val * 1 + (Win.rowMajor.symm k 1).val - 2047 < 2048; rw [hw]; show 2047 ≤ c.val * 1 + k.val ∧ c.val * 1 + k.val - 2047 < 2048; omega
      | ⟨2, _⟩ => show 0 ≤ d.val * 1 + (Win.rowMajor.symm k 2).val ∧ d.val * 1 + (Win.rowMajor.symm k 2).val - 0 < 16; rw [hw]; show 0 ≤ d.val * 1 + 0 ∧ d.val * 1 + 0 - 0 < 16; omega
  · rw [dif_neg (show ¬2047 ≤ c.val + (finCongr win_count k).val from hc), dif_neg]
    intro hin
    have h3 := (hin (1 : Fin 3)).1
    change 2047 ≤ c.val * 1 + (Win.rowMajor.symm k 1).val at h3
    rw [hw] at h3
    change 2047 ≤ c.val * 1 + k.val at h3
    omega

/-! ## The five results -/

section
variable (x : FVec Ideal S32x2048x1024 .f32) (gm gkv : FVec Ideal S1024 .f32) (wf : FVec Ideal S1024x2048 .f32) (wk : FVec Ideal S1024x2064 .f32)
  (bf : FVec Ideal S16 .f32) (gq gk : FVec Ideal S64 .f32)

/-- The weights, and row `r` of batch `b`. -/
def wts : Fox.W where
  gm d := gm (ix1 d)
  gkv d := gkv (ix1 d)
  wfox d j := wf (ix2 d j)
  wkv d j := wk (ix2 d j)
  bf h := bf (ix1 h)
  gq d := gq (ix1 d)
  gk d := gk (ix1 d)
def xrow (b : Fin 32) (r : Fin 2048) (d : Fin 1024) : EReal := x (ix3 b r d)

/-- The two wide projections. -/
def foxDot : FVec Ideal S32x2048x2048 .f32 :=
  Host.dotGeneral (φ₁ := .f32) (φ₂ := .f32) dot_S32x2048x1024_S1024x2048_S32x2048x2048_2_0_01_1_n_n none (hostRms x gm) wf
def kvDot : FVec Ideal S32x2048x2064 .f32 :=
  Host.dotGeneral (φ₁ := .f32) (φ₂ := .f32) dot_S32x2048x1024_S1024x2064_S32x2048x2064_2_0_01_1_n_n none (hostRms x gkv) wk

theorem foxDot_at (b : Fin 32) (r : Fin 2048) (j : Fin 2048) :
    foxDot x gm wf (ix3 b r j) = ∑ d, Ffn.rms (fun d => gm (ix1 d)) (xrow x b r) d * wf (ix2 d j) := by
  have h := hostRms_at x gm b r
  unfold foxDot
  generalize hostRms x gm = A at *
  pointwise []
  simp only [h]
  rfl

theorem kvDot_at (b : Fin 32) (r : Fin 2048) (j : Fin 2064) :
    kvDot x gkv wk (ix3 b r j) = ∑ d, Ffn.rms (fun d => gkv (ix1 d)) (xrow x b r) d * wk (ix2 d j) := by
  have h := hostRms_at x gkv b r
  unfold kvDot
  generalize hostRms x gkv = A at *
  pointwise []
  simp only [h]
  rfl

/-- A row's columns by head laid out as rows again. -/
theorem flatHead_at (u : FVec Ideal S32x2048x16x64 .f32) (b : Fin 32) (r : Fin 2048) (j : Fin 1024) :
    (truncf .bf16 (shapeCast S65536x1024 u shapeCasts_S32x2048x16x64_S65536x1024) bitsLt_bf16_f32 : FVec Ideal S65536x1024 .bf16) (ix2 ⟨2048 * b.val + r.val, by omega⟩ j)
      = u (ix4 b r ⟨j.val / 64, by omega⟩ ⟨j.val % 64, by omega⟩) := by
  refine Idealize.ShloMosaic.shapeCast_apply (k := ix4 b r ⟨j.val / 64, by omega⟩ ⟨j.val % 64, by omega⟩) _ _ _ ?_
  rw [Shape.rowMajor_val_four, Shape.rowMajor_val_two]
  show ((b.val * 2048 + r.val) * 16 + j.val / 64) * 64 + j.val % 64 = (2048 * b.val + r.val) * 1024 + j.val
  omega

/-- Rows, columns and heads laid out in one axis. -/
theorem flatRow_at (u : FVec Ideal S32x2048x1024 .f32) (b : Fin 32) (r : Fin 2048) (j : Fin 1024) :
    (truncf .bf16 (shapeCast S65536x1024 u shapeCasts_S32x2048x1024_S65536x1024) bitsLt_bf16_f32 : FVec Ideal S65536x1024 .bf16) (ix2 ⟨2048 * b.val + r.val, by omega⟩ j)
      = u (ix3 b r j) := by
  refine Idealize.ShloMosaic.shapeCast_apply (k := ix3 b r j) _ _ _ ?_
  rw [Shape.rowMajor_val_three, Shape.rowMajor_val_two]
  show (b.val * 2048 + r.val) * 1024 + j.val = (2048 * b.val + r.val) * 1024 + j.val
  omega

theorem flatCol_at (u : FVec Ideal S32x1024x2048 .f32) (b : Fin 32) (r : Fin 2048) (j : Fin 1024) :
    (truncf .bf16 (shapeCast S32768x2048 u shapeCasts_S32x1024x2048_S32768x2048) bitsLt_bf16_f32 : FVec Ideal S32768x2048 .bf16) (ix2 ⟨1024 * b.val + j.val, by omega⟩ r)
      = u (ix3 b j r) := by
  refine Idealize.ShloMosaic.shapeCast_apply (k := ix3 b j r) _ _ _ ?_
  rw [Shape.rowMajor_val_three, Shape.rowMajor_val_two]
  show (b.val * 1024 + j.val) * 2048 + r.val = (1024 * b.val + j.val) * 2048 + r.val
  omega

theorem flatSum_at (u : FVec Ideal S32x16x2048 .f32) (b : Fin 32) (r : Fin 2048) (h : Fin 16) :
    shapeCast S512x2048 u shapeCasts_S32x16x2048_S512x2048 (ix2 ⟨16 * b.val + h.val, by omega⟩ r) = u (ix3 b h r) := by
  refine Idealize.ShloMosaic.shapeCast_apply (k := ix3 b h r) _ _ _ ?_
  rw [Shape.rowMajor_val_three, Shape.rowMajor_val_two]
  show (b.val * 16 + h.val) * 2048 + r.val = (16 * b.val + h.val) * 2048 + r.val
  omega

/-- The queries. -/
def qOut : FVec Ideal S65536x1024 .bf16 :=
  truncf .bf16 (shapeCast S65536x1024 (mulf (headRms (byHead (extractStridedSlice S32x2048x1024 ![0, 0, 0] (foxDot x gm wf) slices_S32x2048x2048_S32x2048x1024_0_0_0)) gq)
    (broadcastInDim S32x2048x16x64 ![] bcast_S_S32x2048x16x64 (constant S_ .f32 0x3E38AA3B#32))) shapeCasts_S32x2048x16x64_S65536x1024) bitsLt_bf16_f32

theorem qOut_at (b : Fin 32) (r : Fin 2048) (j : Fin 1024) :
    qOut x gm wf gq (ix2 ⟨2048 * b.val + r.val, by omega⟩ j) = Fox.q (wts gm gkv wf wk bf gq gk) (xrow x b r) j := by
  have h := headRms_at (extractStridedSlice S32x2048x1024 ![0, 0, 0] (foxDot x gm wf) slices_S32x2048x2048_S32x2048x1024_0_0_0) gq b r
    (Fox.qraw (wts gm gkv wf wk bf gq gk) (xrow x b r)) (fun j => by
      have h := foxDot_at x gm wf b r ⟨j.val, by omega⟩
      generalize foxDot x gm wf = A at *
      pointwise []
      exact h) j
  unfold qOut
  refine (flatHead_at _ b r j).trans ?_
  generalize headRms (byHead (extractStridedSlice S32x2048x1024 ![0, 0, 0] (foxDot x gm wf) slices_S32x2048x2048_S32x2048x1024_0_0_0)) gq = A at *
  pointwise []
  rw [h]
  rfl

/-- The keys. -/
def kOut : FVec Ideal S65536x1024 .bf16 :=
  truncf .bf16 (shapeCast S65536x1024 (headRms (byHead (extractStridedSlice S32x2048x1024 ![0, 0, 0] (kvDot x gkv wk) slices_S32x2048x2064_S32x2048x1024_0_0_0)) gk)
    shapeCasts_S32x2048x16x64_S65536x1024) bitsLt_bf16_f32

theorem kOut_at (b : Fin 32) (r : Fin 2048) (j : Fin 1024) :
    kOut x gkv wk gk (ix2 ⟨2048 * b.val + r.val, by omega⟩ j) = Fox.k (wts gm gkv wf wk bf gq gk) (xrow x b r) j := by
  have h := headRms_at (extractStridedSlice S32x2048x1024 ![0, 0, 0] (kvDot x gkv wk) slices_S32x2048x2064_S32x2048x1024_0_0_0) gk b r
    (Fox.kraw (wts gm gkv wf wk bf gq gk) (xrow x b r)) (fun j => by
      have h := kvDot_at x gkv wk b r ⟨j.val, by omega⟩
      generalize kvDot x gkv wk = A at *
      pointwise []
      exact h) j
  unfold kOut
  exact (flatHead_at _ b r j).trans h

/-- The gates. -/
def gateVal : FVec Ideal S32x2048x1024 .f32 :=
  Host.divf (broadcastInDim S32x2048x1024 ![] bcast_S_S32x2048x1024 (constant S_ .f32 0x3F800000#32))
    (addf (broadcastInDim S32x2048x1024 ![] bcast_S_S32x2048x1024 (constant S_ .f32 0x3F800000#32))
      (Host.exp (Host.negf (extractStridedSlice S32x2048x1024 ![0, 0, 1024] (foxDot x gm wf) slices_S32x2048x2048_S32x2048x1024_0_0_1024))))
def sgOut : FVec Ideal S65536x1024 .bf16 :=
  truncf .bf16 (shapeCast S65536x1024 (gateVal x gm wf) shapeCasts_S32x2048x1024_S65536x1024) bitsLt_bf16_f32

theorem sgOut_at (b : Fin 32) (r : Fin 2048) (j : Fin 1024) :
    sgOut x gm wf (ix2 ⟨2048 * b.val + r.val, by omega⟩ j) = Fox.sg (wts gm gkv wf wk bf gq gk) (xrow x b r) j := by
  have h := foxDot_at x gm wf b r ⟨1024 + j.val, by omega⟩
  unfold sgOut
  refine (flatRow_at _ b r j).trans ?_
  unfold gateVal
  generalize foxDot x gm wf = A at *
  pointwise [Fox.sg, Ffn.sigm]
  rw [h]
  rfl

/-- The values, a row for each column of the layer. -/
def vtOut : FVec Ideal S32768x2048 .bf16 :=
  truncf .bf16 (shapeCast S32768x2048 (transpose S32x1024x2048 [0, 2, 1] (extractStridedSlice S32x2048x1024 ![0, 0, 1024] (kvDot x gkv wk) slices_S32x2048x2064_S32x2048x1024_0_0_1024)
    transposes_S32x2048x1024_S32x1024x2048_0_2_1) shapeCasts_S32x1024x2048_S32768x2048) bitsLt_bf16_f32

theorem vtOut_at (b : Fin 32) (r : Fin 2048) (j : Fin 1024) :
    vtOut x gkv wk (ix2 ⟨1024 * b.val + j.val, by omega⟩ r) = Fox.val (wts gm gkv wf wk bf gq gk) (xrow x b r) j := by
  have h := kvDot_at x gkv wk b r ⟨1024 + j.val, by omega⟩
  unfold vtOut
  generalize kvDot x gkv wk = A at *
  refine (flatCol_at _ b r j).trans ?_
  pointwise []
  exact h

/-- The summed logarithms, a row for each head. -/
def forgets : FVec Ideal S32x2048x16 .f32 :=
  addf (extractStridedSlice S32x2048x16 ![0, 0, 2048] (kvDot x gkv wk) slices_S32x2048x2064_S32x2048x16_0_0_2048)
    (broadcastInDim S32x2048x16 ![0, 1, 2] bcast_S1x1x16_S32x2048x16_0_1_2 (broadcastInDim S1x1x16 ![2] bcast_S16_S1x1x16_2 bf))
def sums (z : FVec Ideal S32x2048x16 .f32) : FVec Ideal S32x2048x16 .f32 :=
  Host.reduceWindowAdd ![1, 2048, 1] ![1, 1, 1] ![0, 2047, 0] ![0, 0, 0] (lsTerm z) (broadcastInDim S_ ![] bcast_S_S_ (constant (F := Ideal) S_ .f32 0x00000000#32))
    reduceWindows_S32x2048x16_S32x2048x16_w1s1p0_0_w2048s1p2047_0_w1s1p0_0 h_S_
def ctOut : FVec Ideal S512x2048 .f32 :=
  shapeCast S512x2048 (mulf (transpose S32x16x2048 [0, 2, 1] (sums (forgets x gkv wk bf)) transposes_S32x2048x16_S32x16x2048_0_2_1)
    (broadcastInDim S32x16x2048 ![] bcast_S_S32x16x2048 (constant S_ .f32 0x3FB8AA3B#32))) shapeCasts_S32x16x2048_S512x2048

theorem forgets_at (b : Fin 32) (r : Fin 2048) (h : Fin 16) :
    Gla.logSigmoid (forgets x gkv wk bf (ix3 b r h)) = Fox.lf (wts gm gkv wf wk bf gq gk) (xrow x b r) h := by
  have e := kvDot_at x gkv wk b r ⟨2048 + h.val, by omega⟩
  unfold forgets
  generalize kvDot x gkv wk = A at *
  pointwise []
  rw [e]
  rfl

theorem ctOut_at (b : Fin 32) (r : Fin 2048) (h : Fin 16) :
    ctOut x gkv wk bf (ix2 ⟨16 * b.val + h.val, by omega⟩ r) = Fox.cum (wts gm gkv wf wk bf gq gk) (xrow x b) r h := by
  have e : sums (forgets x gkv wk bf) (ix3 b r h) = ∑ r' : Fin 2048, if r' ≤ r then Fox.lf (wts gm gkv wf wk bf gq gk) (xrow x b r') h else 0 := by
    refine (cumsum_at _ b r h).trans (Finset.sum_congr rfl fun r' _ => ?_)
    rw [lsTerm_at, forgets_at x gm gkv wf wk bf gq gk]
  unfold ctOut
  generalize sums (forgets x gkv wk bf) = A at *
  refine (flatSum_at _ b r h).trans ?_
  pointwise [Fox.cum]
  rw [e]

end

end Cert.Reference3Ideal.Model
-- ==== Proof.PEquation.lean ====
/-
  The two runs of the third call: the reference's arguments stay, and both programs leave the same five arrays.
-/
module

public import proofs.«01_k».proof.Defs
public import proofs.«01_k».proof.Proof.PArray
public import proofs.«01_k».proof.Proof.PRef
public import Idealize.ShloMosaic.Adequacy
public import Idealize.ShloMosaic.Init

@[expose] public section

set_option maxRecDepth 16384

noncomputable section

namespace Cert.Proof

open Idealize.SL.Sem Idealize.ShloMosaic Idealize.ShloMosaic.TcCoe Idealize.ShloMosaic.StableHlo

/-- The arguments of the third reference stay. -/
theorem frame_reference3 : Cert.quiescent_Reference3Ideal := fun m g _ =>
  (θ_run Cert.Reference3Ideal.defs _ _).mono (fun r h => ⟨fun c => (h c).2.2.2.2.2, sem_eq_zero_of_no_sems (by decide) r.2⟩)
    (Cert.Reference3Ideal.Value.run m g)

/-- An array of rows by batch: two that agree at every row of every batch are equal. -/
theorem ext_rows {α : Type} {A B : (⟨2, ![65536, 1024]⟩ : Shape).Idx → α}
    (h : ∀ (b : Fin 32) (r : Fin 2048) (j : Fin 1024), A (ix2 ⟨2048 * b.val + r.val, by omega⟩ j) = B (ix2 ⟨2048 * b.val + r.val, by omega⟩ j)) : A = B := by
  funext k
  obtain ⟨R, d, rfl⟩ : ∃ (R : Fin 65536) (d : Fin 1024), k = ix2 R d := ⟨k 0, k 1, by funext a; fin_cases a <;> rfl⟩
  obtain ⟨b, r, rfl⟩ : ∃ (b : Fin 32) (r : Fin 2048), R = ⟨2048 * b.val + r.val, by omega⟩ :=
    ⟨⟨R.val / 2048, by omega⟩, ⟨R.val % 2048, by omega⟩, Fin.ext (by simp only; omega)⟩
  exact h b r d

/-- The same for an array of columns by batch, and for one of heads by batch. -/
theorem ext_cols {α : Type} {A B : (⟨2, ![32768, 2048]⟩ : Shape).Idx → α}
    (h : ∀ (b : Fin 32) (r : Fin 2048) (j : Fin 1024), A (ix2 ⟨1024 * b.val + j.val, by omega⟩ r) = B (ix2 ⟨1024 * b.val + j.val, by omega⟩ r)) : A = B := by
  funext k
  obtain ⟨R, d, rfl⟩ : ∃ (R : Fin 32768) (d : Fin 2048), k = ix2 R d := ⟨k 0, k 1, by funext a; fin_cases a <;> rfl⟩
  obtain ⟨b, r, rfl⟩ : ∃ (b : Fin 32) (r : Fin 1024), R = ⟨1024 * b.val + r.val, by omega⟩ :=
    ⟨⟨R.val / 1024, by omega⟩, ⟨R.val % 1024, by omega⟩, Fin.ext (by simp only; omega)⟩
  exact h b d r

theorem ext_heads {α : Type} {A B : (⟨2, ![512, 2048]⟩ : Shape).Idx → α}
    (h : ∀ (b : Fin 32) (r : Fin 2048) (j : Fin 16), A (ix2 ⟨16 * b.val + j.val, by omega⟩ r) = B (ix2 ⟨16 * b.val + j.val, by omega⟩ r)) : A = B := by
  funext k
  obtain ⟨R, d, rfl⟩ : ∃ (R : Fin 512) (d : Fin 2048), k = ix2 R d := ⟨k 0, k 1, by funext a; fin_cases a <;> rfl⟩
  obtain ⟨b, r, rfl⟩ : ∃ (b : Fin 32) (r : Fin 16), R = ⟨16 * b.val + r.val, by omega⟩ :=
    ⟨⟨R.val / 16, by omega⟩, ⟨R.val % 16, by omega⟩, Fin.ext (by simp only; omega)⟩
  exact h b d r

section
variable (m : (ℓ : Loc Cert.Kernel3Ideal.nD Cert.Kernel3Ideal.τ Cert.Kernel3Ideal.sig) → Buf (Elt Ideal) ℓ) (c : Dev Cert.Kernel3Ideal.nD)
  (x : FVec Ideal Cert.Reference3Ideal.S32x2048x1024 .f32) (gm gkv : FVec Ideal Cert.Reference3Ideal.S1024 .f32) (wf : FVec Ideal Cert.Reference3Ideal.S1024x2048 .f32)
  (wk : FVec Ideal Cert.Reference3Ideal.S1024x2064 .f32) (bf : FVec Ideal Cert.Reference3Ideal.S16 .f32) (gq gk : FVec Ideal Cert.Reference3Ideal.S64 .f32)
  (hw : Cert.Reference3Ideal.Model.wts gm gkv wf wk bf gq gk = Cert.Kernel3Ideal.Model.wts m c) (hx : Cert.Reference3Ideal.Model.xrow x = Cert.Kernel3Ideal.Model.xrow m c)
include hw hx

/-! From the same rows and weights the reference's five results are the five arrays of the kernel. -/

theorem same_q : Cert.Reference3Ideal.Model.qOut x gm wf gq = (Cert.Kernel3Ideal.Gen.dats m 0 c).arrAt 12 Cert.Kernel3Ideal.cfg0.N := by
  refine ext_rows fun b r j => ?_
  refine (Cert.Reference3Ideal.Model.qOut_at x gm gkv wf wk bf gq gk b r j).trans ?_
  rw [hw, hx]
  exact (Cert.Kernel3Ideal.Model.q_array m c b r j).symm

theorem same_sg : Cert.Reference3Ideal.Model.sgOut x gm wf = (Cert.Kernel3Ideal.Gen.dats m 0 c).arrAt 13 Cert.Kernel3Ideal.cfg0.N := by
  refine ext_rows fun b r j => ?_
  refine (Cert.Reference3Ideal.Model.sgOut_at x gm gkv wf wk bf gq gk b r j).trans ?_
  rw [hw, hx]
  exact (Cert.Kernel3Ideal.Model.sg_array m c b r j).symm

theorem same_k : Cert.Reference3Ideal.Model.kOut x gkv wk gk = (Cert.Kernel3Ideal.Gen.dats m 0 c).arrAt 14 Cert.Kernel3Ideal.cfg0.N := by
  refine ext_rows fun b r j => ?_
  refine (Cert.Reference3Ideal.Model.kOut_at x gm gkv wf wk bf gq gk b r j).trans ?_
  rw [hw, hx]
  exact (Cert.Kernel3Ideal.Model.k_array m c b r j).symm

theorem same_vt : Cert.Reference3Ideal.Model.vtOut x gkv wk = (Cert.Kernel3Ideal.Gen.dats m 0 c).arrAt 15 Cert.Kernel3Ideal.cfg0.N := by
  refine ext_cols fun b r j => ?_
  refine (Cert.Reference3Ideal.Model.vtOut_at x gm gkv wf wk bf gq gk b r j).trans ?_
  rw [hw, hx]
  exact (Cert.Kernel3Ideal.Model.vt_array m c b r j).symm

theorem same_ct : Cert.Reference3Ideal.Model.ctOut x gkv wk bf = (Cert.Kernel3Ideal.Gen.dats m 0 c).arrAt 17 Cert.Kernel3Ideal.cfg0.N := by
  refine ext_heads fun b r j => ?_
  refine (Cert.Reference3Ideal.Model.ctOut_at x gm gkv wf wk bf gq gk b r j).trans ?_
  rw [hw, hx]
  exact (Cert.Kernel3Ideal.Model.ct_array m c b r j).symm

end

/-- Both programs compute the same extended reals. -/
theorem equal_results3 : Cert.algebraic_Kernel3Ideal_Reference3Ideal := by
  intro m g m' g' _ hag
  refine ⟨fun c => (Cert.Kernel3Ideal.Gen.dats m 0 c).arrAt 12 Cert.Kernel3Ideal.cfg0.N, fun c => (Cert.Kernel3Ideal.Gen.dats m 0 c).arrAt 13 Cert.Kernel3Ideal.cfg0.N, fun c => (Cert.Kernel3Ideal.Gen.dats m 0 c).arrAt 14 Cert.Kernel3Ideal.cfg0.N, fun c => (Cert.Kernel3Ideal.Gen.dats m 0 c).arrAt 15 Cert.Kernel3Ideal.cfg0.N, fun c => (Cert.Kernel3Ideal.Gen.dats m 0 c).arrAt 17 Cert.Kernel3Ideal.cfg0.N,
    (θ_run Cert.Kernel3Ideal.defs _ _).mono (fun r h c => ⟨(h c).1, (h c).2.1, (h c).2.2.1, (h c).2.2.2.1, (h c).2.2.2.2.2⟩) (Cert.Kernel3Ideal.Value.run_blocks m g),
    (θ_run Cert.Reference3Ideal.defs _ _).mono (fun r h c => ?_) (Cert.Reference3Ideal.Value.run m' g')⟩
  obtain ⟨h0, h1, h2, h3, h4, h5, h6, h7⟩ := hag c
  have hw : Cert.Reference3Ideal.Model.wts (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) = Cert.Kernel3Ideal.Model.wts m c := by
    show Fox.W.mk _ _ _ _ _ _ _ = Fox.W.mk _ _ _ _ _ _ _
    congr 1
    · exact funext fun d => congrFun h1 (ix1 d)
    · exact funext fun d => congrFun h2 (ix1 d)
    · exact funext fun d => funext fun j => congrFun h3 (ix2 d j)
    · exact funext fun d => funext fun j => congrFun h4 (ix2 d j)
    · exact funext fun d => congrFun h5 (ix1 d)
    · exact funext fun d => congrFun h6 (ix1 d)
    · exact funext fun d => congrFun h7 (ix1 d)
  have hx : Cert.Reference3Ideal.Model.xrow (m' ((c.tc : Thread Cert.Reference3Ideal.nD Cert.Reference3Ideal.τ).loc Cert.Reference3Ideal.main_arg0)) = Cert.Kernel3Ideal.Model.xrow m c :=
    funext fun b => funext fun r => funext fun d => congrFun h0 (ix3 b r d)
  obtain ⟨r0, r1, r2, r3, r4, hr⟩ := h c
  exact ⟨r0.trans (same_q m c _ _ _ _ _ _ _ _ hw hx), r1.trans (same_sg m c _ _ _ _ _ _ _ _ hw hx), r2.trans (same_k m c _ _ _ _ _ _ _ _ hw hx),
    r3.trans (same_vt m c _ _ _ _ _ _ _ _ hw hx), r4.trans (same_ct m c _ _ _ _ _ _ _ _ hw hx), hr⟩

end Cert.Proof
-- ==== Proof.lean ====
/-
  The claim: each program keeps its arguments, the idealizations rewrite nothing, and at the extended reals each kernel
  and its reference leave the same arrays. The parts are in Proof/. For the attention call Spec and Layer say what the
  layer computes; the modules K… follow the kernel and the modules R… the reference to it; Equation joins the two. For
  the feed-forward call FSpec says it; FModel, FGlue, FTile, FRows, FPoint, FHost and FArray follow the kernel and FRef
  the reference; FEquation joins the two. For the projections PSpec says what they are; PRows, PGlue, PPoint, PHost and
  PArray follow the kernel and PRef the reference; PEquation joins the two.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import proofs.«01_k».proof.Proof.FEquation
public import proofs.«01_k».proof.Proof.PEquation
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  fun m g _ => Cert.Kernel.Gen.frame m g, fun m g _ => Cert.KernelIdeal.Gen.frame m g, frame_reference,
  fun m g _ => Cert.Kernel2.Gen.frame m g, fun m g _ => Cert.Kernel2Ideal.Gen.frame m g, frame_reference2,
  fun m g _ => Cert.Kernel3.Gen.frame m g, fun m g _ => Cert.Kernel3Ideal.Gen.frame m g, frame_reference3,
  trivial, equal_results, trivial, equal_results2, trivial, equal_results3⟩

end Cert.Proof

end
